-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_finite [hPre_gate_finite : Cert.Pre_gate_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_finite [hPre_gate_finite : Cert.Pre_gate_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_norm_finite [hPre_norm_finite : Cert.Pre_norm_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_norm_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_norm_finite [hPre_norm_finite : Cert.Pre_norm_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_norm_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_group_finite [hPre_group_finite : Cert.Pre_group_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_group_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_group_finite [hPre_group_finite : Cert.Pre_group_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_group_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_conv_finite [hPre_conv_finite : Cert.Pre_conv_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_conv_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_conv_finite [hPre_conv_finite : Cert.Pre_conv_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_conv_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_loss_finite [hPre_loss_finite : Cert.Pre_loss_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_loss_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_loss_finite [hPre_loss_finite : Cert.Pre_loss_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_loss_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gate_finite [hKernelIdeal : Cert.KernelIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gate_finite [hReferenceIdeal : Cert.ReferenceIdeal.Facts] [hPre_gate_finite : Cert.Pre_gate_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_norm_finite [hKernel2Ideal : Cert.Kernel2Ideal.Facts] [hPre_norm_finite : Cert.Pre_norm_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_norm_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_norm_finite [hReference2Ideal : Cert.Reference2Ideal.Facts] [hPre_norm_finite : Cert.Pre_norm_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_norm_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_group_finite [hKernel3Ideal : Cert.Kernel3Ideal.Facts] [hPre_group_finite : Cert.Pre_group_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_group_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_group_finite [hReference3Ideal : Cert.Reference3Ideal.Facts] [hPre_group_finite : Cert.Pre_group_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_group_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_conv_finite [hKernel4Ideal : Cert.Kernel4Ideal.Facts] [hPre_conv_finite : Cert.Pre_conv_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_conv_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_conv_finite [hReference4Ideal : Cert.Reference4Ideal.Facts] [hPre_conv_finite : Cert.Pre_conv_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_conv_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_loss_finite [hKernel5Ideal : Cert.Kernel5Ideal.Facts] [hPre_loss_finite : Cert.Pre_loss_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_loss_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_loss_finite [hReference5Ideal : Cert.Reference5Ideal.Facts] [hPre_loss_finite : Cert.Pre_loss_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_loss_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def preserves_Kernel_KernelIdeal : Prop :=
  True

def algebraic_KernelIdeal_ReferenceIdeal_pre_gate_finite [hKernelIdeal : Cert.KernelIdeal.Facts] [hReferenceIdeal : Cert.ReferenceIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_v7) = v3 c
          ∧ r.2.mem ((c.tc : Thread Cert.ReferenceIdeal.nD Cert.ReferenceIdeal.τ).loc Cert.ReferenceIdeal.main_v18) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_norm_finite [hKernel2Ideal : Cert.Kernel2Ideal.Facts] [hReference2Ideal : Cert.Reference2Ideal.Facts] [hPre_norm_finite : Cert.Pre_norm_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_norm_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_v74) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_group_finite [hKernel3Ideal : Cert.Kernel3Ideal.Facts] [hReference3Ideal : Cert.Reference3Ideal.Facts] [hPre_group_finite : Cert.Pre_group_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_group_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_v53) = v1 c
          ∧ r.2.mem ((c.tc : Thread Cert.Reference3Ideal.nD Cert.Reference3Ideal.τ).loc Cert.Reference3Ideal.main_v56) = v2 c
          ∧ r.2.mem ((c.tc : Thread Cert.Reference3Ideal.nD Cert.Reference3Ideal.τ).loc Cert.Reference3Ideal.main_v52) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_conv_finite [hKernel4Ideal : Cert.Kernel4Ideal.Facts] [hReference4Ideal : Cert.Reference4Ideal.Facts] [hPre_conv_finite : Cert.Pre_conv_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_conv_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v35_0)) (v1 : (c : Dev Cert.Kernel4Ideal.nD) → Buf (Elt Ideal) ((c.tc : Thread Cert.Kernel4Ideal.nD Cert.Kernel4Ideal.τ).loc Cert.Kernel4Ideal.main_v35_1)) (v2 : (c : Dev Cert.Kernel4Ideal.nD) → Buf (Elt Ideal) ((c.tc : Thread Cert.Kernel4Ideal.nD Cert.Kernel4Ideal.τ).loc Cert.Kernel4Ideal.main_v35_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v35_0) = v0 c
          ∧ r.2.mem ((c.tc : Thread Cert.Kernel4Ideal.nD Cert.Kernel4Ideal.τ).loc Cert.Kernel4Ideal.main_v35_1) = v1 c
          ∧ r.2.mem ((c.tc : Thread Cert.Kernel4Ideal.nD Cert.Kernel4Ideal.τ).loc Cert.Kernel4Ideal.main_v35_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v89) = v0 c
          ∧ r.2.mem ((c.tc : Thread Cert.Reference4Ideal.nD Cert.Reference4Ideal.τ).loc Cert.Reference4Ideal.main_v92) = v1 c
          ∧ r.2.mem ((c.tc : Thread Cert.Reference4Ideal.nD Cert.Reference4Ideal.τ).loc Cert.Reference4Ideal.main_v88) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_loss_finite [hKernel5Ideal : Cert.Kernel5Ideal.Facts] [hReference5Ideal : Cert.Reference5Ideal.Facts] [hPre_loss_finite : Cert.Pre_loss_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_loss_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v92) = v0 c
          ∧ r.2.mem ((c.tc : Thread Cert.Reference5Ideal.nD Cert.Reference5Ideal.τ).loc Cert.Reference5Ideal.main_v98) = v1 c
          ∧ r.2.mem ((c.tc : Thread Cert.Reference5Ideal.nD Cert.Reference5Ideal.τ).loc Cert.Reference5Ideal.main_v99) = v2 c
          ∧ r.2.mem ((c.tc : Thread Cert.Reference5Ideal.nD Cert.Reference5Ideal.τ).loc Cert.Reference5Ideal.main_v100) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v6) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)) (v3 : (c : Dev Cert.Kernel7Ideal.nD) → Buf (Elt Ideal) ((c.tc : Thread Cert.Kernel7Ideal.nD Cert.Kernel7Ideal.τ).loc Cert.Kernel7Ideal.main_v2_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_v2_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_v8) = v1 c
          ∧ r.2.mem ((c.tc : Thread Cert.Reference7Ideal.nD Cert.Reference7Ideal.τ).loc Cert.Reference7Ideal.main_v30) = v2 c
          ∧ r.2.mem ((c.tc : Thread Cert.Reference7Ideal.nD Cert.Reference7Ideal.τ).loc Cert.Reference7Ideal.main_v32) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_v9) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v10)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v17) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)) (v2 : (c : Dev Cert.Kernel11Ideal.nD) → Buf (Elt Ideal) ((c.tc : Thread Cert.Kernel11Ideal.nD Cert.Kernel11Ideal.τ).loc Cert.Kernel11Ideal.main_v2_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_v2_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v36) = v1 c
          ∧ r.2.mem ((c.tc : Thread Cert.Reference11Ideal.nD Cert.Reference11Ideal.τ).loc Cert.Reference11Ideal.main_v37) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v6) = v2 c
          ∧ r.2.mem ((c.tc : Thread Cert.Reference12Ideal.nD Cert.Reference12Ideal.τ).loc Cert.Reference12Ideal.main_v12) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v6) = v2 c
          ∧ r.2.mem ((c.tc : Thread Cert.Reference13Ideal.nD Cert.Reference13Ideal.τ).loc Cert.Reference13Ideal.main_v12) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v3_0)) (v1 : (c : Dev Cert.Kernel18Ideal.nD) → Buf (Elt Ideal) ((c.tc : Thread Cert.Kernel18Ideal.nD Cert.Kernel18Ideal.τ).loc Cert.Kernel18Ideal.main_v3_1)) (v2 : (c : Dev Cert.Kernel18Ideal.nD) → Buf (Elt Ideal) ((c.tc : Thread Cert.Kernel18Ideal.nD Cert.Kernel18Ideal.τ).loc Cert.Kernel18Ideal.main_v3_2)) (v3 : (c : Dev Cert.Kernel18Ideal.nD) → Buf (Elt Ideal) ((c.tc : Thread Cert.Kernel18Ideal.nD Cert.Kernel18Ideal.τ).loc Cert.Kernel18Ideal.main_v3_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3_0) = v0 c
          ∧ r.2.mem ((c.tc : Thread Cert.Kernel18Ideal.nD Cert.Kernel18Ideal.τ).loc Cert.Kernel18Ideal.main_v3_1) = v1 c
          ∧ r.2.mem ((c.tc : Thread Cert.Kernel18Ideal.nD Cert.Kernel18Ideal.τ).loc Cert.Kernel18Ideal.main_v3_2) = v2 c
          ∧ r.2.mem ((c.tc : Thread Cert.Kernel18Ideal.nD Cert.Kernel18Ideal.τ).loc Cert.Kernel18Ideal.main_v3_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v26) = v0 c
          ∧ r.2.mem ((c.tc : Thread Cert.Reference18Ideal.nD Cert.Reference18Ideal.τ).loc Cert.Reference18Ideal.main_v27) = v1 c
          ∧ r.2.mem ((c.tc : Thread Cert.Reference18Ideal.nD Cert.Reference18Ideal.τ).loc Cert.Reference18Ideal.main_v28) = v2 c
          ∧ r.2.mem ((c.tc : Thread Cert.Reference18Ideal.nD Cert.Reference18Ideal.τ).loc Cert.Reference18Ideal.main_v29) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v9_0)) (v1 : (c : Dev Cert.Kernel19Ideal.nD) → Buf (Elt Ideal) ((c.tc : Thread Cert.Kernel19Ideal.nD Cert.Kernel19Ideal.τ).loc Cert.Kernel19Ideal.main_v9_1)) (v2 : (c : Dev Cert.Kernel19Ideal.nD) → Buf (Elt Ideal) ((c.tc : Thread Cert.Kernel19Ideal.nD Cert.Kernel19Ideal.τ).loc Cert.Kernel19Ideal.main_v9_2)) (v3 : (c : Dev Cert.Kernel19Ideal.nD) → Buf (Elt Ideal) ((c.tc : Thread Cert.Kernel19Ideal.nD Cert.Kernel19Ideal.τ).loc Cert.Kernel19Ideal.main_v9_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v9_0) = v0 c
          ∧ r.2.mem ((c.tc : Thread Cert.Kernel19Ideal.nD Cert.Kernel19Ideal.τ).loc Cert.Kernel19Ideal.main_v9_1) = v1 c
          ∧ r.2.mem ((c.tc : Thread Cert.Kernel19Ideal.nD Cert.Kernel19Ideal.τ).loc Cert.Kernel19Ideal.main_v9_2) = v2 c
          ∧ r.2.mem ((c.tc : Thread Cert.Kernel19Ideal.nD Cert.Kernel19Ideal.τ).loc Cert.Kernel19Ideal.main_v9_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v27) = v0 c
          ∧ r.2.mem ((c.tc : Thread Cert.Reference19Ideal.nD Cert.Reference19Ideal.τ).loc Cert.Reference19Ideal.main_v29) = v1 c
          ∧ r.2.mem ((c.tc : Thread Cert.Reference19Ideal.nD Cert.Reference19Ideal.τ).loc Cert.Reference19Ideal.main_v31) = v2 c
          ∧ r.2.mem ((c.tc : Thread Cert.Reference19Ideal.nD Cert.Reference19Ideal.τ).loc Cert.Reference19Ideal.main_v33) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v9_0)) (v1 : (c : Dev Cert.Kernel20Ideal.nD) → Buf (Elt Ideal) ((c.tc : Thread Cert.Kernel20Ideal.nD Cert.Kernel20Ideal.τ).loc Cert.Kernel20Ideal.main_v9_1)) (v2 : (c : Dev Cert.Kernel20Ideal.nD) → Buf (Elt Ideal) ((c.tc : Thread Cert.Kernel20Ideal.nD Cert.Kernel20Ideal.τ).loc Cert.Kernel20Ideal.main_v9_2)) (v3 : (c : Dev Cert.Kernel20Ideal.nD) → Buf (Elt Ideal) ((c.tc : Thread Cert.Kernel20Ideal.nD Cert.Kernel20Ideal.τ).loc Cert.Kernel20Ideal.main_v9_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v9_0) = v0 c
          ∧ r.2.mem ((c.tc : Thread Cert.Kernel20Ideal.nD Cert.Kernel20Ideal.τ).loc Cert.Kernel20Ideal.main_v9_1) = v1 c
          ∧ r.2.mem ((c.tc : Thread Cert.Kernel20Ideal.nD Cert.Kernel20Ideal.τ).loc Cert.Kernel20Ideal.main_v9_2) = v2 c
          ∧ r.2.mem ((c.tc : Thread Cert.Kernel20Ideal.nD Cert.Kernel20Ideal.τ).loc Cert.Kernel20Ideal.main_v9_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v27) = v0 c
          ∧ r.2.mem ((c.tc : Thread Cert.Reference20Ideal.nD Cert.Reference20Ideal.τ).loc Cert.Reference20Ideal.main_v29) = v1 c
          ∧ r.2.mem ((c.tc : Thread Cert.Reference20Ideal.nD Cert.Reference20Ideal.τ).loc Cert.Reference20Ideal.main_v31) = v2 c
          ∧ r.2.mem ((c.tc : Thread Cert.Reference20Ideal.nD Cert.Reference20Ideal.τ).loc Cert.Reference20Ideal.main_v33) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_gate_finite : Cert.Pre_gate_finite.Facts) (hPre_norm_finite : Cert.Pre_norm_finite.Facts) (hPre_group_finite : Cert.Pre_group_finite.Facts) (hPre_conv_finite : Cert.Pre_conv_finite.Facts) (hPre_loss_finite : Cert.Pre_loss_finite.Facts),
    quiescent_Kernel (hKernel := hKernel)
    ∧ quiescent_KernelIdeal (hKernelIdeal := hKernelIdeal)
    ∧ quiescent_KernelIdeal_pre_gate_finite (hKernelIdeal := hKernelIdeal) (hPre_gate_finite := hPre_gate_finite)
    ∧ quiescent_ReferenceIdeal (hReferenceIdeal := hReferenceIdeal)
    ∧ quiescent_ReferenceIdeal_pre_gate_finite (hReferenceIdeal := hReferenceIdeal) (hPre_gate_finite := hPre_gate_finite)
    ∧ quiescent_Kernel2 (hKernel2 := hKernel2)
    ∧ quiescent_Kernel2Ideal (hKernel2Ideal := hKernel2Ideal)
    ∧ quiescent_Kernel2Ideal_pre_norm_finite (hKernel2Ideal := hKernel2Ideal) (hPre_norm_finite := hPre_norm_finite)
    ∧ quiescent_Reference2Ideal (hReference2Ideal := hReference2Ideal)
    ∧ quiescent_Reference2Ideal_pre_norm_finite (hReference2Ideal := hReference2Ideal) (hPre_norm_finite := hPre_norm_finite)
    ∧ quiescent_Kernel3 (hKernel3 := hKernel3)
    ∧ quiescent_Kernel3Ideal (hKernel3Ideal := hKernel3Ideal)
    ∧ quiescent_Kernel3Ideal_pre_group_finite (hKernel3Ideal := hKernel3Ideal) (hPre_group_finite := hPre_group_finite)
    ∧ quiescent_Reference3Ideal (hReference3Ideal := hReference3Ideal)
    ∧ quiescent_Reference3Ideal_pre_group_finite (hReference3Ideal := hReference3Ideal) (hPre_group_finite := hPre_group_finite)
    ∧ quiescent_Kernel4 (hKernel4 := hKernel4)
    ∧ quiescent_Kernel4Ideal (hKernel4Ideal := hKernel4Ideal)
    ∧ quiescent_Kernel4Ideal_pre_conv_finite (hKernel4Ideal := hKernel4Ideal) (hPre_conv_finite := hPre_conv_finite)
    ∧ quiescent_Reference4Ideal (hReference4Ideal := hReference4Ideal)
    ∧ quiescent_Reference4Ideal_pre_conv_finite (hReference4Ideal := hReference4Ideal) (hPre_conv_finite := hPre_conv_finite)
    ∧ quiescent_Kernel5 (hKernel5 := hKernel5)
    ∧ quiescent_Kernel5Ideal (hKernel5Ideal := hKernel5Ideal)
    ∧ quiescent_Kernel5Ideal_pre_loss_finite (hKernel5Ideal := hKernel5Ideal) (hPre_loss_finite := hPre_loss_finite)
    ∧ quiescent_Reference5Ideal (hReference5Ideal := hReference5Ideal)
    ∧ quiescent_Reference5Ideal_pre_loss_finite (hReference5Ideal := hReference5Ideal) (hPre_loss_finite := hPre_loss_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_gate_finite (hKernelIdeal := hKernelIdeal) (hReferenceIdeal := hReferenceIdeal) (hPre_gate_finite := hPre_gate_finite)
    ∧ preserves_Kernel2_Kernel2Ideal
    ∧ algebraic_Kernel2Ideal_Reference2Ideal_pre_norm_finite (hKernel2Ideal := hKernel2Ideal) (hReference2Ideal := hReference2Ideal) (hPre_norm_finite := hPre_norm_finite)
    ∧ preserves_Kernel3_Kernel3Ideal
    ∧ algebraic_Kernel3Ideal_Reference3Ideal_pre_group_finite (hKernel3Ideal := hKernel3Ideal) (hReference3Ideal := hReference3Ideal) (hPre_group_finite := hPre_group_finite)
    ∧ preserves_Kernel4_Kernel4Ideal
    ∧ algebraic_Kernel4Ideal_Reference4Ideal_pre_conv_finite (hKernel4Ideal := hKernel4Ideal) (hReference4Ideal := hReference4Ideal) (hPre_conv_finite := hPre_conv_finite)
    ∧ preserves_Kernel5_Kernel5Ideal
    ∧ algebraic_Kernel5Ideal_Reference5Ideal_pre_loss_finite (hKernel5Ideal := hKernel5Ideal) (hReference5Ideal := hReference5Ideal) (hPre_loss_finite := hPre_loss_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_conv_finite.lean ====
abbrev S4096x3072 : Shape := ⟨2, ![4096, 3072]⟩
abbrev S4x3072 : Shape := ⟨2, ![4, 3072]⟩
abbrev S3072 : Shape := ⟨1, ![3072]⟩
abbrev S4096x1024 : Shape := ⟨2, ![4096, 1024]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel

variable [Facts]

def fn {F : FTy → Type} [FloatOps F] (main_arg0 : FVec F S4096x3072 .f32) (main_arg1 : FVec F S4096x3072 .f32) (main_arg2 : FVec F S4x3072 .f32) (main_arg3 : FVec F S3072 .f32) (main_arg4 : FVec F S4096x1024 .bf16) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  main_v3
-- ==== Pre_gate_finite.lean ====
abbrev S4096x1024 : Shape := ⟨2, ![4096, 1024]⟩
abbrev S1024x1024 : Shape := ⟨2, ![1024, 1024]⟩
abbrev S4096x512 : Shape := ⟨2, ![4096, 512]⟩
abbrev S4096x2048 : Shape := ⟨2, ![4096, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_v14 : IVec S_ 1) (main_v15 : FVec F S4096x512 .f32) (main_v16 : FVec F S4096x512 .f32) : IVec S_ 1 :=
  let main_v17 : IVec S4096x512 1 := cmpf .olt main_v15 main_v16
  let main_c_5 : IVec S_ 1 := constantI S_ 1 1#1
  let main_v18 : IVec S_ 1 := (fun x v => Host.reduce IntOp.andi x v reducesTo_S4096x512_S_d0_1 h_S_) main_v17 main_c_5
  let main_v19 : IVec S_ 1 := andi main_v14 main_v18
  main_v19

def fn {F : FTy → Type} [FloatOps F] (main_arg0 : FVec F S4096x1024 .f32) (main_arg1 : FVec F S1024x1024 .bf16) (main_arg2 : FVec F S4096x512 .f32) (main_arg3 : FVec F S4096x512 .f32) (main_arg4 : FVec F S4096x2048 .f32) (main_arg5 : FVec F S4096x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_c_1 : IVec S_ 1 := constantI S_ 1 1#1
  let main_v8 : IVec S_ 1 := (fun x v => Host.reduce IntOp.andi x v reducesTo_S1024x1024_S_d0_1 h_S_) main_v7 main_c_1
  let main_v9 : IVec S_ 1 := andi main_v3 main_v8
  let main_v10 : FVec F S4096x512 .f32 := Host.absf main_arg2
  let main_cst_2 : FVec F S_ .f32 := constant S_ .f32 0x7F800000#32
  let main_v11 : FVec F S4096x512 .f32 := broadcastInDim S4096x512 ![] bcast_S_S4096x512 main_cst_2
  let main_v12 : IVec S4096x512 1 := cmpf .olt main_v10 main_v11
  let main_c_3 : IVec S_ 1 := constantI S_ 1 1#1
  let main_v13 : IVec S_ 1 := (fun x v => Host.reduce IntOp.andi x v reducesTo_S4096x512_S_d0_1 h_S_) main_v12 main_c_3
  let main_v14 : IVec S_ 1 := andi main_v9 main_v13
  let main_v15 : FVec F S4096x512 .f32 := Host.absf main_arg3
  let main_cst_4 : FVec F S_ .f32 := constant S_ .f32 0x7F800000#32
  let main_v16 : FVec F S4096x512 .f32 := broadcastInDim S4096x512 ![] bcast_S_S4096x512 main_cst_4
  fn_part1 (F := F) main_v14 main_v15 main_v16
-- ==== Pre_group_finite.lean ====
abbrev S4096x1024 : Shape := ⟨2, ![4096, 1024]⟩
abbrev S2048x1024 : Shape := ⟨2, ![2048, 1024]⟩
abbrev S4096x2048 : Shape := ⟨2, ![4096, 2048]⟩
abbrev S2048 : Shape := ⟨1, ![2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v14 : IVec S_ 1) (main_v15 : FVec F S4096x2048 .f32) (main_v16 : FVec F S4096x2048 .f32) : IVec S_ 1 :=
  let main_v17 : IVec S4096x2048 1 := cmpf .olt main_v15 main_v16
  let main_c_5 : IVec S_ 1 := constantI S_ 1 1#1
  let main_v18 : IVec S_ 1 := (fun x v => Host.reduce IntOp.andi x v reducesTo_S4096x2048_S_d0_1 h_S_) main_v17 main_c_5
  let main_v19 : IVec S_ 1 := andi main_v14 main_v18
  let main_v20 : FVec F S2048 .f32 := Host.absf main_arg4
  let main_cst_6 : FVec F S_ .f32 := constant S_ .f32 0x7F800000#32
  let main_v21 : FVec F S2048 .f32 := broadcastInDim S2048 ![] bcast_S_S2048 main_cst_6
  let main_v22 : IVec S2048 1 := cmpf .olt main_v20 main_v21
  let main_c_7 : IVec S_ 1 := constantI S_ 1 1#1
  let main_v23 : IVec S_ 1 := (fun x v => Host.reduce IntOp.andi x v reducesTo_S2048_S_d0 h_S_) main_v22 main_c_7
  let main_v24 : IVec S_ 1 := andi main_v19 main_v23
  main_v24

def fn {F : FTy → Type} [FloatOps F] (main_arg0 : FVec F S4096x1024 .f32) (main_arg1 : FVec F S2048x1024 .bf16) (main_arg2 : FVec F S4096x2048 .f32) (main_arg3 : FVec F S4096x2048 .f32) (main_arg4 : FVec F S2048 .f32) (main_arg5 : FVec F S4096x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2048x1024 .f32 := (extf .f32 · bitsLt_bf16_f32) main_arg1
  let main_v5 : FVec F S2048x1024 .f32 := Host.absf main_v4
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_c_1 : IVec S_ 1 := constantI S_ 1 1#1
  let main_v8 : IVec S_ 1 := (fun x v => Host.reduce IntOp.andi x v reducesTo_S2048x1024_S_d0_1 h_S_) main_v7 main_c_1
  let main_v9 : IVec S_ 1 := andi main_v3 main_v8
  let main_v10 : FVec F S4096x2048 .f32 := Host.absf main_arg2
  let main_cst_2 : FVec F S_ .f32 := constant S_ .f32 0x7F800000#32
  let main_v11 : FVec F S4096x2048 .f32 := broadcastInDim S4096x2048 ![] bcast_S_S4096x2048 main_cst_2
  let main_v12 : IVec S4096x2048 1 := cmpf .olt main_v10 main_v11
  let main_c_3 : IVec S_ 1 := constantI S_ 1 1#1
  let main_v13 : IVec S_ 1 := (fun x v => Host.reduce IntOp.andi x v reducesTo_S4096x2048_S_d0_1 h_S_) main_v12 main_c_3
  let main_v14 : IVec S_ 1 := andi main_v9 main_v13
  let main_v15 : FVec F S4096x2048 .f32 := Host.absf main_arg3
  let main_cst_4 : FVec F S_ .f32 := constant S_ .f32 0x7F800000#32
  let main_v16 : FVec F S4096x2048 .f32 := broadcastInDim S4096x2048 ![] bcast_S_S4096x2048 main_cst_4
  fn_part1 (F := F) main_arg4 main_v14 main_v15 main_v16
-- ==== Pre_loss_finite.lean ====
abbrev S4096x2048 : Shape := ⟨2, ![4096, 2048]⟩
abbrev S2048 : Shape := ⟨1, ![2048]⟩
abbrev S2048x1024 : Shape := ⟨2, ![2048, 1024]⟩
abbrev S4096x1024 : Shape := ⟨2, ![4096, 1024]⟩
abbrev S1024 : Shape := ⟨1, ![1024]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S4096x1024 .f32) (main_v29 : IVec S_ 1) (main_v33 : IVec S_ 1) : IVec S_ 1 :=
  let main_v34 : IVec S_ 1 := andi main_v29 main_v33
  let main_v35 : FVec F S4096x1024 .f32 := Host.absf main_arg7
  let main_cst_12 : FVec F S_ .f32 := constant S_ .f32 0x7F800000#32
  let main_v36 : FVec F S4096x1024 .f32 := broadcastInDim S4096x1024 ![] bcast_S_S4096x1024 main_cst_12
  let main_v37 : IVec S4096x1024 1 := cmpf .olt main_v35 main_v36
  let main_c_13 : IVec S_ 1 := constantI S_ 1 1#1
  let main_v38 : IVec S_ 1 := (fun x v => Host.reduce IntOp.andi x v reducesTo_S4096x1024_S_d0_1 h_S_) main_v37 main_c_13
  let main_v39 : IVec S_ 1 := andi main_v34 main_v38
  main_v39

def fn_part1 {F : FTy → Type} [FloatOps F] (main_arg4 : FVec F S4096x1024 .f32) (main_arg5 : FVec F S1024 .f32) (main_arg6 : FVec F S1024 .f32) (main_arg7 : FVec F S4096x1024 .f32) (main_v13 : IVec S_ 1) (main_v15 : FVec F S2048x1024 .f32) (main_v16 : FVec F S2048x1024 .f32) : IVec S_ 1 :=
  let main_v17 : IVec S2048x1024 1 := cmpf .olt main_v15 main_v16
  let main_c_5 : IVec S_ 1 := constantI S_ 1 1#1
  let main_v18 : IVec S_ 1 := (fun x v => Host.reduce IntOp.andi x v reducesTo_S2048x1024_S_d0_1 h_S_) main_v17 main_c_5
  let main_v19 : IVec S_ 1 := andi main_v13 main_v18
  let main_v20 : FVec F S4096x1024 .f32 := Host.absf main_arg4
  let main_cst_6 : FVec F S_ .f32 := constant S_ .f32 0x7F800000#32
  let main_v21 : FVec F S4096x1024 .f32 := broadcastInDim S4096x1024 ![] bcast_S_S4096x1024 main_cst_6
  let main_v22 : IVec S4096x1024 1 := cmpf .olt main_v20 main_v21
  let main_c_7 : IVec S_ 1 := constantI S_ 1 1#1
  let main_v23 : IVec S_ 1 := (fun x v => Host.reduce IntOp.andi x v reducesTo_S4096x1024_S_d0_1 h_S_) main_v22 main_c_7
  let main_v24 : IVec S_ 1 := andi main_v19 main_v23
  let main_v25 : FVec F S1024 .f32 := Host.absf main_arg5
  let main_cst_8 : FVec F S_ .f32 := constant S_ .f32 0x7F800000#32
  let main_v26 : FVec F S1024 .f32 := broadcastInDim S1024 ![] bcast_S_S1024 main_cst_8
  let main_v27 : IVec S1024 1 := cmpf .olt main_v25 main_v26
  let main_c_9 : IVec S_ 1 := constantI S_ 1 1#1
  let main_v28 : IVec S_ 1 := (fun x v => Host.reduce IntOp.andi x v reducesTo_S1024_S_d0 h_S_) main_v27 main_c_9
  let main_v29 : IVec S_ 1 := andi main_v24 main_v28
  let main_v30 : FVec F S1024 .f32 := Host.absf main_arg6
  let main_cst_10 : FVec F S_ .f32 := constant S_ .f32 0x7F800000#32
  let main_v31 : FVec F S1024 .f32 := broadcastInDim S1024 ![] bcast_S_S1024 main_cst_10
  let main_v32 : IVec S1024 1 := cmpf .olt main_v30 main_v31
  let main_c_11 : IVec S_ 1 := constantI S_ 1 1#1
  let main_v33 : IVec S_ 1 := (fun x v => Host.reduce IntOp.andi x v reducesTo_S1024_S_d0 h_S_) main_v32 main_c_11
  fn_part2 (F := F) main_arg7 main_v29 main_v33

def fn {F : FTy → Type} [FloatOps F] (main_arg0 : FVec F S4096x2048 .f32) (main_arg1 : FVec F S4096x2048 .f32) (main_arg2 : FVec F S2048 .f32) (main_arg3 : FVec F S2048x1024 .bf16) (main_arg4 : FVec F S4096x1024 .f32) (main_arg5 : FVec F S1024 .f32) (main_arg6 : FVec F S1024 .f32) (main_arg7 : FVec F S4096x1024 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x1024 .f32 := (extf .f32 · bitsLt_bf16_f32) main_arg3
  let main_v15 : FVec F S2048x1024 .f32 := Host.absf main_v14
  let main_cst_4 : FVec F S_ .f32 := constant S_ .f32 0x7F800000#32
  let main_v16 : FVec F S2048x1024 .f32 := broadcastInDim S2048x1024 ![] bcast_S_S2048x1024 main_cst_4
  fn_part1 (F := F) main_arg4 main_arg5 main_arg6 main_arg7 main_v13 main_v15 main_v16
-- ==== Pre_norm_finite.lean ====
abbrev S4096x2048 : Shape := ⟨2, ![4096, 2048]⟩
abbrev S4096x3072 : Shape := ⟨2, ![4096, 3072]⟩
abbrev S4096x32 : Shape := ⟨2, ![4096, 32]⟩
abbrev S4096x1024 : Shape := ⟨2, ![4096, 1024]⟩
abbrev S1024x5152 : Shape := ⟨2, ![1024, 5152]⟩
abbrev S1024 : Shape := ⟨1, ![1024]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x3072 : S_.BroadcastsInDim S4096x3072 (![] : Fin 0 → Fin S4096x3072.rank)
  reducesTo_S4096x3072_S_d0_1 : S4096x3072.ReducesTo [0, 1] S_
  bcast_S_S4096x32 : S_.BroadcastsInDim S4096x32 (![] : Fin 0 → Fin S4096x32.rank)
  reducesTo_S4096x32_S_d0_1 : S4096x32.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024x5152 : S_.BroadcastsInDim S1024x5152 (![] : Fin 0 → Fin S1024x5152.rank)
  reducesTo_S1024x5152_S_d0_1 : S1024x5152.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_v31 : IVec S_ 1) (main_v34 : IVec S1024 1) : IVec S_ 1 :=
  let main_c_11 : IVec S_ 1 := constantI S_ 1 1#1
  let main_v35 : IVec S_ 1 := (fun x v => Host.reduce IntOp.andi x v reducesTo_S1024_S_d0 h_S_) main_v34 main_c_11
  let main_v36 : IVec S_ 1 := andi main_v31 main_v35
  main_v36

def fn_part1 {F : FTy → Type} [FloatOps F] (main_arg4 : FVec F S4096x1024 .f32) (main_arg5 : FVec F S1024x5152 .bf16) (main_arg6 : FVec F S1024 .f32) (main_v15 : IVec S_ 1) (main_v16 : FVec F S4096x1024 .f32) (main_cst_4 : FVec F S_ .f32) : IVec S_ 1 :=
  let main_v17 : FVec F S4096x1024 .f32 := broadcastInDim S4096x1024 ![] bcast_S_S4096x1024 main_cst_4
  let main_v18 : IVec S4096x1024 1 := cmpf .olt main_v16 main_v17
  let main_c_5 : IVec S_ 1 := constantI S_ 1 1#1
  let main_v19 : IVec S_ 1 := (fun x v => Host.reduce IntOp.andi x v reducesTo_S4096x1024_S_d0_1 h_S_) main_v18 main_c_5
  let main_v20 : IVec S_ 1 := andi main_v15 main_v19
  let main_v21 : FVec F S4096x1024 .f32 := Host.absf main_arg4
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_c_7 : IVec S_ 1 := constantI S_ 1 1#1
  let main_v24 : IVec S_ 1 := (fun x v => Host.reduce IntOp.andi x v reducesTo_S4096x1024_S_d0_1 h_S_) main_v23 main_c_7
  let main_v25 : IVec S_ 1 := andi main_v20 main_v24
  let main_v26 : FVec F S1024x5152 .f32 := (extf .f32 · bitsLt_bf16_f32) main_arg5
  let main_v27 : FVec F S1024x5152 .f32 := Host.absf main_v26
  let main_cst_8 : FVec F S_ .f32 := constant S_ .f32 0x7F800000#32
  let main_v28 : FVec F S1024x5152 .f32 := broadcastInDim S1024x5152 ![] bcast_S_S1024x5152 main_cst_8
  let main_v29 : IVec S1024x5152 1 := cmpf .olt main_v27 main_v28
  let main_c_9 : IVec S_ 1 := constantI S_ 1 1#1
  let main_v30 : IVec S_ 1 := (fun x v => Host.reduce IntOp.andi x v reducesTo_S1024x5152_S_d0_1 h_S_) main_v29 main_c_9
  let main_v31 : IVec S_ 1 := andi main_v25 main_v30
  let main_v32 : FVec F S1024 .f32 := Host.absf main_arg6
  let main_cst_10 : FVec F S_ .f32 := constant S_ .f32 0x7F800000#32
  let main_v33 : FVec F S1024 .f32 := broadcastInDim S1024 ![] bcast_S_S1024 main_cst_10
  let main_v34 : IVec S1024 1 := cmpf .olt main_v32 main_v33
  fn_part2 (F := F) main_v31 main_v34

def fn {F : FTy → Type} [FloatOps F] (main_arg0 : FVec F S4096x2048 .bf16) (main_arg1 : FVec F S4096x3072 .bf16) (main_arg2 : FVec F S4096x32 .f32) (main_arg3 : FVec F S4096x1024 .f32) (main_arg4 : FVec F S4096x1024 .f32) (main_arg5 : FVec F S1024x5152 .bf16) (main_arg6 : FVec F S1024 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4096x3072 .f32 := (extf .f32 · bitsLt_bf16_f32) main_arg1
  let main_v6 : FVec F S4096x3072 .f32 := Host.absf main_v5
  let main_cst_0 : FVec F S_ .f32 := constant S_ .f32 0x7F800000#32
  let main_v7 : FVec F S4096x3072 .f32 := broadcastInDim S4096x3072 ![] bcast_S_S4096x3072 main_cst_0
  let main_v8 : IVec S4096x3072 1 := cmpf .olt main_v6 main_v7
  let main_c_1 : IVec S_ 1 := constantI S_ 1 1#1
  let main_v9 : IVec S_ 1 := (fun x v => Host.reduce IntOp.andi x v reducesTo_S4096x3072_S_d0_1 h_S_) main_v8 main_c_1
  let main_v10 : IVec S_ 1 := andi main_v4 main_v9
  let main_v11 : FVec F S4096x32 .f32 := Host.absf main_arg2
  let main_cst_2 : FVec F S_ .f32 := constant S_ .f32 0x7F800000#32
  let main_v12 : FVec F S4096x32 .f32 := broadcastInDim S4096x32 ![] bcast_S_S4096x32 main_cst_2
  let main_v13 : IVec S4096x32 1 := cmpf .olt main_v11 main_v12
  let main_c_3 : IVec S_ 1 := constantI S_ 1 1#1
  let main_v14 : IVec S_ 1 := (fun x v => Host.reduce IntOp.andi x v reducesTo_S4096x32_S_d0_1 h_S_) main_v13 main_c_3
  let main_v15 : IVec S_ 1 := andi main_v10 main_v14
  let main_v16 : FVec F S4096x1024 .f32 := Host.absf main_arg3
  let main_cst_4 : FVec F S_ .f32 := constant S_ .f32 0x7F800000#32
  fn_part1 (F := F) main_arg4 main_arg5 main_arg6 main_v15 main_v16 main_cst_4
-- ==== Kernel.lean ====
abbrev S4096x1024 : Shape := ⟨2, ![4096, 1024]⟩
abbrev S1024x1024 : Shape := ⟨2, ![1024, 1024]⟩
abbrev S4096x512 : Shape := ⟨2, ![4096, 512]⟩
abbrev S4096x2048 : Shape := ⟨2, ![4096, 2048]⟩
abbrev S_ : Shape := ⟨0, ![]⟩
abbrev S512x1024 : Shape := ⟨2, ![512, 1024]⟩
abbrev S512x512 : Shape := ⟨2, ![512, 512]⟩

abbrev nBuf : Space → Nat
  | .hbm => 24
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x512, .f32⟩
  | .hbm, ⟨3, _⟩ => ⟨S4096x512, .f32⟩
  | .hbm, ⟨4, _⟩ => ⟨S4096x2048, .f32⟩
  | .hbm, ⟨5, _⟩ => ⟨S4096x1024, .bf16⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x512, .f32⟩
  | .hbm, ⟨20, _⟩ => ⟨S4096x512, .f32⟩
  | .hbm, ⟨21, _⟩ => ⟨S4096x1024, .bf16⟩
  | .hbm, ⟨22, _⟩ => ⟨S1024x1024, .f32⟩
  | .hbm, ⟨23, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x1024, .bf16⟩
  | .local _ .vmem, ⟨20, _⟩ => ⟨S512x1024, .bf16⟩
  | .local _ .vmem, ⟨21, _⟩ => ⟨S1024x1024, .f32⟩
  | .local _ .vmem, ⟨22, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev main_v5_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4096x1024 : Shape := ⟨2, ![4096, 1024]⟩
abbrev S1024x1024 : Shape := ⟨2, ![1024, 1024]⟩
abbrev S4096x512 : Shape := ⟨2, ![4096, 512]⟩
abbrev S4096x2048 : Shape := ⟨2, ![4096, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x512, .f32⟩
  | .hbm, ⟨3, _⟩ => ⟨S4096x512, .f32⟩
  | .hbm, ⟨4, _⟩ => ⟨S4096x2048, .f32⟩
  | .hbm, ⟨5, _⟩ => ⟨S4096x1024, .bf16⟩
  | .hbm, ⟨6, _⟩ => ⟨S4096x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x1024, .f32⟩
  | .hbm, ⟨25, _⟩ => ⟨S1024x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S1024x1024, .f32⟩
  | .hbm, ⟨37, _⟩ => ⟨S4096x1024, .f32⟩
  | .hbm, ⟨38, _⟩ => ⟨S4096x1024, .f32⟩
  | .hbm, ⟨39, _⟩ => ⟨S1024x1024, .f32⟩
  | .hbm, ⟨40, _⟩ => ⟨S1024x1024, .f32⟩
  | .hbm, ⟨41, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v3_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v3_1 : Ref sig .tc := ⟨.hbm, 20, rfl⟩
abbrev main_v3_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩

abbrev nD : Nat := 1
abbrev τ : Topo := Topo.v7x

variable {F : FTy → Type} [FloatOps F]
-- ==== Kernel2.lean ====
abbrev S4096x2048 : Shape := ⟨2, ![4096, 2048]⟩
abbrev S4096x3072 : Shape := ⟨2, ![4096, 3072]⟩
abbrev S4096x32 : Shape := ⟨2, ![4096, 32]⟩
abbrev S4096x1024 : Shape := ⟨2, ![4096, 1024]⟩
abbrev S1024x5152 : Shape := ⟨2, ![1024, 5152]⟩
abbrev S1024 : Shape := ⟨1, ![1024]⟩
abbrev S1024x2048 : Shape := ⟨2, ![1024, 2048]⟩
abbrev S1024x3072 : Shape := ⟨2, ![1024, 3072]⟩
abbrev S1024x32 : Shape := ⟨2, ![1024, 32]⟩
abbrev S_ : Shape := ⟨0, ![]⟩
abbrev S1024x128 : Shape := ⟨2, ![1024, 128]⟩
abbrev S4096x128 : Shape := ⟨2, ![4096, 128]⟩
abbrev S1x1024 : Shape := ⟨2, ![1, 1024]⟩
abbrev S8x1024 : Shape := ⟨2, ![8, 1024]⟩
abbrev S512x2048 : Shape := ⟨2, ![512, 2048]⟩
abbrev S512x3072 : Shape := ⟨2, ![512, 3072]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩

abbrev nBuf : Space → Nat
  | .hbm => 19
  | .vmem => 17
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S4096x32, .f32⟩
  | .hbm, ⟨3, _⟩ => ⟨S4096x1024, .f32⟩
  | .hbm, ⟨4, _⟩ => ⟨S4096x1024, .f32⟩
  | .hbm, ⟨5, _⟩ => ⟨S1024x5152, .bf16⟩
  | .hbm, ⟨6, _⟩ => ⟨S1024, .f32⟩
  | .hbm, ⟨7, _⟩ => ⟨S1024x2048, .bf16⟩
  | .hbm, ⟨8, _⟩ => ⟨S1024x3072, .bf16⟩
  | .hbm, ⟨9, _⟩ => ⟨S1024x32, .bf16⟩
  | .hbm, ⟨10, _⟩ => ⟨S_, .i32⟩
  | .hbm, ⟨11, _⟩ => ⟨S_, .bf16⟩
  | .hbm, ⟨12, _⟩ => ⟨S1024x128, .bf16⟩
  | .hbm, ⟨13, _⟩ => ⟨S_, .i32⟩
  | .hbm, ⟨14, _⟩ => ⟨S_, .f32⟩
  | .hbm, ⟨15, _⟩ => ⟨S4096x128, .f32⟩
  | .hbm, ⟨16, _⟩ => ⟨S1x1024, .f32⟩
  | .hbm, ⟨17, _⟩ => ⟨S4096x1024, .f32⟩
  | .hbm, ⟨18, _⟩ => ⟨S8x1024, .f32⟩
  | .local _ .vmem, ⟨0, _⟩ => ⟨S512x2048, .bf16⟩
  | .local _ .vmem, ⟨1, _⟩ => ⟨S512x2048, .bf16⟩
  | .local _ .vmem, ⟨2, _⟩ => ⟨S512x3072, .bf16⟩
  | .local _ .vmem, ⟨3, _⟩ => ⟨S512x3072, .bf16⟩
  | .local _ .vmem, ⟨4, _⟩ => ⟨S512x128, .f32⟩
  | .local _ .vmem, ⟨5, _⟩ => ⟨S512x128, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x2048, .bf16⟩
  | .local _ .vmem, ⟨11, _⟩ => ⟨S1024x3072, .bf16⟩
  | .local _ .vmem, ⟨12, _⟩ => ⟨S1024x128, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S4096x2048 : Shape := ⟨2, ![4096, 2048]⟩
abbrev S4096x3072 : Shape := ⟨2, ![4096, 3072]⟩
abbrev S4096x32 : Shape := ⟨2, ![4096, 32]⟩
abbrev S4096x1024 : Shape := ⟨2, ![4096, 1024]⟩
abbrev S1024x5152 : Shape := ⟨2, ![1024, 5152]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5152 : Shape := ⟨2, ![4096, 5152]⟩
abbrev S6x1024 : Shape := ⟨2, ![6, 1024]⟩
abbrev S8x1024 : Shape := ⟨2, ![8, 1024]⟩

abbrev nBuf : Space → Nat
  | .hbm => 102
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S4096x32, .f32⟩
  | .hbm, ⟨3, _⟩ => ⟨S4096x1024, .f32⟩
  | .hbm, ⟨4, _⟩ => ⟨S4096x1024, .f32⟩
  | .hbm, ⟨5, _⟩ => ⟨S1024x5152, .bf16⟩
  | .hbm, ⟨6, _⟩ => ⟨S1024, .f32⟩
  | .hbm, ⟨7, _⟩ => ⟨S4096x2048, .f32⟩
  | .hbm, ⟨8, _⟩ => ⟨S4096x3072, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S1024x5152, .f32⟩
  | .hbm, ⟨43, _⟩ => ⟨S4096x5152, .f32⟩
  | .hbm, ⟨44, _⟩ => ⟨S4096x2048, .f32⟩
  | .hbm, ⟨45, _⟩ => ⟨S4096x3072, .f32⟩
  | .hbm, ⟨46, _⟩ => ⟨S4096x32, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x5152, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S_, .f32⟩
  | .hbm, ⟨94, _⟩ => ⟨S4096, .f32⟩
  | .hbm, ⟨95, _⟩ => ⟨S4096x1024, .f32⟩
  | .hbm, ⟨96, _⟩ => ⟨S4096x1024, .f32⟩
  | .hbm, ⟨97, _⟩ => ⟨S1x1024, .f32⟩
  | .hbm, ⟨98, _⟩ => ⟨S1x1024, .f32⟩
  | .hbm, ⟨99, _⟩ => ⟨S_, .f32⟩
  | .hbm, ⟨100, _⟩ => ⟨S6x1024, .f32⟩
  | .hbm, ⟨101, _⟩ => ⟨S8x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_cst_14 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_15 : Ref sig .tc := ⟨.hbm, 87, rfl⟩
abbrev main_v64 : Ref sig .tc := ⟨.hbm, 88, rfl⟩
abbrev main_v65 : Ref sig .tc := ⟨.hbm, 89, rfl⟩
abbrev main_cst_16 : Ref sig .tc := ⟨.hbm, 90, rfl⟩
abbrev main_v66 : Ref sig .tc := ⟨.hbm, 91, rfl⟩
abbrev main_v67 : Ref sig .tc := ⟨.hbm, 92, rfl⟩
abbrev main_cst_17 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_18 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]
-- ==== Kernel3.lean ====
abbrev S4096x1024 : Shape := ⟨2, ![4096, 1024]⟩
abbrev S2048x1024 : Shape := ⟨2, ![2048, 1024]⟩
abbrev S4096x2048 : Shape := ⟨2, ![4096, 2048]⟩
abbrev S2048 : Shape := ⟨1, ![2048]⟩
abbrev S1x2048 : Shape := ⟨2, ![1, 2048]⟩
abbrev S8x2048 : Shape := ⟨2, ![8, 2048]⟩
abbrev S1024x2048 : Shape := ⟨2, ![1024, 2048]⟩
abbrev S512x1024 : Shape := ⟨2, ![512, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 11
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x1024, .bf16⟩
  | .hbm, ⟨6, _⟩ => ⟨S1x2048, .f32⟩
  | .hbm, ⟨7, _⟩ => ⟨S4096x2048, .f32⟩
  | .hbm, ⟨8, _⟩ => ⟨S4096x2048, .bf16⟩
  | .hbm, ⟨9, _⟩ => ⟨S8x2048, .f32⟩
  | .hbm, ⟨10, _⟩ => ⟨S1024x2048, .f32⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x1024, .bf16⟩
  | .local _ .vmem, ⟨9, _⟩ => ⟨S512x1024, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S8x2048, .f32⟩
  | .local _ .vmem, ⟨15, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S4096x1024 : Shape := ⟨2, ![4096, 1024]⟩
abbrev S2048x1024 : Shape := ⟨2, ![2048, 1024]⟩
abbrev S4096x2048 : Shape := ⟨2, ![4096, 2048]⟩
abbrev S2048 : Shape := ⟨1, ![2048]⟩
abbrev S_ : Shape := ⟨0, ![]⟩
abbrev S4096x4x512 : Shape := ⟨3, ![4096, 4, 512]⟩
abbrev S4096x4 : Shape := ⟨2, ![4096, 4]⟩
abbrev S4096x4x1 : Shape := ⟨3, ![4096, 4, 1]⟩
abbrev S1x2048 : Shape := ⟨2, ![1, 2048]⟩
abbrev S1024x2048 : Shape := ⟨2, ![1024, 2048]⟩
abbrev S7x2048 : Shape := ⟨2, ![7, 2048]⟩
abbrev S8x2048 : Shape := ⟨2, ![8, 2048]⟩

abbrev nBuf : Space → Nat
  | .hbm => 89
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x1024, .bf16⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x4x512, .f32⟩
  | .hbm, ⟨21, _⟩ => ⟨S4096x4x512, .f32⟩
  | .hbm, ⟨22, _⟩ => ⟨S_, .f32⟩
  | .hbm, ⟨23, _⟩ => ⟨S4096x4, .f32⟩
  | .hbm, ⟨24, _⟩ => ⟨S4096x4x1, .f32⟩
  | .hbm, ⟨25, _⟩ => ⟨S_, .f32⟩
  | .hbm, ⟨26, _⟩ => ⟨S4096x4x1, .f32⟩
  | .hbm, ⟨27, _⟩ => ⟨S4096x4x1, .f32⟩
  | .hbm, ⟨28, _⟩ => ⟨S_, .f32⟩
  | .hbm, ⟨29, _⟩ => ⟨S4096x4x1, .f32⟩
  | .hbm, ⟨30, _⟩ => ⟨S4096x4x1, .f32⟩
  | .hbm, ⟨31, _⟩ => ⟨S4096x4x1, .f32⟩
  | .hbm, ⟨32, _⟩ => ⟨S4096x4x1, .f32⟩
  | .hbm, ⟨33, _⟩ => ⟨S_, .f32⟩
  | .hbm, ⟨34, _⟩ => ⟨S4096x4x1, .f32⟩
  | .hbm, ⟨35, _⟩ => ⟨S4096x4x1, .f32⟩
  | .hbm, ⟨36, _⟩ => ⟨S4096x4x512, .f32⟩
  | .hbm, ⟨37, _⟩ => ⟨S4096x4x512, .f32⟩
  | .hbm, ⟨38, _⟩ => ⟨S4096x2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S2048x1024, .f32⟩
  | .hbm, ⟨43, _⟩ => ⟨S4096x1024, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S2048, .f32⟩
  | .hbm, ⟨53, _⟩ => ⟨S4096x4x512, .f32⟩
  | .hbm, ⟨54, _⟩ => ⟨S4096x4x512, .f32⟩
  | .hbm, ⟨55, _⟩ => ⟨S_, .f32⟩
  | .hbm, ⟨56, _⟩ => ⟨S4096x4, .f32⟩
  | .hbm, ⟨57, _⟩ => ⟨S4096x4x1, .f32⟩
  | .hbm, ⟨58, _⟩ => ⟨S4096x4x512, .f32⟩
  | .hbm, ⟨59, _⟩ => ⟨S4096x4x512, .f32⟩
  | .hbm, ⟨60, _⟩ => ⟨S4096x4x1, .f32⟩
  | .hbm, ⟨61, _⟩ => ⟨S_, .f32⟩
  | .hbm, ⟨62, _⟩ => ⟨S4096x4x1, .f32⟩
  | .hbm, ⟨63, _⟩ => ⟨S4096x4x1, .f32⟩
  | .hbm, ⟨64, _⟩ => ⟨S_, .f32⟩
  | .hbm, ⟨65, _⟩ => ⟨S4096x4, .f32⟩
  | .hbm, ⟨66, _⟩ => ⟨S4096x4x512, .f32⟩
  | .hbm, ⟨67, _⟩ => ⟨S4096x4x512, .f32⟩
  | .hbm, ⟨68, _⟩ => ⟨S4096x4x512, .f32⟩
  | .hbm, ⟨69, _⟩ => ⟨S4096x4x512, .f32⟩
  | .hbm, ⟨70, _⟩ => ⟨S4096x4x512, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S_, .f32⟩
  | .hbm, ⟨79, _⟩ => ⟨S1024x2048, .f32⟩
  | .hbm, ⟨80, _⟩ => ⟨S4096x1024, .f32⟩
  | .hbm, ⟨81, _⟩ => ⟨S4096x2048, .f32⟩
  | .hbm, ⟨82, _⟩ => ⟨S2048x1024, .f32⟩
  | .hbm, ⟨83, _⟩ => ⟨S1024x2048, .f32⟩
  | .hbm, ⟨84, _⟩ => ⟨S4096x2048, .bf16⟩
  | .hbm, ⟨85, _⟩ => ⟨S1x2048, .f32⟩
  | .hbm, ⟨86, _⟩ => ⟨S_, .f32⟩
  | .hbm, ⟨87, _⟩ => ⟨S7x2048, .f32⟩
  | .hbm, ⟨88, _⟩ => ⟨S8x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v0_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v0_1 : Ref sig .tc := ⟨.hbm, 17, rfl⟩
abbrev main_v0_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩

abbrev nD : Nat := 1
abbrev τ : Topo := Topo.v7x

variable {F : FTy → Type} [FloatOps F]
-- ==== Kernel4.lean ====
abbrev S4096x3072 : Shape := ⟨2, ![4096, 3072]⟩
abbrev S4x3072 : Shape := ⟨2, ![4, 3072]⟩
abbrev S3072 : Shape := ⟨1, ![3072]⟩
abbrev S4096x1024 : Shape := ⟨2, ![4096, 1024]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩
abbrev S8x3072 : Shape := ⟨2, ![8, 3072]⟩
abbrev S1024x3072 : Shape := ⟨2, ![1024, 3072]⟩
abbrev S1024x1024 : Shape := ⟨2, ![1024, 1024]⟩
abbrev S8x1024 : Shape := ⟨2, ![8, 1024]⟩
abbrev S1x1024 : Shape := ⟨2, ![1, 1024]⟩
abbrev S1024 : Shape := ⟨1, ![1024]⟩
abbrev S1016x1024 : Shape := ⟨2, ![1016, 1024]⟩

abbrev nBuf : Space → Nat
  | .hbm => 47
  | .vmem => 20
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4x3072, .f32⟩
  | .hbm, ⟨3, _⟩ => ⟨S3072, .f32⟩
  | .hbm, ⟨4, _⟩ => ⟨S4096x1024, .bf16⟩
  | .hbm, ⟨5, _⟩ => ⟨S_, .f32⟩
  | .hbm, ⟨6, _⟩ => ⟨S3x3072, .f32⟩
  | .hbm, ⟨7, _⟩ => ⟨S4099x3072, .f32⟩
  | .hbm, ⟨8, _⟩ => ⟨S4096x3072, .f32⟩
  | .hbm, ⟨9, _⟩ => ⟨S1x3072, .f32⟩
  | .hbm, ⟨10, _⟩ => ⟨S3072, .f32⟩
  | .hbm, ⟨11, _⟩ => ⟨S1x3072, .f32⟩
  | .hbm, ⟨12, _⟩ => ⟨S4096x3072, .f32⟩
  | .hbm, ⟨13, _⟩ => ⟨S4096x3072, .f32⟩
  | .hbm, ⟨14, _⟩ => ⟨S_, .f32⟩
  | .hbm, ⟨15, _⟩ => ⟨S4096x3072, .f32⟩
  | .hbm, ⟨16, _⟩ => ⟨S4096x3072, .f32⟩
  | .hbm, ⟨17, _⟩ => ⟨S4096x3072, .f32⟩
  | .hbm, ⟨18, _⟩ => ⟨S1x3072, .f32⟩
  | .hbm, ⟨19, _⟩ => ⟨S3072, .f32⟩
  | .hbm, ⟨20, _⟩ => ⟨S1x3072, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S4096x3072, .f32⟩
  | .hbm, ⟨25, _⟩ => ⟨S1x3072, .f32⟩
  | .hbm, ⟨26, _⟩ => ⟨S3072, .f32⟩
  | .hbm, ⟨27, _⟩ => ⟨S1x3072, .f32⟩
  | .hbm, ⟨28, _⟩ => ⟨S4096x3072, .f32⟩
  | .hbm, ⟨29, _⟩ => ⟨S4096x3072, .f32⟩
  | .hbm, ⟨30, _⟩ => ⟨S4096x3072, .f32⟩
  | .hbm, ⟨31, _⟩ => ⟨S4096x3072, .f32⟩
  | .hbm, ⟨32, _⟩ => ⟨S1x3072, .f32⟩
  | .hbm, ⟨33, _⟩ => ⟨S3072, .f32⟩
  | .hbm, ⟨34, _⟩ => ⟨S1x3072, .f32⟩
  | .hbm, ⟨35, _⟩ => ⟨S4096x3072, .f32⟩
  | .hbm, ⟨36, _⟩ => ⟨S4096x3072, .f32⟩
  | .hbm, ⟨37, _⟩ => ⟨S4096x3072, .f32⟩
  | .hbm, ⟨38, _⟩ => ⟨S1x3072, .f32⟩
  | .hbm, ⟨39, _⟩ => ⟨S4096x3072, .f32⟩
  | .hbm, ⟨40, _⟩ => ⟨S4096x3072, .f32⟩
  | .hbm, ⟨41, _⟩ => ⟨S_, .i32⟩
  | .hbm, ⟨42, _⟩ => ⟨S_, .f32⟩
  | .hbm, ⟨43, _⟩ => ⟨S8x3072, .f32⟩
  | .hbm, ⟨44, _⟩ => ⟨S4096x3072, .bf16⟩
  | .hbm, ⟨45, _⟩ => ⟨S8x3072, .f32⟩
  | .hbm, ⟨46, _⟩ => ⟨S1024x3072, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S1024x1024, .f32⟩
  | .local _ .vmem, ⟨5, _⟩ => ⟨S1024x1024, .f32⟩
  | .local _ .vmem, ⟨6, _⟩ => ⟨S8x1024, .f32⟩
  | .local _ .vmem, ⟨7, _⟩ => ⟨S8x1024, .f32⟩
  | .local _ .vmem, ⟨8, _⟩ => ⟨S1024x1024, .f32⟩
  | .local _ .vmem, ⟨9, _⟩ => ⟨S1024x1024, .f32⟩
  | .local _ .vmem, ⟨10, _⟩ => ⟨S8x1024, .f32⟩
  | .local _ .vmem, ⟨11, _⟩ => ⟨S8x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S8x1024, .f32⟩
  | .local _ .vmem, ⟨17, _⟩ => ⟨S8x1024, .f32⟩
  | .local _ .vmem, ⟨18, _⟩ => ⟨S1024x1024, .f32⟩
  | .local _ .vmem, ⟨19, _⟩ => ⟨S1024x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c : Ref sig .tc := ⟨.hbm, 41, rfl⟩
abbrev main_call0_v0 : Ref sig .tc := ⟨.hbm, 42, rfl⟩
abbrev main_v34 : Ref sig .tc := ⟨.hbm, 43, rfl⟩
abbrev main_v35_0 : Ref sig .tc := ⟨.hbm, 44, rfl⟩
abbrev main_v35_1 : Ref sig .tc := ⟨.hbm, 45, rfl⟩
abbrev main_v35_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference4Ideal.lean ====
abbrev S4096x3072 : Shape := ⟨2, ![4096, 3072]⟩
abbrev S4x3072 : Shape := ⟨2, ![4, 3072]⟩
abbrev S3072 : Shape := ⟨1, ![3072]⟩
abbrev S4096x1024 : Shape := ⟨2, ![4096, 1024]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩
abbrev S1024x3072 : Shape := ⟨2, ![1024, 3072]⟩
abbrev S3072x1024 : Shape := ⟨2, ![3072, 1024]⟩
abbrev S8x3072 : Shape := ⟨2, ![8, 3072]⟩

abbrev nBuf : Space → Nat
  | .hbm => 136
  | .vmem => 0
  | .smem => 0
  | _ => 0

abbrev hbmTy0_0 (i : Nat) : BufTy := match i % 128 with
  | 0 => ⟨S4096x3072, .f32⟩
  | 1 => ⟨S4096x3072, .f32⟩
  | 2 => ⟨S4x3072, .f32⟩
  | 3 => ⟨S3072, .f32⟩
  | 4 => ⟨S4096x1024, .bf16⟩
  | 5 => ⟨S_, .f32⟩
  | 6 => ⟨S3x3072, .f32⟩
  | 7 => ⟨S4099x3072, .f32⟩
  | 8 => ⟨S_, .f32⟩
  | 9 => ⟨S3x3072, .f32⟩
  | 10 => ⟨S4096x3072, .f32⟩
  | 11 => ⟨S1x3072, .f32⟩
  | 12 => ⟨S3072, .f32⟩
  | 13 => ⟨S1x3072, .f32⟩
  | 14 => ⟨S4096x3072, .f32⟩
  | 15 => ⟨S4096x3072, .f32⟩
  | 16 => ⟨S_, .f32⟩
  | 17 => ⟨S4096x3072, .f32⟩
  | 18 => ⟨S4096x3072, .f32⟩
  | 19 => ⟨S4096x3072, .f32⟩
  | 20 => ⟨S1x3072, .f32⟩
  | 21 => ⟨S3072, .f32⟩
  | 22 => ⟨S1x3072, .f32⟩
  | 23 => ⟨S4096x3072, .f32⟩
  | 24 => ⟨S4096x3072, .f32⟩
  | 25 => ⟨S4096x3072, .f32⟩
  | 26 => ⟨S4096x3072, .f32⟩
  | 27 => ⟨S1x3072, .f32⟩
  | 28 => ⟨S3072, .f32⟩
  | 29 => ⟨S1x3072, .f32⟩
  | 30 => ⟨S4096x3072, .f32⟩
  | 31 => ⟨S4096x3072, .f32⟩
  | 32 => ⟨S4096x3072, .f32⟩
  | 33 => ⟨S4096x3072, .f32⟩
  | 34 => ⟨S1x3072, .f32⟩
  | 35 => ⟨S3072, .f32⟩
  | 36 => ⟨S1x3072, .f32⟩
  | 37 => ⟨S4096x3072, .f32⟩
  | 38 => ⟨S4096x3072, .f32⟩
  | 39 => ⟨S4096x3072, .f32⟩
  | 40 => ⟨S1x3072, .f32⟩
  | 41 => ⟨S4096x3072, .f32⟩
  | 42 => ⟨S4096x3072, .f32⟩
  | 43 => ⟨S4096x3072, .f32⟩
  | 44 => ⟨S4096x3072, .f32⟩
  | 45 => ⟨S_, .f32⟩
  | 46 => ⟨S4096x3072, .f32⟩
  | 47 => ⟨S4096x3072, .f32⟩
  | 48 => ⟨S_, .f32⟩
  | 49 => ⟨S4096x3072, .f32⟩
  | 50 => ⟨S4096x3072, .f32⟩
  | 51 => ⟨S_, .f32⟩
  | 52 => ⟨S4096x3072, .f32⟩
  | 53 => ⟨S4096x3072, .f32⟩
  | 54 => ⟨S4096x3072, .f32⟩
  | 55 => ⟨S4096x3072, .f32⟩
  | 56 => ⟨S4096x3072, .f32⟩
  | 57 => ⟨S4096x3072, .f32⟩
  | 58 => ⟨S4096x3072, .f32⟩
  | 59 => ⟨S4096x3072, .f32⟩
  | 60 => ⟨S_, .f32⟩
  | 61 => ⟨S3072, .f32⟩
  | 62 => ⟨S1x3072, .f32⟩
  | 63 => ⟨S_, .f32⟩
  | 64 => ⟨S3072, .f32⟩
  | 65 => ⟨S4096x3072, .f32⟩
  | 66 => ⟨S_, .f32⟩
  | 67 => ⟨S3072, .f32⟩
  | 68 => ⟨S1x3072, .f32⟩
  | 69 => ⟨S4096x3072, .f32⟩
  | 70 => ⟨S4096x3072, .f32⟩
  | 71 => ⟨S_, .f32⟩
  | 72 => ⟨S3072, .f32⟩
  | 73 => ⟨S1x3072, .f32⟩
  | 74 => ⟨S_, .f32⟩
  | 75 => ⟨S4x3072, .f32⟩
  | 76 => ⟨S_, .f32⟩
  | 77 => ⟨S4099x3072, .f32⟩
  | 78 => ⟨S4096x3072, .f32⟩
  | 79 => ⟨S_, .f32⟩
  | 80 => ⟨S3072, .f32⟩
  | 81 => ⟨S1x3072, .f32⟩
  | 82 => ⟨S4096x3072, .f32⟩
  | 83 => ⟨S4096x3072, .f32⟩
  | 84 => ⟨S_, .f32⟩
  | 85 => ⟨S3072, .f32⟩
  | 86 => ⟨S1x3072, .f32⟩
  | 87 => ⟨S_, .f32⟩
  | 88 => ⟨S4x3072, .f32⟩
  | 89 => ⟨S4x3072, .f32⟩
  | 90 => ⟨S_, .f32⟩
  | 91 => ⟨S4099x3072, .f32⟩
  | 92 => ⟨S4099x3072, .f32⟩
  | 93 => ⟨S4096x3072, .f32⟩
  | 94 => ⟨S_, .f32⟩
  | 95 => ⟨S3072, .f32⟩
  | 96 => ⟨S1x3072, .f32⟩
  | 97 => ⟨S4096x3072, .f32⟩
  | 98 => ⟨S4096x3072, .f32⟩
  | 99 => ⟨S_, .f32⟩
  | 100 => ⟨S3072, .f32⟩
  | 101 => ⟨S1x3072, .f32⟩
  | 102 => ⟨S_, .f32⟩
  | 103 => ⟨S4x3072, .f32⟩
  | 104 => ⟨S4x3072, .f32⟩
  | 105 => ⟨S_, .f32⟩
  | 106 => ⟨S4099x3072, .f32⟩
  | 107 => ⟨S4099x3072, .f32⟩
  | 108 => ⟨S4096x3072, .f32⟩
  | 109 => ⟨S_, .f32⟩
  | 110 => ⟨S3072, .f32⟩
  | 111 => ⟨S1x3072, .f32⟩
  | 112 => ⟨S4096x3072, .f32⟩
  | 113 => ⟨S4096x3072, .f32⟩
  | 114 => ⟨S_, .f32⟩
  | 115 => ⟨S3072, .f32⟩
  | 116 => ⟨S1x3072, .f32⟩
  | 117 => ⟨S_, .f32⟩
  | 118 => ⟨S4x3072, .f32⟩
  | 119 => ⟨S4x3072, .f32⟩
  | 120 => ⟨S_, .f32⟩
  | 121 => ⟨S4099x3072, .f32⟩
  | 122 => ⟨S4099x3072, .f32⟩
  | 123 => ⟨S3x3072, .f32⟩
  | 124 => ⟨S4096x3072, .f32⟩
  | 125 => ⟨S_, .f32⟩
  | 126 => ⟨S1024x3072, .f32⟩
  | 127 => ⟨S4096x1024, .f32⟩
  | _ => ⟨S4096x3072, .f32⟩

abbrev hbmTy0_1 (i : Nat) : BufTy := match i % 128 with
  | 0 => ⟨S4096x3072, .f32⟩
  | 1 => ⟨S3072x1024, .f32⟩
  | 2 => ⟨S1024x3072, .f32⟩
  | 3 => ⟨S4096x3072, .bf16⟩
  | 4 => ⟨S1x3072, .f32⟩
  | 5 => ⟨S_, .f32⟩
  | 6 => ⟨S3x3072, .f32⟩
  | 7 => ⟨S8x3072, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v35_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v35_1 : Ref sig .tc := ⟨.hbm, 54, rfl⟩
abbrev main_v35_0 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v36 : Ref sig .tc := ⟨.hbm, 59, rfl⟩
abbrev main_cst_2 : Ref sig .tc := ⟨.hbm, 60, rfl⟩
abbrev main_v37 : Ref sig .tc := ⟨.hbm, 61, rfl⟩
abbrev main_v38 : Ref sig .tc := ⟨.hbm, 62, rfl⟩
abbrev main_cst_3 : Ref sig .tc := ⟨.hbm, 63, rfl⟩
abbrev main_v39 : Ref sig .tc := ⟨.hbm, 64, rfl⟩
abbrev main_v40 : Ref sig .tc := ⟨.hbm, 65, rfl⟩
abbrev main_cst_4 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_5 : Ref sig .tc := ⟨.hbm, 71, rfl⟩
abbrev main_v45 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_v49 : Ref sig .tc := ⟨.hbm, 78, rfl⟩
abbrev main_cst_8 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_cst_11 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_13 : Ref sig .tc := ⟨.hbm, 99, rfl⟩
abbrev main_v65 : Ref sig .tc := ⟨.hbm, 100, rfl⟩
abbrev main_v66 : Ref sig .tc := ⟨.hbm, 101, rfl⟩
abbrev main_cst_14 : Ref sig .tc := ⟨.hbm, 102, rfl⟩
abbrev main_v67 : Ref sig .tc := ⟨.hbm, 103, rfl⟩
abbrev main_v68 : Ref sig .tc := ⟨.hbm, 104, rfl⟩
abbrev main_cst_15 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_16 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_17 : Ref sig .tc := ⟨.hbm, 114, rfl⟩
abbrev main_v76 : Ref sig .tc := ⟨.hbm, 115, rfl⟩
abbrev main_v77 : Ref sig .tc := ⟨.hbm, 116, rfl⟩
abbrev main_cst_18 : Ref sig .tc := ⟨.hbm, 117, rfl⟩
abbrev main_v78 : Ref sig .tc := ⟨.hbm, 118, rfl⟩
abbrev main_v79 : Ref sig .tc := ⟨.hbm, 119, rfl⟩
abbrev main_cst_19 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_20 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_21 : Ref sig .tc := ⟨.hbm, 133, rfl⟩
abbrev main_v91 : Ref sig .tc := ⟨.hbm, 134, rfl⟩
abbrev main_v92 : Ref sig .tc := ⟨.hbm, 135, rfl⟩

abbrev nD : Nat := 1
abbrev τ : Topo := Topo.v7x

variable {F : FTy → Type} [FloatOps F]
-- ==== Kernel5.lean ====
abbrev S4096x2048 : Shape := ⟨2, ![4096, 2048]⟩
abbrev S2048 : Shape := ⟨1, ![2048]⟩
abbrev S2048x1024 : Shape := ⟨2, ![2048, 1024]⟩
abbrev S4096x1024 : Shape := ⟨2, ![4096, 1024]⟩
abbrev S1024 : Shape := ⟨1, ![1024]⟩
abbrev S1x2048 : Shape := ⟨2, ![1, 2048]⟩
abbrev S1x1024 : Shape := ⟨2, ![1, 1024]⟩
abbrev S8x1024 : Shape := ⟨2, ![8, 1024]⟩
abbrev S8x128 : Shape := ⟨2, ![8, 128]⟩
abbrev S512x2048 : Shape := ⟨2, ![512, 2048]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩

abbrev nBuf : Space → Nat
  | .hbm => 15
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048x1024, .bf16⟩
  | .hbm, ⟨4, _⟩ => ⟨S4096x1024, .f32⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S1x2048, .f32⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S8x1024, .f32⟩
  | .hbm, ⟨13, _⟩ => ⟨S8x128, .f32⟩
  | .hbm, ⟨14, _⟩ => ⟨S2048x1024, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S2048x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | .local _ .vmem, ⟨15, _⟩ => ⟨S8x128, .f32⟩
  | .local _ .vmem, ⟨16, _⟩ => ⟨S2048x1024, .bf16⟩
  | .local _ .vmem, ⟨17, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v177 : BitVec 1 := Scalar.cmpi .eq arg0 c7_i32
  let v178 : BitVec 32 := Scalar.extui v177
  let c0_i32_71 : BitVec 32 := 0#32
  let v179 : BitVec 1 := Scalar.cmpi .ne v178 c0_i32_71
  v179

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference5Ideal.lean ====
abbrev S4096x2048 : Shape := ⟨2, ![4096, 2048]⟩
abbrev S2048 : Shape := ⟨1, ![2048]⟩
abbrev S2048x1024 : Shape := ⟨2, ![2048, 1024]⟩
abbrev S4096x1024 : Shape := ⟨2, ![4096, 1024]⟩
abbrev S1024 : Shape := ⟨1, ![1024]⟩
abbrev S_ : Shape := ⟨0, ![]⟩
abbrev S4096x4x512 : Shape := ⟨3, ![4096, 4, 512]⟩
abbrev S4096x4 : Shape := ⟨2, ![4096, 4]⟩
abbrev S4096x4x1 : Shape := ⟨3, ![4096, 4, 1]⟩
abbrev S1x2048 : Shape := ⟨2, ![1, 2048]⟩
abbrev S4096 : Shape := ⟨1, ![4096]⟩
abbrev S4096x1 : Shape := ⟨2, ![4096, 1]⟩
abbrev S1x1024 : Shape := ⟨2, ![1, 1024]⟩
abbrev S1024x2048 : Shape := ⟨2, ![1024, 2048]⟩
abbrev S6x1024 : Shape := ⟨2, ![6, 1024]⟩
abbrev S8x1024 : Shape := ⟨2, ![8, 1024]⟩
abbrev S8x128 : Shape := ⟨2, ![8, 128]⟩

abbrev nBuf : Space → Nat
  | .hbm => 146
  | .vmem => 0
  | .smem => 0
  | _ => 0

abbrev hbmTy0_0 (i : Nat) : BufTy := match i % 128 with
  | 0 => ⟨S4096x2048, .f32⟩
  | 1 => ⟨S4096x2048, .f32⟩
  | 2 => ⟨S2048, .f32⟩
  | 3 => ⟨S2048x1024, .bf16⟩
  | 4 => ⟨S4096x1024, .f32⟩
  | 5 => ⟨S1024, .f32⟩
  | 6 => ⟨S1024, .f32⟩
  | 7 => ⟨S4096x1024, .f32⟩
  | 8 => ⟨S_, .f32⟩
  | 9 => ⟨S4096x1024, .f32⟩
  | 10 => ⟨S4096x1024, .f32⟩
  | 11 => ⟨S2048x1024, .f32⟩
  | 12 => ⟨S4096x2048, .f32⟩
  | 13 => ⟨S4096x2048, .f32⟩
  | 14 => ⟨S_, .f32⟩
  | 15 => ⟨S4096x2048, .f32⟩
  | 16 => ⟨S4096x2048, .f32⟩
  | 17 => ⟨S_, .f32⟩
  | 18 => ⟨S4096x2048, .f32⟩
  | 19 => ⟨S4096x2048, .f32⟩
  | 20 => ⟨S4096x2048, .f32⟩
  | 21 => ⟨S4096x2048, .f32⟩
  | 22 => ⟨S4096x4x512, .f32⟩
  | 23 => ⟨S4096x4x512, .f32⟩
  | 24 => ⟨S_, .f32⟩
  | 25 => ⟨S4096x4, .f32⟩
  | 26 => ⟨S4096x4x1, .f32⟩
  | 27 => ⟨S_, .f32⟩
  | 28 => ⟨S4096x4x1, .f32⟩
  | 29 => ⟨S4096x4x1, .f32⟩
  | 30 => ⟨S_, .f32⟩
  | 31 => ⟨S4096x4x1, .f32⟩
  | 32 => ⟨S4096x4x1, .f32⟩
  | 33 => ⟨S4096x4x1, .f32⟩
  | 34 => ⟨S4096x4x512, .f32⟩
  | 35 => ⟨S4096x4x512, .f32⟩
  | 36 => ⟨S4096x2048, .f32⟩
  | 37 => ⟨S1x2048, .f32⟩
  | 38 => ⟨S4096x2048, .f32⟩
  | 39 => ⟨S4096x2048, .f32⟩
  | 40 => ⟨S4096x1024, .f32⟩
  | 41 => ⟨S4096x1024, .f32⟩
  | 42 => ⟨S_, .f32⟩
  | 43 => ⟨S4096, .f32⟩
  | 44 => ⟨S4096x1, .f32⟩
  | 45 => ⟨S_, .f32⟩
  | 46 => ⟨S4096x1, .f32⟩
  | 47 => ⟨S4096x1, .f32⟩
  | 48 => ⟨S4096x1024, .f32⟩
  | 49 => ⟨S4096x1024, .f32⟩
  | 50 => ⟨S4096x1024, .f32⟩
  | 51 => ⟨S_, .f32⟩
  | 52 => ⟨S4096, .f32⟩
  | 53 => ⟨S4096x1, .f32⟩
  | 54 => ⟨S_, .f32⟩
  | 55 => ⟨S4096x1, .f32⟩
  | 56 => ⟨S4096x1, .f32⟩
  | 57 => ⟨S_, .f32⟩
  | 58 => ⟨S4096x1, .f32⟩
  | 59 => ⟨S4096x1, .f32⟩
  | 60 => ⟨S4096x1, .f32⟩
  | 61 => ⟨S4096x1, .f32⟩
  | 62 => ⟨S_, .f32⟩
  | 63 => ⟨S4096x1, .f32⟩
  | 64 => ⟨S4096x1, .f32⟩
  | 65 => ⟨S4096x1024, .f32⟩
  | 66 => ⟨S4096x1024, .f32⟩
  | 67 => ⟨S1x1024, .f32⟩
  | 68 => ⟨S4096x1024, .f32⟩
  | 69 => ⟨S4096x1024, .f32⟩
  | 70 => ⟨S1x1024, .f32⟩
  | 71 => ⟨S4096x1024, .f32⟩
  | 72 => ⟨S4096x1024, .f32⟩
  | 73 => ⟨S4096x1024, .f32⟩
  | 74 => ⟨S4096x1024, .f32⟩
  | 75 => ⟨S_, .f32⟩
  | 76 => ⟨S4096x1024, .f32⟩
  | 77 => ⟨S4096x1024, .f32⟩
  | 78 => ⟨S_, .f32⟩
  | 79 => ⟨S4096, .f32⟩
  | 80 => ⟨S_, .f32⟩
  | 81 => ⟨S4096, .f32⟩
  | 82 => ⟨S4096, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S4096, .f32⟩
  | 91 => ⟨S_, .f32⟩
  | 92 => ⟨S4096, .f32⟩
  | 93 => ⟨S4096, .f32⟩
  | 94 => ⟨S4096x1024, .f32⟩
  | 95 => ⟨S4096x1024, .f32⟩
  | 96 => ⟨S_, .f32⟩
  | 97 => ⟨S1024, .f32⟩
  | 98 => ⟨S1x1024, .f32⟩
  | 99 => ⟨S_, .f32⟩
  | 100 => ⟨S1024, .f32⟩
  | 101 => ⟨S4096x1024, .f32⟩
  | 102 => ⟨S_, .f32⟩
  | 103 => ⟨S1024, .f32⟩
  | 104 => ⟨S1x1024, .f32⟩
  | 105 => ⟨S4096x1024, .f32⟩
  | 106 => ⟨S4096x1024, .f32⟩
  | 107 => ⟨S_, .f32⟩
  | 108 => ⟨S1024, .f32⟩
  | 109 => ⟨S4096x1024, .f32⟩
  | 110 => ⟨S_, .f32⟩
  | 111 => ⟨S4096, .f32⟩
  | 112 => ⟨S4096x1, .f32⟩
  | 113 => ⟨S4096x1024, .f32⟩
  | 114 => ⟨S4096x1024, .f32⟩
  | 115 => ⟨S4096x1, .f32⟩
  | 116 => ⟨S_, .f32⟩
  | 117 => ⟨S4096x1, .f32⟩
  | 118 => ⟨S4096x1, .f32⟩
  | 119 => ⟨S_, .f32⟩
  | 120 => ⟨S4096, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S_, .f32⟩
  | _ => ⟨S4096x2048, .f32⟩

abbrev hbmTy0_1 (i : Nat) : BufTy := match i % 128 with
  | 0 => ⟨S4096, .f32⟩
  | 1 => ⟨S4096x1, .f32⟩
  | 2 => ⟨S_, .f32⟩
  | 3 => ⟨S4096x1, .f32⟩
  | 4 => ⟨S4096x1, .f32⟩
  | 5 => ⟨S_, .f32⟩
  | 6 => ⟨S4096, .f32⟩
  | 7 => ⟨S4096x1024, .f32⟩
  | 8 => ⟨S4096x1024, .f32⟩
  | 9 => ⟨S1024x2048, .f32⟩
  | 10 => ⟨S2048x1024, .f32⟩
  | 11 => ⟨S1x1024, .f32⟩
  | 12 => ⟨S1x1024, .f32⟩
  | 13 => ⟨S_, .f32⟩
  | 14 => ⟨S6x1024, .f32⟩
  | 15 => ⟨S8x1024, .f32⟩
  | 16 => ⟨S8x128, .f32⟩
  | 17 => ⟨S2048x1024, .bf16⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_v53 : Ref sig .tc := ⟨.hbm, 82, rfl⟩
abbrev main_cst_12 : Ref sig .tc := ⟨.hbm, 83, rfl⟩
abbrev main_v54 : Ref sig .tc := ⟨.hbm, 84, rfl⟩
abbrev main_cst_13 : Ref sig .tc := ⟨.hbm, 85, rfl⟩
abbrev main_v55 : Ref sig .tc := ⟨.hbm, 86, rfl⟩
abbrev main_cst_14 : Ref sig .tc := ⟨.hbm, 87, rfl⟩
abbrev main_cst_15 : Ref sig .tc := ⟨.hbm, 88, rfl⟩
abbrev main_v56 : Ref sig .tc := ⟨.hbm, 89, rfl⟩
abbrev main_v57 : Ref sig .tc := ⟨.hbm, 90, rfl⟩
abbrev main_cst_16 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_17 : Ref sig .tc := ⟨.hbm, 96, rfl⟩
abbrev main_v62 : Ref sig .tc := ⟨.hbm, 97, rfl⟩
abbrev main_v63 : Ref sig .tc := ⟨.hbm, 98, rfl⟩
abbrev main_cst_18 : Ref sig .tc := ⟨.hbm, 99, rfl⟩
abbrev main_v64 : Ref sig .tc := ⟨.hbm, 100, rfl⟩
abbrev main_v65 : Ref sig .tc := ⟨.hbm, 101, rfl⟩
abbrev main_cst_19 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_20 : Ref sig .tc := ⟨.hbm, 107, rfl⟩
abbrev main_v70 : Ref sig .tc := ⟨.hbm, 108, rfl⟩
abbrev main_v71 : Ref sig .tc := ⟨.hbm, 109, rfl⟩
abbrev main_cst_21 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_22 : Ref sig .tc := ⟨.hbm, 116, rfl⟩
abbrev main_v77 : Ref sig .tc := ⟨.hbm, 117, rfl⟩
abbrev main_v78 : Ref sig .tc := ⟨.hbm, 118, rfl⟩
abbrev main_cst_23 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_24 : Ref sig .tc := ⟨.hbm, 127, rfl⟩
abbrev main_v86 : Ref sig .tc := ⟨.hbm, 128, rfl⟩
abbrev main_v87 : Ref sig .tc := ⟨.hbm, 129, rfl⟩
abbrev main_cst_25 : Ref sig .tc := ⟨.hbm, 130, rfl⟩
abbrev main_v88 : Ref sig .tc := ⟨.hbm, 131, rfl⟩
abbrev main_v89 : Ref sig .tc := ⟨.hbm, 132, rfl⟩
abbrev main_cst_26 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_27 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩

abbrev nD : Nat := 1
abbrev τ : Topo := Topo.v7x

variable {F : FTy → Type} [FloatOps F]
-- ==== Kernel6.lean ====
abbrev S4096x1024 : Shape := ⟨2, ![4096, 1024]⟩
abbrev S1024x2048 : Shape := ⟨2, ![1024, 2048]⟩
abbrev S1024x32 : Shape := ⟨2, ![1024, 32]⟩
abbrev S_ : Shape := ⟨0, ![]⟩
abbrev S1024x128 : Shape := ⟨2, ![1024, 128]⟩
abbrev S4096x2048 : Shape := ⟨2, ![4096, 2048]⟩
abbrev S4096x128 : Shape := ⟨2, ![4096, 128]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S1024x32, .bf16⟩
  | .hbm, ⟨3, _⟩ => ⟨S_, .i32⟩
  | .hbm, ⟨4, _⟩ => ⟨S_, .bf16⟩
  | .hbm, ⟨5, _⟩ => ⟨S1024x128, .bf16⟩
  | .hbm, ⟨6, _⟩ => ⟨S4096x2048, .f32⟩
  | .hbm, ⟨7, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x128, .bf16⟩
  | .local _ .vmem, ⟨4, _⟩ => ⟨S1024x2048, .f32⟩
  | .local _ .vmem, ⟨5, _⟩ => ⟨S1024x2048, .f32⟩
  | .local _ .vmem, ⟨6, _⟩ => ⟨S1024x128, .f32⟩
  | .local _ .vmem, ⟨7, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S4096x1024 : Shape := ⟨2, ![4096, 1024]⟩
abbrev S1024x2048 : Shape := ⟨2, ![1024, 2048]⟩
abbrev S1024x32 : Shape := ⟨2, ![1024, 32]⟩
abbrev S4096x32 : Shape := ⟨2, ![4096, 32]⟩
abbrev S4096x2048 : Shape := ⟨2, ![4096, 2048]⟩
abbrev S_ : Shape := ⟨0, ![]⟩
abbrev S4096x96 : Shape := ⟨2, ![4096, 96]⟩
abbrev S4096x128 : Shape := ⟨2, ![4096, 128]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S1024x32, .bf16⟩
  | .hbm, ⟨3, _⟩ => ⟨S4096x1024, .f32⟩
  | .hbm, ⟨4, _⟩ => ⟨S1024x32, .f32⟩
  | .hbm, ⟨5, _⟩ => ⟨S4096x32, .f32⟩
  | .hbm, ⟨6, _⟩ => ⟨S1024x2048, .f32⟩
  | .hbm, ⟨7, _⟩ => ⟨S4096x2048, .f32⟩
  | .hbm, ⟨8, _⟩ => ⟨S_, .f32⟩
  | .hbm, ⟨9, _⟩ => ⟨S4096x96, .f32⟩
  | .hbm, ⟨10, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel7.lean ====
abbrev S4096x512 : Shape := ⟨2, ![4096, 512]⟩
abbrev S4096x2048 : Shape := ⟨2, ![4096, 2048]⟩
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 21
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .f32⟩
  | .hbm, ⟨3, _⟩ => ⟨S4096x1024, .f32⟩
  | .hbm, ⟨4, _⟩ => ⟨S1024x1024, .bf16⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S4096x1024, .bf16⟩
  | .hbm, ⟨10, _⟩ => ⟨S4096x1024, .f32⟩
  | .hbm, ⟨11, _⟩ => ⟨S4096x1024, .f32⟩
  | .hbm, ⟨12, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference7Ideal.lean ====
abbrev S4096x512 : Shape := ⟨2, ![4096, 512]⟩
abbrev S4096x2048 : Shape := ⟨2, ![4096, 2048]⟩
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .f32⟩
  | .hbm, ⟨3, _⟩ => ⟨S4096x1024, .f32⟩
  | .hbm, ⟨4, _⟩ => ⟨S1024x1024, .bf16⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S1024x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | .hbm, ⟨53, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]
-- ==== Kernel8.lean ====
abbrev S4096x1024 : Shape := ⟨2, ![4096, 1024]⟩
abbrev S1024x1952 : Shape := ⟨2, ![1024, 1952]⟩
abbrev S1024x1024 : Shape := ⟨2, ![1024, 1024]⟩
abbrev S1024x512 : Shape := ⟨2, ![1024, 512]⟩
abbrev S1024x384 : Shape := ⟨2, ![1024, 384]⟩
abbrev S_ : Shape := ⟨0, ![]⟩
abbrev S1024x64 : Shape := ⟨2, ![1024, 64]⟩
abbrev S1024x32 : Shape := ⟨2, ![1024, 32]⟩
abbrev S1024x2048 : Shape := ⟨2, ![1024, 2048]⟩
abbrev S4096x2048 : Shape := ⟨2, ![4096, 2048]⟩

abbrev nBuf : Space → Nat
  | .hbm => 13
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x1952, .bf16⟩
  | .hbm, ⟨2, _⟩ => ⟨S1024x1024, .bf16⟩
  | .hbm, ⟨3, _⟩ => ⟨S1024x512, .bf16⟩
  | .hbm, ⟨4, _⟩ => ⟨S1024x384, .bf16⟩
  | .hbm, ⟨5, _⟩ => ⟨S_, .bf16⟩
  | .hbm, ⟨6, _⟩ => ⟨S1024x64, .bf16⟩
  | .hbm, ⟨7, _⟩ => ⟨S1024x32, .bf16⟩
  | .hbm, ⟨8, _⟩ => ⟨S_, .bf16⟩
  | .hbm, ⟨9, _⟩ => ⟨S1024x32, .bf16⟩
  | .hbm, ⟨10, _⟩ => ⟨S1024x2048, .bf16⟩
  | .hbm, ⟨11, _⟩ => ⟨S4096x2048, .f32⟩
  | .hbm, ⟨12, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference8Ideal.lean ====
abbrev S4096x1024 : Shape := ⟨2, ![4096, 1024]⟩
abbrev S1024x1952 : Shape := ⟨2, ![1024, 1952]⟩
abbrev S4096x1952 : Shape := ⟨2, ![4096, 1952]⟩
abbrev S4096x512 : Shape := ⟨2, ![4096, 512]⟩
abbrev S4096x384 : Shape := ⟨2, ![4096, 384]⟩
abbrev S4096x32 : Shape := ⟨2, ![4096, 32]⟩
abbrev S_ : Shape := ⟨0, ![]⟩
abbrev S4096x64 : Shape := ⟨2, ![4096, 64]⟩
abbrev S4096x2048 : Shape := ⟨2, ![4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1952, .bf16⟩
  | .hbm, ⟨2, _⟩ => ⟨S1024x1952, .f32⟩
  | .hbm, ⟨3, _⟩ => ⟨S4096x1952, .f32⟩
  | .hbm, ⟨4, _⟩ => ⟨S4096x512, .f32⟩
  | .hbm, ⟨5, _⟩ => ⟨S4096x1024, .f32⟩
  | .hbm, ⟨6, _⟩ => ⟨S4096x384, .f32⟩
  | .hbm, ⟨7, _⟩ => ⟨S4096x32, .f32⟩
  | .hbm, ⟨8, _⟩ => ⟨S_, .f32⟩
  | .hbm, ⟨9, _⟩ => ⟨S4096x64, .f32⟩
  | .hbm, ⟨10, _⟩ => ⟨S_, .f32⟩
  | .hbm, ⟨11, _⟩ => ⟨S4096x32, .f32⟩
  | .hbm, ⟨12, _⟩ => ⟨S4096x2048, .f32⟩
  | .hbm, ⟨13, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel9.lean ====
abbrev S4096x512 : Shape := ⟨2, ![4096, 512]⟩
abbrev S4096x1024 : Shape := ⟨2, ![4096, 1024]⟩
abbrev S4096x384 : Shape := ⟨2, ![4096, 384]⟩
abbrev S4096x32 : Shape := ⟨2, ![4096, 32]⟩
abbrev S1024x1952 : Shape := ⟨2, ![1024, 1952]⟩
abbrev S_ : Shape := ⟨0, ![]⟩
abbrev S4096x64 : Shape := ⟨2, ![4096, 64]⟩
abbrev S1024x1024 : Shape := ⟨2, ![1024, 1024]⟩
abbrev S1024x512 : Shape := ⟨2, ![1024, 512]⟩
abbrev S1024x384 : Shape := ⟨2, ![1024, 384]⟩
abbrev S1024x64 : Shape := ⟨2, ![1024, 64]⟩
abbrev S1024x32 : Shape := ⟨2, ![1024, 32]⟩
abbrev S1024x2048 : Shape := ⟨2, ![1024, 2048]⟩

abbrev nBuf : Space → Nat
  | .hbm => 21
  | .vmem => 11
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x384, .bf16⟩
  | .hbm, ⟨3, _⟩ => ⟨S4096x32, .bf16⟩
  | .hbm, ⟨4, _⟩ => ⟨S1024x1952, .bf16⟩
  | .hbm, ⟨5, _⟩ => ⟨S4096x1024, .f32⟩
  | .hbm, ⟨6, _⟩ => ⟨S_, .bf16⟩
  | .hbm, ⟨7, _⟩ => ⟨S4096x64, .bf16⟩
  | .hbm, ⟨8, _⟩ => ⟨S_, .bf16⟩
  | .hbm, ⟨9, _⟩ => ⟨S4096x32, .bf16⟩
  | .hbm, ⟨10, _⟩ => ⟨S4096x512, .bf16⟩
  | .hbm, ⟨11, _⟩ => ⟨S1024x1024, .bf16⟩
  | .hbm, ⟨12, _⟩ => ⟨S1024x512, .bf16⟩
  | .hbm, ⟨13, _⟩ => ⟨S1024x384, .bf16⟩
  | .hbm, ⟨14, _⟩ => ⟨S_, .bf16⟩
  | .hbm, ⟨15, _⟩ => ⟨S1024x64, .bf16⟩
  | .hbm, ⟨16, _⟩ => ⟨S1024x32, .bf16⟩
  | .hbm, ⟨17, _⟩ => ⟨S_, .bf16⟩
  | .hbm, ⟨18, _⟩ => ⟨S1024x32, .bf16⟩
  | .hbm, ⟨19, _⟩ => ⟨S1024x2048, .bf16⟩
  | .hbm, ⟨20, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S4096x512 : Shape := ⟨2, ![4096, 512]⟩
abbrev S4096x1024 : Shape := ⟨2, ![4096, 1024]⟩
abbrev S4096x384 : Shape := ⟨2, ![4096, 384]⟩
abbrev S4096x32 : Shape := ⟨2, ![4096, 32]⟩
abbrev S1024x1952 : Shape := ⟨2, ![1024, 1952]⟩
abbrev S_ : Shape := ⟨0, ![]⟩
abbrev S4096x1952 : Shape := ⟨2, ![4096, 1952]⟩

abbrev nBuf : Space → Nat
  | .hbm => 27
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x384, .bf16⟩
  | .hbm, ⟨3, _⟩ => ⟨S4096x32, .bf16⟩
  | .hbm, ⟨4, _⟩ => ⟨S1024x1952, .bf16⟩
  | .hbm, ⟨5, _⟩ => ⟨S4096x1024, .f32⟩
  | .hbm, ⟨6, _⟩ => ⟨S4096x512, .f32⟩
  | .hbm, ⟨7, _⟩ => ⟨S4096x1024, .f32⟩
  | .hbm, ⟨8, _⟩ => ⟨S4096x384, .f32⟩
  | .hbm, ⟨9, _⟩ => ⟨S4096x32, .f32⟩
  | .hbm, ⟨10, _⟩ => ⟨S_, .f32⟩
  | .hbm, ⟨11, _⟩ => ⟨S4096x1024, .f32⟩
  | .hbm, ⟨12, _⟩ => ⟨S1024x1952, .f32⟩
  | .hbm, ⟨13, _⟩ => ⟨S4096x1952, .f32⟩
  | .hbm, ⟨14, _⟩ => ⟨S4096x512, .f32⟩
  | .hbm, ⟨15, _⟩ => ⟨S4096x1024, .f32⟩
  | .hbm, ⟨16, _⟩ => ⟨S4096x384, .f32⟩
  | .hbm, ⟨17, _⟩ => ⟨S4096x32, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1952, .f32⟩
  | .hbm, ⟨25, _⟩ => ⟨S4096x1024, .f32⟩
  | .hbm, ⟨26, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel11.lean ====
abbrev S4096x1024 : Shape := ⟨2, ![4096, 1024]⟩
abbrev S1024x3072 : Shape := ⟨2, ![1024, 3072]⟩
abbrev S4x3072 : Shape := ⟨2, ![4, 3072]⟩
abbrev S3072 : Shape := ⟨1, ![3072]⟩
abbrev S_ : Shape := ⟨0, ![]⟩
abbrev S8x3072 : Shape := ⟨2, ![8, 3072]⟩
abbrev S1x3072 : Shape := ⟨2, ![1, 3072]⟩
abbrev S4096x3072 : Shape := ⟨2, ![4096, 3072]⟩
abbrev S1024x1024 : Shape := ⟨2, ![1024, 1024]⟩
abbrev S8x1024 : Shape := ⟨2, ![8, 1024]⟩
abbrev S1x1024 : Shape := ⟨2, ![1, 1024]⟩
abbrev S1016x1024 : Shape := ⟨2, ![1016, 1024]⟩

abbrev nBuf : Space → Nat
  | .hbm => 11
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4x3072, .f32⟩
  | .hbm, ⟨3, _⟩ => ⟨S3072, .f32⟩
  | .hbm, ⟨4, _⟩ => ⟨S_, .i32⟩
  | .hbm, ⟨5, _⟩ => ⟨S_, .f32⟩
  | .hbm, ⟨6, _⟩ => ⟨S8x3072, .f32⟩
  | .hbm, ⟨7, _⟩ => ⟨S1x3072, .f32⟩
  | .hbm, ⟨8, _⟩ => ⟨S4096x3072, .f32⟩
  | .hbm, ⟨9, _⟩ => ⟨S4096x3072, .f32⟩
  | .hbm, ⟨10, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference11Ideal.lean ====
abbrev S4096x1024 : Shape := ⟨2, ![4096, 1024]⟩
abbrev S1024x3072 : Shape := ⟨2, ![1024, 3072]⟩
abbrev S4x3072 : Shape := ⟨2, ![4, 3072]⟩
abbrev S3072 : Shape := ⟨1, ![3072]⟩
abbrev S4096x3072 : Shape := ⟨2, ![4096, 3072]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4x3072, .f32⟩
  | .hbm, ⟨3, _⟩ => ⟨S3072, .f32⟩
  | .hbm, ⟨4, _⟩ => ⟨S4096x1024, .f32⟩
  | .hbm, ⟨5, _⟩ => ⟨S1024x3072, .f32⟩
  | .hbm, ⟨6, _⟩ => ⟨S4096x3072, .f32⟩
  | .hbm, ⟨7, _⟩ => ⟨S_, .f32⟩
  | .hbm, ⟨8, _⟩ => ⟨S3x3072, .f32⟩
  | .hbm, ⟨9, _⟩ => ⟨S4099x3072, .f32⟩
  | .hbm, ⟨10, _⟩ => ⟨S4096x3072, .f32⟩
  | .hbm, ⟨11, _⟩ => ⟨S1x3072, .f32⟩
  | .hbm, ⟨12, _⟩ => ⟨S3072, .f32⟩
  | .hbm, ⟨13, _⟩ => ⟨S1x3072, .f32⟩
  | .hbm, ⟨14, _⟩ => ⟨S4096x3072, .f32⟩
  | .hbm, ⟨15, _⟩ => ⟨S4096x3072, .f32⟩
  | .hbm, ⟨16, _⟩ => ⟨S_, .f32⟩
  | .hbm, ⟨17, _⟩ => ⟨S4096x3072, .f32⟩
  | .hbm, ⟨18, _⟩ => ⟨S4096x3072, .f32⟩
  | .hbm, ⟨19, _⟩ => ⟨S4096x3072, .f32⟩
  | .hbm, ⟨20, _⟩ => ⟨S1x3072, .f32⟩
  | .hbm, ⟨21, _⟩ => ⟨S3072, .f32⟩
  | .hbm, ⟨22, _⟩ => ⟨S1x3072, .f32⟩
  | .hbm, ⟨23, _⟩ => ⟨S4096x3072, .f32⟩
  | .hbm, ⟨24, _⟩ => ⟨S4096x3072, .f32⟩
  | .hbm, ⟨25, _⟩ => ⟨S4096x3072, .f32⟩
  | .hbm, ⟨26, _⟩ => ⟨S4096x3072, .f32⟩
  | .hbm, ⟨27, _⟩ => ⟨S1x3072, .f32⟩
  | .hbm, ⟨28, _⟩ => ⟨S3072, .f32⟩
  | .hbm, ⟨29, _⟩ => ⟨S1x3072, .f32⟩
  | .hbm, ⟨30, _⟩ => ⟨S4096x3072, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S1x3072, .f32⟩
  | .hbm, ⟨35, _⟩ => ⟨S3072, .f32⟩
  | .hbm, ⟨36, _⟩ => ⟨S1x3072, .f32⟩
  | .hbm, ⟨37, _⟩ => ⟨S4096x3072, .f32⟩
  | .hbm, ⟨38, _⟩ => ⟨S4096x3072, .f32⟩
  | .hbm, ⟨39, _⟩ => ⟨S4096x3072, .f32⟩
  | .hbm, ⟨40, _⟩ => ⟨S1x3072, .f32⟩
  | .hbm, ⟨41, _⟩ => ⟨S4096x3072, .f32⟩
  | .hbm, ⟨42, _⟩ => ⟨S4096x3072, .f32⟩
  | .hbm, ⟨43, _⟩ => ⟨S4096x3072, .f32⟩
  | .hbm, ⟨44, _⟩ => ⟨S4096x3072, .f32⟩
  | .hbm, ⟨45, _⟩ => ⟨S_, .f32⟩
  | .hbm, ⟨46, _⟩ => ⟨S4096x3072, .f32⟩
  | .hbm, ⟨47, _⟩ => ⟨S4096x3072, .f32⟩
  | .hbm, ⟨48, _⟩ => ⟨S_, .f32⟩
  | .hbm, ⟨49, _⟩ => ⟨S4096x3072, .f32⟩
  | .hbm, ⟨50, _⟩ => ⟨S4096x3072, .f32⟩
  | .hbm, ⟨51, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Kernel12.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference12Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel13.lean ====
abbrev S8x128x128 : Shape := ⟨3, ![8, 128, 128]⟩
abbrev S128x128 : Shape := ⟨2, ![128, 128]⟩
abbrev S1x128x128 : Shape := ⟨3, ![1, 128, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x128x128, .bf16⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .local _ .vmem, ⟨0, _⟩ => ⟨S8x128x128, .bf16⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | _, _ => ⟨S8x128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference13Ideal.lean ====
abbrev S8x128x128 : Shape := ⟨3, ![8, 128, 128]⟩
abbrev S128x128 : Shape := ⟨2, ![128, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x128, .bf16⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S8x128x128, .f32⟩
  | .hbm, ⟨5, _⟩ => ⟨S_, .f32⟩
  | .hbm, ⟨6, _⟩ => ⟨S128x128, .f32⟩
  | .hbm, ⟨7, _⟩ => ⟨S_, .f32⟩
  | .hbm, ⟨8, _⟩ => ⟨S128x128, .f32⟩
  | .hbm, ⟨9, _⟩ => ⟨S128x128, .f32⟩
  | .hbm, ⟨10, _⟩ => ⟨S_, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S_, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S_, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S_, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S_, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S_, .f32⟩
  | .hbm, ⟨38, _⟩ => ⟨S128x128, .f32⟩
  | .hbm, ⟨39, _⟩ => ⟨S128x128, .f32⟩
  | _, _ => ⟨S8x128x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel14.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference14Ideal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S8x256x96 : Shape := ⟨3, ![8, 256, 96]⟩
abbrev S256x96 : Shape := ⟨2, ![256, 96]⟩
abbrev S96x256 : Shape := ⟨2, ![96, 256]⟩
abbrev S256x128 : Shape := ⟨2, ![256, 128]⟩
abbrev S1x256x96 : Shape := ⟨3, ![1, 256, 96]⟩
abbrev S128x256 : Shape := ⟨2, ![128, 256]⟩

abbrev nBuf : Space → Nat
  | .hbm => 11
  | .vmem => 10
  | .smem => 0
  | _ => 0

abbrev bufTy : (tb : Table) → Fin (tcTables nBuf tb) → BufTy
  | .hbm, ⟨0, _⟩ => ⟨S8x256x96, .bf16⟩
  | .hbm, ⟨1, _⟩ => ⟨S256x96, .f32⟩
  | .hbm, ⟨2, _⟩ => ⟨S256x96, .f32⟩
  | .hbm, ⟨3, _⟩ => ⟨S256x96, .f32⟩
  | .hbm, ⟨4, _⟩ => ⟨S96x256, .f32⟩
  | .hbm, ⟨5, _⟩ => ⟨S96x256, .f32⟩
  | .hbm, ⟨6, _⟩ => ⟨S96x256, .f32⟩
  | .hbm, ⟨7, _⟩ => ⟨S96x256, .f32⟩
  | .hbm, ⟨8, _⟩ => ⟨S96x256, .f32⟩
  | .hbm, ⟨9, _⟩ => ⟨S96x256, .f32⟩
  | .hbm, ⟨10, _⟩ => ⟨S96x256, .f32⟩
  | .local _ .vmem, ⟨0, _⟩ => ⟨S8x256x96, .bf16⟩
  | .local _ .vmem, ⟨1, _⟩ => ⟨S96x256, .f32⟩
  | .local _ .vmem, ⟨2, _⟩ => ⟨S96x256, .f32⟩
  | .local _ .vmem, ⟨3, _⟩ => ⟨S96x256, .f32⟩
  | .local _ .vmem, ⟨4, _⟩ => ⟨S96x256, .f32⟩
  | .local _ .vmem, ⟨5, _⟩ => ⟨S96x256, .f32⟩
  | .local _ .vmem, ⟨6, _⟩ => ⟨S96x256, .f32⟩
  | .local _ .vmem, ⟨7, _⟩ => ⟨S96x256, .f32⟩
  | .local _ .vmem, ⟨8, _⟩ => ⟨S96x256, .f32⟩
  | .local _ .vmem, ⟨9, _⟩ => ⟨S256x128, .f32⟩
  | _, _ => ⟨S8x256x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x256x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference18Ideal.lean ====
abbrev S8x256x96 : Shape := ⟨3, ![8, 256, 96]⟩
abbrev S256x96 : Shape := ⟨2, ![256, 96]⟩
abbrev S_ : Shape := ⟨0, ![]⟩
abbrev S96x256 : Shape := ⟨2, ![96, 256]⟩

abbrev nBuf : Space → Nat
  | .hbm => 44
  | .vmem => 0
  | .smem => 0
  | _ => 0

abbrev bufTy : (tb : Table) → Fin (tcTables nBuf tb) → BufTy
  | .hbm, ⟨0, _⟩ => ⟨S8x256x96, .bf16⟩
  | .hbm, ⟨1, _⟩ => ⟨S256x96, .f32⟩
  | .hbm, ⟨2, _⟩ => ⟨S256x96, .f32⟩
  | .hbm, ⟨3, _⟩ => ⟨S256x96, .f32⟩
  | .hbm, ⟨4, _⟩ => ⟨S8x256x96, .f32⟩
  | .hbm, ⟨5, _⟩ => ⟨S_, .f32⟩
  | .hbm, ⟨6, _⟩ => ⟨S256x96, .f32⟩
  | .hbm, ⟨7, _⟩ => ⟨S_, .f32⟩
  | .hbm, ⟨8, _⟩ => ⟨S256x96, .f32⟩
  | .hbm, ⟨9, _⟩ => ⟨S256x96, .f32⟩
  | .hbm, ⟨10, _⟩ => ⟨S_, .f32⟩
  | .hbm, ⟨11, _⟩ => ⟨S256x96, .f32⟩
  | .hbm, ⟨12, _⟩ => ⟨S256x96, .f32⟩
  | .hbm, ⟨13, _⟩ => ⟨S256x96, .f32⟩
  | .hbm, ⟨14, _⟩ => ⟨S_, .f32⟩
  | .hbm, ⟨15, _⟩ => ⟨S256x96, .f32⟩
  | .hbm, ⟨16, _⟩ => ⟨S256x96, .f32⟩
  | .hbm, ⟨17, _⟩ => ⟨S256x96, .f32⟩
  | .hbm, ⟨18, _⟩ => ⟨S_, .f32⟩
  | .hbm, ⟨19, _⟩ => ⟨S256x96, .f32⟩
  | .hbm, ⟨20, _⟩ => ⟨S256x96, .f32⟩
  | .hbm, ⟨21, _⟩ => ⟨S256x96, .f32⟩
  | .hbm, ⟨22, _⟩ => ⟨S_, .f32⟩
  | .hbm, ⟨23, _⟩ => ⟨S256x96, .f32⟩
  | .hbm, ⟨24, _⟩ => ⟨S256x96, .f32⟩
  | .hbm, ⟨25, _⟩ => ⟨S_, .f32⟩
  | .hbm, ⟨26, _⟩ => ⟨S256x96, .f32⟩
  | .hbm, ⟨27, _⟩ => ⟨S256x96, .f32⟩
  | .hbm, ⟨28, _⟩ => ⟨S256x96, .f32⟩
  | .hbm, ⟨29, _⟩ => ⟨S_, .f32⟩
  | .hbm, ⟨30, _⟩ => ⟨S256x96, .f32⟩
  | .hbm, ⟨31, _⟩ => ⟨S256x96, .f32⟩
  | .hbm, ⟨32, _⟩ => ⟨S256x96, .f32⟩
  | .hbm, ⟨33, _⟩ => ⟨S_, .f32⟩
  | .hbm, ⟨34, _⟩ => ⟨S256x96, .f32⟩
  | .hbm, ⟨35, _⟩ => ⟨S256x96, .f32⟩
  | .hbm, ⟨36, _⟩ => ⟨S256x96, .f32⟩
  | .hbm, ⟨37, _⟩ => ⟨S_, .f32⟩
  | .hbm, ⟨38, _⟩ => ⟨S256x96, .f32⟩
  | .hbm, ⟨39, _⟩ => ⟨S256x96, .f32⟩
  | .hbm, ⟨40, _⟩ => ⟨S96x256, .f32⟩
  | .hbm, ⟨41, _⟩ => ⟨S96x256, .f32⟩
  | .hbm, ⟨42, _⟩ => ⟨S96x256, .f32⟩
  | .hbm, ⟨43, _⟩ => ⟨S96x256, .f32⟩
  | _, _ => ⟨S8x256x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel19.lean ====
abbrev S8x1024x244 : Shape := ⟨3, ![8, 1024, 244]⟩
abbrev S1024x244 : Shape := ⟨2, ![1024, 244]⟩
abbrev S1x1024x244 : Shape := ⟨3, ![1, 1024, 244]⟩
abbrev S244x1x1024 : Shape := ⟨3, ![244, 1, 1024]⟩
abbrev S1952x128 : Shape := ⟨2, ![1952, 128]⟩
abbrev S1024x128 : Shape := ⟨2, ![1024, 128]⟩
abbrev S1x1024x128 : Shape := ⟨3, ![1, 1024, 128]⟩
abbrev S128x1024 : Shape := ⟨2, ![128, 1024]⟩
abbrev S128x128 : Shape := ⟨2, ![128, 128]⟩

abbrev nBuf : Space → Nat
  | .hbm => 17
  | .vmem => 10
  | .smem => 0
  | _ => 0

abbrev bufTy : (tb : Table) → Fin (tcTables nBuf tb) → BufTy
  | .hbm, ⟨0, _⟩ => ⟨S8x1024x244, .bf16⟩
  | .hbm, ⟨1, _⟩ => ⟨S1024x244, .f32⟩
  | .hbm, ⟨2, _⟩ => ⟨S1024x244, .f32⟩
  | .hbm, ⟨3, _⟩ => ⟨S1024x244, .f32⟩
  | .hbm, ⟨4, _⟩ => ⟨S1x1024x244, .f32⟩
  | .hbm, ⟨5, _⟩ => ⟨S244x1x1024, .f32⟩
  | .hbm, ⟨6, _⟩ => ⟨S1952x128, .f32⟩
  | .hbm, ⟨7, _⟩ => ⟨S1x1024x244, .f32⟩
  | .hbm, ⟨8, _⟩ => ⟨S244x1x1024, .f32⟩
  | .hbm, ⟨9, _⟩ => ⟨S1952x128, .f32⟩
  | .hbm, ⟨10, _⟩ => ⟨S1x1024x244, .f32⟩
  | .hbm, ⟨11, _⟩ => ⟨S244x1x1024, .f32⟩
  | .hbm, ⟨12, _⟩ => ⟨S1952x128, .f32⟩
  | .hbm, ⟨13, _⟩ => ⟨S244x1x1024, .f32⟩
  | .hbm, ⟨14, _⟩ => ⟨S244x1x1024, .f32⟩
  | .hbm, ⟨15, _⟩ => ⟨S244x1x1024, .f32⟩
  | .hbm, ⟨16, _⟩ => ⟨S244x1x1024, .f32⟩
  | .local _ .vmem, ⟨0, _⟩ => ⟨S8x1024x244, .bf16⟩
  | .local _ .vmem, ⟨1, _⟩ => ⟨S1952x128, .f32⟩
  | .local _ .vmem, ⟨2, _⟩ => ⟨S1952x128, .f32⟩
  | .local _ .vmem, ⟨3, _⟩ => ⟨S1952x128, .f32⟩
  | .local _ .vmem, ⟨4, _⟩ => ⟨S244x1x1024, .f32⟩
  | .local _ .vmem, ⟨5, _⟩ => ⟨S244x1x1024, .f32⟩
  | .local _ .vmem, ⟨6, _⟩ => ⟨S244x1x1024, .f32⟩
  | .local _ .vmem, ⟨7, _⟩ => ⟨S244x1x1024, .f32⟩
  | .local _ .vmem, ⟨8, _⟩ => ⟨S1952x128, .f32⟩
  | .local _ .vmem, ⟨9, _⟩ => ⟨S1024x128, .f32⟩
  | _, _ => ⟨S8x1024x244, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v9_3 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x1024x244 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1952x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1952x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1952x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S244x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S244x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S244x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S244x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference19Ideal.lean ====
abbrev S8x1024x244 : Shape := ⟨3, ![8, 1024, 244]⟩
abbrev S1024x244 : Shape := ⟨2, ![1024, 244]⟩
abbrev S_ : Shape := ⟨0, ![]⟩
abbrev S244x1024 : Shape := ⟨2, ![244, 1024]⟩
abbrev S244x1x1024 : Shape := ⟨3, ![244, 1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8x1024x244, .bf16⟩
  | .hbm, ⟨1, _⟩ => ⟨S1024x244, .f32⟩
  | .hbm, ⟨2, _⟩ => ⟨S1024x244, .f32⟩
  | .hbm, ⟨3, _⟩ => ⟨S1024x244, .f32⟩
  | .hbm, ⟨4, _⟩ => ⟨S8x1024x244, .f32⟩
  | .hbm, ⟨5, _⟩ => ⟨S_, .f32⟩
  | .hbm, ⟨6, _⟩ => ⟨S1024x244, .f32⟩
  | .hbm, ⟨7, _⟩ => ⟨S_, .f32⟩
  | .hbm, ⟨8, _⟩ => ⟨S1024x244, .f32⟩
  | .hbm, ⟨9, _⟩ => ⟨S1024x244, .f32⟩
  | .hbm, ⟨10, _⟩ => ⟨S_, .f32⟩
  | .hbm, ⟨11, _⟩ => ⟨S1024x244, .f32⟩
  | .hbm, ⟨12, _⟩ => ⟨S1024x244, .f32⟩
  | .hbm, ⟨13, _⟩ => ⟨S1024x244, .f32⟩
  | .hbm, ⟨14, _⟩ => ⟨S_, .f32⟩
  | .hbm, ⟨15, _⟩ => ⟨S1024x244, .f32⟩
  | .hbm, ⟨16, _⟩ => ⟨S1024x244, .f32⟩
  | .hbm, ⟨17, _⟩ => ⟨S1024x244, .f32⟩
  | .hbm, ⟨18, _⟩ => ⟨S_, .f32⟩
  | .hbm, ⟨19, _⟩ => ⟨S1024x244, .f32⟩
  | .hbm, ⟨20, _⟩ => ⟨S1024x244, .f32⟩
  | .hbm, ⟨21, _⟩ => ⟨S1024x244, .f32⟩
  | .hbm, ⟨22, _⟩ => ⟨S_, .f32⟩
  | .hbm, ⟨23, _⟩ => ⟨S1024x244, .f32⟩
  | .hbm, ⟨24, _⟩ => ⟨S1024x244, .f32⟩
  | .hbm, ⟨25, _⟩ => ⟨S_, .f32⟩
  | .hbm, ⟨26, _⟩ => ⟨S1024x244, .f32⟩
  | .hbm, ⟨27, _⟩ => ⟨S1024x244, .f32⟩
  | .hbm, ⟨28, _⟩ => ⟨S1024x244, .f32⟩
  | .hbm, ⟨29, _⟩ => ⟨S_, .f32⟩
  | .hbm, ⟨30, _⟩ => ⟨S1024x244, .f32⟩
  | .hbm, ⟨31, _⟩ => ⟨S1024x244, .f32⟩
  | .hbm, ⟨32, _⟩ => ⟨S1024x244, .f32⟩
  | .hbm, ⟨33, _⟩ => ⟨S_, .f32⟩
  | .hbm, ⟨34, _⟩ => ⟨S1024x244, .f32⟩
  | .hbm, ⟨35, _⟩ => ⟨S1024x244, .f32⟩
  | .hbm, ⟨36, _⟩ => ⟨S1024x244, .f32⟩
  | .hbm, ⟨37, _⟩ => ⟨S_, .f32⟩
  | .hbm, ⟨38, _⟩ => ⟨S1024x244, .f32⟩
  | .hbm, ⟨39, _⟩ => ⟨S1024x244, .f32⟩
  | .hbm, ⟨40, _⟩ => ⟨S244x1024, .f32⟩
  | .hbm, ⟨41, _⟩ => ⟨S244x1x1024, .f32⟩
  | .hbm, ⟨42, _⟩ => ⟨S244x1024, .f32⟩
  | .hbm, ⟨43, _⟩ => ⟨S244x1x1024, .f32⟩
  | .hbm, ⟨44, _⟩ => ⟨S244x1024, .f32⟩
  | .hbm, ⟨45, _⟩ => ⟨S244x1x1024, .f32⟩
  | .hbm, ⟨46, _⟩ => ⟨S244x1024, .f32⟩
  | .hbm, ⟨47, _⟩ => ⟨S244x1x1024, .f32⟩
  | _, _ => ⟨S8x1024x244, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel20.lean ====
abbrev S8x1024x644 : Shape := ⟨3, ![8, 1024, 644]⟩
abbrev S1024x644 : Shape := ⟨2, ![1024, 644]⟩
abbrev S1x1024x644 : Shape := ⟨3, ![1, 1024, 644]⟩
abbrev S644x1x1024 : Shape := ⟨3, ![644, 1, 1024]⟩
abbrev S5152x128 : Shape := ⟨2, ![5152, 128]⟩
abbrev S1024x128 : Shape := ⟨2, ![1024, 128]⟩
abbrev S1x1024x128 : Shape := ⟨3, ![1, 1024, 128]⟩
abbrev S128x1024 : Shape := ⟨2, ![128, 1024]⟩
abbrev S128x128 : Shape := ⟨2, ![128, 128]⟩

abbrev nBuf : Space → Nat
  | .hbm => 17
  | .vmem => 10
  | .smem => 0
  | _ => 0

abbrev bufTy : (tb : Table) → Fin (tcTables nBuf tb) → BufTy
  | .hbm, ⟨0, _⟩ => ⟨S8x1024x644, .bf16⟩
  | .hbm, ⟨1, _⟩ => ⟨S1024x644, .f32⟩
  | .hbm, ⟨2, _⟩ => ⟨S1024x644, .f32⟩
  | .hbm, ⟨3, _⟩ => ⟨S1024x644, .f32⟩
  | .hbm, ⟨4, _⟩ => ⟨S1x1024x644, .f32⟩
  | .hbm, ⟨5, _⟩ => ⟨S644x1x1024, .f32⟩
  | .hbm, ⟨6, _⟩ => ⟨S5152x128, .f32⟩
  | .hbm, ⟨7, _⟩ => ⟨S1x1024x644, .f32⟩
  | .hbm, ⟨8, _⟩ => ⟨S644x1x1024, .f32⟩
  | .hbm, ⟨9, _⟩ => ⟨S5152x128, .f32⟩
  | .hbm, ⟨10, _⟩ => ⟨S1x1024x644, .f32⟩
  | .hbm, ⟨11, _⟩ => ⟨S644x1x1024, .f32⟩
  | .hbm, ⟨12, _⟩ => ⟨S5152x128, .f32⟩
  | .hbm, ⟨13, _⟩ => ⟨S644x1x1024, .f32⟩
  | .hbm, ⟨14, _⟩ => ⟨S644x1x1024, .f32⟩
  | .hbm, ⟨15, _⟩ => ⟨S644x1x1024, .f32⟩
  | .hbm, ⟨16, _⟩ => ⟨S644x1x1024, .f32⟩
  | .local _ .vmem, ⟨0, _⟩ => ⟨S8x1024x644, .bf16⟩
  | .local _ .vmem, ⟨1, _⟩ => ⟨S5152x128, .f32⟩
  | .local _ .vmem, ⟨2, _⟩ => ⟨S5152x128, .f32⟩
  | .local _ .vmem, ⟨3, _⟩ => ⟨S5152x128, .f32⟩
  | .local _ .vmem, ⟨4, _⟩ => ⟨S644x1x1024, .f32⟩
  | .local _ .vmem, ⟨5, _⟩ => ⟨S644x1x1024, .f32⟩
  | .local _ .vmem, ⟨6, _⟩ => ⟨S644x1x1024, .f32⟩
  | .local _ .vmem, ⟨7, _⟩ => ⟨S644x1x1024, .f32⟩
  | .local _ .vmem, ⟨8, _⟩ => ⟨S5152x128, .f32⟩
  | .local _ .vmem, ⟨9, _⟩ => ⟨S1024x128, .f32⟩
  | _, _ => ⟨S8x1024x644, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v9_3 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x1024x644 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5152x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5152x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5152x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S644x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S644x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S644x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S644x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference20Ideal.lean ====
abbrev S8x1024x644 : Shape := ⟨3, ![8, 1024, 644]⟩
abbrev S1024x644 : Shape := ⟨2, ![1024, 644]⟩
abbrev S_ : Shape := ⟨0, ![]⟩
abbrev S644x1024 : Shape := ⟨2, ![644, 1024]⟩
abbrev S644x1x1024 : Shape := ⟨3, ![644, 1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8x1024x644, .bf16⟩
  | .hbm, ⟨1, _⟩ => ⟨S1024x644, .f32⟩
  | .hbm, ⟨2, _⟩ => ⟨S1024x644, .f32⟩
  | .hbm, ⟨3, _⟩ => ⟨S1024x644, .f32⟩
  | .hbm, ⟨4, _⟩ => ⟨S8x1024x644, .f32⟩
  | .hbm, ⟨5, _⟩ => ⟨S_, .f32⟩
  | .hbm, ⟨6, _⟩ => ⟨S1024x644, .f32⟩
  | .hbm, ⟨7, _⟩ => ⟨S_, .f32⟩
  | .hbm, ⟨8, _⟩ => ⟨S1024x644, .f32⟩
  | .hbm, ⟨9, _⟩ => ⟨S1024x644, .f32⟩
  | .hbm, ⟨10, _⟩ => ⟨S_, .f32⟩
  | .hbm, ⟨11, _⟩ => ⟨S1024x644, .f32⟩
  | .hbm, ⟨12, _⟩ => ⟨S1024x644, .f32⟩
  | .hbm, ⟨13, _⟩ => ⟨S1024x644, .f32⟩
  | .hbm, ⟨14, _⟩ => ⟨S_, .f32⟩
  | .hbm, ⟨15, _⟩ => ⟨S1024x644, .f32⟩
  | .hbm, ⟨16, _⟩ => ⟨S1024x644, .f32⟩
  | .hbm, ⟨17, _⟩ => ⟨S1024x644, .f32⟩
  | .hbm, ⟨18, _⟩ => ⟨S_, .f32⟩
  | .hbm, ⟨19, _⟩ => ⟨S1024x644, .f32⟩
  | .hbm, ⟨20, _⟩ => ⟨S1024x644, .f32⟩
  | .hbm, ⟨21, _⟩ => ⟨S1024x644, .f32⟩
  | .hbm, ⟨22, _⟩ => ⟨S_, .f32⟩
  | .hbm, ⟨23, _⟩ => ⟨S1024x644, .f32⟩
  | .hbm, ⟨24, _⟩ => ⟨S1024x644, .f32⟩
  | .hbm, ⟨25, _⟩ => ⟨S_, .f32⟩
  | .hbm, ⟨26, _⟩ => ⟨S1024x644, .f32⟩
  | .hbm, ⟨27, _⟩ => ⟨S1024x644, .f32⟩
  | .hbm, ⟨28, _⟩ => ⟨S1024x644, .f32⟩
  | .hbm, ⟨29, _⟩ => ⟨S_, .f32⟩
  | .hbm, ⟨30, _⟩ => ⟨S1024x644, .f32⟩
  | .hbm, ⟨31, _⟩ => ⟨S1024x644, .f32⟩
  | .hbm, ⟨32, _⟩ => ⟨S1024x644, .f32⟩
  | .hbm, ⟨33, _⟩ => ⟨S_, .f32⟩
  | .hbm, ⟨34, _⟩ => ⟨S1024x644, .f32⟩
  | .hbm, ⟨35, _⟩ => ⟨S1024x644, .f32⟩
  | .hbm, ⟨36, _⟩ => ⟨S1024x644, .f32⟩
  | .hbm, ⟨37, _⟩ => ⟨S_, .f32⟩
  | .hbm, ⟨38, _⟩ => ⟨S1024x644, .f32⟩
  | .hbm, ⟨39, _⟩ => ⟨S1024x644, .f32⟩
  | .hbm, ⟨40, _⟩ => ⟨S644x1024, .f32⟩
  | .hbm, ⟨41, _⟩ => ⟨S644x1x1024, .f32⟩
  | .hbm, ⟨42, _⟩ => ⟨S644x1024, .f32⟩
  | .hbm, ⟨43, _⟩ => ⟨S644x1x1024, .f32⟩
  | .hbm, ⟨44, _⟩ => ⟨S644x1024, .f32⟩
  | .hbm, ⟨45, _⟩ => ⟨S644x1x1024, .f32⟩
  | .hbm, ⟨46, _⟩ => ⟨S644x1024, .f32⟩
  | .hbm, ⟨47, _⟩ => ⟨S644x1x1024, .f32⟩
  | _, _ => ⟨S8x1024x644, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Proof.GateSpec.lean ====
/-
  THE GRADIENT OF THE GATED OUTPUT PRODUCT, written at an element (extended reals). Forward:
  `out = (concat(h, o) * silu(gate)) @ w`, with the gate the left half of `proj`. For a cotangent `dv` of `out`:

    dmix  = dv @ wᵀ                        the gradient of the product's left factor
    dh,do = the halves of dmix * silu(gate)
    dgate = dmix * concat(h, o) * silu'(gate)
    dw    = (concat(h, o) * silu(gate))ᵀ @ dv
    dwg   = xbᵀ @ dgate                    the gradient of the weights that made the gate

  Both programs are shown to hold these functions of their arguments.
-/
module

public import Idealize.ShloMosaic.Lib.Pointwise

@[expose] public section

noncomputable section

namespace Cert.GateSpec

open Idealize.ShloMosaic

/-- An `a × b` array of extended reals. -/
abbrev Arr (a b : Nat) : Type := (⟨2, ![a, b]⟩ : Shape).Idx → EReal

/-- The logistic function. -/
def sigm (x : EReal) : EReal := Ideal.div 1 (1 + Ideal.exp (-x))

/-- The two halves side by side. -/
def mix (h o : Arr 4096 512) (r : Fin 4096) (e : Fin 1024) : EReal :=
  if he : e.val < 512 then h (ix2 r ⟨e.val, he⟩) else o (ix2 r ⟨e.val - 512, by omega⟩)

/-- The gate's pre-activation: the left half of `proj`. -/
def gate (p : Arr 4096 2048) (r : Fin 4096) (e : Fin 1024) : EReal := p (ix2 r ⟨e.val, by omega⟩)

/-- The cotangent through the output product. -/
def dmix (dv : Arr 4096 1024) (w : Arr 1024 1024) (r : Fin 4096) (e : Fin 1024) : EReal :=
  ∑ k : Fin 1024, dv (ix2 r k) * w (ix2 e k)

/-- The cotangent of the gated halves. -/
def dhalf (dv : Arr 4096 1024) (w : Arr 1024 1024) (p : Arr 4096 2048) (r : Fin 4096) (e : Fin 1024) : EReal :=
  dmix dv w r e * (gate p r e * sigm (gate p r e))

/-- The cotangent of the gate's pre-activation. -/
def dgate (dv : Arr 4096 1024) (w : Arr 1024 1024) (h o : Arr 4096 512) (p : Arr 4096 2048) (r : Fin 4096) (e : Fin 1024) : EReal :=
  dmix dv w r e * mix h o r e * (sigm (gate p r e) * (1 + gate p r e * (1 - sigm (gate p r e))))

/-- The gradient of the output weights. -/
def dwOut (dv : Arr 4096 1024) (h o : Arr 4096 512) (p : Arr 4096 2048) (e d : Fin 1024) : EReal :=
  ∑ r : Fin 4096, mix h o r e * (gate p r e * sigm (gate p r e)) * dv (ix2 r d)

/-- The gradient of the gate's weights. -/
def dwGate (dv : Arr 4096 1024) (w : Arr 1024 1024) (h o : Arr 4096 512) (p : Arr 4096 2048) (x : Arr 4096 1024) (d e : Fin 1024) : EReal :=
  ∑ r : Fin 4096, x (ix2 r d) * dgate dv w h o p r e

theorem mix_left (h o : Arr 4096 512) (r : Fin 4096) (e : Fin 1024) (he : e.val < 512) : mix h o r e = h (ix2 r ⟨e.val, he⟩) := dif_pos he
theorem mix_right (h o : Arr 4096 512) (r : Fin 4096) (e : Fin 1024) (he : ¬e.val < 512) :
    mix h o r e = o (ix2 r ⟨e.val - 512, by omega⟩) := dif_neg he

theorem one_f32 : Ideal.ofBits .f32 0x3F800000#32 = 1 := Ideal.ofBits_one_f32

/-- An index of a two-axis array is its two coordinates. -/
theorem pair {a b : Nat} (j : (⟨2, ![a, b]⟩ : Shape).Idx) : ∃ (x : Fin a) (y : Fin b), j = ix2 x y :=
  ⟨j 0, j 1, (ix2_eta j).symm⟩

theorem left_lt (b : Fin 512) : b.val < 1024 := lt_trans b.isLt (by decide)

theorem right_lt (b : Fin 512) : 512 + b.val < 1024 := Nat.add_lt_add_left b.isLt 512

/-- The kernel's spelling of the logistic function: `1 / (1 + exp (0 - x))`. -/
theorem sigm_zero_sub (x : EReal) : Ideal.div 1 (1 + Ideal.exp (0 - x)) = sigm x := by
  rw [sub_eq_add_neg, zero_add, sigm]

end Cert.GateSpec

end
-- ==== Proof.GateBlocks.lean ====
/-
  WHAT THE GATE'S BACKWARD KERNEL LEAVES. Each grid point takes 512 rows: it stores their gradients and adds their part of
  the two weight gradients to blocks that every point revisits.
-/
module

public import proofs.«01_k».proof.Proof.Gen.KernelIdeal.Value
public import proofs.«01_k».proof.Proof.GateSpec
public import Idealize.ShloMosaic.Lib.Pipeline.ValueKit
public import Idealize.ShloMosaic.Lib.StableHlo.RunRead

@[expose] public section

noncomputable section

namespace Cert.KernelIdeal.Gate

open Cert.KernelIdeal Cert.KernelIdeal.Gen Cert.KernelIdeal.Value Cert.GateSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

abbrev dv (c : Dev nD) : Arr 4096 1024 := m ((c : Thread nD τ).loc main_arg0)
abbrev wo (c : Dev nD) : Arr 1024 1024 := m ((c : Thread nD τ).loc main_arg1)
abbrev hl (c : Dev nD) : Arr 4096 512 := m ((c : Thread nD τ).loc main_arg2)
abbrev ho (c : Dev nD) : Arr 4096 512 := m ((c : Thread nD τ).loc main_arg3)
abbrev pj (c : Dev nD) : Arr 4096 2048 := m ((c : Thread nD τ).loc main_arg4)
abbrev xb (c : Dev nD) : Arr 4096 1024 := m ((c : Thread nD τ).loc main_arg5)

/-! ## Where each window's block lies -/

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 1] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem at8 : ∀ t : Fin cfg0.N, win0_8.index t = ![t.val, 0] := (by decide +kernel : ∀ t : Fin grid0.N, _)
theorem at9 : ∀ t : Fin cfg0.N, win0_9.index t = ![t.val, 0] := (by decide +kernel : ∀ t : Fin grid0.N, _)
theorem at10 : ∀ t : Fin cfg0.N, win0_10.index t = ![t.val, 0] := (by decide +kernel : ∀ t : Fin grid0.N, _)
theorem at11 : ∀ t : Fin cfg0.N, win0_11.index t = ![0, 0] := (by decide +kernel : ∀ t : Fin grid0.N, _)
theorem at12 : ∀ t : Fin cfg0.N, win0_12.index t = ![0, 0] := (by decide +kernel : ∀ t : Fin grid0.N, _)

/-- Row `r` of the rows grid point `t` works on. -/
abbrev row (t : Fin cfg0.N) (r : Fin 512) : Fin 4096 := ⟨t.val * 512 + r.val, by have := t.isLt; have : cfg0.N = 8 := N_0; omega⟩

theorem blk0 (c : Dev nD) (t : Fin cfg0.N) (r : Fin 512) (k : Fin 1024) : (iblk m c 0 t : Vec Ideal S512x1024 .f32) (ix2 r k) = dv m c (ix2 (row t r) k) := by
  blk_ext! [iblk, V_main_arg0, at0 t]
theorem blk1 (c : Dev nD) (t : Fin cfg0.N) (r k : Fin 1024) : (iblk m c 1 t : Vec Ideal S1024x1024 .bf16) (ix2 r k) = wo m c (ix2 r k) := by
  blk_ext! [iblk, V_main_arg1, at1 t]
theorem blk2 (c : Dev nD) (t : Fin cfg0.N) (r k : Fin 512) : (iblk m c 2 t : Vec Ideal S512x512 .f32) (ix2 r k) = hl m c (ix2 (row t r) k) := by
  blk_ext! [iblk, V_main_arg2, at2 t]
theorem blk3 (c : Dev nD) (t : Fin cfg0.N) (r k : Fin 512) : (iblk m c 3 t : Vec Ideal S512x512 .f32) (ix2 r k) = ho m c (ix2 (row t r) k) := by
  blk_ext! [iblk, V_main_arg3, at3 t]
theorem blk4 (c : Dev nD) (t : Fin cfg0.N) (r k : Fin 512) : (iblk m c 4 t : Vec Ideal S512x512 .f32) (ix2 r k) = gate (pj m c) (row t r) ⟨k.val, by omega⟩ := by
  unfold gate
  blk_ext! [iblk, V_main_arg4, at4 t]
theorem blk5 (c : Dev nD) (t : Fin cfg0.N) (r k : Fin 512) : (iblk m c 5 t : Vec Ideal S512x512 .f32) (ix2 r k) = gate (pj m c) (row t r) ⟨512 + k.val, by omega⟩ := by
  unfold gate
  blk_ext! [iblk, V_main_arg4, at5 t]
theorem blk7 (c : Dev nD) (t : Fin cfg0.N) (r : Fin 512) (k : Fin 1024) : (iblk m c 7 t : Vec Ideal S512x1024 .bf16) (ix2 r k) = xb m c (ix2 (row t r) k) := by
  blk_ext! [iblk, V_main_arg5, at7 t]
/-- The logistic of the gate as the kernel's host code spells it. -/
abbrev hostSigm (x : FVec Ideal S4096x1024 .f32) : FVec Ideal S4096x1024 .f32 :=
  Host.divf (broadcastInDim S4096x1024 ![] bcast_S_S4096x1024 (constant S_ .f32 0x3F800000#32))
    (addf (broadcastInDim S4096x1024 ![] bcast_S_S4096x1024 (constant S_ .f32 0x3F800000#32)) (Host.exp (Host.negf x)))

/-- The gated halves, as the host code before the kernel computes them. -/
theorem V_main_v4 (c : Dev nD) : (V m c main_v4 : FVec Ideal S4096x1024 .bf16) =
    truncf .bf16 (mulf (concatenate S4096x1024 1 [⟨S4096x512, hl m c⟩, ⟨S4096x512, ho m c⟩] concatenates_S4096x512_S4096x512_S4096x1024_d1)
      (mulf (extractStridedSlice S4096x1024 ![0, 0] (pj m c) slices_S4096x2048_S4096x1024_0_0)
        (hostSigm (extractStridedSlice S4096x1024 ![0, 0] (pj m c) slices_S4096x2048_S4096x1024_0_0)))) bitsLt_bf16_f32 := by
  rfl

theorem blk6 (c : Dev nD) (t : Fin cfg0.N) (r : Fin 512) (k : Fin 1024) : (iblk m c 6 t : Vec Ideal S512x1024 .bf16) (ix2 r k) =
    mix (hl m c) (ho m c) (row t r) k * (gate (pj m c) (row t r) k * sigm (gate (pj m c) (row t r) k)) := by
  have e : (iblk m c 6 t : Vec Ideal S512x1024 .bf16) (ix2 r k) = (V m c main_v4 : FVec Ideal S4096x1024 .bf16) (ix2 (row t r) k) := by
    blk_ext! [iblk, at6 t]
  rw [e, V_main_v4]
  pointwise [mix, gate, sigm, hostSigm]

/-! ## What a point leaves -/

/-- The block of the gate's cotangent that point `t` stores in two halves. -/
def gateBlk (c : Dev nD) (t : Fin cfg0.N) : Vec Ideal S512x1024 .bf16 :=
  View.canon [⟨Rect.unit ![0, 512] ![512, 512] inb_S512x1024_S512x512_0_512,
      k0_pay13 (iblk m c 5 t) (k0_pay8 (iblk m c 0 t) (iblk m c 1 t)) (iblk m c 3 t)⟩,
    ⟨Rect.unit ![0, 0] ![512, 512] inb_S512x1024_S512x512_0_0,
      k0_pay12 (iblk m c 4 t) (k0_pay11 (iblk m c 0 t) (iblk m c 1 t) (iblk m c 2 t))⟩]

theorem gateBlk_apply (c : Dev nD) (t : Fin cfg0.N) (r : Fin 512) (e : Fin 1024) :
    gateBlk m c t (ix2 r e) = dgate (dv m c) (wo m c) (hl m c) (ho m c) (pj m c) (row t r) e := by
  unfold gateBlk
  canon_tiles x h
  · obtain ⟨a, b, rfl⟩ := pair x
    obtain rfl : r = a := Fin.ext h0
    obtain rfl : e = ⟨512 + b.val, right_lt b⟩ := Fin.ext h1
    rw [dgate, dmix, mix_right _ _ _ _ (by dsimp only; omega)]
    pointwise [k0_pay13, k0_pay8, k0_pay6, k0_pay5]
    simp only [blk0, blk1, blk3, blk5, one_f32, sigm_zero_sub, Nat.add_sub_cancel_left]
  · obtain ⟨a, b, rfl⟩ := pair x
    obtain rfl : r = a := Fin.ext h0
    obtain rfl : e = ⟨b.val, left_lt b⟩ := Fin.ext h1
    rw [dgate, dmix, mix_left _ _ _ _ b.isLt]
    pointwise [k0_pay12, k0_pay11, k0_pay7, k0_pay6, k0_pay5]
    simp only [blk0, blk1, blk2, blk4, one_f32, sigm_zero_sub]

theorem left_at (c : Dev nD) (t : Fin cfg0.N) (r e : Fin 512) :
    (outsAt0 m c t.val t.isLt).1 (ix2 r e) = dhalf (dv m c) (wo m c) (pj m c) (row t r) ⟨e.val, left_lt e⟩ := by
  have e : (outsAt0 m c t.val t.isLt).1 = k0_pay9 (iblk m c 0 t) (iblk m c 1 t) (iblk m c 4 t) := by
    by_cases h : t.val % 8 = 0
    · rw [outsAt0_A m c t h]; frame_out
    · rw [outsAt0_B m c t h]; frame_out
  rw [e]
  pointwise [k0_pay9, k0_pay7, k0_pay6, k0_pay5]
  simp only [blk0, blk1, blk4, one_f32, sigm_zero_sub]
  rfl

theorem right_at (c : Dev nD) (t : Fin cfg0.N) (r e : Fin 512) :
    (outsAt0 m c t.val t.isLt).2.1 (ix2 r e) = dhalf (dv m c) (wo m c) (pj m c) (row t r) ⟨512 + e.val, right_lt e⟩ := by
  have e : (outsAt0 m c t.val t.isLt).2.1 = k0_pay10 (iblk m c 0 t) (iblk m c 1 t) (iblk m c 5 t) := by
    by_cases h : t.val % 8 = 0
    · rw [outsAt0_A m c t h]; frame_out
    · rw [outsAt0_B m c t h]; frame_out
  rw [e]
  pointwise [k0_pay10, k0_pay8, k0_pay6, k0_pay5]
  simp only [blk0, blk1, blk5, one_f32, sigm_zero_sub]
  rfl

theorem gate_at (c : Dev nD) (t : Fin cfg0.N) : (outsAt0 m c t.val t.isLt).2.2.1 = gateBlk m c t := by
  by_cases h : t.val % 8 = 0
  · rw [outsAt0_A m c t h]; frame_out
  · rw [outsAt0_B m c t h]; frame_out

/-- Point `t`'s part of the output weights' gradient: its 512 rows. -/
def outPart (c : Dev nD) (t : Fin cfg0.N) (i : S1024x1024.Idx) : EReal :=
  ∑ r : Fin 512, mix (hl m c) (ho m c) (row t r) (i 0) * (gate (pj m c) (row t r) (i 0) * sigm (gate (pj m c) (row t r) (i 0)))
    * dv m c (ix2 (row t r) (i 1))

/-- Point `t`'s part of the gate weights' gradient. -/
def gatePart (c : Dev nD) (t : Fin cfg0.N) (i : S1024x1024.Idx) : EReal :=
  ∑ r : Fin 512, xb m c (ix2 (row t r) (i 0)) * dgate (dv m c) (wo m c) (hl m c) (ho m c) (pj m c) (row t r) (i 1)

theorem outPay (c : Dev nD) (t : Fin cfg0.N) (acc : Vec Ideal S1024x1024 .f32) (i) :
    k0_pay1 (k0_pay5 (iblk m c 0 t)) (k0_pay14 acc) (k0_pay15 (iblk m c 6 t)) i = acc i + outPart m c t i := by
  obtain ⟨a, b, rfl⟩ := pair i
  pointwise [k0_pay1, k0_pay5, k0_pay14, k0_pay15]
  simp only [blk0, blk6]
  rfl

theorem gatePay (c : Dev nD) (t : Fin cfg0.N) (acc : Vec Ideal S1024x1024 .f32) (i) :
    k0_pay2 acc (iblk m c 7 t) (gateBlk m c t) i = acc i + gatePart m c t i := by
  obtain ⟨a, b, rfl⟩ := pair i
  pointwise [k0_pay2]
  simp only [blk7, gateBlk_apply]
  rfl

/-- The store of the two halves read back whole. -/
theorem gate_read (c : Dev nD) (t : Fin cfg0.N) (inb) :
    (ms0_10 t).view.readCov
        [⟨Rect.unit ![0, 512] ![512, 512] inb_S512x1024_S512x512_0_512,
            k0_pay13 (iblk m c 5 t) (k0_pay8 (iblk m c 0 t) (iblk m c 1 t)) (iblk m c 3 t)⟩,
          ⟨Rect.unit ![0, 0] ![512, 512] inb_S512x1024_S512x512_0_0,
            k0_pay12 (iblk m c 4 t) (k0_pay11 (iblk m c 0 t) (iblk m c 1 t) (iblk m c 2 t))⟩]
        (Rect.unit (s := S512x1024) ![0, 0] ![512, 1024] inb).toLoadRect = gateBlk m c t := by
  rw [View.readCov_eq_canon']
  exact View.ld_unit_lit (S := S512x1024) inb _ (by decide)

theorem outs_last (c : Dev nD) (i) : (outsAt0 m c t0_7.val t0_7.isLt).2.2.2.1 i = 0 + ∑ t : Fin cfg0.N, outPart m c t i :=
  Pipeline.eq_sum_fin_of_reset_step_apply_last (fun n h => (outsAt0 m c n h).2.2.2.1) 8 (fun _ => 0) (outPart m c)
    (fun t h j => by
      rw [outsAt0_A m c t h]; frame_out
      rw [outPay]; pointwise [k0_pay3])
    (fun t h j => by
      rw [outsAt0_B m c t h]; frame_out
      rw [outPay])
    (le_of_eq N_0) t0_7 rfl i

theorem gates_last (c : Dev nD) (i) : (outsAt0 m c t0_7.val t0_7.isLt).2.2.2.2 i = 0 + ∑ t : Fin cfg0.N, gatePart m c t i :=
  Pipeline.eq_sum_fin_of_reset_step_apply_last (fun n h => (outsAt0 m c n h).2.2.2.2) 8 (fun _ => 0) (gatePart m c)
    (fun t h j => by
      rw [outsAt0_A m c t h]; frame_out
      rw [gate_read, gatePay]; pointwise [k0_pay4])
    (fun t h j => by
      rw [outsAt0_B m c t h]; frame_out
      rw [gate_read, gatePay])
    (le_of_eq N_0) t0_7 rfl i

/-! ## The result arrays -/

theorem final8 (c : Dev nD) : (dats m 0 c).arrAt 8 cfg0.N =
    (fun i => dhalf (dv m c) (wo m c) (pj m c) (i 0) ⟨(i 1).val, left_lt (i 1)⟩ : Arr 4096 512) := by
  refine (dats m 0 c).arrAt_eq_of_covers 8 _ (by decide +kernel) fun t hf y => ?_
  blk_simp
  rw [after0_8]
  obtain ⟨a, b, rfl⟩ := pair y
  rw [left_at]
  refine congrArg₂ (dhalf _ _ _) (Fin.ext ?_) (Fin.ext ?_) <;> blk_simp [at8 t]
  all_goals rfl

theorem final9 (c : Dev nD) : (dats m 0 c).arrAt 9 cfg0.N =
    (fun i => dhalf (dv m c) (wo m c) (pj m c) (i 0) ⟨512 + (i 1).val, right_lt (i 1)⟩ : Arr 4096 512) := by
  refine (dats m 0 c).arrAt_eq_of_covers 9 _ (by decide +kernel) fun t hf y => ?_
  blk_simp
  rw [after0_9]
  obtain ⟨a, b, rfl⟩ := pair y
  rw [right_at]
  refine congrArg₂ (dhalf _ _ _) (Fin.ext ?_) (Fin.ext ?_) <;> blk_simp [at9 t]
  all_goals rfl

theorem final10 (c : Dev nD) : (dats m 0 c).arrAt 10 cfg0.N =
    (fun i => dgate (dv m c) (wo m c) (hl m c) (ho m c) (pj m c) (i 0) (i 1) : Arr 4096 1024) := by
  refine (dats m 0 c).arrAt_eq_of_covers 10 _ (by decide +kernel) fun t hf y => ?_
  blk_simp
  rw [after0_10, gate_at]
  obtain ⟨a, b, rfl⟩ := pair y
  rw [gateBlk_apply]
  refine congrArg₂ (dgate _ _ _ _ _) (Fin.ext ?_) (Fin.ext ?_) <;> blk_simp [at10 t]
  all_goals rfl

/-- The rows of the eight blocks are the 4096 rows. -/
theorem sum_rows (f : Fin 4096 → EReal) : (0 : EReal) + ∑ t : Fin cfg0.N, ∑ r : Fin 512, f (row t r) = ∑ s, f s := by
  rw [zero_add]
  exact Fin.sum_mul_add_congr (fun t r hl => rfl) (by decide +kernel)

theorem final11 (c : Dev nD) : (dats m 0 c).arrAt 11 cfg0.N =
    (fun i => dwOut (dv m c) (hl m c) (ho m c) (pj m c) (i 0) (i 1) : Arr 1024 1024) := by
  refine (dats m 0 c).arrAt_eq_of_after_last 11 t0_7 (by decide +kernel) _ fun j => ?_
  blk_simp
  rw [after0_11, outs_last]
  exact sum_rows fun s => mix (hl m c) (ho m c) s (j 0) * (gate (pj m c) s (j 0) * sigm (gate (pj m c) s (j 0))) * dv m c (ix2 s (j 1))

theorem final12 (c : Dev nD) : (dats m 0 c).arrAt 12 cfg0.N =
    (fun i => dwGate (dv m c) (wo m c) (hl m c) (ho m c) (pj m c) (xb m c) (i 0) (i 1) : Arr 1024 1024) := by
  refine (dats m 0 c).arrAt_eq_of_after_last 12 t0_7 (by decide +kernel) _ fun j => ?_
  blk_simp
  rw [after0_12, gates_last]
  exact sum_rows fun s => xb m c (ix2 s (j 0)) * dgate (dv m c) (wo m c) (hl m c) (ho m c) (pj m c) s (j 1)

end Cert.KernelIdeal.Gate

end
-- ==== Proof.GateReference.lean ====
/-
  WHAT THE GATED PRODUCT'S REFERENCE COMPUTES. Each result of the host program, read at an element. The gradient of the
  gate comes out as the derivative of `x * s(x)` by the product rule; the others are the specification's own text up to
  the order of the factors.
-/
module

public import proofs.«01_k».proof.Proof.Gen.ReferenceIdeal.Read
public import proofs.«01_k».proof.Proof.GateSpec

@[expose] public section

noncomputable section

namespace Cert.ReferenceIdeal.Gate

open Cert.ReferenceIdeal Cert.ReferenceIdeal.Gen Cert.ReferenceIdeal.Read Cert.GateSpec Idealize.ShloMosaic

variable (dv : Arr 4096 1024) (w : Arr 1024 1024) (h o : Arr 4096 512) (p : Arr 4096 2048) (x : Arr 4096 1024)

theorem dh_eq : val_main_v12 (F := Ideal) dv w p = (fun i => dhalf dv w p (i 0) ⟨(i 1).val, left_lt (i 1)⟩ : Arr 4096 512) := by
  funext i
  obtain ⟨a, b, rfl⟩ := pair i
  pointwise [val_main_v12, val_main_v10, val_main_v8, val_main_v1, val_main_v3_0, val_main_v3_2, val_main_v0, val_main_call0_v4, val_main_call0_v3,
    val_main_call0_v2, val_main_call0_v1, val_main_call0_v0, val_main_call0_cst, val_main_call0_cst_0, dhalf, dmix, gate, sigm]

theorem do_eq : val_main_v13 (F := Ideal) dv w p = (fun i => dhalf dv w p (i 0) ⟨512 + (i 1).val, right_lt (i 1)⟩ : Arr 4096 512) := by
  funext i
  obtain ⟨a, b, rfl⟩ := pair i
  pointwise [val_main_v13, val_main_v10, val_main_v8, val_main_v1, val_main_v3_0, val_main_v3_2, val_main_v0, val_main_call0_v4, val_main_call0_v3,
    val_main_call0_v2, val_main_call0_v1, val_main_call0_v0, val_main_call0_cst, val_main_call0_cst_0, dhalf, dmix, gate, sigm]

/-- The gate's gradient by the product rule, as the reference has it. -/
def dgateProd (r : Fin 4096) (e : Fin 1024) : EReal :=
  mix h o r e * dmix dv w r e * sigm (gate p r e)
    + gate p r e * (mix h o r e * dmix dv w r e) * (sigm (gate p r e) * (1 - sigm (gate p r e)))

theorem gate_eq (r : Fin 4096) (e : Fin 1024) : val_main_v11 (F := Ideal) dv w h o p (ix2 r e) = dgateProd dv w h o p r e := by
  pointwise [val_main_v11, val_main_call1_v0, val_main_call1_v1, val_main_call1_v2, val_main_v9, val_main_v2, val_main_v8, val_main_v1, val_main_v3_1, val_main_v3_2, val_main_v0, val_main_call0_v4, val_main_call0_v3,
    val_main_call0_v2, val_main_call0_v1, val_main_call0_v0, val_main_call0_v6, val_main_call0_v7, val_main_call0_cst, val_main_call0_cst_0, val_main_call0_cst_1, dgateProd, mix, dmix, gate, sigm]

theorem dw_eq : val_main_v7 (F := Ideal) dv h o p = (fun i => dwOut dv h o p (i 0) (i 1) : Arr 1024 1024) := by
  funext i
  obtain ⟨a, b, rfl⟩ := pair i
  pointwise [val_main_v7, val_main_v6, val_main_v4, val_main_v2, val_main_v3_0, val_main_v3_2, val_main_v0, val_main_call0_v4, val_main_call0_v3,
    val_main_call0_v2, val_main_call0_v1, val_main_call0_v0, val_main_call0_cst, val_main_call0_cst_0, dwOut, mix, gate, sigm]
  exact Finset.sum_congr rfl fun r _ => mul_comm _ _

theorem dwg_eq : val_main_v18 (F := Ideal) dv w h o p x = (fun i => ∑ r : Fin 4096, x (ix2 r (i 0)) * dgateProd dv w h o p r (i 1) : Arr 1024 1024) := by
  funext i
  obtain ⟨a, b, rfl⟩ := pair i
  pointwise [val_main_v18, val_main_v17, val_main_v15]
  simp only [gate_eq]
  exact Finset.sum_congr rfl fun r _ => mul_comm _ _

end Cert.ReferenceIdeal.Gate

end
-- ==== Proof.Finite.lean ====
/-
  FINITE ARRAYS. The precondition's `jnp.all(jnp.abs(x) < jnp.inf)` read back: every element of `x` is a real number, so
  the array is the image of an array of reals, on which the field laws hold that fail at the infinities.
-/
module

public import Idealize.ShloMosaic.Lib.Pointwise
public import Idealize.ShloMosaic.Lib.ReduceAll
public import Idealize.ShloMosaic.Lib.IdealHost

@[expose] public section

noncomputable section

namespace Cert.Finite

open Idealize.ShloMosaic

/-- The reals' sum inside the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem inf_f32 : Ideal.ofBits .f32 0x7F800000#32 = ⊤ := by simp [Ideal.ofBits, Ideal.ieee]

/-- Below infinity in absolute value is real. -/
theorem real_of_abs_lt {x : EReal} (h : max x (-x) < ⊤) : ∃ a : ℝ, x = a := by
  induction x with
  | bot => simp at h
  | coe a => exact ⟨a, rfl⟩
  | top => simp at h

instance : Subsingleton (⟨0, ![]⟩ : Shape).Idx := ⟨fun _ _ => funext fun k => k.elim0⟩

/-- `jnp.all(jnp.abs(x) < jnp.inf)` that came out true: `x` is an array of reals. -/
theorem reals_of_all {s : Shape} {axes : List (Fin s.rank)} (x : FVec Ideal s .f32) (init : IVec ⟨0, ![]⟩ 1)
    (b : (⟨0, ![]⟩ : Shape).BroadcastsInDim s ![]) (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] b (constant (F := Ideal) ⟨0, ![]⟩ .f32 0x7F800000#32))) init h hu j = 1#1) :
    ∃ X : s.Idx → ℝ, ∀ i, x i = (X i : EReal) := by
  have hx : ∀ i, ∃ a : ℝ, x i = a := fun i => by
    have hi := Host.reduce_andi_all _ init h hu j e i
    refine real_of_abs_lt ?_
    have : Ideal.cmp .olt (max (x i) (-(x i))) (Ideal.ofBits .f32 0x7F800000#32) = 1#1 := by
      rw [← hi]
      change _ = Ideal.cmp .olt (max (x i) (-(x i))) (broadcastInDim s ![] b (constant (F := Ideal) ⟨0, ![]⟩ .f32 0x7F800000#32) i)
      rfl
    rw [inf_f32] at this
    by_contra hn
    simp [Ideal.cmp, hn] at this
  exact ⟨fun i => (hx i).choose, fun i => (hx i).choose_spec⟩

end Cert.Finite

end
-- ==== Proof.GateEquation.lean ====
/-
  THE GATED PRODUCT: ITS KERNEL'S GATE GRADIENT IS THE REFERENCE'S. The kernel multiplies by `s (1 + x (1 - s))`, the
  product rule gives `P s + x P (s (1 - s))`: one value where `P` is real (the gate's pre-activation `x` may be infinite:
  there `s` is 0 or 1 and both sides are 0 or `P`).
-/
module

public import proofs.«01_k».proof.Proof.GateReference
public import proofs.«01_k».proof.Proof.Finite
public import proofs.«01_k».proof.Pre_gate_finite

@[expose] public section

noncomputable section

namespace Cert.Gate

open Cert.GateSpec Cert.Finite Cert.ReferenceIdeal.Gate Idealize.ShloMosaic

theorem sigm_coe (x : ℝ) : sigm x = ((1 / (1 + Real.exp (-x)) : ℝ) : EReal) := by
  have h : (1 + Real.exp (-x)) ≠ 0 := by positivity
  have e : (1 : EReal) + Ideal.exp (-(x : EReal)) = ((1 + Real.exp (-x) : ℝ) : EReal) := by
    rw [← EReal.coe_neg, Ideal.exp_coe]; norm_cast
  rw [sigm, e, Ideal.div_coe h, one_mul]

theorem sigm_top : sigm ⊤ = 1 := by
  have : Ideal.exp ⊥ = 0 := rfl
  rw [sigm, EReal.neg_top, this, add_zero]
  simp [Ideal.div]

theorem sigm_bot : sigm ⊥ = 0 := by
  have : Ideal.exp ⊤ = ⊤ := rfl
  rw [sigm, EReal.neg_bot, this, EReal.add_top_of_ne_bot (by decide)]
  simp [Ideal.div]

/-- The two spellings of `P` times the derivative of `x s(x)`. -/
theorem dsilu (P : ℝ) (x : EReal) : (P : EReal) * (sigm x * (1 + x * (1 - sigm x))) = P * sigm x + x * P * (sigm x * (1 - sigm x)) := by
  have h11 : (1 : EReal) - 1 = 0 := EReal.sub_self (by decide) (by decide)
  induction x with
  | bot => rw [sigm_bot]; simp
  | coe x => rw [sigm_coe]; norm_cast; ring
  | top => rw [sigm_top, h11]; simp

variable (dv : Arr 4096 1024) (w : Arr 1024 1024) (h o : Arr 4096 512) (p : Arr 4096 2048)

theorem dgate_eq (hdv : ∃ X : _ → ℝ, ∀ i, dv i = (X i : EReal)) (hw : ∃ X : _ → ℝ, ∀ i, w i = (X i : EReal))
    (hh : ∃ X : _ → ℝ, ∀ i, h i = (X i : EReal)) (ho : ∃ X : _ → ℝ, ∀ i, o i = (X i : EReal)) (r : Fin 4096) (e : Fin 1024) :
    dgateProd dv w h o p r e = dgate dv w h o p r e := by
  obtain ⟨DV, hdv⟩ := hdv
  obtain ⟨W, hw⟩ := hw
  obtain ⟨H, hh⟩ := hh
  obtain ⟨O, ho⟩ := ho
  have hd : ∃ d : ℝ, dmix dv w r e = d := ⟨∑ k : Fin 1024, DV (ix2 r k) * W (ix2 e k), by
    rw [coe_sum]; exact Finset.sum_congr rfl fun k _ => by rw [hdv, hw, EReal.coe_mul]⟩
  have hm : ∃ d : ℝ, mix h o r e = d := by
    unfold mix
    split
    · exact ⟨_, hh _⟩
    · exact ⟨_, ho _⟩
  obtain ⟨d, hd⟩ := hd
  obtain ⟨q, hq⟩ := hm
  rw [dgateProd, dgate, hd, hq, ← EReal.coe_mul, ← EReal.coe_mul, mul_comm d q, dsilu]

/-- The precondition says that the four arrays are real. -/
theorem reals [Cert.Pre_gate_finite.Facts] (x) (e : Cert.Pre_gate_finite.fn (F := Ideal) dv w h o p x = fun _ => 1#1) :
    (∃ X : _ → ℝ, ∀ i, dv i = (X i : EReal)) ∧ (∃ X : _ → ℝ, ∀ i, w i = (X i : EReal))
      ∧ (∃ X : _ → ℝ, ∀ i, h i = (X i : EReal)) ∧ (∃ X : _ → ℝ, ∀ i, o i = (X i : EReal)) := by
  have e0 := congrFun e (fun k => k.elim0)
  obtain ⟨e1, e2⟩ := IntOp.andi_eq_one.1 e0
  obtain ⟨e3, e4⟩ := IntOp.andi_eq_one.1 e1
  obtain ⟨e5, e6⟩ := IntOp.andi_eq_one.1 e3
  exact ⟨reals_of_all _ _ _ _ _ _ e5, reals_of_all _ _ _ _ _ _ e6, reals_of_all _ _ _ _ _ _ e4, reals_of_all _ _ _ _ _ _ e2⟩

end Cert.Gate

end
-- ==== Proof.GateClaim.lean ====
/-
  THE GATED PRODUCT'S VALUE CLAIM: the kernel's five results and the reference's are the specification's arrays.
-/
module

public import proofs.«01_k».proof.Proof.GateBlocks
public import proofs.«01_k».proof.Proof.GateEquation
public import proofs.«01_k».proof.Proof.Gen.ReferenceIdeal.Run
public import proofs.«01_k».proof.Proof.Gen.Pre_gate_finite
public import proofs.«01_k».proof.Defs
public import Idealize.ShloMosaic.Lib.Claim

@[expose] public section

noncomputable section

namespace Cert.Gate

open Cert.GateSpec Cert.Finite Cert.ReferenceIdeal.Gate Cert.ReferenceIdeal.Read Idealize.ShloMosaic Idealize.SL.Sem

attribute [local instance] Cert.KernelIdeal.Gen.facts Cert.ReferenceIdeal.Gen.facts Cert.Pre_gate_finite.Gen.facts

theorem algebraic : Cert.algebraic_KernelIdeal_ReferenceIdeal_pre_gate_finite := by
  pair_intro
  · run_from Cert.KernelIdeal.Value.run_blocks m g
  · refine θ_run_mono (Cert.ReferenceIdeal.Value.run m' g') fun r h c => ?_
    obtain ⟨a0, a1, a2, a3, a4, a5⟩ := hagree c
    obtain ⟨rdv, rw, rh, ro⟩ := reals _ _ _ _ _ _ (hpre c)
    obtain ⟨h0, h1, h2, h3, h4, hk⟩ := h c
    refine ⟨h0.trans ?_, h1.trans ?_, h2.trans ?_, h3.trans ?_, h4.trans ?_, hk⟩
    · rw [val_main_v12_eq, a0, a1, a4, Cert.KernelIdeal.Gate.final8, dh_eq]
    · rw [val_main_v13_eq, a0, a1, a4, Cert.KernelIdeal.Gate.final9, do_eq]
    · rw [val_main_v19_eq, a0, a1, a2, a3, a4, Cert.KernelIdeal.Gate.final10]
      funext i
      obtain ⟨a, b, rfl⟩ := pair i
      exact (gate_eq _ _ _ _ _ a b).trans (dgate_eq _ _ _ _ _ rdv rw rh ro a b)
    · rw [val_main_v7_eq, a0, a2, a3, a4, Cert.KernelIdeal.Gate.final11, dw_eq]
    · rw [val_main_v18_eq, a0, a1, a2, a3, a4, a5, Cert.KernelIdeal.Gate.final12, dwg_eq]
      funext i
      exact Finset.sum_congr rfl fun r _ => congrArg _ (dgate_eq _ _ _ _ _ rdv rw rh ro r (i 1))

end Cert.Gate

end
-- ==== Proof.NormSpec.lean ====
/-
  LAYER NORM AND ITS GRADIENT, ON A ROW. A row is a function on `Fin n`; `N` is its length as the programs' constant.
  `backC` is the gradient through the norm as the kernels spell it, from the centred row; `autoC` is the one that
  differentiating the forward text gives. Written on extended reals; `NormEquation` shows them equal on real rows.
-/
module

public import proofs.«01_k».proof.Proof.GateSpec

@[expose] public section

noncomputable section

namespace Cert.NormSpec

open Cert.GateSpec Idealize.ShloMosaic

variable {n : Nat} (N e : EReal)

/-- The mean of a row. -/
def mean (f : Fin n → EReal) : EReal := Ideal.div (∑ k, f k) N

/-- A row less its mean. -/
def cen (v : Fin n → EReal) (k : Fin n) : EReal := v k - mean N v

/-- A centred row's mean square, kept off zero. -/
def var (c : Fin n → EReal) : EReal := mean N (fun k => c k * c k) + e

/-- The reciprocal of the standard deviation. -/
def rstd (c : Fin n → EReal) : EReal := Ideal.rsqrt (var N e c)

/-- The normalised row. -/
def hat (c : Fin n → EReal) (k : Fin n) : EReal := c k * rstd N e c

/-- The gradient through the norm as the kernels spell it; `p` is the cotangent times the scale. -/
def backC (c p : Fin n → EReal) (k : Fin n) : EReal :=
  rstd N e c * (p k - mean N p - hat N e c k * mean N (fun l => p l * hat N e c l))

/-- The cotangent of the mean square, over the row's length. -/
def dvar (h : EReal) (c p : Fin n → EReal) : EReal :=
  Ideal.div ((∑ k, c k * p k) * (h * Ideal.div (rstd N e c) (var N e c))) N

/-- The cotangent of the centred row. -/
def dcen (h : EReal) (c p : Fin n → EReal) (k : Fin n) : EReal :=
  p k * rstd N e c + c k * dvar N e h c p + dvar N e h c p * c k

/-- The gradient through the norm by the chain rule. -/
def autoC (h : EReal) (c p : Fin n → EReal) (k : Fin n) : EReal :=
  dcen N e h c p k + Ideal.div (∑ l, -dcen N e h c p l) N

/-! ## The cotangent of the norm's output in the training step -/

/-- The rows' length, 1024. -/
abbrev len : EReal := Ideal.ofBits .f32 0x44800000#32

/-- What keeps the mean square off zero. -/
abbrev eps : EReal := Ideal.ofBits .f32 0x3727C5AC#32

/-- The weight of the skip connection. -/
abbrev alpha : EReal := Ideal.ofBits .f32 0x3FB504F3#32

/-- The skip's cotangent and those of the three products, whose weights lie side by side in `w`. -/
def cot (dz : Arr 4096 2048) (dx : Arr 4096 3072) (dt : Arr 4096 32) (dv : Arr 4096 1024) (w : Arr 1024 5152) (r : Fin 4096) (k : Fin 1024) : EReal :=
  alpha * dv (ix2 r k) + (∑ j : Fin 2048, dz (ix2 r j) * w (ix2 k ⟨j.val, lt_trans j.isLt (by decide)⟩))
    + (∑ j : Fin 3072, dx (ix2 r j) * w (ix2 k ⟨2048 + j.val, lt_trans (Nat.add_lt_add_left j.isLt 2048) (by decide)⟩))
    + (∑ j : Fin 32, dt (ix2 r j) * w (ix2 k ⟨5120 + j.val, Nat.add_lt_add_left j.isLt 5120⟩))

variable (dz : Arr 4096 2048) (dx : Arr 4096 3072) (dt : Arr 4096 32) (dv v : Arr 4096 1024) (w : Arr 1024 5152) (g : (⟨1, ![1024]⟩ : Shape).Idx → EReal)

/-- The gradient of the rows before the norm, as the kernel spells it. -/
def dRows (r : Fin 4096) (k : Fin 1024) : EReal :=
  backC len eps (cen len (fun l => v (ix2 r l))) (fun l => cot dz dx dt dv w r l * g (ix1 l)) k

/-- The gradients of the scale and of the shift, in the first two of eight rows. -/
def dScale (a : Fin 8) (k : Fin 1024) : EReal :=
  if a.val = 0 then ∑ r : Fin 4096, cot dz dx dt dv w r k * hat len eps (cen len (fun l => v (ix2 r l))) k
  else if a.val = 1 then ∑ r : Fin 4096, cot dz dx dt dv w r k
  else 0

end Cert.NormSpec

end
-- ==== Proof.Pieces.lean ====
/-
  A BUFFER WRITTEN PIECE BY PIECE, AT AN ELEMENT. A two-axis buffer after a list of stores through unit-stride rectangles
  (newest first) holds at `(a, b)` the newest store's payload where its rectangle holds `(a, b)`, and what the older stores
  left elsewhere. The kernels that accumulate single rows of an output block are read through these.
-/
module

public import Idealize.ShloMosaic.Lib.Pipeline.ValueKit
public import Idealize.ShloMosaic.Lib.Pointwise
public import Idealize.ShloMosaic.Lib.WritesUnit

@[expose] public section

noncomputable section

namespace Cert.Pieces

open Idealize.ShloMosaic

variable {Val : EltTy → Type} {e : EltTy} {K M o q p n : Nat}

/-- `(a, b)` lies in the rectangle of `p` rows from `o` and `n` columns from `q`. -/
abbrev In (o q p n : Nat) (a b : Nat) : Prop := (o ≤ a ∧ a < o + p) ∧ (q ≤ b ∧ b < q + n)

variable (inb : ∀ a, (![o, q] : Fin 2 → Nat) a + (![p, n] : Fin 2 → Nat) a ≤ (⟨2, ![K, M]⟩ : Shape).size a)

/-- The rectangle's own index of an element it holds. -/
abbrev loc (a : Fin K) (b : Fin M) (h : In o q p n a b) : (⟨2, ![p, n]⟩ : Shape).Idx :=
  ix2 ⟨a.val - o, by omega⟩ ⟨b.val - q, by omega⟩

theorem canon_piece [∀ e, Nonempty (Val e)] (w : (⟨2, ![p, n]⟩ : Shape).Idx → Val e) (L : List (View.Piece Val ⟨2, ![K, M]⟩ e)) (a : Fin K) (b : Fin M) :
    View.canon ((⟨Rect.unit (s := ⟨2, ![K, M]⟩) ![o, q] ![p, n] inb, w⟩ : View.Piece Val ⟨2, ![K, M]⟩ e) :: L) (ix2 a b)
      = if h : In o q p n a b then w (loc a b h) else View.canon L (ix2 a b) := by
  split
  · next h =>
    have he : (Rect.unit (s := ⟨2, ![K, M]⟩) ![o, q] ![p, n] inb).emb (loc a b h) = ix2 a b := by
      funext k
      refine Fin.ext ?_
      refine (Rect.idx_unit_val _ _ inb _ k).trans ?_
      revert k
      refine Fin.forall_fin_two.mpr ⟨?_, ?_⟩
      · show o + (a.val - o) = a.val
        omega
      · show q + (b.val - q) = b.val
        omega
    exact (congrArg (View.canon _) he.symm).trans (View.canon_cons_emb (Rect.unit (s := ⟨2, ![K, M]⟩) ![o, q] ![p, n] inb) w L (loc a b h))
  · next h =>
    refine View.canon_cons_of_not_mem _ _ ?_
    rw [Rect.mem_set_unit]
    intro hall
    exact h ⟨hall 0, hall 1⟩

theorem read_piece {sig : RefSig} {κ : Kind} {sp : Space} (v : View sig κ sp ⟨2, ![K, M]⟩ e) (f : v.ty.Contents Val)
    (w : (⟨2, ![p, n]⟩ : Shape).Idx → Val e) (L : List (View.Piece Val ⟨2, ![K, M]⟩ e)) (a : Fin K) (b : Fin M) :
    v.read Val (v.writes Val f ((⟨Rect.unit (s := ⟨2, ![K, M]⟩) ![o, q] ![p, n] inb, w⟩ : View.Piece Val ⟨2, ![K, M]⟩ e) :: L)) (ix2 a b)
      = if h : In o q p n a b then w (loc a b h) else v.read Val (v.writes Val f L) (ix2 a b) := by
  split
  · next h =>
    refine View.read_writes_cons_unit_of_mem v f inb w L _ (loc a b h) rfl (Fin.forall_fin_two.mpr ⟨?_, ?_⟩)
    · show a.val = o + (a.val - o)
      omega
    · show b.val = q + (b.val - q)
      omega
  · next h =>
    by_cases h0 : o ≤ a.val ∧ a.val < o + p
    · refine View.read_writes_cons_unit_of_not_mem v f inb w L _ rfl (1 : Fin 2) ?_
      show b.val < q ∨ q + n ≤ b.val
      by_contra hb
      exact h ⟨h0, by omega⟩
    · refine View.read_writes_cons_unit_of_not_mem v f inb w L _ rfl (0 : Fin 2) ?_
      show a.val < o ∨ o + p ≤ a.val
      omega

theorem ld_piece (X : (⟨2, ![K, M]⟩ : Shape).Idx → Val e) (a : Fin p) (b : Fin n) :
    View.ld X (Rect.unit (s := ⟨2, ![K, M]⟩) ![o, q] ![p, n] inb) (ix2 a b)
      = X (ix2 ⟨o + a.val, Nat.lt_of_lt_of_le (Nat.add_lt_add_left a.isLt o) (inb 0)⟩ ⟨q + b.val, Nat.lt_of_lt_of_le (Nat.add_lt_add_left b.isLt q) (inb 1)⟩) :=
  View.ld_unit_apply_of X _ _ inb _ _ (Fin.forall_fin_two.mpr ⟨rfl, rfl⟩)

theorem readCov_piece [∀ e, Nonempty (Val e)] {sig : RefSig} {κ : Kind} {sp : Space} (v : View sig κ sp ⟨2, ![K, M]⟩ e)
    (L : List (View.Piece Val ⟨2, ![K, M]⟩ e)) (a : Fin p) (b : Fin n) :
    v.readCov L (Rect.unit (s := ⟨2, ![K, M]⟩) ![o, q] ![p, n] inb).toLoadRect (ix2 a b)
      = View.canon L (ix2 ⟨o + a.val, Nat.lt_of_lt_of_le (Nat.add_lt_add_left a.isLt o) (inb 0)⟩ ⟨q + b.val, Nat.lt_of_lt_of_le (Nat.add_lt_add_left b.isLt q) (inb 1)⟩) := by
  rw [View.readCov_eq_canon']
  exact ld_piece inb (View.canon L) a b

/-- `ld_piece` with the element named by its coordinates. -/
theorem ld_at (X : (⟨2, ![K, M]⟩ : Shape).Idx → Val e) (a : Fin p) (b : Fin n) (a' : Fin K) (b' : Fin M) (ha : a'.val = o + a.val) (hb : b'.val = q + b.val) :
    View.ld X (Rect.unit (s := ⟨2, ![K, M]⟩) ![o, q] ![p, n] inb) (ix2 a b) = X (ix2 a' b') :=
  View.ld_unit_apply_of X _ _ inb _ _ (Fin.forall_fin_two.mpr ⟨ha, hb⟩)

end Cert.Pieces

end
-- ==== Proof.NormBlocks.lean ====
/-
  WHAT THE NORM'S GRADIENT KERNEL LEAVES. Each grid point takes 512 rows: it forms the cotangent of the normalised rows
  from the three products and the skip, sends it through the norm, and adds the rows' parts of the scale's and the
  shift's gradients to two rows of one output block. The result arrays follow from the points.
-/
module

public import proofs.«01_k».proof.Proof.Gen.Kernel2Ideal.Value
public import proofs.«01_k».proof.Proof.NormSpec
public import proofs.«01_k».proof.Proof.Pieces
public import Idealize.ShloMosaic.Lib.Pipeline.ValueKit
public import Idealize.ShloMosaic.Lib.StableHlo.RunRead

@[expose] public section

noncomputable section

namespace Cert.Kernel2Ideal.Norm

open Cert.Kernel2Ideal Cert.Kernel2Ideal.Gen Cert.Kernel2Ideal.Value Cert.GateSpec Cert.NormSpec Cert.Pieces Idealize.ShloMosaic Idealize.ShloMosaic.TcCoe Idealize.SL.Sem
open Idealize.ShloMosaic.Pipeline (Dat)

variable (m : (ℓ : Loc nD τ sig) → Buf (Elt Ideal) ℓ) (ρ : Dev nD → PrngReg)

abbrev dz (c : Dev nD) : Arr 4096 2048 := m ((c : Thread nD τ).loc main_arg0)
abbrev dx (c : Dev nD) : Arr 4096 3072 := m ((c : Thread nD τ).loc main_arg1)
abbrev dt (c : Dev nD) : Arr 4096 32 := m ((c : Thread nD τ).loc main_arg2)
abbrev dv (c : Dev nD) : Arr 4096 1024 := m ((c : Thread nD τ).loc main_arg3)
abbrev v0 (c : Dev nD) : Arr 4096 1024 := m ((c : Thread nD τ).loc main_arg4)
abbrev wi (c : Dev nD) : Arr 1024 5152 := m ((c : Thread nD τ).loc main_arg5)
abbrev gs (c : Dev nD) : (⟨1, ![1024]⟩ : Shape).Idx → EReal := m ((c : Thread nD τ).loc main_arg6)

/-! ## Where each window's block lies -/

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![t.val, 0] := (by decide +kernel : ∀ t : Fin grid0.N, _)
theorem at10 : ∀ t : Fin cfg0.N, win0_10.index t = ![0, 0] := (by decide +kernel : ∀ t : Fin grid0.N, _)

/-- Row `r` of the rows grid point `t` works on. -/
abbrev row (t : Fin cfg0.N) (r : Fin 512) : Fin 4096 := ⟨t.val * 512 + r.val, by have := t.isLt; have : cfg0.N = 8 := N_0; omega⟩

theorem zero_bits_f32 : (FloatOps.sitofp (F := Ideal) .f32 (0#32) : EReal) = 0 := by simp [FloatOps.sitofp]
theorem zero_bits_bf16 : (FloatOps.sitofp (F := Ideal) .bf16 (0#32) : EReal) = 0 := by simp [FloatOps.sitofp]

/-! ## The arrays the host code before the kernel lays out -/

theorem V_main_v0 (c : Dev nD) : (V m c main_v0 : FVec Ideal S1024x2048 .bf16) =
    extractStridedSlice S1024x2048 ![0, 0] (wi m c) slices_S1024x5152_S1024x2048_0_0 := by rfl
theorem V_main_v1 (c : Dev nD) : (V m c main_v1 : FVec Ideal S1024x3072 .bf16) =
    extractStridedSlice S1024x3072 ![0, 2048] (wi m c) slices_S1024x5152_S1024x3072_0_2048 := by rfl
theorem V_main_v3 (c : Dev nD) : (V m c main_v3 : FVec Ideal S1024x128 .bf16) =
    pad S1024x128 ![0, 0] ![0, 96] ![0, 0] (extractStridedSlice S1024x32 ![0, 5120] (wi m c) slices_S1024x5152_S1024x32_0_5120)
      (sitofp .bf16 (constantI S_ 32 0#32) : FVec Ideal S_ .bf16) pads_S1024x32_S1024x128_000_0960 h_S_ := by rfl
theorem V_main_v4 (c : Dev nD) : (V m c main_v4 : FVec Ideal S4096x128 .f32) =
    pad S4096x128 ![0, 0] ![0, 96] ![0, 0] (dt m c)
      (sitofp .f32 (constantI S_ 32 0#32) : FVec Ideal S_ .f32) pads_S4096x32_S4096x128_000_0960 h_S_ := by rfl
theorem V_main_v5 (c : Dev nD) : (V m c main_v5 : FVec Ideal S1x1024 .f32) =
    broadcastInDim S1x1024 ![1] bcast_S1024_S1x1024_1 (gs m c) := by rfl

theorem blk0 (c : Dev nD) (t : Fin cfg0.N) (r : Fin 512) (k : Fin 2048) : (iblk m c 0 t : Vec Ideal S512x2048 .bf16) (ix2 r k) = dz m c (ix2 (row t r) k) := by
  blk_ext! [iblk, V_main_arg0, at0 t]
theorem blk1 (c : Dev nD) (t : Fin cfg0.N) (r : Fin 512) (k : Fin 3072) : (iblk m c 1 t : Vec Ideal S512x3072 .bf16) (ix2 r k) = dx m c (ix2 (row t r) k) := by
  blk_ext! [iblk, V_main_arg1, at1 t]
theorem blk3 (c : Dev nD) (t : Fin cfg0.N) (r : Fin 512) (k : Fin 1024) : (iblk m c 3 t : Vec Ideal S512x1024 .f32) (ix2 r k) = dv m c (ix2 (row t r) k) := by
  blk_ext! [iblk, V_main_arg3, at3 t]
theorem blk4 (c : Dev nD) (t : Fin cfg0.N) (r : Fin 512) (k : Fin 1024) : (iblk m c 4 t : Vec Ideal S512x1024 .f32) (ix2 r k) = v0 m c (ix2 (row t r) k) := by
  blk_ext! [iblk, V_main_arg4, at4 t]
theorem blk2 (c : Dev nD) (t : Fin cfg0.N) (r : Fin 512) (k : Fin 128) : (iblk m c 2 t : Vec Ideal S512x128 .f32) (ix2 r k) =
    if h : k.val < 32 then dt m c (ix2 (row t r) ⟨k.val, h⟩) else 0 := by
  have e : (iblk m c 2 t : Vec Ideal S512x128 .f32) (ix2 r k) = (V m c main_v4 : FVec Ideal S4096x128 .f32) (ix2 (row t r) k) := by
    blk_ext! [iblk, at2 t]
  rw [e, V_main_v4]
  pointwise []
  refine dite_congr (propext (and_iff_right (row t r).isLt)) (fun _ => rfl) fun _ => zero_bits_f32
theorem blk5 (c : Dev nD) (t : Fin cfg0.N) (d : Fin 1024) (k : Fin 2048) : (iblk m c 5 t : Vec Ideal S1024x2048 .bf16) (ix2 d k) =
    wi m c (ix2 d ⟨k.val, lt_trans k.isLt (by decide)⟩) := by
  have e : (iblk m c 5 t : Vec Ideal S1024x2048 .bf16) (ix2 d k) = (V m c main_v0 : FVec Ideal S1024x2048 .bf16) (ix2 d k) := by
    blk_ext! [iblk, at5 t]
  rw [e, V_main_v0]
  pointwise []
theorem blk6 (c : Dev nD) (t : Fin cfg0.N) (d : Fin 1024) (k : Fin 3072) : (iblk m c 6 t : Vec Ideal S1024x3072 .bf16) (ix2 d k) =
    wi m c (ix2 d ⟨2048 + k.val, lt_trans (Nat.add_lt_add_left k.isLt 2048) (by decide)⟩) := by
  have e : (iblk m c 6 t : Vec Ideal S1024x3072 .bf16) (ix2 d k) = (V m c main_v1 : FVec Ideal S1024x3072 .bf16) (ix2 d k) := by
    blk_ext! [iblk, at6 t]
  rw [e, V_main_v1]
  pointwise []
theorem blk7 (c : Dev nD) (t : Fin cfg0.N) (d : Fin 1024) (k : Fin 128) : (iblk m c 7 t : Vec Ideal S1024x128 .bf16) (ix2 d k) =
    if h : k.val < 32 then wi m c (ix2 d ⟨5120 + k.val, Nat.add_lt_add_left h 5120⟩) else 0 := by
  have e : (iblk m c 7 t : Vec Ideal S1024x128 .bf16) (ix2 d k) = (V m c main_v3 : FVec Ideal S1024x128 .bf16) (ix2 d k) := by
    blk_ext! [iblk, at7 t]
  rw [e, V_main_v3]
  pointwise []
  exact dite_congr rfl (fun _ => rfl) fun _ => zero_bits_bf16
theorem blk8 (c : Dev nD) (t : Fin cfg0.N) (u : Fin 1) (k : Fin 1024) : (iblk m c 8 t : Vec Ideal S1x1024 .f32) (ix2 u k) = gs m c (ix1 k) := by
  have e : (iblk m c 8 t : Vec Ideal S1x1024 .f32) (ix2 u k) = (V m c main_v5 : FVec Ideal S1x1024 .f32) (ix2 u k) := by
    blk_ext! [iblk, at8 t]
  rw [e, V_main_v5]
  pointwise []

/-! ## What a point leaves -/

/-- The cotangent of the normalised and scaled rows, on the rows of point `t`. -/
abbrev dyBlk (c : Dev nD) (t : Fin cfg0.N) : FVec Ideal S512x1024 .f32 :=
  k0_pay2 (iblk m c 3 t) (iblk m c 0 t) (iblk m c 5 t) (iblk m c 1 t) (iblk m c 6 t) (iblk m c 2 t) (iblk m c 7 t)

/-- The padded lanes add nothing. -/
theorem sum_lanes (p q : Fin 32 → EReal) :
    (∑ k : Fin 128, (if h : k.val < 32 then p ⟨k.val, h⟩ else 0) * (if h : k.val < 32 then q ⟨k.val, h⟩ else 0)) = ∑ k : Fin 32, p k * q k := by
  refine (Fin.sum_univ_add (a := 32) (b := 96) _).trans ?_
  rw [Finset.sum_eq_zero (s := Finset.univ (α := Fin 96)) (fun k _ => ?_), add_zero]
  · refine Finset.sum_congr rfl fun k _ => ?_
    have h : (Fin.castAdd 96 k).val < 32 := k.isLt
    rw [dif_pos h, dif_pos h]
    rfl
  · have h : ¬ (Fin.natAdd 32 k).val < 32 := by simp
    rw [dif_neg h, dif_neg h, mul_zero]

theorem dyBlk_at (c : Dev nD) (t : Fin cfg0.N) (r : Fin 512) (k : Fin 1024) :
    dyBlk m c t (ix2 r k) = cot (dz m c) (dx m c) (dt m c) (dv m c) (wi m c) (row t r) k := by
  pointwise [dyBlk, k0_pay2, cot]
  simp only [blk0, blk1, blk2, blk3, blk5, blk6, blk7]
  rw [sum_lanes (fun j => dt m c (ix2 (row t r) j)) (fun j => wi m c (ix2 k ⟨5120 + j.val, Nat.add_lt_add_left j.isLt 5120⟩))]

theorem pay4_at (x : Vec Ideal S512x1024 .f32) (r : Fin 512) (k : Fin 1024) : k0_pay4 x (ix2 r k) = cen len (fun l => x (ix2 r l)) k := by
  pointwise [k0_pay4, cen, mean, len]

theorem pay6_at (x : FVec Ideal S512x1024 .f32) (r : Fin 512) (k : Fin 1024) : k0_pay6 x (ix2 r k) = hat len eps (fun l => x (ix2 r l)) k := by
  pointwise [k0_pay6, k0_pay5, hat, rstd, var, mean, len, eps]

theorem pay7_at (d : FVec Ideal S512x1024 .f32) (g : FVec Ideal S1x1024 .f32) (x : FVec Ideal S512x1024 .f32) (r : Fin 512) (k : Fin 1024) :
    k0_pay7 d g x (ix2 r k) = backC len eps (fun l => x (ix2 r l)) (fun l => d (ix2 r l) * g (ix2 0 l)) k := by
  pointwise [k0_pay7, k0_pay5, backC]
  simp only [pay6_at, mean]
  pointwise [rstd, var, mean, len, eps]

theorem pay8_at (d x : FVec Ideal S512x1024 .f32) (acc : Vec Ideal S1x1024 .f32) (u : Fin 1) (k : Fin 1024) :
    k0_pay8 d x acc (ix2 u k) = acc (ix2 u k) + ∑ r : Fin 512, d (ix2 r k) * hat len eps (fun l => x (ix2 r l)) k := by
  pointwise [k0_pay8]
  simp only [pay6_at]

theorem pay9_at (d : FVec Ideal S512x1024 .f32) (acc : Vec Ideal S1x1024 .f32) (u : Fin 1) (k : Fin 1024) :
    k0_pay9 d acc (ix2 u k) = acc (ix2 u k) + ∑ r : Fin 512, d (ix2 r k) := by
  pointwise [k0_pay9]

theorem rows_at (c : Dev nD) (t : Fin cfg0.N) (r : Fin 512) (k : Fin 1024) :
    (outsAt0 m c t.val t.isLt).1 (ix2 r k) = backC len eps (cen len (fun l => v0 m c (ix2 (row t r) l)))
      (fun l => cot (dz m c) (dx m c) (dt m c) (dv m c) (wi m c) (row t r) l * gs m c (ix1 l)) k := by
  have e : (outsAt0 m c t.val t.isLt).1 = k0_pay7 (dyBlk m c t) (k0_pay3 (iblk m c 8 t)) (k0_pay4 (iblk m c 4 t)) := by
    by_cases h : t.val % 8 = 0
    · rw [outsAt0_A m c t h]; frame_out
    · rw [outsAt0_B m c t h]; frame_out
  rw [e, pay7_at]
  simp only [pay4_at, blk4, dyBlk_at]
  pointwise [k0_pay3]
  simp only [blk8]

/-- Point `t`'s part of the scale's and the shift's gradients, in the rows 0 and 1 of a block of eight. -/
def part (c : Dev nD) (t : Fin cfg0.N) (i : S8x1024.Idx) : EReal :=
  if (i 0).val = 0 then ∑ r : Fin 512, cot (dz m c) (dx m c) (dt m c) (dv m c) (wi m c) (row t r) (i 1)
      * hat len eps (cen len (fun l => v0 m c (ix2 (row t r) l))) (i 1)
  else if (i 0).val = 1 then ∑ r : Fin 512, cot (dz m c) (dx m c) (dt m c) (dv m c) (wi m c) (row t r) (i 1)
  else 0

theorem sums_last (c : Dev nD) (i) : (outsAt0 m c t0_7.val t0_7.isLt).2 i = 0 + ∑ t : Fin cfg0.N, part m c t i :=
  Pipeline.eq_sum_fin_of_reset_step_apply_last (fun n h => (outsAt0 m c n h).2) 8 (fun _ => 0) (part m c)
    (fun t h j => by
      obtain ⟨a, b, rfl⟩ := pair j
      rw [outsAt0_A m c t h]; frame_out
      simp only [canon_piece, readCov_piece, pay8_at, pay9_at, loc, pay4_at, blk4, dyBlk_at]
      pointwise [k0_pay1]
      have hb := b.isLt
      by_cases h0 : a.val = 0
      · obtain rfl : a = 0 := Fin.ext h0
        simp [part, In, hb]
      by_cases h1 : a.val = 1
      · obtain rfl : a = 1 := Fin.ext h1
        simp [part, In, hb]
      · have h2 : ¬ (1 ≤ a.val ∧ a.val ≤ 1) := fun h => h1 (le_antisymm h.2 h.1)
        simp [part, In, hb, h0, h1, h2])
    (fun t h j => by
      obtain ⟨a, b, rfl⟩ := pair j
      rw [outsAt0_B m c t h]; frame_out
      simp only [read_piece, pay8_at, pay9_at, loc, pay4_at, blk4, dyBlk_at]
      have hb := b.isLt
      by_cases h0 : a.val = 0
      · obtain rfl : a = 0 := Fin.ext h0
        simp [part, In, hb]
        exact congrArg (· + _) (ld_at _ _ 0 b 0 b rfl (Nat.zero_add _).symm)
      by_cases h1 : a.val = 1
      · obtain rfl : a = 1 := Fin.ext h1
        simp [part, In, hb]
        exact congrArg (· + _) (ld_at _ _ 0 b 1 b rfl (Nat.zero_add _).symm)
      · have h2 : ¬ (1 ≤ a.val ∧ a.val ≤ 1) := fun h => h1 (le_antisymm h.2 h.1)
        simp [part, In, hb, h0, h1, h2, Memref.IsWhole.read_unread])
    (le_of_eq N_0) t0_7 rfl i

/-! ## The result arrays -/

theorem final9 (c : Dev nD) : (dats m 0 c).arrAt 9 cfg0.N =
    (fun i => dRows (dz m c) (dx m c) (dt m c) (dv m c) (v0 m c) (wi m c) (gs m c) (i 0) (i 1) : Arr 4096 1024) := by
  refine (dats m 0 c).arrAt_eq_of_covers 9 _ (by decide +kernel) fun t hf y => ?_
  blk_simp
  rw [after0_9]
  obtain ⟨a, b, rfl⟩ := pair y
  rw [rows_at]
  refine congrArg₂ (dRows _ _ _ _ _ _ _) (Fin.ext ?_) (Fin.ext ?_) <;> blk_simp [at9 t]
  all_goals rfl

/-- The rows of the eight blocks are the 4096 rows. -/
theorem sum_rows (f : Fin 4096 → EReal) : (0 : EReal) + ∑ t : Fin cfg0.N, ∑ r : Fin 512, f (row t r) = ∑ s, f s := by
  rw [zero_add]
  exact Fin.sum_mul_add_congr (fun t r hl => rfl) (by decide +kernel)

theorem final10 (c : Dev nD) : (dats m 0 c).arrAt 10 cfg0.N =
    (fun i => dScale (dz m c) (dx m c) (dt m c) (dv m c) (v0 m c) (wi m c) (i 0) (i 1) : Arr 8 1024) := by
  refine (dats m 0 c).arrAt_eq_of_after_last 10 t0_7 (by decide +kernel) _ fun j => ?_
  blk_simp
  rw [after0_10, sums_last]
  unfold part dScale
  split
  · exact sum_rows fun s => cot (dz m c) (dx m c) (dt m c) (dv m c) (wi m c) s (j 1) * hat len eps (cen len (fun l => v0 m c (ix2 s l))) (j 1)
  split
  · exact sum_rows fun s => cot (dz m c) (dx m c) (dt m c) (dv m c) (wi m c) s (j 1)
  · simp

end Cert.Kernel2Ideal.Norm

end
-- ==== Proof.NormReference.lean ====
/-
  WHAT THE NORM'S GRADIENT REFERENCE COMPUTES, at an element: the chain rule through the centred row and its mean square,
  for the cotangent that the transposed product of the three parts side by side gives.
-/
module

public import proofs.«01_k».proof.Proof.Gen.Reference2Ideal.Read
public import proofs.«01_k».proof.Proof.NormSpec

@[expose] public section

noncomputable section

namespace Cert.Reference2Ideal.Norm

open Cert.Reference2Ideal Cert.Reference2Ideal.Gen Cert.Reference2Ideal.Read Cert.GateSpec Cert.NormSpec Idealize.ShloMosaic

variable (dz : Arr 4096 2048) (dx : Arr 4096 3072) (dt : Arr 4096 32) (dv v : Arr 4096 1024) (w : Arr 1024 5152) (g : (⟨1, ![1024]⟩ : Shape).Idx → EReal)

/-- The factor of the derivative of the inverse square root, -1/2. -/
abbrev negHalf : EReal := Ideal.ofBits .f32 0xBF000000#32

theorem cen_eq (r : Fin 4096) (k : Fin 1024) : val_main_v8 (F := Ideal) v (ix2 r k) = cen len (fun l => v (ix2 r l)) k := by
  pointwise [val_main_v8, val_main_v7, val_main_v6, val_main_v5, val_main_cst_1, val_main_v4, val_main_v3, val_main_cst_0, cen, mean, len]

theorem var_eq (r : Fin 4096) (u : Fin 1) : val_main_v15 (F := Ideal) v (ix2 r u) = var len eps (cen len (fun l => v (ix2 r l))) := by
  pointwise [val_main_v15, val_main_v14, val_main_cst_4, val_main_v13, val_main_v12, val_main_cst_3, val_main_v11, val_main_v10, val_main_cst_2, val_main_v9, var, mean, len, eps]
  simp only [cen_eq, mean, len]

theorem rstd_eq (r : Fin 4096) (u : Fin 1) : val_main_v16 (F := Ideal) v (ix2 r u) = rstd len eps (cen len (fun l => v (ix2 r l))) := by
  pointwise [val_main_v16]
  simp only [var_eq, rstd]

theorem hat_eq (r : Fin 4096) (k : Fin 1024) : val_main_v21 (F := Ideal) v (ix2 r k) = hat len eps (cen len (fun l => v (ix2 r l))) k := by
  pointwise [val_main_v21, val_main_v20]
  simp only [rstd_eq, cen_eq, hat]

/-- A sum over three parts side by side. -/
theorem sum_parts {a b c d n : Nat} (hd : a + b = d) (hn : d + c = n) (f : Fin n → EReal) : ∑ j, f j =
    (∑ j : Fin a, f ⟨j.val, by omega⟩) + (∑ j : Fin b, f ⟨a + j.val, by omega⟩) + (∑ j : Fin c, f ⟨d + j.val, by omega⟩) := by
  subst hd hn
  rw [Fin.sum_univ_add, Fin.sum_univ_add]
  rfl

theorem cot_eq (r : Fin 4096) (k : Fin 1024) : val_main_v39 (F := Ideal) dz dx dt dv w (ix2 r k) = cot dz dx dt dv w r k := by
  pointwise [val_main_v39, val_main_v38, val_main_v37, val_main_v36, val_main_v35, val_main_cst_7, val_main_v28, val_main_v0, val_main_v1]
  rw [sum_parts (a := 2048) (b := 3072) (c := 32) rfl rfl, cot, alpha, ← add_assoc, ← add_assoc]
  refine congrArg₂ (· + ·) (congrArg₂ (· + ·) (congrArg _ ?_) ?_) ?_
  · refine Finset.sum_congr rfl fun j _ => congrArg (· * _) ?_
    exact dif_pos j.isLt
  · refine Finset.sum_congr rfl fun j _ => congrArg (· * _) ?_
    have h0 : ¬ 2048 + j.val < 2048 := by omega
    have h1 : 2048 + j.val - 2048 < 3072 := by omega
    have h2 : (⟨2048 + j.val - 2048, h1⟩ : Fin 3072) = j := Fin.ext (Nat.add_sub_cancel_left ..)
    rw [dif_neg h0, dif_pos h1, h2]
  · refine Finset.sum_congr rfl fun j _ => congrArg (· * _) ?_
    have h0 : ¬ 5120 + j.val < 2048 := by omega
    have h1 : ¬ 5120 + j.val - 2048 < 3072 := by omega
    have h2 : 5120 + j.val - 2048 - 3072 < 32 := by omega
    have h3 : (⟨5120 + j.val - 2048 - 3072, h2⟩ : Fin 32) = j := Fin.ext (by show 5120 + j.val - 2048 - 3072 = j.val; omega)
    rw [dif_neg h0, dif_neg h1, h3]

/-- The cotangent times the scale, on a row. -/
abbrev scaled (r : Fin 4096) (l : Fin 1024) : EReal := cot dz dx dt dv w r l * g (ix1 l)

theorem scaled_eq (r : Fin 4096) (k : Fin 1024) : val_main_v47 (F := Ideal) dz dx dt dv w g (ix2 r k) = scaled dz dx dt dv w g r k := by
  pointwise [val_main_v47, val_main_v46, val_main_v22]
  simp only [cot_eq, scaled]

theorem dvar_eq (r : Fin 4096) (k : Fin 1024) : val_main_v58 (F := Ideal) dz dx dt dv v w g (ix2 r k)
    = dvar len eps negHalf (cen len (fun l => v (ix2 r l))) (scaled dz dx dt dv w g r) := by
  pointwise [val_main_v58, val_main_v57, val_main_cst_14, val_main_v56, val_main_v55, val_main_cst_13, val_main_v54, val_main_v51, val_main_v50, val_main_cst_12, val_main_v49,
    val_main_v19, val_main_v18, val_main_cst_5, val_main_v17]
  simp only [cen_eq, var_eq, rstd_eq, scaled_eq, dvar, negHalf, len, Fin.sum_univ_one]

theorem dcen_eq (r : Fin 4096) (k : Fin 1024) : val_main_v62 (F := Ideal) dz dx dt dv v w g (ix2 r k)
    = dcen len eps negHalf (cen len (fun l => v (ix2 r l))) (scaled dz dx dt dv w g r) k := by
  pointwise [val_main_v62, val_main_v61, val_main_v60, val_main_v59, val_main_v53, val_main_v52]
  simp only [cen_eq, rstd_eq, scaled_eq, dvar_eq, dcen]

theorem rows_eq (r : Fin 4096) (k : Fin 1024) : val_main_v70 (F := Ideal) dz dx dt dv v w g (ix2 r k)
    = autoC len eps negHalf (cen len (fun l => v (ix2 r l))) (scaled dz dx dt dv w g r) k := by
  pointwise [val_main_v70, val_main_v69, val_main_v68, val_main_cst_17, val_main_v67, val_main_v66, val_main_cst_16, val_main_v65, val_main_v64, val_main_cst_15, val_main_v63]
  simp only [dcen_eq, autoC, len, Fin.sum_univ_one]

theorem dScale_eq : val_main_v74 (F := Ideal) dz dx dt dv v w = (fun i => dScale dz dx dt dv v w (i 0) (i 1) : Arr 8 1024) := by
  funext i
  obtain ⟨a, b, rfl⟩ := pair i
  pointwise [val_main_v74, val_main_v73, val_main_cst_18, val_main_v72, val_main_v71, val_main_v48, val_main_cst_11, val_main_v45, val_main_v44, val_main_cst_10, val_main_v43,
    val_main_v42, val_main_cst_9, val_main_v41, val_main_v40, val_main_cst_8]
  simp only [hat_eq, cot_eq, dScale, Fin.sum_univ_one, Nat.lt_one_iff]
  by_cases h0 : a.val = 0
  · simp only [h0, if_true, dite_true]
    exact Finset.sum_congr rfl fun r _ => mul_comm _ _
  · have h1 : a.val - 1 = 0 ↔ a.val = 1 := by omega
    simp only [h0, h1, if_false, dite_false, dite_eq_ite]

end Cert.Reference2Ideal.Norm

end
-- ==== Proof.NormEquation.lean ====
/-
  THE NORM'S GRADIENT: THE KERNELS' SPELLING IS THE CHAIN RULE'S, on real rows. With `R` the reciprocal of the standard
  deviation and `X` the mean square, `R² X = 1` turns the derivative `-R / (2 X)` of `R` into `-R³ / 2`; and the centred row
  sums to zero, so the mean of its part of the cotangent vanishes.
-/
module

public import proofs.«01_k».proof.Proof.NormSpec
public import proofs.«01_k».proof.Proof.Finite

@[expose] public section

noncomputable section

namespace Cert.NormSpec

open Cert.GateSpec Cert.Finite Idealize.ShloMosaic

variable {n : Nat} {N e : ℝ}

theorem mean_coe (hN : N ≠ 0) (f : Fin n → ℝ) : mean (N : EReal) (fun k => (f k : EReal)) = (((∑ k, f k) * (1 / N) : ℝ) : EReal) := by
  rw [mean, Ideal.div_coe hN, ← coe_sum, EReal.coe_mul]

theorem cen_coe (hN : N ≠ 0) (v : Fin n → ℝ) (k : Fin n) :
    cen (N : EReal) (fun k => (v k : EReal)) k = ((v k - (∑ k, v k) * (1 / N) : ℝ) : EReal) := by
  rw [cen, mean_coe hN, EReal.coe_sub]

/-- A centred real row sums to zero. -/
theorem sum_cen (hN : N ≠ 0) (hn : (n : ℝ) = N) (v : Fin n → ℝ) : ∑ k, (v k - (∑ k, v k) * (1 / N)) = 0 := by
  rw [Finset.sum_sub_distrib, Finset.sum_const, Finset.card_univ, Fintype.card_fin, nsmul_eq_mul, hn]
  field_simp
  ring

/-- A row's mean square over the reals. -/
abbrev sq (N e : ℝ) (c : Fin n → ℝ) : ℝ := (∑ k, c k * c k) * (1 / N) + e

theorem sq_pos (hN : 0 < N) (he : 0 < e) (c : Fin n → ℝ) : 0 < sq N e c := by
  have : 0 ≤ ∑ k, c k * c k := Finset.sum_nonneg fun k _ => mul_self_nonneg _
  positivity

theorem var_coe (hN : 0 < N) (c : Fin n → ℝ) : var (N : EReal) (e : EReal) (fun k => (c k : EReal)) = ((sq N e c : ℝ) : EReal) := by
  rw [var]
  simp only [← EReal.coe_mul]
  rw [mean_coe hN.ne', ← EReal.coe_add]

theorem rstd_coe (hN : 0 < N) (he : 0 < e) (c : Fin n → ℝ) :
    rstd (N : EReal) (e : EReal) (fun k => (c k : EReal)) = (((Real.sqrt (sq N e c))⁻¹ : ℝ) : EReal) := by
  have h := sq_pos hN he c
  rw [rstd, var_coe hN, Ideal.rsqrt_coe, if_neg (not_lt.2 h.le), if_neg h.ne']

theorem hat_coe (hN : 0 < N) (he : 0 < e) (c : Fin n → ℝ) (k : Fin n) :
    hat (N : EReal) (e : EReal) (fun k => (c k : EReal)) k = ((c k * (Real.sqrt (sq N e c))⁻¹ : ℝ) : EReal) := by
  rw [hat, rstd_coe hN he, EReal.coe_mul]

theorem back_eq_auto (hN : 0 < N) (he : 0 < e) (c p : Fin n → ℝ) (h0 : ∑ k, c k = 0) (k : Fin n) :
    autoC (N : EReal) (e : EReal) ((-(1 / 2) : ℝ) : EReal) (fun k => (c k : EReal)) (fun k => (p k : EReal)) k
      = backC (N : EReal) (e : EReal) (fun k => (c k : EReal)) (fun k => (p k : EReal)) k := by
  have hX := sq_pos hN he c
  simp only [autoC, dcen, dvar, backC, hat_coe hN he, rstd_coe hN he, var_coe hN, mean_coe hN.ne', Ideal.div_coe hN.ne', Ideal.div_coe hX.ne',
    ← EReal.coe_mul, ← EReal.coe_add, ← EReal.coe_sub, ← EReal.coe_neg, ← coe_sum]
  refine congrArg _ ?_
  generalize hR : (Real.sqrt (sq N e c))⁻¹ = R
  have hR2 : R * (1 / sq N e c) = R * R * R := by
    have : R * R = 1 / sq N e c := by
      rw [← hR, ← mul_inv, Real.mul_self_sqrt hX.le, one_div]
    rw [← this]; ring
  rw [hR2]
  generalize hS : (∑ k, c k * p k) = S
  have e1 : ∑ l, p l * (c l * R) = S * R := by
    rw [← hS, Finset.sum_mul]
    exact Finset.sum_congr rfl fun l _ => by ring
  have e2 : ∀ D : ℝ, ∑ l, -(p l * R + c l * D + D * c l) = -((∑ l, p l) * R) := fun D => by
    have : ∀ l, -(p l * R + c l * D + D * c l) = -(p l * R) + c l * (-2 * D) := fun l => by ring
    rw [Finset.sum_congr rfl fun l _ => this l, Finset.sum_add_distrib, ← Finset.sum_mul, h0, Finset.sum_neg_distrib, ← Finset.sum_mul]
    ring
  rw [e1, e2]
  ring

theorem len_coe : len = ((1024 : ℝ) : EReal) := by
  simp [len, Ideal.ofBits, Ideal.ieee, -EReal.coe_mul]; norm_num
theorem negHalf_coe : Ideal.ofBits .f32 0xBF000000#32 = ((-(1 / 2) : ℝ) : EReal) := by
  simp [Ideal.ofBits, Ideal.ieee, -EReal.coe_mul]; norm_num
/-- What is added to the mean square is a positive real. -/
theorem eps_coe : ∃ e : ℝ, 0 < e ∧ eps = (e : EReal) := by
  refine ⟨10995116 / 2 ^ 40, by norm_num, ?_⟩
  simp [eps, Ideal.ofBits, Ideal.ieee, -EReal.coe_mul]; norm_num
theorem alpha_coe : ∃ e : ℝ, alpha = (e : EReal) := by
  refine ⟨11863283 / 2 ^ 23, ?_⟩
  simp [alpha, Ideal.ofBits, Ideal.ieee, -EReal.coe_mul]; norm_num

/-- The norm's gradient on rows of 1024 reals. -/
theorem rows_eq (v p : Fin 1024 → ℝ) (k : Fin 1024) :
    autoC len eps (Ideal.ofBits .f32 0xBF000000#32) (cen len (fun k => (v k : EReal))) (fun k => (p k : EReal)) k
      = backC len eps (cen len (fun k => (v k : EReal))) (fun k => (p k : EReal)) k := by
  obtain ⟨e, he, hE⟩ := eps_coe
  have hN : (0 : ℝ) < 1024 := by norm_num
  rw [len_coe, negHalf_coe, hE, funext (cen_coe hN.ne' v)]
  exact back_eq_auto hN he _ p (sum_cen hN.ne' (by norm_num) v) k

end Cert.NormSpec

end
-- ==== Proof.NormClaim.lean ====
/-
  THE NORM'S GRADIENT: THE VALUE CLAIM. The kernel's two results and the reference's are the specification's arrays,
  wherever the arguments are real.
-/
module

public import proofs.«01_k».proof.Proof.NormBlocks
public import proofs.«01_k».proof.Proof.NormReference
public import proofs.«01_k».proof.Proof.NormEquation
public import proofs.«01_k».proof.Proof.Gen.Reference2Ideal.Run
public import proofs.«01_k».proof.Proof.Gen.Pre_norm_finite
public import proofs.«01_k».proof.Defs
public import Idealize.ShloMosaic.Lib.Claim

@[expose] public section

noncomputable section

namespace Cert.Norm

open Cert.GateSpec Cert.NormSpec Cert.Finite Cert.Reference2Ideal.Read Idealize.ShloMosaic Idealize.SL.Sem

attribute [local instance] Cert.Kernel2Ideal.Gen.facts Cert.Reference2Ideal.Gen.facts Cert.Pre_norm_finite.Gen.facts

/-- An array of reals. -/
abbrev Real' {s : Shape} (x : s.Idx → EReal) : Prop := ∃ X : s.Idx → ℝ, ∀ i, x i = (X i : EReal)

variable (dz : Arr 4096 2048) (dx : Arr 4096 3072) (dt : Arr 4096 32) (dv v : Arr 4096 1024) (w : Arr 1024 5152) (g : (⟨1, ![1024]⟩ : Shape).Idx → EReal)

/-- The precondition says that the arrays are real. -/
theorem reals [Cert.Pre_norm_finite.Facts] (e : Cert.Pre_norm_finite.fn (F := Ideal) dz dx dt dv v w g = fun _ => 1#1) :
    Real' dz ∧ Real' dx ∧ Real' dt ∧ Real' dv ∧ Real' v ∧ Real' w ∧ Real' g := by
  have e0 := congrFun e (fun k => k.elim0)
  obtain ⟨e1, e2⟩ := IntOp.andi_eq_one.1 e0
  obtain ⟨e3, e4⟩ := IntOp.andi_eq_one.1 e1
  obtain ⟨e5, e6⟩ := IntOp.andi_eq_one.1 e3
  obtain ⟨e7, e8⟩ := IntOp.andi_eq_one.1 e5
  obtain ⟨e9, e10⟩ := IntOp.andi_eq_one.1 e7
  obtain ⟨e11, e12⟩ := IntOp.andi_eq_one.1 e9
  exact ⟨reals_of_all _ _ _ _ _ _ e11, reals_of_all _ _ _ _ _ _ e12, reals_of_all _ _ _ _ _ _ e10, reals_of_all _ _ _ _ _ _ e8,
    reals_of_all _ _ _ _ _ _ e6, reals_of_all _ _ _ _ _ _ e4, reals_of_all _ _ _ _ _ _ e2⟩

/-- A sum of products of reals is real. -/
theorem dot_real {n : Nat} (p q : Fin n → EReal) (hp : ∀ k, ∃ a : ℝ, p k = a) (hq : ∀ k, ∃ a : ℝ, q k = a) : ∃ a : ℝ, ∑ k, p k * q k = a := by
  choose P hP using hp
  choose Q hQ using hq
  refine ⟨∑ k, P k * Q k, ?_⟩
  rw [coe_sum]
  exact Finset.sum_congr rfl fun k _ => by rw [hP, hQ, EReal.coe_mul]

theorem cot_real (hz : Real' dz) (hx : Real' dx) (ht : Real' dt) (hv : Real' dv) (hw : Real' w) (r : Fin 4096) (k : Fin 1024) :
    ∃ a : ℝ, cot dz dx dt dv w r k = a := by
  obtain ⟨Z, hz⟩ := hz
  obtain ⟨X, hx⟩ := hx
  obtain ⟨T, ht⟩ := ht
  obtain ⟨V, hv⟩ := hv
  obtain ⟨W, hw⟩ := hw
  obtain ⟨al, hal⟩ := alpha_coe
  obtain ⟨s1, h1⟩ := dot_real (fun j : Fin 2048 => dz (ix2 r j)) (fun j => w (ix2 k ⟨j.val, lt_trans j.isLt (by decide)⟩)) (fun _ => ⟨_, hz _⟩) (fun _ => ⟨_, hw _⟩)
  obtain ⟨s2, h2⟩ := dot_real (fun j : Fin 3072 => dx (ix2 r j)) (fun j => w (ix2 k ⟨2048 + j.val, lt_trans (Nat.add_lt_add_left j.isLt 2048) (by decide)⟩))
    (fun _ => ⟨_, hx _⟩) (fun _ => ⟨_, hw _⟩)
  obtain ⟨s3, h3⟩ := dot_real (fun j : Fin 32 => dt (ix2 r j)) (fun j => w (ix2 k ⟨5120 + j.val, Nat.add_lt_add_left j.isLt 5120⟩)) (fun _ => ⟨_, ht _⟩) (fun _ => ⟨_, hw _⟩)
  exact ⟨al * V (ix2 r k) + s1 + s2 + s3, by rw [cot, h1, h2, h3, hal, hv]; push_cast; rfl⟩

/-- The chain rule's gradient of the rows is the kernel's. -/
theorem rows (hz : Real' dz) (hx : Real' dx) (ht : Real' dt) (hv : Real' dv) (h0 : Real' v) (hw : Real' w) (hg : Real' g) (r : Fin 4096) (k : Fin 1024) :
    autoC len eps (Ideal.ofBits .f32 0xBF000000#32) (cen len (fun l => v (ix2 r l))) (fun l => cot dz dx dt dv w r l * g (ix1 l)) k
      = dRows dz dx dt dv v w g r k := by
  choose C hC using cot_real dz dx dt dv w hz hx ht hv hw
  obtain ⟨V, h0⟩ := h0
  obtain ⟨G, hg⟩ := hg
  rw [dRows]
  simp only [hC, h0, hg, ← EReal.coe_mul]
  exact rows_eq _ _ _

theorem algebraic : Cert.algebraic_Kernel2Ideal_Reference2Ideal_pre_norm_finite := by
  pair_intro
  · run_from Cert.Kernel2Ideal.Value.run_blocks m g
  · refine θ_run_mono (Cert.Reference2Ideal.Value.run m' g') fun r h c => ?_
    obtain ⟨a0, a1, a2, a3, a4, a5, a6⟩ := hagree c
    obtain ⟨hz, hx, ht, hv, hr, hw, hg⟩ := reals _ _ _ _ _ _ _ (hpre c)
    obtain ⟨h0, h1, hk⟩ := h c
    refine ⟨h0.trans ?_, h1.trans ?_, hk⟩
    · rw [val_main_v70_eq, a0, a1, a2, a3, a4, a5, a6, Cert.Kernel2Ideal.Norm.final9]
      funext i
      obtain ⟨a, b, rfl⟩ := pair i
      exact (Cert.Reference2Ideal.Norm.rows_eq _ _ _ _ _ _ _ a b).trans (rows _ _ _ _ _ _ _ hz hx ht hv hr hw hg a b)
    · rw [val_main_v74_eq, a0, a1, a2, a3, a4, a5, Cert.Kernel2Ideal.Norm.final10, Cert.Reference2Ideal.Norm.dScale_eq]

end Cert.Norm

end
-- ==== Proof.GroupSpec.lean ====
/-
  THE GRADIENT OF THE GATED, GROUPED RMS NORM, at an element. Forward: `x = y * silu(z)`, cut in four groups of 512
  columns, each divided by its root mean square and scaled by `g`, then multiplied by the output weights. For a cotangent
  `dv` of the product: `dn` is the norm's cotangent, `dseg` that of `x` on a group, `dy` and `dz` the gradients of `y` and
  `z`, `dg` the scale's, `dw` that of the weights that made `z`.
-/
module

public import proofs.«01_k».proof.Proof.NormSpec

@[expose] public section

noncomputable section

namespace Cert.GroupSpec

open Cert.GateSpec Cert.NormSpec Idealize.ShloMosaic

/-- Column `l` of group `q`. -/
abbrev col (q : Fin 4) (l : Fin 512) : Fin 2048 := ⟨512 * q.val + l.val, by omega⟩

/-- The group of a column, and its place there. -/
abbrev grp (e : Fin 2048) : Fin 4 := ⟨e.val / 512, by omega⟩
abbrev plc (e : Fin 2048) : Fin 512 := ⟨e.val % 512, by omega⟩

theorem grp_col (q : Fin 4) (l : Fin 512) : grp (col q l) = q := Fin.ext (by show (512 * q.val + l.val) / 512 = q.val; omega)
theorem plc_col (q : Fin 4) (l : Fin 512) : plc (col q l) = l := Fin.ext (by show (512 * q.val + l.val) % 512 = l.val; omega)
theorem col_grp (e : Fin 2048) : col (grp e) (plc e) = e := Fin.ext (by show 512 * (e.val / 512) + e.val % 512 = e.val; omega)

theorem col_zero (l : Fin 512) (h : l.val < 2048) : (⟨l.val, h⟩ : Fin 2048) = col 0 l := Fin.ext (Nat.zero_add _).symm
theorem col_one (l : Fin 512) (h : 512 + l.val < 2048) : (⟨512 + l.val, h⟩ : Fin 2048) = col 1 l := rfl
theorem col_two (l : Fin 512) (h : 1024 + l.val < 2048) : (⟨1024 + l.val, h⟩ : Fin 2048) = col 2 l := rfl
theorem col_three (l : Fin 512) (h : 1536 + l.val < 2048) : (⟨1536 + l.val, h⟩ : Fin 2048) = col 3 l := rfl

/-- A group's length, 512, and what keeps its mean square off zero. -/
abbrev glen : EReal := Ideal.ofBits .f32 0x44000000#32
abbrev geps : EReal := Ideal.ofBits .f32 0x358637BD#32

/-- A group of a row. -/
abbrev seg (f : Fin 2048 → EReal) (q : Fin 4) (l : Fin 512) : EReal := f (col q l)

/-- The gradient through a root-mean-square norm as the kernel spells it. -/
def backG {n : Nat} (N e : EReal) (c p : Fin n → EReal) (k : Fin n) : EReal :=
  rstd N e c * (p k - hat N e c k * mean N (fun l => p l * hat N e c l))

variable (dv : Arr 4096 1024) (w : Arr 2048 1024) (y z : Arr 4096 2048) (g : (⟨1, ![2048]⟩ : Shape).Idx → EReal) (xb : Arr 4096 1024)

def silu (x : EReal) : EReal := x * sigm x

/-- The gated row. -/
def gated (r : Fin 4096) (e : Fin 2048) : EReal := y (ix2 r e) * silu (z (ix2 r e))

/-- The norm's output before the scale. -/
def nrm (r : Fin 4096) (e : Fin 2048) : EReal := hat glen geps (seg (gated y z r) (grp e)) (plc e)

def dn (r : Fin 4096) (e : Fin 2048) : EReal := ∑ k : Fin 1024, dv (ix2 r k) * w (ix2 e k)

def dnScaled (r : Fin 4096) (e : Fin 2048) : EReal := dn dv w r e * g (ix1 e)

def dseg (r : Fin 4096) (e : Fin 2048) : EReal :=
  backG glen geps (seg (gated y z r) (grp e)) (seg (dnScaled dv w g r) (grp e)) (plc e)

def dy (r : Fin 4096) (e : Fin 2048) : EReal := dseg dv w y z g r e * silu (z (ix2 r e))

def dz (r : Fin 4096) (e : Fin 2048) : EReal :=
  dseg dv w y z g r e * y (ix2 r e) * (sigm (z (ix2 r e)) * (1 + z (ix2 r e) * (1 - sigm (z (ix2 r e)))))

/-- The scale's gradient in the first of eight rows. -/
def dg (a : Fin 8) (e : Fin 2048) : EReal := if a.val = 0 then ∑ r : Fin 4096, dn dv w r e * nrm y z r e else 0

def dw (d : Fin 1024) (e : Fin 2048) : EReal := ∑ r : Fin 4096, xb (ix2 r d) * dz dv w y z g r e

end Cert.GroupSpec

end
-- ==== Proof.GroupBlocks.lean ====
/-
  WHAT THE GROUPED NORM'S GRADIENT KERNEL LEAVES. Each grid point takes 512 rows and works its four groups of columns one
  after the other: it stores the two gradients group by group, adds the rows' part of the scale's gradient to one row of a
  block, and adds the product with the rows that made the gate to the weights' gradient.
-/
module

public import proofs.«01_k».proof.Proof.Gen.Kernel3Ideal.Value
public import proofs.«01_k».proof.Proof.GroupSpec
public import proofs.«01_k».proof.Proof.Pieces
public import Idealize.ShloMosaic.Lib.Pipeline.ValueKit
public import Idealize.ShloMosaic.Lib.StableHlo.RunRead

@[expose] public section

noncomputable section

namespace Cert.Kernel3Ideal.Group

open Cert.Kernel3Ideal Cert.Kernel3Ideal.Gen Cert.Kernel3Ideal.Value Cert.GateSpec Cert.NormSpec Cert.GroupSpec Cert.Pieces Idealize.ShloMosaic Idealize.ShloMosaic.TcCoe Idealize.SL.Sem
open Idealize.ShloMosaic.Pipeline (Dat)

variable (m : (ℓ : Loc nD τ sig) → Buf (Elt Ideal) ℓ) (ρ : Dev nD → PrngReg)

abbrev dv (c : Dev nD) : Arr 4096 1024 := m ((c : Thread nD τ).loc main_arg0)
abbrev wo (c : Dev nD) : Arr 2048 1024 := m ((c : Thread nD τ).loc main_arg1)
abbrev y (c : Dev nD) : Arr 4096 2048 := m ((c : Thread nD τ).loc main_arg2)
abbrev z (c : Dev nD) : Arr 4096 2048 := m ((c : Thread nD τ).loc main_arg3)
abbrev nw (c : Dev nD) : (⟨1, ![2048]⟩ : Shape).Idx → EReal := m ((c : Thread nD τ).loc main_arg4)
abbrev xb (c : Dev nD) : Arr 4096 1024 := m ((c : Thread nD τ).loc main_arg5)

/-! ## Where each window's block lies -/

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![0, 0] := (by decide +kernel : ∀ t : Fin grid0.N, _)

/-- Row `r` of the rows grid point `t` works on. -/
abbrev row (t : Fin cfg0.N) (r : Fin 512) : Fin 4096 := ⟨t.val * 512 + r.val, by have := t.isLt; have : cfg0.N = 8 := N_0; omega⟩

theorem V_main_v0 (c : Dev nD) : (V m c main_v0 : FVec Ideal S1x2048 .f32) = broadcastInDim S1x2048 ![1] bcast_S2048_S1x2048_1 (nw m c) := by rfl

theorem blk0 (c : Dev nD) (t : Fin cfg0.N) (r : Fin 512) (k : Fin 1024) : (iblk m c 0 t : Vec Ideal S512x1024 .f32) (ix2 r k) = dv m c (ix2 (row t r) k) := by
  blk_ext! [iblk, V_main_arg0, at0 t]
theorem blk1 (c : Dev nD) (t : Fin cfg0.N) (e : Fin 2048) (k : Fin 1024) : (iblk m c 1 t : Vec Ideal S2048x1024 .bf16) (ix2 e k) = wo m c (ix2 e k) := by
  blk_ext! [iblk, V_main_arg1, at1 t]
theorem blk2 (c : Dev nD) (t : Fin cfg0.N) (r : Fin 512) (e : Fin 2048) : (iblk m c 2 t : Vec Ideal S512x2048 .f32) (ix2 r e) = y m c (ix2 (row t r) e) := by
  blk_ext! [iblk, V_main_arg2, at2 t]
theorem blk3 (c : Dev nD) (t : Fin cfg0.N) (r : Fin 512) (e : Fin 2048) : (iblk m c 3 t : Vec Ideal S512x2048 .f32) (ix2 r e) = z m c (ix2 (row t r) e) := by
  blk_ext! [iblk, V_main_arg3, at3 t]
theorem blk4 (c : Dev nD) (t : Fin cfg0.N) (u : Fin 1) (e : Fin 2048) : (iblk m c 4 t : Vec Ideal S1x2048 .f32) (ix2 u e) = nw m c (ix1 e) := by
  have e : (iblk m c 4 t : Vec Ideal S1x2048 .f32) (ix2 u e) = (V m c main_v0 : FVec Ideal S1x2048 .f32) (ix2 u e) := by
    blk_ext! [iblk, at4 t]
  rw [e, V_main_v0]
  pointwise []
theorem blk5 (c : Dev nD) (t : Fin cfg0.N) (r : Fin 512) (k : Fin 1024) : (iblk m c 5 t : Vec Ideal S512x1024 .bf16) (ix2 r k) = xb m c (ix2 (row t r) k) := by
  blk_ext! [iblk, V_main_arg5, at5 t]

/-! ## The kernel's values on a block -/

/-- Group `q` of row `r` of a block. -/
abbrev cols (S : FVec Ideal S512x2048 .f32) (r : Fin 512) (q : Fin 4) (l : Fin 512) : EReal := S (ix2 r (col q l))

theorem pay4_at (c : Dev nD) (t : Fin cfg0.N) (r : Fin 512) (e : Fin 2048) :
    k0_pay4 (iblk m c 0 t) (iblk m c 1 t) (ix2 r e) = dn (dv m c) (wo m c) (row t r) e := by
  pointwise [k0_pay4, dn]
  simp only [blk0, blk1]

theorem pay5_at (c : Dev nD) (t : Fin cfg0.N) (u : Fin 1) (e : Fin 2048) : k0_pay5 (iblk m c 4 t) (ix2 u e) = nw m c (ix1 e) := by
  pointwise [k0_pay5]
  simp only [blk4]

theorem pay6_at (c : Dev nD) (t : Fin cfg0.N) (r : Fin 512) (e : Fin 2048) :
    k0_pay6 (iblk m c 2 t) (iblk m c 3 t) (ix2 r e) = gated (y m c) (z m c) (row t r) e := by
  pointwise [k0_pay6, gated, silu]
  simp only [blk2, blk3, one_f32, sigm_zero_sub]

theorem pay20_at (c : Dev nD) (t : Fin cfg0.N) (r : Fin 512) (e : Fin 2048) : k0_pay20 (iblk m c 3 t) (ix2 r e) = silu (z m c (ix2 (row t r) e)) := by
  pointwise [k0_pay20, silu]
  simp only [blk3, one_f32, sigm_zero_sub]

theorem pay23_at (c : Dev nD) (t : Fin cfg0.N) (r : Fin 512) (e : Fin 2048) :
    k0_pay23 (k0_pay21 (iblk m c 3 t)) (k0_pay22 (iblk m c 3 t)) (FloatOps.ofBits FTy.f32 1065353216#32) (ix2 r e)
      = sigm (z m c (ix2 (row t r) e)) * (1 + z m c (ix2 (row t r) e) * (1 - sigm (z m c (ix2 (row t r) e)))) := by
  pointwise [k0_pay23, k0_pay22, k0_pay21]
  simp only [blk3, one_f32, sigm_zero_sub]

/-! The four groups' root mean squares and normalised columns. -/

variable (Y Z : Vec Ideal S512x2048 .f32) (S : FVec Ideal S512x2048 .f32) (r l : Fin 512) (u : Fin 1)

theorem pay7_at : k0_pay7 Y Z (ix2 r l) = cols (k0_pay6 Y Z) r 0 l := by
  pointwise [k0_pay7]; simp only [col_zero]
theorem pay10_at : k0_pay10 Y Z (ix2 r l) = cols (k0_pay6 Y Z) r 1 l := by
  pointwise [k0_pay10]; rfl
theorem pay14_at : k0_pay14 S (ix2 r l) = cols S r 2 l := by
  pointwise [k0_pay14]; rfl
theorem pay17_at : k0_pay17 S (ix2 r l) = cols S r 3 l := by
  pointwise [k0_pay17]; rfl

theorem pay8_at : k0_pay8 Y Z (ix2 r u) = rstd glen geps (cols (k0_pay6 Y Z) r 0) := by
  pointwise [k0_pay8, rstd, var, mean, glen, geps]; simp only [pay7_at]
theorem pay12_at : k0_pay12 (k0_pay11 Y Z) (ix2 r u) = rstd glen geps (cols (k0_pay6 Y Z) r 1) := by
  pointwise [k0_pay12, k0_pay11, rstd, var, mean, glen, geps]; simp only [pay10_at]
theorem pay15_at : k0_pay15 S (ix2 r u) = rstd glen geps (cols S r 2) := by
  pointwise [k0_pay15, rstd, var, mean, glen, geps]; simp only [pay14_at]
theorem pay18_at : k0_pay18 S (ix2 r u) = rstd glen geps (cols S r 3) := by
  pointwise [k0_pay18, rstd, var, mean, glen, geps]; simp only [pay17_at]

theorem pay9_at : k0_pay9 Y Z (ix2 r l) = hat glen geps (cols (k0_pay6 Y Z) r 0) l := by
  pointwise [k0_pay9, hat]; simp only [pay7_at, pay8_at]
theorem pay13_at : k0_pay13 (k0_pay10 Y Z) (k0_pay11 Y Z) (ix2 r l) = hat glen geps (cols (k0_pay6 Y Z) r 1) l := by
  pointwise [k0_pay13, hat]; simp only [pay10_at, pay12_at]
theorem pay16_at : k0_pay16 S (ix2 r l) = hat glen geps (cols S r 2) l := by
  pointwise [k0_pay16, hat]; simp only [pay14_at, pay15_at]
theorem pay19_at : k0_pay19 S (ix2 r l) = hat glen geps (cols S r 3) l := by
  pointwise [k0_pay19, hat]; simp only [pay17_at, pay18_at]

/-! The four groups' gradients, from the norm's cotangent `D`, the scale `g`, the reciprocal `R` and the columns `h`. -/

variable (D : FVec Ideal S512x2048 .f32) (g : FVec Ideal S1x2048 .f32) (R : FVec Ideal S512x1 .f32) (h : FVec Ideal S512x512 .f32) (acc : Vec Ideal S1x512 .f32)

/-- The gradient of group `q` before it meets the gate. -/
abbrev part (q : Fin 4) : EReal :=
  R (ix2 r 0) * (D (ix2 r (col q l)) * g (ix2 0 (col q l)) - h (ix2 r l) * mean glen (fun k => D (ix2 r (col q k)) * g (ix2 0 (col q k)) * h (ix2 r k)))

theorem pay24_at : k0_pay24 D (ix2 r l) = D (ix2 r (col 0 l)) := by
  pointwise [k0_pay24]; simp only [col_zero]
theorem pay29_at : k0_pay29 D (ix2 r l) = D (ix2 r (col 1 l)) := by
  pointwise [k0_pay29]; rfl
theorem pay34_at : k0_pay34 D (ix2 r l) = D (ix2 r (col 2 l)) := by
  pointwise [k0_pay34]; rfl
theorem pay39_at : k0_pay39 D (ix2 r l) = D (ix2 r (col 3 l)) := by
  pointwise [k0_pay39]; rfl

theorem pay26_at : k0_pay26 D g R h (ix2 r l) = part r l D g R h 0 := by
  pointwise [k0_pay26, mean, glen]; simp only [pay24_at, col_zero]; rfl
theorem pay31_at : k0_pay31 g R h (k0_pay29 D) (ix2 r l) = part r l D g R h 1 := by
  pointwise [k0_pay31, mean, glen]; simp only [pay29_at, col_one]; rfl
theorem pay36_at : k0_pay36 D g R h (ix2 r l) = part r l D g R h 2 := by
  pointwise [k0_pay36, mean, glen]; simp only [pay34_at, col_two]; rfl
theorem pay41_at : k0_pay41 D g R h (ix2 r l) = part r l D g R h 3 := by
  pointwise [k0_pay41, mean, glen]; simp only [pay39_at, col_three]; rfl

theorem pay25_at : k0_pay25 D h acc (ix2 u l) = acc (ix2 u l) + ∑ r : Fin 512, D (ix2 r (col 0 l)) * h (ix2 r l) := by
  pointwise [k0_pay25]; simp only [pay24_at]
theorem pay30_at : k0_pay30 D h acc (ix2 u l) = acc (ix2 u l) + ∑ r : Fin 512, D (ix2 r (col 1 l)) * h (ix2 r l) := by
  pointwise [k0_pay30]; simp only [pay29_at]
theorem pay35_at : k0_pay35 D h acc (ix2 u l) = acc (ix2 u l) + ∑ r : Fin 512, D (ix2 r (col 2 l)) * h (ix2 r l) := by
  pointwise [k0_pay35]; simp only [pay34_at]
theorem pay40_at : k0_pay40 D h acc (ix2 u l) = acc (ix2 u l) + ∑ r : Fin 512, D (ix2 r (col 3 l)) * h (ix2 r l) := by
  pointwise [k0_pay40]; simp only [pay39_at]

/-! ## What a grid point stores -/

/-- The gate's derivative on a block. -/
abbrev slope (c : Dev nD) (t : Fin cfg0.N) : FVec Ideal S512x2048 .f32 :=
  k0_pay23 (k0_pay21 (iblk m c 3 t)) (k0_pay22 (iblk m c 3 t)) (FloatOps.ofBits FTy.f32 1065353216#32)

/-- The gradient of `z` on a block, as four pieces of columns. -/
def dzBlk (c : Dev nD) (t : Fin cfg0.N) : Vec Ideal S512x2048 .bf16 := View.canon
  [⟨Rect.unit ![0, 1536] ![512, 512] inb_S512x2048_S512x512_0_1536, k0_pay43 (k0_pay4 (iblk m c 0 t) (iblk m c 1 t)) (iblk m c 2 t) (k0_pay5 (iblk m c 4 t))
      (k0_pay18 (k0_pay6 (iblk m c 2 t) (iblk m c 3 t))) (k0_pay19 (k0_pay6 (iblk m c 2 t) (iblk m c 3 t))) (slope m c t)⟩,
    ⟨Rect.unit ![0, 1024] ![512, 512] inb_S512x2048_S512x512_0_1024, k0_pay38 (iblk m c 2 t) (slope m c t)
      (k0_pay36 (k0_pay4 (iblk m c 0 t) (iblk m c 1 t)) (k0_pay5 (iblk m c 4 t)) (k0_pay15 (k0_pay6 (iblk m c 2 t) (iblk m c 3 t)))
        (k0_pay16 (k0_pay6 (iblk m c 2 t) (iblk m c 3 t))))⟩,
    ⟨Rect.unit ![0, 512] ![512, 512] inb_S512x2048_S512x512_0_512, k0_pay33 (iblk m c 2 t) (k0_pay5 (iblk m c 4 t)) (k0_pay12 (k0_pay11 (iblk m c 2 t) (iblk m c 3 t)))
      (k0_pay13 (k0_pay10 (iblk m c 2 t) (iblk m c 3 t)) (k0_pay11 (iblk m c 2 t) (iblk m c 3 t))) (slope m c t) (k0_pay29 (k0_pay4 (iblk m c 0 t) (iblk m c 1 t)))⟩,
    ⟨Rect.unit ![0, 0] ![512, 512] inb_S512x2048_S512x512_0_0, k0_pay28 (k0_pay4 (iblk m c 0 t) (iblk m c 1 t)) (iblk m c 2 t) (k0_pay5 (iblk m c 4 t))
      (k0_pay8 (iblk m c 2 t) (iblk m c 3 t)) (k0_pay9 (iblk m c 2 t) (iblk m c 3 t)) (k0_pay21 (iblk m c 3 t)) (k0_pay22 (iblk m c 3 t)) (FloatOps.ofBits FTy.f32 1065353216#32)⟩]

/-- The gradient of `y` on a block. -/
def dyBlk (c : Dev nD) (t : Fin cfg0.N) : Vec Ideal S512x2048 .f32 := View.canon
  [⟨Rect.unit ![0, 1536] ![512, 512] inb_S512x2048_S512x512_0_1536, k0_pay42 (k0_pay4 (iblk m c 0 t) (iblk m c 1 t)) (k0_pay5 (iblk m c 4 t))
      (k0_pay18 (k0_pay6 (iblk m c 2 t) (iblk m c 3 t))) (k0_pay19 (k0_pay6 (iblk m c 2 t) (iblk m c 3 t))) (k0_pay20 (iblk m c 3 t))⟩,
    ⟨Rect.unit ![0, 1024] ![512, 512] inb_S512x2048_S512x512_0_1024, k0_pay37 (k0_pay20 (iblk m c 3 t))
      (k0_pay36 (k0_pay4 (iblk m c 0 t) (iblk m c 1 t)) (k0_pay5 (iblk m c 4 t)) (k0_pay15 (k0_pay6 (iblk m c 2 t) (iblk m c 3 t)))
        (k0_pay16 (k0_pay6 (iblk m c 2 t) (iblk m c 3 t))))⟩,
    ⟨Rect.unit ![0, 512] ![512, 512] inb_S512x2048_S512x512_0_512, k0_pay32 (k0_pay5 (iblk m c 4 t)) (k0_pay12 (k0_pay11 (iblk m c 2 t) (iblk m c 3 t)))
      (k0_pay13 (k0_pay10 (iblk m c 2 t) (iblk m c 3 t)) (k0_pay11 (iblk m c 2 t) (iblk m c 3 t))) (k0_pay20 (iblk m c 3 t)) (k0_pay29 (k0_pay4 (iblk m c 0 t) (iblk m c 1 t)))⟩,
    ⟨Rect.unit ![0, 0] ![512, 512] inb_S512x2048_S512x512_0_0, k0_pay27 (k0_pay4 (iblk m c 0 t) (iblk m c 1 t)) (k0_pay5 (iblk m c 4 t))
      (k0_pay8 (iblk m c 2 t) (iblk m c 3 t)) (k0_pay9 (iblk m c 2 t) (iblk m c 3 t)) (k0_pay20 (iblk m c 3 t))⟩]

/-- A group's gradient, in the problem's rows. -/
theorem dseg_at (c : Dev nD) (t : Fin cfg0.N) (q : Fin 4) :
    rstd glen geps (fun l => gated (y m c) (z m c) (row t r) (col q l)) *
      (dn (dv m c) (wo m c) (row t r) (col q l) * nw m c (ix1 (col q l)) - hat glen geps (fun l => gated (y m c) (z m c) (row t r) (col q l)) l *
        mean glen (fun k => dn (dv m c) (wo m c) (row t r) (col q k) * nw m c (ix1 (col q k)) * hat glen geps (fun l => gated (y m c) (z m c) (row t r) (col q l)) k))
    = dseg (dv m c) (wo m c) (y m c) (z m c) (nw m c) (row t r) (col q l) := by
  unfold dseg backG
  rw [grp_col, plc_col]
  rfl

theorem cols_at (c : Dev nD) (t : Fin cfg0.N) (q : Fin 4) :
    cols (k0_pay6 (iblk m c 2 t) (iblk m c 3 t)) r q = fun l => gated (y m c) (z m c) (row t r) (col q l) :=
  funext fun l => pay6_at m c t r (col q l)

/-- Each group's gradient is the problem's. -/
theorem part_at (c : Dev nD) (t : Fin cfg0.N) (q : Fin 4) (R : FVec Ideal S512x1 .f32) (h : FVec Ideal S512x512 .f32)
    (hR : R (ix2 r 0) = rstd glen geps (cols (k0_pay6 (iblk m c 2 t) (iblk m c 3 t)) r q))
    (hh : ∀ l, h (ix2 r l) = hat glen geps (cols (k0_pay6 (iblk m c 2 t) (iblk m c 3 t)) r q) l) :
    part r l (k0_pay4 (iblk m c 0 t) (iblk m c 1 t)) (k0_pay5 (iblk m c 4 t)) R h q
      = dseg (dv m c) (wo m c) (y m c) (z m c) (nw m c) (row t r) (col q l) := by
  unfold part
  simp only [hR, hh, cols_at, pay4_at, pay5_at]
  exact dseg_at m r l c t q

theorem dyBlk_at (c : Dev nD) (t : Fin cfg0.N) (e : Fin 2048) :
    dyBlk m c t (ix2 r e) = dy (dv m c) (wo m c) (y m c) (z m c) (nw m c) (row t r) e := by
  unfold dyBlk
  canon_tiles x h
  · obtain ⟨a, l, rfl⟩ := pair x
    obtain rfl : r = a := Fin.ext h0
    obtain rfl : e = col 3 l := Fin.ext h1
    pointwise [k0_pay42]
    simp only [pay41_at, col_three, pay20_at]
    rw [part_at m r l c t 3 _ _ (pay18_at _ _ _) (fun l => pay19_at _ _ l)]
    rfl
  · obtain ⟨a, l, rfl⟩ := pair x
    obtain rfl : r = a := Fin.ext h0
    obtain rfl : e = col 2 l := Fin.ext h1
    pointwise [k0_pay37]
    simp only [pay36_at, col_two, pay20_at]
    rw [part_at m r l c t 2 _ _ (pay15_at _ _ _) (fun l => pay16_at _ _ l)]
    rfl
  · obtain ⟨a, l, rfl⟩ := pair x
    obtain rfl : r = a := Fin.ext h0
    obtain rfl : e = col 1 l := Fin.ext h1
    pointwise [k0_pay32]
    simp only [pay31_at, col_one, pay20_at]
    rw [part_at m r l c t 1 _ _ (pay12_at _ _ _ _) (fun l => pay13_at _ _ _ l)]
    rfl
  · obtain ⟨a, l, rfl⟩ := pair x
    obtain rfl : r = a := Fin.ext h0
    obtain rfl : e = col 0 l := Fin.ext (h1.trans (Nat.zero_add _).symm)
    pointwise [k0_pay27]
    simp only [pay26_at, col_zero, pay20_at]
    rw [part_at m r l c t 0 _ _ (pay8_at _ _ _ _) (fun l => pay9_at _ _ _ l)]
    rfl

theorem dzBlk_at (c : Dev nD) (t : Fin cfg0.N) (e : Fin 2048) :
    dzBlk m c t (ix2 r e) = dz (dv m c) (wo m c) (y m c) (z m c) (nw m c) (row t r) e := by
  unfold dzBlk
  canon_tiles x h
  · obtain ⟨a, l, rfl⟩ := pair x
    obtain rfl : r = a := Fin.ext h0
    obtain rfl : e = col 3 l := Fin.ext h1
    pointwise [k0_pay43]
    simp only [pay41_at, col_three, pay23_at, blk2, blk3, one_f32, sigm_zero_sub]
    rw [part_at m r l c t 3 _ _ (pay18_at _ _ _) (fun l => pay19_at _ _ l)]
    rfl
  · obtain ⟨a, l, rfl⟩ := pair x
    obtain rfl : r = a := Fin.ext h0
    obtain rfl : e = col 2 l := Fin.ext h1
    pointwise [k0_pay38]
    simp only [pay36_at, col_two, pay23_at, blk2, blk3, one_f32, sigm_zero_sub]
    rw [part_at m r l c t 2 _ _ (pay15_at _ _ _) (fun l => pay16_at _ _ l)]
    rfl
  · obtain ⟨a, l, rfl⟩ := pair x
    obtain rfl : r = a := Fin.ext h0
    obtain rfl : e = col 1 l := Fin.ext h1
    pointwise [k0_pay33]
    simp only [pay31_at, col_one, pay23_at, blk2, blk3, one_f32, sigm_zero_sub]
    rw [part_at m r l c t 1 _ _ (pay12_at _ _ _ _) (fun l => pay13_at _ _ _ l)]
    rfl
  · obtain ⟨a, l, rfl⟩ := pair x
    obtain rfl : r = a := Fin.ext h0
    obtain rfl : e = col 0 l := Fin.ext (h1.trans (Nat.zero_add _).symm)
    pointwise [k0_pay28, k0_pay23, k0_pay22, k0_pay21]
    simp only [pay26_at, col_zero, pay23_at, blk2, blk3, one_f32, sigm_zero_sub]
    rw [part_at m r l c t 0 _ _ (pay8_at _ _ _ _) (fun l => pay9_at _ _ _ l)]
    rfl

theorem dy_stored (c : Dev nD) (t : Fin cfg0.N) : (outsAt0 m c t.val t.isLt).1 = dyBlk m c t := by
  by_cases h : t.val % 8 = 0
  · rw [outsAt0_A m c t h]; frame_out
  · rw [outsAt0_B m c t h]; frame_out

theorem dz_stored (c : Dev nD) (t : Fin cfg0.N) : (outsAt0 m c t.val t.isLt).2.1 = dzBlk m c t := by
  by_cases h : t.val % 8 = 0
  · rw [outsAt0_A m c t h]; frame_out
  · rw [outsAt0_B m c t h]; frame_out

/-- Point `t`'s part of the scale's gradient, in the first row of a block of eight. -/
def scalePart (c : Dev nD) (t : Fin cfg0.N) (i : S8x2048.Idx) : EReal :=
  if (i 0).val = 0 then ∑ r : Fin 512, dn (dv m c) (wo m c) (row t r) (i 1) * nrm (y m c) (z m c) (row t r) (i 1) else 0

/-- Point `t`'s part of the weights' gradient. -/
def gatePart (c : Dev nD) (t : Fin cfg0.N) (i : S1024x2048.Idx) : EReal :=
  ∑ r : Fin 512, xb m c (ix2 (row t r) (i 0)) * dz (dv m c) (wo m c) (y m c) (z m c) (nw m c) (row t r) (i 1)

theorem gatePay (c : Dev nD) (t : Fin cfg0.N) (acc : Vec Ideal S1024x2048 .f32) (i) :
    k0_pay1 acc (iblk m c 5 t) (dzBlk m c t) i = acc i + gatePart m c t i := by
  obtain ⟨a, b, rfl⟩ := pair i
  pointwise [k0_pay1]
  simp only [blk5, dzBlk_at]
  rfl

/-- The store of the four pieces read back whole. -/
theorem dz_read (c : Dev nD) (t : Fin cfg0.N) (inb) (L : List (View.Piece (Elt Ideal) S512x2048 .bf16)) (hL : View.canon L = dzBlk m c t) :
    (ms0_7 t).view.readCov L (Rect.unit (s := S512x2048) ![0, 0] ![512, 2048] inb).toLoadRect = dzBlk m c t := by
  rw [View.readCov_eq_canon', hL]
  exact View.ld_unit_lit (S := S512x2048) inb _ (by decide)

theorem gates_last (c : Dev nD) (i) : (outsAt0 m c t0_7.val t0_7.isLt).2.2.2 i = 0 + ∑ t : Fin cfg0.N, gatePart m c t i :=
  Pipeline.eq_sum_fin_of_reset_step_apply_last (fun n h => (outsAt0 m c n h).2.2.2) 8 (fun _ => 0) (gatePart m c)
    (fun t h j => by
      rw [outsAt0_A m c t h]; frame_out
      rw [dz_read m c t _ _ rfl, gatePay]; pointwise [k0_pay3])
    (fun t h j => by
      rw [outsAt0_B m c t h]; frame_out
      rw [dz_read m c t _ _ rfl, gatePay])
    (le_of_eq N_0) t0_7 rfl i

/-- A row's part of the scale's gradient on group `q`. -/
theorem nrm_col (c : Dev nD) (t : Fin cfg0.N) (q : Fin 4) :
    hat glen geps (cols (k0_pay6 (iblk m c 2 t) (iblk m c 3 t)) r q) l = nrm (y m c) (z m c) (row t r) (col q l) := by
  unfold nrm
  rw [grp_col, plc_col, cols_at]

theorem four : ∀ q : Fin 4, q = 0 ∨ q = 1 ∨ q = 2 ∨ q = 3 := by decide

/-- One row's sum over a block, with the place named by its number. -/
theorem scalePart_col (c : Dev nD) (t : Fin cfg0.N) (q : Fin 4) (l l' : Fin 512) (e : l'.val = l.val) :
    ∑ r : Fin 512, dn (dv m c) (wo m c) (row t r) (col q l') * nrm (y m c) (z m c) (row t r) (col q l') = scalePart m c t (ix2 0 (col q l)) := by
  obtain rfl : l' = l := Fin.ext e
  exact (if_pos rfl).symm

theorem scales_last (c : Dev nD) (i) : (outsAt0 m c t0_7.val t0_7.isLt).2.2.1 i = 0 + ∑ t : Fin cfg0.N, scalePart m c t i :=
  Pipeline.eq_sum_fin_of_reset_step_apply_last (fun n h => (outsAt0 m c n h).2.2.1) 8 (fun _ => 0) (scalePart m c)
    (fun t h j => by
      obtain ⟨a, b, rfl⟩ := pair j
      rw [outsAt0_A m c t h]; frame_out
      simp only [canon_piece, readCov_piece, pay25_at, pay30_at, pay35_at, pay40_at, loc, pay4_at, pay9_at, pay13_at, pay16_at, pay19_at, nrm_col]
      pointwise [k0_pay2]
      by_cases h0 : a.val = 0
      · obtain rfl : a = 0 := Fin.ext h0
        obtain ⟨q, l, rfl⟩ : ∃ q l, b = col q l := ⟨_, _, (col_grp b).symm⟩
        have hl := l.isLt
        rcases four q with rfl | rfl | rfl | rfl
        all_goals
          simp (disch := simp only [In]; omega) only [dif_pos, dif_neg]
          exact (zero_add _).trans (scalePart_col m c t _ l _ (by dsimp only [Fin.isValue, Fin.val_zero, Fin.val_one, Fin.val_two]; omega))
      · have h1 : ¬ a.val < 1 := by omega
        simp [scalePart, In, h0, h1])
    (fun t h j => by
      obtain ⟨a, b, rfl⟩ := pair j
      rw [outsAt0_B m c t h]; frame_out
      simp only [read_piece, pay25_at, pay30_at, pay35_at, pay40_at, loc, pay4_at, pay9_at, pay13_at, pay16_at, pay19_at, nrm_col]
      by_cases h0 : a.val = 0
      · obtain rfl : a = 0 := Fin.ext h0
        obtain ⟨q, l, rfl⟩ : ∃ q l, b = col q l := ⟨_, _, (col_grp b).symm⟩
        have hl := l.isLt
        rcases four q with rfl | rfl | rfl | rfl
        all_goals
          simp (disch := simp only [In]; omega) only [dif_pos, dif_neg]
          exact congrArg₂ (· + ·) (ld_at _ _ _ _ 0 _ rfl (by dsimp only; omega)) (scalePart_col m c t _ l _ (by dsimp only; omega))
      · have h1 : ¬ a.val < 1 := by omega
        simp [scalePart, In, h0, h1, Memref.IsWhole.read_unread])
    (le_of_eq N_0) t0_7 rfl i

/-! ## The result arrays -/

theorem final6 (c : Dev nD) : (dats m 0 c).arrAt 6 cfg0.N =
    (fun i => dy (dv m c) (wo m c) (y m c) (z m c) (nw m c) (i 0) (i 1) : Arr 4096 2048) := by
  refine (dats m 0 c).arrAt_eq_of_covers 6 _ (by decide +kernel) fun t hf j => ?_
  blk_simp
  rw [after0_6, dy_stored]
  obtain ⟨a, b, rfl⟩ := pair j
  rw [dyBlk_at]
  refine congrArg₂ (dy _ _ _ _ _) (Fin.ext ?_) (Fin.ext ?_) <;> blk_simp [at6 t]
  all_goals rfl

theorem final7 (c : Dev nD) : (dats m 0 c).arrAt 7 cfg0.N =
    (fun i => dz (dv m c) (wo m c) (y m c) (z m c) (nw m c) (i 0) (i 1) : Arr 4096 2048) := by
  refine (dats m 0 c).arrAt_eq_of_covers 7 _ (by decide +kernel) fun t hf j => ?_
  blk_simp
  rw [after0_7, dz_stored]
  obtain ⟨a, b, rfl⟩ := pair j
  rw [dzBlk_at]
  refine congrArg₂ (dz _ _ _ _ _) (Fin.ext ?_) (Fin.ext ?_) <;> blk_simp [at7 t]
  all_goals rfl

/-- The rows of the eight blocks are the 4096 rows. -/
theorem sum_rows (f : Fin 4096 → EReal) : (0 : EReal) + ∑ t : Fin cfg0.N, ∑ r : Fin 512, f (row t r) = ∑ s, f s := by
  rw [zero_add]
  exact Fin.sum_mul_add_congr (fun t r hl => rfl) (by decide +kernel)

theorem final8 (c : Dev nD) : (dats m 0 c).arrAt 8 cfg0.N =
    (fun i => dg (dv m c) (wo m c) (y m c) (z m c) (i 0) (i 1) : Arr 8 2048) := by
  refine (dats m 0 c).arrAt_eq_of_after_last 8 t0_7 (by decide +kernel) _ fun j => ?_
  blk_simp
  rw [after0_8, scales_last]
  unfold scalePart dg
  split
  · exact sum_rows fun s => dn (dv m c) (wo m c) s (j 1) * nrm (y m c) (z m c) s (j 1)
  · simp

theorem final9 (c : Dev nD) : (dats m 0 c).arrAt 9 cfg0.N =
    (fun i => dw (dv m c) (wo m c) (y m c) (z m c) (nw m c) (xb m c) (i 0) (i 1) : Arr 1024 2048) := by
  refine (dats m 0 c).arrAt_eq_of_after_last 9 t0_7 (by decide +kernel) _ fun j => ?_
  blk_simp
  rw [after0_9, gates_last]
  exact sum_rows fun s => xb m c (ix2 s (j 0)) * dz (dv m c) (wo m c) (y m c) (z m c) (nw m c) s (j 1)

end Cert.Kernel3Ideal.Group

end
-- ==== Proof.GroupReference.lean ====
/-
  WHAT THE GROUPED NORM'S GRADIENT REFERENCE COMPUTES, at an element: the rows cut in four groups on an axis of their own,
  the chain rule through each group's mean square, and the gate's derivative.
-/
module

public import proofs.«01_k».proof.Proof.Gen.Reference3Ideal.Read
public import proofs.«01_k».proof.Proof.GroupSpec

@[expose] public section

noncomputable section

namespace Cert.Reference3Ideal.Group

open Cert.Reference3Ideal Cert.Reference3Ideal.Gen Cert.Reference3Ideal.Read Cert.GateSpec Cert.NormSpec Cert.GroupSpec Idealize.ShloMosaic

variable (dv : Arr 4096 1024) (w : Arr 2048 1024) (y z : Arr 4096 2048) (g : (⟨1, ![2048]⟩ : Shape).Idx → EReal) (xb : Arr 4096 1024)

/-- The factor of the derivative of the inverse square root, -1/2. -/
abbrev negHalf : EReal := Ideal.ofBits .f32 0xBF000000#32

theorem sigm_eq (r : Fin 4096) (e : Fin 2048) : val_main_v0_2 (F := Ideal) z (ix2 r e) = sigm (z (ix2 r e)) := by
  pointwise [val_main_v0_2, val_main_call0_v4, val_main_call0_cst_0, val_main_call0_v3, val_main_call0_v2, val_main_call0_cst, val_main_call0_v1, val_main_call0_v0]
  rfl

theorem gated_eq (r : Fin 4096) (e : Fin 2048) : val_main_v1 (F := Ideal) y z (ix2 r e) = gated y z r e := by
  pointwise [val_main_v1, val_main_v0_0]
  simp only [sigm_eq, gated, silu]

theorem col_mul (q : Fin 4) (l : Fin 512) (h : q.val * 512 + l.val < 2048) : (⟨q.val * 512 + l.val, h⟩ : Fin 2048) = col q l :=
  Fin.ext (by show q.val * 512 + l.val = 512 * q.val + l.val; omega)

theorem cut_eq (r : Fin 4096) (q : Fin 4) (l : Fin 512) : val_main_v2 (F := Ideal) y z (ix3 r q l) = seg (gated y z r) q l := by
  pointwise [val_main_v2]
  simp only [col_mul, gated_eq]

theorem var_eq (r : Fin 4096) (q : Fin 4) (u : Fin 1) : val_main_v9 (F := Ideal) y z (ix3 r q u) = var glen geps (seg (gated y z r) q) := by
  pointwise [val_main_v9, val_main_v8, val_main_cst_1, val_main_v7, val_main_v6, val_main_cst_0, val_main_v5, val_main_v4, val_main_cst, val_main_v3, var, mean, glen, geps]
  simp only [cut_eq]

theorem rstd_eq (r : Fin 4096) (q : Fin 4) (u : Fin 1) : val_main_v10 (F := Ideal) y z (ix3 r q u) = rstd glen geps (seg (gated y z r) q) := by
  pointwise [val_main_v10]
  simp only [var_eq, rstd]

theorem hat_eq (r : Fin 4096) (q : Fin 4) (l : Fin 512) : val_main_v15 (F := Ideal) y z (ix3 r q l) = hat glen geps (seg (gated y z r) q) l := by
  pointwise [val_main_v15, val_main_v14]
  simp only [rstd_eq, cut_eq, hat]

theorem nrm_eq (r : Fin 4096) (e : Fin 2048) : val_main_v16 (F := Ideal) y z (ix2 r e) = nrm y z r e := by
  pointwise [val_main_v16]
  exact hat_eq y z r (grp e) (plc e)

theorem dn_eq (r : Fin 4096) (e : Fin 2048) : val_main_v22 (F := Ideal) dv w (ix2 r e) = dn dv w r e := by
  pointwise [val_main_v22, val_main_v20, dn]

theorem scaled_eq (r : Fin 4096) (q : Fin 4) (l : Fin 512) : val_main_v29 (F := Ideal) dv w g (ix3 r q l) = seg (dnScaled dv w g r) q l := by
  pointwise [val_main_v29, val_main_v27, val_main_v26, val_main_v17]
  simp only [dn_eq, dnScaled, col_mul]

theorem dvar_eq (r : Fin 4096) (q : Fin 4) (l : Fin 512) : val_main_v39 (F := Ideal) dv w y z g (ix3 r q l)
    = dvar glen geps negHalf (seg (gated y z r) q) (seg (dnScaled dv w g r) q) := by
  pointwise [val_main_v39, val_main_v38, val_main_cst_7, val_main_v37, val_main_v36, val_main_cst_6, val_main_v35, val_main_v32, val_main_v31, val_main_cst_5, val_main_v30,
    val_main_v13, val_main_v12, val_main_cst_2, val_main_v11]
  simp only [cut_eq, var_eq, rstd_eq, scaled_eq, dvar, negHalf, glen, Fin.sum_univ_one]

theorem dcen_eq (r : Fin 4096) (q : Fin 4) (l : Fin 512) : val_main_v43 (F := Ideal) dv w y z g (ix3 r q l)
    = dcen glen geps negHalf (seg (gated y z r) q) (seg (dnScaled dv w g r) q) l := by
  pointwise [val_main_v43, val_main_v42, val_main_v41, val_main_v40, val_main_v34, val_main_v33]
  simp only [cut_eq, rstd_eq, scaled_eq, dvar_eq, dcen]

/-- The gated rows' gradient by the chain rule. -/
abbrev dauto (r : Fin 4096) (e : Fin 2048) : EReal := dcen glen geps negHalf (seg (gated y z r) (grp e)) (seg (dnScaled dv w g r) (grp e)) (plc e)

theorem dauto_eq (r : Fin 4096) (e : Fin 2048) : val_main_v44 (F := Ideal) dv w y z g (ix2 r e) = dauto dv w y z g r e := by
  pointwise [val_main_v44]
  exact dcen_eq dv w y z g r (grp e) (plc e)

theorem dy_eq (r : Fin 4096) (e : Fin 2048) : val_main_v46 (F := Ideal) dv w y z g (ix2 r e) = dauto dv w y z g r e * silu (z (ix2 r e)) := by
  pointwise [val_main_v46, val_main_v0_0]
  simp only [dauto_eq, sigm_eq, silu]

/-- The gradient of `z` by the chain rule. -/
abbrev dzAuto (r : Fin 4096) (e : Fin 2048) : EReal := y (ix2 r e) * dauto dv w y z g r e * sigm (z (ix2 r e))
  + z (ix2 r e) * (y (ix2 r e) * dauto dv w y z g r e) * (sigm (z (ix2 r e)) * (1 - sigm (z (ix2 r e))))

theorem dzf_eq (r : Fin 4096) (e : Fin 2048) : val_main_v47 (F := Ideal) dv w y z g (ix2 r e) = dzAuto dv w y z g r e := by
  pointwise [val_main_v47, val_main_call1_v2, val_main_call1_v1, val_main_call1_v0, val_main_v45, val_main_v0_1, val_main_call0_v7, val_main_call0_v6, val_main_call0_cst_1]
  simp only [dauto_eq, sigm_eq]

theorem dz_eq (r : Fin 4096) (e : Fin 2048) : val_main_v53 (F := Ideal) dv w y z g (ix2 r e) = dzAuto dv w y z g r e := by
  pointwise [val_main_v53]
  exact dzf_eq dv w y z g r e

theorem dg_eq : val_main_v56 (F := Ideal) dv w y z = (fun i => dg dv w y z (i 0) (i 1) : Arr 8 2048) := by
  funext i
  obtain ⟨a, b, rfl⟩ := pair i
  pointwise [val_main_v56, val_main_v55, val_main_cst_9, val_main_v54, val_main_v28, val_main_cst_4, val_main_v25, val_main_v24, val_main_cst_3, val_main_v23]
  simp only [nrm_eq, dn_eq, dg, Fin.sum_univ_one, Nat.lt_one_iff]
  by_cases h0 : a.val = 0
  · simp only [h0, if_true, dite_true]
    exact Finset.sum_congr rfl fun r _ => mul_comm _ _
  · simp only [h0, if_false, dite_false]

theorem dw_eq (d : Fin 1024) (e : Fin 2048) : val_main_v52 (F := Ideal) dv w y z g xb (ix2 d e) = ∑ r : Fin 4096, xb (ix2 r d) * dzAuto dv w y z g r e := by
  pointwise [val_main_v52, val_main_v51, val_main_v49]
  exact Finset.sum_congr rfl fun r _ => (congrArg (· * _) (dzf_eq dv w y z g r e)).trans (mul_comm _ _)

end Cert.Reference3Ideal.Group

end
-- ==== Proof.GroupEquation.lean ====
/-
  THE GRADIENT THROUGH A ROOT-MEAN-SQUARE NORM: the kernel's closed form is the chain rule's sum, on reals.
-/
module

public import proofs.«01_k».proof.Proof.NormEquation
public import proofs.«01_k».proof.Proof.GateEquation
public import proofs.«01_k».proof.Proof.GroupSpec

@[expose] public section

noncomputable section

namespace Cert.GroupSpec

open Cert.GateSpec Cert.NormSpec Cert.Finite Idealize.ShloMosaic

variable {n : Nat} {N e : ℝ}

theorem dcen_eq_back (hN : 0 < N) (he : 0 < e) (c p : Fin n → ℝ) (k : Fin n) :
    dcen (N : EReal) (e : EReal) ((-(1 / 2) : ℝ) : EReal) (fun k => (c k : EReal)) (fun k => (p k : EReal)) k
      = backG (N : EReal) (e : EReal) (fun k => (c k : EReal)) (fun k => (p k : EReal)) k := by
  have hX := sq_pos hN he c
  simp only [dcen, dvar, backG, hat_coe hN he, rstd_coe hN he, var_coe hN, mean_coe hN.ne', Ideal.div_coe hN.ne', Ideal.div_coe hX.ne',
    ← EReal.coe_mul, ← EReal.coe_add, ← EReal.coe_sub, ← coe_sum]
  refine congrArg _ ?_
  generalize hR : (Real.sqrt (sq N e c))⁻¹ = R
  have hR2 : R * (1 / sq N e c) = R * R * R := by
    have : R * R = 1 / sq N e c := by
      rw [← hR, ← mul_inv, Real.mul_self_sqrt hX.le, one_div]
    rw [← this]; ring
  rw [hR2]
  have e1 : ∑ l, p l * (c l * R) = (∑ k, c k * p k) * R := by
    rw [Finset.sum_mul]
    exact Finset.sum_congr rfl fun l _ => by ring
  rw [e1]
  ring

theorem glen_coe : glen = ((512 : ℝ) : EReal) := by
  simp [glen, Ideal.ofBits, Ideal.ieee, -EReal.coe_mul]; norm_num

theorem geps_coe : ∃ e : ℝ, 0 < e ∧ geps = (e : EReal) := by
  refine ⟨8796093 / 2 ^ 43, by norm_num, ?_⟩
  simp [geps, Ideal.ofBits, Ideal.ieee, -EReal.coe_mul]; norm_num

theorem group_eq (c p : Fin 512 → ℝ) (k : Fin 512) :
    dcen glen geps (Ideal.ofBits .f32 0xBF000000#32) (fun k => (c k : EReal)) (fun k => (p k : EReal)) k
      = backG glen geps (fun k => (c k : EReal)) (fun k => (p k : EReal)) k := by
  obtain ⟨e, he, hE⟩ := geps_coe
  rw [glen_coe, negHalf_coe, hE]
  exact dcen_eq_back (by norm_num) he c p k

/-- On reals the kernel's gradient is real. -/
theorem group_real (c p : Fin 512 → ℝ) (k : Fin 512) : ∃ a : ℝ, backG glen geps (fun k => (c k : EReal)) (fun k => (p k : EReal)) k = a := by
  obtain ⟨e, he, hE⟩ := geps_coe
  have hN : (0 : ℝ) < 512 := by norm_num
  rw [glen_coe, hE]
  simp only [backG, hat_coe hN he, rstd_coe hN he, mean_coe hN.ne', ← EReal.coe_mul, ← EReal.coe_sub]
  exact ⟨_, rfl⟩

theorem silu_coe (x : ℝ) : silu x = ((x * (1 / (1 + Real.exp (-x))) : ℝ) : EReal) := by
  rw [silu, Cert.Gate.sigm_coe, EReal.coe_mul]

end Cert.GroupSpec

end
-- ==== Proof.GroupClaim.lean ====
/-
  THE GROUPED NORM'S GRADIENT: THE VALUE CLAIM. The kernel's four results and the reference's are the specification's
  arrays, wherever the cotangent, the weights, the two gated arrays and the scale are real.
-/
module

public import proofs.«01_k».proof.Proof.GroupBlocks
public import proofs.«01_k».proof.Proof.GroupReference
public import proofs.«01_k».proof.Proof.GroupEquation
public import proofs.«01_k».proof.Proof.NormClaim
public import proofs.«01_k».proof.Proof.Gen.Reference3Ideal.Run
public import proofs.«01_k».proof.Proof.Gen.Pre_group_finite
public import proofs.«01_k».proof.Defs
public import Idealize.ShloMosaic.Lib.Claim

@[expose] public section

noncomputable section

namespace Cert.Group

open Cert.GateSpec Cert.NormSpec Cert.GroupSpec Cert.Finite Cert.Norm Cert.Reference3Ideal.Read Idealize.ShloMosaic Idealize.SL.Sem

attribute [local instance] Cert.Kernel3Ideal.Gen.facts Cert.Reference3Ideal.Gen.facts Cert.Pre_group_finite.Gen.facts

variable (dv : Arr 4096 1024) (w : Arr 2048 1024) (y z : Arr 4096 2048) (g : (⟨1, ![2048]⟩ : Shape).Idx → EReal)

/-- The precondition says that the arrays are real. -/
theorem reals [Cert.Pre_group_finite.Facts] (xb) (e : Cert.Pre_group_finite.fn (F := Ideal) dv w y z g xb = fun _ => 1#1) :
    Real' dv ∧ Real' w ∧ Real' y ∧ Real' z ∧ Real' g := by
  have e0 := congrFun e (fun k => k.elim0)
  obtain ⟨e1, e2⟩ := IntOp.andi_eq_one.1 e0
  obtain ⟨e3, e4⟩ := IntOp.andi_eq_one.1 e1
  obtain ⟨e5, e6⟩ := IntOp.andi_eq_one.1 e3
  obtain ⟨e7, e8⟩ := IntOp.andi_eq_one.1 e5
  exact ⟨reals_of_all _ _ _ _ _ _ e7, reals_of_all _ _ _ _ _ _ e8, reals_of_all _ _ _ _ _ _ e6, reals_of_all _ _ _ _ _ _ e4, reals_of_all _ _ _ _ _ _ e2⟩

/-- The gradient of the gated rows: the chain rule's is the kernel's, and real. -/
theorem dseg_real (hv : Real' dv) (hw : Real' w) (hy : Real' y) (hz : Real' z) (hg : Real' g) (r : Fin 4096) (e : Fin 2048) :
    ∃ a : ℝ, dseg dv w y z g r e = a ∧ Cert.Reference3Ideal.Group.dauto dv w y z g r e = a := by
  obtain ⟨V, hv⟩ := hv
  obtain ⟨W, hw⟩ := hw
  obtain ⟨Y, hy⟩ := hy
  obtain ⟨Z, hz⟩ := hz
  obtain ⟨G, hg⟩ := hg
  have hd : ∀ e, ∃ a : ℝ, dn dv w r e = a := fun e => dot_real _ _ (fun _ => ⟨_, hv _⟩) (fun _ => ⟨_, hw _⟩)
  choose D hD using hd
  have hc : seg (gated y z r) (grp e) = fun l => ((Y (ix2 r (col (grp e) l)) * (Z (ix2 r (col (grp e) l)) * (1 / (1 + Real.exp (-Z (ix2 r (col (grp e) l)))))) : ℝ) : EReal) :=
    funext fun l => by rw [seg, gated, hy, hz, silu_coe, ← EReal.coe_mul]
  have hp : seg (dnScaled dv w g r) (grp e) = fun l => ((D (col (grp e) l) * G (ix1 (col (grp e) l)) : ℝ) : EReal) :=
    funext fun l => by rw [seg, dnScaled, hD, hg, ← EReal.coe_mul]
  rw [dseg, Cert.Reference3Ideal.Group.dauto, hc, hp, group_eq]
  obtain ⟨a, ha⟩ := group_real _ _ (plc e)
  exact ⟨a, ha, ha⟩

/-- The gradient of `z`: the product rule's is the kernel's. -/
theorem dz_auto (hv : Real' dv) (hw : Real' w) (hy : Real' y) (hz : Real' z) (hg : Real' g) (r : Fin 4096) (e : Fin 2048) :
    Cert.Reference3Ideal.Group.dzAuto dv w y z g r e = dz dv w y z g r e := by
  obtain ⟨a, h1, h2⟩ := dseg_real dv w y z g hv hw hy hz hg r e
  obtain ⟨Y, hy⟩ := hy
  rw [Cert.Reference3Ideal.Group.dzAuto, dz, h1, h2, hy, ← EReal.coe_mul, ← EReal.coe_mul, mul_comm (Y _) a, Cert.Gate.dsilu]

theorem algebraic : Cert.algebraic_Kernel3Ideal_Reference3Ideal_pre_group_finite := by
  pair_intro
  · run_from Cert.Kernel3Ideal.Value.run_blocks m g
  · refine θ_run_mono (Cert.Reference3Ideal.Value.run m' g') fun r h c => ?_
    obtain ⟨a0, a1, a2, a3, a4, a5⟩ := hagree c
    obtain ⟨hv, hw, hy, hz, hg⟩ := reals _ _ _ _ _ _ (hpre c)
    obtain ⟨h0, h1, h2, h3, hk⟩ := h c
    refine ⟨h0.trans ?_, h1.trans ?_, h2.trans ?_, h3.trans ?_, hk⟩
    · rw [val_main_v46_eq, a0, a1, a2, a3, a4, Cert.Kernel3Ideal.Group.final6]
      funext i
      obtain ⟨a, b, rfl⟩ := pair i
      refine (Cert.Reference3Ideal.Group.dy_eq _ _ _ _ _ a b).trans (congrArg (· * _) ?_)
      obtain ⟨s, e1, e2⟩ := dseg_real _ _ _ _ _ hv hw hy hz hg a b
      exact e2.trans e1.symm
    · rw [val_main_v53_eq, a0, a1, a2, a3, a4, Cert.Kernel3Ideal.Group.final7]
      funext i
      obtain ⟨a, b, rfl⟩ := pair i
      exact (Cert.Reference3Ideal.Group.dz_eq _ _ _ _ _ a b).trans (dz_auto _ _ _ _ _ hv hw hy hz hg a b)
    · rw [val_main_v56_eq, a0, a1, a2, a3, Cert.Kernel3Ideal.Group.final8, Cert.Reference3Ideal.Group.dg_eq]
    · rw [val_main_v52_eq, a0, a1, a2, a3, a4, a5, Cert.Kernel3Ideal.Group.final9]
      funext i
      obtain ⟨a, b, rfl⟩ := pair i
      refine (Cert.Reference3Ideal.Group.dw_eq _ _ _ _ _ _ a b).trans (Finset.sum_congr rfl fun s _ => congrArg _ ?_)
      exact dz_auto _ _ _ _ _ hv hw hy hz hg s b

end Cert.Group

end
-- ==== Proof.ConvSpec.lean ====
/-
  THE GRADIENT OF THE SHORT CONVOLUTION, written at an element. Forward: every channel's sequence is convolved with four
  taps looking back in time, a bias is added and the result passes through `silu`. `p` is the convolution's output before
  `silu`, `da` the cotangent of the activation. `ahead s` looks `s` steps ahead in a sequence and `behind s` back, with
  zeros beyond the ends.
-/
module

public import proofs.«01_k».proof.Proof.GateSpec

@[expose] public section

noncomputable section

namespace Cert.ConvSpec

open Cert.GateSpec Idealize.ShloMosaic

/-- A sequence `s` steps ahead, zero beyond its end. -/
def ahead {n : Nat} (s : Nat) (f : Fin n → EReal) (r : Fin n) : EReal := if h : r.val + s < n then f ⟨r.val + s, h⟩ else 0

/-- A sequence `s` steps behind, zero before its start. -/
def behind {n : Nat} (s : Nat) (f : Fin n → EReal) (r : Fin n) : EReal := if s ≤ r.val then f ⟨r.val - s, lt_of_le_of_lt (Nat.sub_le _ _) r.isLt⟩ else 0

/-- Looking back is adjoint to looking ahead. -/
theorem behind_ahead {n : Nat} (s : Nat) (f g : Fin n → EReal) : ∑ r, behind s f r * g r = ∑ r, f r * ahead s g r := by
  have hl : ∀ r, behind s f r * g r = ∑ q : Fin n, if q.val + s = r.val then f q * g r else 0 := fun r => by
    unfold behind
    split
    · next h =>
      refine Eq.symm ((Finset.sum_eq_single (⟨r.val - s, lt_of_le_of_lt (Nat.sub_le _ _) r.isLt⟩ : Fin n) (fun q _ hq => if_neg fun e => hq (Fin.ext ?_))
        fun h => absurd (Finset.mem_univ _) h).trans (if_pos (Nat.sub_add_cancel h)))
      show q.val = r.val - s
      omega
    · next h =>
      rw [zero_mul]
      exact (Finset.sum_eq_zero fun q _ => if_neg fun e => h (by omega)).symm
  have hr : ∀ q, f q * ahead s g q = ∑ r : Fin n, if q.val + s = r.val then f q * g r else 0 := fun q => by
    unfold ahead
    split
    · next h =>
      exact Eq.symm ((Finset.sum_eq_single (⟨q.val + s, h⟩ : Fin n) (fun r _ hr => if_neg fun e => hr (Fin.ext e.symm))
        fun h => absurd (Finset.mem_univ _) h).trans (if_pos rfl))
    · next h =>
      rw [mul_zero]
      exact (Finset.sum_eq_zero fun r _ => if_neg fun e => h (lt_of_eq_of_lt e r.isLt)).symm
  simp only [hl, hr]
  exact Finset.sum_comm

variable (da p x : Arr 4096 3072) (w : Arr 4 3072) (u : Arr 4096 1024)

/-- The cotangent of the convolution's output, as the kernel spells it. -/
def dpre (r : Fin 4096) (k : Fin 3072) : EReal := da (ix2 r k) * (sigm (p (ix2 r k)) * (1 + p (ix2 r k) * (1 - sigm (p (ix2 r k)))))

/-- A channel of it as a sequence. -/
abbrev chan (k : Fin 3072) (r : Fin 4096) : EReal := dpre da p r k

/-- The gradient of the convolution's input. -/
def dIn (r : Fin 4096) (k : Fin 3072) : EReal :=
  dpre da p r k * w (ix2 3 k) + ahead 3 (chan da p k) r * w (ix2 0 k) + ahead 2 (chan da p k) r * w (ix2 1 k) + ahead 1 (chan da p k) r * w (ix2 2 k)

/-- The gradients of the four taps and of the bias, in the first five of eight rows. -/
def dTaps (a : Fin 8) (k : Fin 3072) : EReal :=
  if a.val < 4 then ∑ r : Fin 4096, ahead (3 - a.val) (chan da p k) r * x (ix2 r k)
  else if a.val = 4 then ∑ r : Fin 4096, dpre da p r k
  else 0

/-- The gradient of the weights that made the convolution's input from `u`. -/
def dProj (d : Fin 1024) (k : Fin 3072) : EReal := ∑ r : Fin 4096, u (ix2 r d) * dIn da p w r k

theorem ahead_zero (f : Fin 4096 → EReal) (r : Fin 4096) : ahead 0 f r = f r := dif_pos r.isLt

end Cert.ConvSpec

end
-- ==== Proof.ConvBlocks.lean ====
/-
  WHAT THE CONVOLUTION'S GRADIENT KERNEL LEAVES. Each grid point takes 1024 rows of 1024 channels: it forms the cotangent of
  the convolution's output, looks up to three rows ahead (into the next block's first rows, which it forms again), stores
  the gradient of the input, and adds the block's parts of the gradients of the taps, the bias and the weights.
-/
module

public import proofs.«01_k».proof.Proof.Gen.Kernel4Ideal.Value
public import proofs.«01_k».proof.Proof.ConvSpec
public import proofs.«01_k».proof.Proof.Pieces
public import Idealize.ShloMosaic.Lib.Pipeline.ReadBack
public import Idealize.ShloMosaic.Lib.Pipeline.ValueKit
public import Idealize.ShloMosaic.Lib.StableHlo.RunRead

@[expose] public section

noncomputable section

namespace Cert.Kernel4Ideal.Conv

open Cert.Kernel4Ideal Cert.Kernel4Ideal.Gen Cert.Kernel4Ideal.Value Cert.GateSpec Cert.ConvSpec Cert.Pieces Idealize.ShloMosaic Idealize.ShloMosaic.TcCoe Idealize.SL.Sem
open Idealize.ShloMosaic.Pipeline (Dat)

variable (m : (ℓ : Loc nD τ sig) → Buf (Elt Ideal) ℓ)

abbrev da (c : Dev nD) : Arr 4096 3072 := m ((c : Thread nD τ).loc main_arg0)
abbrev xs (c : Dev nD) : Arr 4096 3072 := m ((c : Thread nD τ).loc main_arg1)
abbrev cw (c : Dev nD) : Arr 4 3072 := m ((c : Thread nD τ).loc main_arg2)
abbrev us (c : Dev nD) : Arr 4096 1024 := m ((c : Thread nD τ).loc main_arg4)

/-- The convolution's output, which the host code computes. -/
abbrev ps (c : Dev nD) : Arr 4096 3072 := V m c main_v33

/-! ## Where each window's block lies: four row blocks within each of three column blocks -/

theorem at0 : ∀ t : Fin cfg0.N, win0_0.index t = ![t.val % 4, t.val / 4] := (by decide +kernel : ∀ t : Fin grid0.N, _)
theorem at1 : ∀ t : Fin cfg0.N, win0_1.index t = ![min ((t.val % 4 + 1) * 128) 511, t.val / 4] := (by decide +kernel : ∀ t : Fin grid0.N, _)
theorem at2 : ∀ t : Fin cfg0.N, win0_2.index t = ![t.val % 4, t.val / 4] := (by decide +kernel : ∀ t : Fin grid0.N, _)
theorem at3 : ∀ t : Fin cfg0.N, win0_3.index t = ![min ((t.val % 4 + 1) * 128) 511, t.val / 4] := (by decide +kernel : ∀ t : Fin grid0.N, _)
theorem at4 : ∀ t : Fin cfg0.N, win0_4.index t = ![t.val % 4, t.val / 4] := (by decide +kernel : ∀ t : Fin grid0.N, _)
theorem at5 : ∀ t : Fin cfg0.N, win0_5.index t = ![0, t.val / 4] := (by decide +kernel : ∀ t : Fin grid0.N, _)
theorem at6 : ∀ t : Fin cfg0.N, win0_6.index t = ![t.val % 4, 0] := (by decide +kernel : ∀ t : Fin grid0.N, _)
theorem at7 : ∀ t : Fin cfg0.N, win0_7.index t = ![t.val % 4, t.val / 4] := (by decide +kernel : ∀ t : Fin grid0.N, _)
theorem at8 : ∀ t : Fin cfg0.N, win0_8.index t = ![0, t.val / 4] := (by decide +kernel : ∀ t : Fin grid0.N, _)
theorem at9 : ∀ t : Fin cfg0.N, win0_9.index t = ![0, t.val / 4] := (by decide +kernel : ∀ t : Fin grid0.N, _)

theorem t_lt (t : Fin cfg0.N) : t.val < 12 := by
  have := t.isLt
  have : cfg0.N = 12 := N_0
  omega

/-- Row `r` and column `k` of the block grid point `t` works on. -/
abbrev row (t : Fin cfg0.N) (r : Fin 1024) : Fin 4096 := ⟨t.val % 4 * 1024 + r.val, by omega⟩
abbrev col (t : Fin cfg0.N) (k : Fin 1024) : Fin 3072 := ⟨t.val / 4 * 1024 + k.val, by have := t_lt t; omega⟩

/-- Row `a` of the eight rows after the block (of the array's last eight, at its end). -/
abbrev nxt (t : Fin cfg0.N) (a : Fin 8) : Fin 4096 := ⟨min ((t.val % 4 + 1) * 128) 511 * 8 + a.val, by omega⟩

theorem V_main_v34 (c : Dev nD) : (V m c main_v34 : FVec Ideal S8x3072 .f32) =
    pad S8x3072 ![0, 0] ![4, 0] ![0, 0] (cw m c) (sitofp .f32 (constantI S_ 32 0#32) : FVec Ideal S_ .f32) pads_S4x3072_S8x3072_040_000 h_S_ := by rfl

theorem blk0 (c : Dev nD) (t : Fin cfg0.N) (r : Fin 1024) (k : Fin 1024) : (iblk m c 0 t : Vec Ideal S1024x1024 .f32) (ix2 r k) = da m c (ix2 (row t r) (col t k)) := by
  blk_ext! [iblk, V_main_arg0, at0 t]
theorem blk1 (c : Dev nD) (t : Fin cfg0.N) (r : Fin 8) (k : Fin 1024) : (iblk m c 1 t : Vec Ideal S8x1024 .f32) (ix2 r k) = da m c (ix2 (nxt t r) (col t k)) := by
  blk_ext! [iblk, V_main_arg0, at1 t]
theorem blk2 (c : Dev nD) (t : Fin cfg0.N) (r : Fin 1024) (k : Fin 1024) : (iblk m c 2 t : Vec Ideal S1024x1024 .f32) (ix2 r k) = ps m c (ix2 (row t r) (col t k)) := by
  blk_ext! [iblk, at2 t]
theorem blk3 (c : Dev nD) (t : Fin cfg0.N) (r : Fin 8) (k : Fin 1024) : (iblk m c 3 t : Vec Ideal S8x1024 .f32) (ix2 r k) = ps m c (ix2 (nxt t r) (col t k)) := by
  blk_ext! [iblk, at3 t]
theorem blk4 (c : Dev nD) (t : Fin cfg0.N) (r : Fin 1024) (k : Fin 1024) : (iblk m c 4 t : Vec Ideal S1024x1024 .f32) (ix2 r k) = xs m c (ix2 (row t r) (col t k)) := by
  blk_ext! [iblk, V_main_arg1, at4 t]
theorem blk5 (c : Dev nD) (t : Fin cfg0.N) (a : Fin 8) (k : Fin 1024) (h : a.val < 4) : (iblk m c 5 t : Vec Ideal S8x1024 .f32) (ix2 a k) = cw m c (ix2 ⟨a.val, h⟩ (col t k)) := by
  have e : (iblk m c 5 t : Vec Ideal S8x1024 .f32) (ix2 a k) = (V m c main_v34 : FVec Ideal S8x3072 .f32) (ix2 a (col t k)) := by
    blk_ext! [iblk, at5 t]
  rw [e, V_main_v34]
  pointwise []
  exact dif_pos ⟨h, (col t k).isLt⟩
theorem blk6 (c : Dev nD) (t : Fin cfg0.N) (r : Fin 1024) (d : Fin 1024) : (iblk m c 6 t : Vec Ideal S1024x1024 .bf16) (ix2 r d) = us m c (ix2 (row t r) d) := by
  blk_ext! [iblk, V_main_arg4, at6 t]

/-! ## The kernel's values on a block -/

/-- A block `s` rows ahead, going on into the rows `N` after it. -/
def up (s : Nat) (D : FVec Ideal S1024x1024 .f32) (N : FVec Ideal S8x1024 .f32) (r : Fin 1024) (k : Fin 1024) : EReal :=
  if h : r.val + s < 1024 then D (ix2 ⟨r.val + s, h⟩ k) else if h' : r.val + s - 1024 < 8 then N (ix2 ⟨r.val + s - 1024, h'⟩ k) else 0

variable (D : FVec Ideal S1024x1024 .f32) (N : FVec Ideal S8x1024 .f32) (X : FVec Ideal S1024x1024 .f32) (r : Fin 1024) (k : Fin 1024)

theorem pay6_at (A P : Vec Ideal S1024x1024 .f32) : k0_pay6 A P (ix2 r k) = A (ix2 r k) * (sigm (P (ix2 r k)) * (1 + P (ix2 r k) * (1 - sigm (P (ix2 r k))))) := by
  pointwise [k0_pay6]
  simp only [one_f32, sigm_zero_sub]

theorem pay10_at (b : BitVec 1) (A P : Vec Ideal S8x1024 .f32) (a : Fin 8) : k0_pay10 b A (k0_pay8 P) (k0_pay9 P) (ix2 a k)
    = if b = 1#1 then A (ix2 a k) * (sigm (P (ix2 a k)) * (1 + P (ix2 a k) * (1 - sigm (P (ix2 a k))))) else 0 := by
  pointwise [k0_pay10, k0_pay9, k0_pay8, k0_pay7]
  simp only [one_f32, sigm_zero_sub]
  rfl

/-- The comparison of a row's number in a block of eight. -/
theorem sge_eight : ∀ a n : Fin 8, IntOp.cmpi CmpIPredicate.sge (BitVec.ofNat 32 a.val) (BitVec.ofNat 32 n.val) = if n.val ≤ a.val then 1#1 else 0#1 := by decide

/-- The kernel's shift: the block rotated, its last eight rows completed from the eight rows after it, rotated too. -/
theorem shift_eq (s : Nat) (h0 : 0 < s) (hs : s < 8) (q : BitVec 32) (hq : q = BitVec.ofNat 32 (8 - s)) (i1 i3 : Fin 1024) (i2 : Fin 8)
    (h1 : i1.val = (r.val + s) % 1024) (h3 : 1016 ≤ r.val → i3.val = (r.val + s) % 1024) (h2 : 1016 ≤ r.val → i2.val = (r.val - 1016 + s) % 8) :
    (if h : r.val < 1016 then D (ix2 i1 k) else
      Scalar.select (IntOp.cmpi CmpIPredicate.sge (BitVec.ofNat 32 (r.val - 1016)) q) (N (ix2 i2 k)) (D (ix2 i3 k))) = up s D N r k := by
  have hr := r.isLt
  subst hq
  unfold up
  split
  · next h =>
    rw [dif_pos (by omega : r.val + s < 1024)]
    exact congrArg (fun i => D (ix2 i k)) (Fin.ext (h1.trans (Nat.mod_eq_of_lt (by omega))))
  · next h =>
    rw [sge_eight ⟨r.val - 1016, by omega⟩ ⟨8 - s, by omega⟩]
    by_cases h' : r.val + s < 1024
    · rw [if_neg (by show ¬ 8 - s ≤ r.val - 1016; omega), dif_pos h']
      exact congrArg (fun i => D (ix2 i k)) (Fin.ext ((h3 (by omega)).trans (Nat.mod_eq_of_lt h')))
    · rw [if_pos (by show 8 - s ≤ r.val - 1016; omega), dif_neg h', dif_pos (by omega)]
      exact congrArg (fun i => N (ix2 i k)) (Fin.ext ((h2 (by omega)).trans (by show _ = r.val + s - 1024; omega)))

theorem pay13_at (b : BitVec 1) (A P Q : FVec Ideal S8x1024 .f32) : k0_pay13 D b A P Q (ix2 r k) = up 3 D (k0_pay10 b A P Q) r k := by
  rw [← shift_eq D (k0_pay10 b A P Q) r k 3 (by decide) (by decide) 5#32 rfl ⟨_, Nat.mod_lt _ (by decide)⟩ ⟨_, Nat.mod_lt _ (by decide)⟩ ⟨_, Nat.mod_lt _ (by decide)⟩ rfl (fun _ => rfl) (fun _ => rfl)]
  pointwise [k0_pay13]
  exact dite_congr rfl (fun _ => rfl) fun h => congrArg _ (congrArg (fun i => D (ix2 i k)) (Fin.ext (by simp; omega)))

theorem pay17_at : k0_pay17 N (k0_pay16 D) 6#32 (ix2 r k) = up 2 D N r k := by
  rw [← shift_eq D N r k 2 (by decide) (by decide) 6#32 rfl ⟨_, Nat.mod_lt _ (by decide)⟩ ⟨_, Nat.mod_lt _ (by decide)⟩ ⟨_, Nat.mod_lt _ (by decide)⟩ rfl (fun _ => rfl) (fun _ => rfl)]
  pointwise [k0_pay17, k0_pay16]
  exact dite_congr rfl (fun _ => rfl) fun h => congrArg _ (congrArg (fun i => D (ix2 i k)) (Fin.ext (by simp; omega)))

theorem pay19_at : k0_pay19 D N (ix2 r k) = up 1 D N r k := by
  rw [← shift_eq D N r k 1 (by decide) (by decide) 7#32 rfl ⟨_, Nat.mod_lt _ (by decide)⟩ ⟨_, Nat.mod_lt _ (by decide)⟩ ⟨_, Nat.mod_lt _ (by decide)⟩ rfl (fun _ => rfl) (fun _ => rfl)]
  pointwise [k0_pay19]
  exact dite_congr rfl (fun _ => rfl) fun h => congrArg _ (congrArg (fun i => D (ix2 i k)) (Fin.ext (by simp; omega)))

/-! The accumulated rows, from what they held. -/

variable (acc : Vec Ideal S1x1024 .f32) (z : Fin 1)

theorem pay12_at : k0_pay12 D X acc (ix2 z k) = acc (ix2 z k) + ∑ r : Fin 1024, D (ix2 r k) * X (ix2 r k) := by
  pointwise [k0_pay12]

theorem pay14_at (b : BitVec 1) (A P Q : FVec Ideal S8x1024 .f32) :
    k0_pay14 D b A P Q X acc (ix2 z k) = acc (ix2 z k) + ∑ r : Fin 1024, up 3 D (k0_pay10 b A P Q) r k * X (ix2 r k) := by
  pointwise [k0_pay14]
  simp only [pay13_at]

theorem pay18_at : k0_pay18 N X (k0_pay16 D) 6#32 acc (ix2 z k) = acc (ix2 z k) + ∑ r : Fin 1024, up 2 D N r k * X (ix2 r k) := by
  pointwise [k0_pay18]
  simp only [pay17_at]

theorem pay20_at : k0_pay20 D N X acc (ix2 z k) = acc (ix2 z k) + ∑ r : Fin 1024, up 1 D N r k * X (ix2 r k) := by
  pointwise [k0_pay20]
  simp only [pay19_at]

theorem pay1_at : k0_pay1 D (k0_pay22 acc) (ix2 z k) = acc (ix2 z k) + ∑ r : Fin 1024, D (ix2 r k) := by
  pointwise [k0_pay1, k0_pay22]

/-- The input's gradient on a block. -/
theorem pay21_at (b : BitVec 1) (A P Q : FVec Ideal S8x1024 .f32) (W : Vec Ideal S8x1024 .f32) :
    k0_pay21 D (k0_pay10 b A P Q) (k0_pay11 W) (k0_pay15 D b A P Q W) (k0_pay16 D) 6#32 (ix2 r k)
      = D (ix2 r k) * W (ix2 3 k) + up 3 D (k0_pay10 b A P Q) r k * W (ix2 0 k) + up 2 D (k0_pay10 b A P Q) r k * W (ix2 1 k) + up 1 D (k0_pay10 b A P Q) r k * W (ix2 2 k) := by
  pointwise [k0_pay21, k0_pay15, k0_pay11]
  simp only [pay13_at, pay17_at, pay19_at]

theorem pay3_at (acc : Vec Ideal S1024x1024 .f32) (U : Vec Ideal S1024x1024 .bf16) (d : Fin 1024) :
    k0_pay3 D acc U (ix2 d k) = acc (ix2 d k) + ∑ r : Fin 1024, U (ix2 r d) * D (ix2 r k) := by
  pointwise [k0_pay3, k0_pay2]

/-- The cotangent of the convolution's output on a block, and on the eight rows after it (zero after the last). -/
abbrev DB (c : Dev nD) (t : Fin cfg0.N) : FVec Ideal S1024x1024 .f32 := k0_pay6 (iblk m c 0 t) (iblk m c 2 t)
abbrev NB (c : Dev nD) (t : Fin cfg0.N) : FVec Ideal S8x1024 .f32 :=
  k0_pay10 (Scalar.cmpi CmpIPredicate.slt (BitVec.ofNat 32 (grid0.coords t 1)) 3#32) (iblk m c 1 t) (k0_pay8 (iblk m c 3 t)) (k0_pay9 (iblk m c 3 t))

theorem DB_at (c : Dev nD) (t : Fin cfg0.N) : DB m c t (ix2 r k) = dpre (da m c) (ps m c) (row t r) (col t k) := by
  rw [DB, pay6_at, blk0, blk2, dpre]

theorem not_last : ∀ t : Fin cfg0.N, Scalar.cmpi CmpIPredicate.slt (BitVec.ofNat 32 (grid0.coords t 1)) 3#32 = if t.val % 4 < 3 then 1#1 else 0#1 :=
  (by decide +kernel : ∀ t : Fin grid0.N, _)

theorem NB_at (c : Dev nD) (t : Fin cfg0.N) (a : Fin 8) : NB m c t (ix2 a k) = if t.val % 4 < 3 then dpre (da m c) (ps m c) (nxt t a) (col t k) else 0 := by
  rw [NB, pay10_at, blk1, blk3, not_last, dpre]
  by_cases h : t.val % 4 < 3
  · rw [if_pos h, if_pos rfl, if_pos h]
  · rw [if_neg h, if_neg (by decide), if_neg h]

/-- The kernel's shifted block is the sequence looked at ahead. -/
theorem up_at (c : Dev nD) (t : Fin cfg0.N) (s : Nat) (hs : s ≤ 3) : up s (DB m c t) (NB m c t) r k = ahead s (chan (da m c) (ps m c) (col t k)) (row t r) := by
  have hr := r.isLt
  unfold up ahead
  by_cases h : r.val + s < 1024
  · rw [dif_pos h, dif_pos (by show t.val % 4 * 1024 + r.val + s < 4096; omega), DB_at]
    exact congrArg (fun i => dpre _ _ i _) (Fin.ext (Nat.add_assoc _ _ _).symm)
  · rw [dif_neg h, dif_pos (by omega : r.val + s - 1024 < 8), NB_at]
    by_cases h' : t.val % 4 < 3
    · rw [if_pos h', dif_pos (by show t.val % 4 * 1024 + r.val + s < 4096; omega)]
      exact congrArg (fun i => dpre _ _ i _) (Fin.ext (by show min ((t.val % 4 + 1) * 128) 511 * 8 + (r.val + s - 1024) = t.val % 4 * 1024 + r.val + s; omega))
    · rw [if_neg h', dif_neg (by show ¬ t.val % 4 * 1024 + r.val + s < 4096; omega)]

/-! ## What a point leaves -/

/-- The input's gradient on a block. -/
abbrev XB (c : Dev nD) (t : Fin cfg0.N) : FVec Ideal S1024x1024 .f32 :=
  k0_pay21 (DB m c t) (NB m c t) (k0_pay11 (iblk m c 5 t))
    (k0_pay15 (DB m c t) (Scalar.cmpi CmpIPredicate.slt (BitVec.ofNat 32 (grid0.coords t 1)) 3#32) (iblk m c 1 t) (k0_pay8 (iblk m c 3 t)) (k0_pay9 (iblk m c 3 t)) (iblk m c 5 t))
    (k0_pay16 (DB m c t)) 6#32

theorem XB_at (c : Dev nD) (t : Fin cfg0.N) : XB m c t (ix2 r k) = dIn (da m c) (ps m c) (cw m c) (row t r) (col t k) := by
  rw [XB, NB, pay21_at, ← NB, up_at m r k c t 3 (by decide), up_at m r k c t 2 (by decide), up_at m r k c t 1 (by decide), DB_at, dIn,
    blk5 m c t 3 k (by decide), blk5 m c t 0 k (by decide), blk5 m c t 1 k (by decide), blk5 m c t 2 k (by decide)]
  rfl

theorem rows_at (c : Dev nD) (t : Fin cfg0.N) : (outsAt0 m c t.val t.isLt).1 (ix2 r k) = dIn (da m c) (ps m c) (cw m c) (row t r) (col t k) := by
  have e : (outsAt0 m c t.val t.isLt).1 = k0_pay2 (XB m c t) := by
    by_cases h : t.val % 4 = 0
    · rw [outsAt0_A m c t h]; frame_out
    · rw [outsAt0_B m c t h]; frame_out
  rw [e, ← XB_at]
  pointwise [k0_pay2]

/-- Point `t`'s part of the taps' and the bias' gradients. -/
def part (c : Dev nD) (t : Fin cfg0.N) (i : S8x1024.Idx) : EReal :=
  if (i 0).val < 4 then ∑ r : Fin 1024, ahead (3 - (i 0).val) (chan (da m c) (ps m c) (col t (i 1))) (row t r) * xs m c (ix2 (row t r) (col t (i 1)))
  else if (i 0).val = 4 then ∑ r : Fin 1024, dpre (da m c) (ps m c) (row t r) (col t (i 1))
  else 0

theorem five : ∀ a : Fin 8, a = 0 ∨ a = 1 ∨ a = 2 ∨ a = 3 ∨ a = 4 ∨ 4 < a.val := by decide

theorem part_tap (c : Dev nD) (t : Fin cfg0.N) (a : Fin 8) (h : a.val < 4) : part m c t (ix2 a k)
    = ∑ r : Fin 1024, ahead (3 - a.val) (chan (da m c) (ps m c) (col t k)) (row t r) * xs m c (ix2 (row t r) (col t k)) := if_pos h

theorem part_bias (c : Dev nD) (t : Fin cfg0.N) : part m c t (ix2 4 k) = ∑ r : Fin 1024, dpre (da m c) (ps m c) (row t r) (col t k) :=
  (if_neg (by show ¬ (4 : Fin 8).val < 4; decide)).trans (if_pos rfl)

/-- The payloads of the five accumulated rows, over the point's blocks. -/
theorem acc_rows (c : Dev nD) (t : Fin cfg0.N) (acc : Vec Ideal S1x1024 .f32) (z : Fin 1) :
    k0_pay12 (DB m c t) (iblk m c 4 t) acc (ix2 z k) = acc (ix2 z k) + part m c t (ix2 3 k)
    ∧ k0_pay14 (DB m c t) (Scalar.cmpi CmpIPredicate.slt (BitVec.ofNat 32 (grid0.coords t 1)) 3#32) (iblk m c 1 t) (k0_pay8 (iblk m c 3 t)) (k0_pay9 (iblk m c 3 t)) (iblk m c 4 t) acc (ix2 z k)
      = acc (ix2 z k) + part m c t (ix2 0 k)
    ∧ k0_pay18 (NB m c t) (iblk m c 4 t) (k0_pay16 (DB m c t)) 6#32 acc (ix2 z k) = acc (ix2 z k) + part m c t (ix2 1 k)
    ∧ k0_pay20 (DB m c t) (NB m c t) (iblk m c 4 t) acc (ix2 z k) = acc (ix2 z k) + part m c t (ix2 2 k)
    ∧ k0_pay1 (DB m c t) (k0_pay22 acc) (ix2 z k) = acc (ix2 z k) + part m c t (ix2 4 k) := by
  refine ⟨?_, ?_, ?_, ?_, ?_⟩
  · rw [pay12_at, part_tap m k c t 3 (by decide)]
    refine congrArg (_ + ·) (Finset.sum_congr rfl fun r _ => ?_)
    rw [DB_at, blk4]
    exact congrArg (· * _) (ahead_zero (chan (da m c) (ps m c) (col t k)) (row t r)).symm
  · rw [pay14_at, part_tap m k c t 0 (by decide)]
    refine congrArg (_ + ·) (Finset.sum_congr rfl fun r _ => ?_)
    rw [blk4]
    exact congrArg (· * _) (up_at m r k c t 3 (by decide))
  · rw [pay18_at, part_tap m k c t 1 (by decide)]
    refine congrArg (_ + ·) (Finset.sum_congr rfl fun r _ => ?_)
    rw [blk4]
    exact congrArg (· * _) (up_at m r k c t 2 (by decide))
  · rw [pay20_at, part_tap m k c t 2 (by decide)]
    refine congrArg (_ + ·) (Finset.sum_congr rfl fun r _ => ?_)
    rw [blk4]
    exact congrArg (· * _) (up_at m r k c t 1 (by decide))
  · rw [pay1_at, part_bias]
    exact congrArg (_ + ·) (Finset.sum_congr rfl fun r _ => DB_at m r k c t)

/-- The rows after the fifth get nothing. -/
theorem part_rest (c : Dev nD) (t : Fin cfg0.N) (a : Fin 8) (h : 4 < a.val) : part m c t (ix2 a k) = 0 :=
  (if_neg (by show ¬ a.val < 4; omega)).trans (if_neg (by show ¬ a.val = 4; omega))

theorem not_in (a : Fin 8) (h : 4 < a.val) (o : Nat) (ho : o ≤ 4) : ¬ In o 0 1 1024 a.val k.val := fun hi => by
  have := hi.1.2
  omega

theorem taps_reset (c : Dev nD) (t : Fin cfg0.N) (h : t.val % 4 = 0) (a : Fin 8) : (outsAt0 m c t.val t.isLt).2.1 (ix2 a k) = 0 + part m c t (ix2 a k) := by
  rw [outsAt0_A m c t h]; frame_out
  have hb := k.isLt
  have hz : ∀ i, (k0_pay4 : FVec Ideal S8x1024 .f32) i = 0 := fun i => by
    pointwise [k0_pay4]
  rcases five a with rfl | rfl | rfl | rfl | rfl | ha
  · simp [canon_piece, readCov_piece, acc_rows, loc, In, hb, hz]
  · simp [canon_piece, readCov_piece, acc_rows, loc, In, hb, hz]
  · simp [canon_piece, readCov_piece, acc_rows, loc, In, hb, hz]
  · simp [canon_piece, readCov_piece, acc_rows, loc, In, hb, hz]
  · simp [canon_piece, readCov_piece, acc_rows, loc, In, hb, hz]
  · rw [part_rest m k c t a ha, canon_piece, dif_neg (not_in k a ha 4 (by decide)), canon_piece, dif_neg (not_in k a ha 2 (by decide)),
      canon_piece, dif_neg (not_in k a ha 1 (by decide)), canon_piece, dif_neg (not_in k a ha 0 (by decide)), canon_piece, dif_neg (not_in k a ha 3 (by decide)),
      canon_piece, dif_pos (by simp [In, hb]), hz, zero_add]

theorem taps_step (c : Dev nD) (t : Fin cfg0.N) (h : ¬t.val % 4 = 0) (a : Fin 8) : (outsAt0 m c t.val t.isLt).2.1 (ix2 a k)
    = (outsAt0 m c (t.val - 1) (Nat.lt_of_le_of_lt (Nat.sub_le _ _) t.isLt)).2.1 (ix2 a k) + part m c t (ix2 a k) := by
  rw [outsAt0_B m c t h]; frame_out
  simp only [read_piece, acc_rows, loc]
  have hb := k.isLt
  rcases five a with rfl | rfl | rfl | rfl | rfl | ha
  · simp [In, hb]
    exact congrArg (· + _) (ld_at _ _ 0 k 0 k rfl (Nat.zero_add _).symm)
  · simp [In, hb]
    exact congrArg (· + _) (ld_at _ _ 0 k 1 k rfl (Nat.zero_add _).symm)
  · simp [In, hb]
    exact congrArg (· + _) (ld_at _ _ 0 k 2 k rfl (Nat.zero_add _).symm)
  · simp [In, hb]
    exact congrArg (· + _) (ld_at _ _ 0 k 3 k rfl (Nat.zero_add _).symm)
  · simp [In, hb]
    exact congrArg (· + _) (ld_at _ _ 0 k 4 k rfl (Nat.zero_add _).symm)
  · rw [part_rest m k c t a ha, add_zero, dif_neg (not_in k a ha 4 (by decide)), dif_neg (not_in k a ha 2 (by decide)), dif_neg (not_in k a ha 1 (by decide)),
      dif_neg (not_in k a ha 0 (by decide)), dif_neg (not_in k a ha 3 (by decide))]
    simp [Memref.IsWhole.read_unread]

/-- The block's sums where it is written back. -/
theorem taps_flush (c : Dev nD) (t : Fin cfg0.N) (h : t.val % 4 = 4 - 1) (i : S8x1024.Idx) : (outsAt0 m c t.val t.isLt).2.1 i
    = 0 + ∑ s : Fin 4, part m c ⟨4 * (t.val / 4) + s.val, Pipeline.run_point_lt_of_flush t h s⟩ i :=
  Pipeline.eq_sum_fin_of_reset_step_apply_of_flush (fun n h => (outsAt0 m c n h).2.1) 4 (fun _ => 0) (part m c)
    (fun t h j => by obtain ⟨a, b, rfl⟩ := pair j; exact taps_reset m b c t h a)
    (fun t h j => by obtain ⟨a, b, rfl⟩ := pair j; exact taps_step m b c t h a) t h i

/-- Point `t`'s part of the weights' gradient. -/
def wPart (c : Dev nD) (t : Fin cfg0.N) (i : S1024x1024.Idx) : EReal :=
  ∑ r : Fin 1024, us m c (ix2 (row t r) (i 0)) * dIn (da m c) (ps m c) (cw m c) (row t r) (col t (i 1))

theorem pay3_rows (c : Dev nD) (t : Fin cfg0.N) (acc : Vec Ideal S1024x1024 .f32) (d : Fin 1024) :
    k0_pay3 (XB m c t) acc (iblk m c 6 t) (ix2 d k) = acc (ix2 d k) + wPart m c t (ix2 d k) := by
  rw [pay3_at, wPart]
  simp only [blk6, XB_at]
  rfl

theorem weights_flush (c : Dev nD) (t : Fin cfg0.N) (h : t.val % 4 = 4 - 1) (i : S1024x1024.Idx) : (outsAt0 m c t.val t.isLt).2.2 i
    = 0 + ∑ s : Fin 4, wPart m c ⟨4 * (t.val / 4) + s.val, Pipeline.run_point_lt_of_flush t h s⟩ i :=
  Pipeline.eq_sum_fin_of_reset_step_apply_of_flush (fun n h => (outsAt0 m c n h).2.2) 4 (fun _ => 0) (wPart m c)
    (fun t h j => by
      obtain ⟨a, b, rfl⟩ := pair j
      rw [outsAt0_A m c t h]; frame_out
      refine (pay3_rows m b c t _ a).trans (congrArg (· + _) ?_)
      pointwise [k0_pay5])
    (fun t h j => by
      obtain ⟨a, b, rfl⟩ := pair j
      rw [outsAt0_B m c t h]; frame_out
      exact pay3_rows m b c t _ a) t h i

/-! ## The result arrays -/

theorem final7 (c : Dev nD) : (dats m 0 c).arrAt 7 cfg0.N = (fun i => dIn (da m c) (ps m c) (cw m c) (i 0) (i 1) : Arr 4096 3072) := by
  refine (dats m 0 c).arrAt_eq_of_covers 7 _ (by decide +kernel) fun t hf j => ?_
  blk_simp
  rw [after0_7]
  obtain ⟨a, b, rfl⟩ := pair j
  rw [rows_at]
  refine congrArg₂ (dIn _ _ _) (Fin.ext ?_) (Fin.ext ?_) <;> blk_simp [at7 t]
  all_goals rfl

/-- The four row blocks of a run of points are the 4096 rows. -/
theorem sum_run (t : Fin cfg0.N) (h : t.val % 4 = 4 - 1) (f : Fin 4096 → EReal) :
    (0 : EReal) + ∑ s : Fin 4, ∑ r : Fin 1024, f (row ⟨4 * (t.val / 4) + s.val, Pipeline.run_point_lt_of_flush t h s⟩ r) = ∑ r, f r := by
  rw [zero_add]
  exact Fin.sum_mul_add_congr (fun s r hl => congrArg f (Fin.ext (by show (4 * (t.val / 4) + s.val) % 4 * 1024 + r.val = s.val * 1024 + r.val; omega))) (by decide +kernel)

theorem col_run (t : Fin cfg0.N) (h : t.val % 4 = 4 - 1) (s : Fin 4) (k : Fin 1024) :
    col ⟨4 * (t.val / 4) + s.val, Pipeline.run_point_lt_of_flush t h s⟩ k = col t k :=
  Fin.ext (by show (4 * (t.val / 4) + s.val) / 4 * 1024 + k.val = t.val / 4 * 1024 + k.val; omega)

theorem taps_sum (c : Dev nD) (t : Fin cfg0.N) (h : t.val % 4 = 4 - 1) (a : Fin 8) :
    0 + ∑ s : Fin 4, part m c ⟨4 * (t.val / 4) + s.val, Pipeline.run_point_lt_of_flush t h s⟩ (ix2 a k) = dTaps (da m c) (ps m c) (xs m c) a (col t k) := by
  unfold part dTaps
  show (0 + ∑ s : Fin 4, if a.val < 4 then _ else if a.val = 4 then _ else 0) = _
  split
  · refine Eq.trans ?_ (sum_run t h fun r => ahead (3 - a.val) (chan (da m c) (ps m c) (col t k)) r * xs m c (ix2 r (col t k)))
    exact congrArg (0 + ·) (Finset.sum_congr rfl fun s _ => by rw [← col_run t h s k]; rfl)
  split
  · refine Eq.trans ?_ (sum_run t h fun r => dpre (da m c) (ps m c) r (col t k))
    exact congrArg (0 + ·) (Finset.sum_congr rfl fun s _ => by rw [← col_run t h s k]; rfl)
  · simp

theorem final8 (c : Dev nD) : (dats m 0 c).arrAt 8 cfg0.N = (fun i => dTaps (da m c) (ps m c) (xs m c) (i 0) (i 1) : Arr 8 3072) := by
  refine (dats m 0 c).arrAt_eq_of_covers 8 _ (by decide +kernel) fun t hf j => ?_
  have h : t.val % 4 = 4 - 1 := (flush0_8 t).mp hf
  blk_simp
  rw [after0_8]
  obtain ⟨a, b, rfl⟩ := pair j
  rw [taps_flush m c t h, taps_sum m b c t h]
  refine congrArg₂ (dTaps _ _ _) (Fin.ext ?_) (Fin.ext ?_) <;> blk_simp [at8 t]
  all_goals rfl

theorem weights_sum (c : Dev nD) (t : Fin cfg0.N) (h : t.val % 4 = 4 - 1) (d : Fin 1024) :
    0 + ∑ s : Fin 4, wPart m c ⟨4 * (t.val / 4) + s.val, Pipeline.run_point_lt_of_flush t h s⟩ (ix2 d k) = dProj (da m c) (ps m c) (cw m c) (us m c) d (col t k) := by
  unfold wPart dProj
  refine Eq.trans ?_ (sum_run t h fun r => us m c (ix2 r d) * dIn (da m c) (ps m c) (cw m c) r (col t k))
  exact congrArg (0 + ·) (Finset.sum_congr rfl fun s _ => by rw [← col_run t h s k]; rfl)

theorem final9 (c : Dev nD) : (dats m 0 c).arrAt 9 cfg0.N = (fun i => dProj (da m c) (ps m c) (cw m c) (us m c) (i 0) (i 1) : Arr 1024 3072) := by
  refine (dats m 0 c).arrAt_eq_of_covers 9 _ (by decide +kernel) fun t hf j => ?_
  have h : t.val % 4 = 4 - 1 := (flush0_9 t).mp hf
  blk_simp
  rw [after0_9]
  obtain ⟨a, b, rfl⟩ := pair j
  rw [weights_flush m c t h, weights_sum m b c t h]
  refine congrArg₂ (dProj _ _ _ _) (Fin.ext ?_) (Fin.ext ?_) <;> blk_simp [at9 t]
  all_goals rfl

end Cert.Kernel4Ideal.Conv

end
-- ==== Proof.ConvReference.lean ====
/-
  WHAT THE CONVOLUTION'S REFERENCE COMPUTES, at an element. Differentiating the shifted products gives sums over the
  sequence with zeros put before it; they are the specification's sums seen from the other side. The gradient of `silu`
  comes out by the product rule.
-/
module

public import proofs.«01_k».proof.Proof.Gen.Reference4Ideal.Read
public import proofs.«01_k».proof.Proof.ConvSpec

@[expose] public section

noncomputable section

namespace Cert.Reference4Ideal.Conv

open Cert.Reference4Ideal Cert.Reference4Ideal.Gen Cert.Reference4Ideal.Read Cert.GateSpec Cert.ConvSpec Idealize.ShloMosaic

variable (da x : Arr 4096 3072) (w : Arr 4 3072) (b : (⟨1, ![3072]⟩ : Shape).Idx → EReal) (u : Arr 4096 1024)

/-- The convolution's output. -/
abbrev P : Arr 4096 3072 := val_main_v34 (F := Ideal) x w b

/-- The cotangent of the convolution's output by the product rule. -/
def dAuto (r : Fin 4096) (k : Fin 3072) : EReal :=
  da (ix2 r k) * sigm (P x w b (ix2 r k)) + P x w b (ix2 r k) * da (ix2 r k) * (sigm (P x w b (ix2 r k)) * (1 - sigm (P x w b (ix2 r k))))

theorem dpre_eq (r : Fin 4096) (k : Fin 3072) : val_main_v36 (F := Ideal) da x w b (ix2 r k) = dAuto da x w b r k := by
  pointwise [val_main_v36, val_main_call1_v0, val_main_call1_v1, val_main_call1_v2, val_main_v35_1, val_main_v35_2, val_main_call0_v7, val_main_call0_v6, val_main_call0_cst_1,
    val_main_call0_v4, val_main_call0_cst_0, val_main_call0_v3, val_main_call0_v2, val_main_call0_cst, val_main_call0_v1, val_main_call0_v0, dAuto, sigm]

/-- The sequence with three zeros before it, read `s` places on. -/
theorem pad_eq (r : Fin 4099) (k : Fin 3072) : val_main_v1 (F := Ideal) x (ix2 r k) = if h : r.val < 3 then 0 else x (ix2 ⟨r.val - 3, by omega⟩ k) := by
  pointwise [val_main_v1, val_main_v0, val_main_cst]

/-- A channel of the cotangent as a sequence. -/
abbrev chanAuto (k : Fin 3072) (r : Fin 4096) : EReal := dAuto da x w b r k

theorem dIn_eq (r : Fin 4096) (k : Fin 3072) : val_main_v83 (F := Ideal) da x w b (ix2 r k)
    = dAuto da x w b r k * w (ix2 3 k) + ahead 1 (chanAuto da x w b k) r * w (ix2 2 k) + ahead 2 (chanAuto da x w b k) r * w (ix2 1 k)
      + ahead 3 (chanAuto da x w b k) r * w (ix2 0 k) := by
  have ha : ∀ (s : Nat) (v : EReal), ahead s (chanAuto da x w b k) r * v = if h : r.val + s < 4096 then dAuto da x w b ⟨r.val + s, h⟩ k * v else 0 := fun s v => by
    unfold ahead
    split
    · rfl
    · exact zero_mul _
  rw [ha, ha, ha]
  pointwise [val_main_v83, val_main_v81, val_main_v80, val_main_v75, val_main_v74, val_main_v6, val_main_v5, val_main_v4, val_main_v70, val_main_v69, val_main_v64, val_main_v63, val_main_v14, val_main_v13,
    val_main_v12, val_main_v59, val_main_v58, val_main_v53, val_main_v52, val_main_v21, val_main_v20, val_main_v19, val_main_v48, val_main_v44, val_main_v43, val_main_v28, val_main_v27, val_main_v26,
    val_main_cst_7, val_main_cst_11, val_main_cst_15, val_main_cst_19]
  simp only [dpre_eq]
  have g : ∀ (i j : Nat) (hi : i < 4096) (hj : j < 4096) (v : EReal), i = j → dAuto da x w b ⟨i, hi⟩ k * v = dAuto da x w b ⟨j, hj⟩ k * v := by
    rintro i _ _ _ _ rfl
    rfl
  refine congrArg₂ (· + ·) (congrArg₂ (· + ·) (congrArg₂ (· + ·) rfl ?_) ?_) ?_
  · exact dite_congr (propext (by omega)) (fun _ => g _ _ _ _ _ (by omega)) fun _ => rfl
  · exact dite_congr (propext (by omega)) (fun _ => g _ _ _ _ _ (by omega)) fun _ => rfl
  · exact dite_congr (propext (by omega)) (fun _ => g _ _ _ _ _ (by omega)) fun _ => rfl

/-- A tap's gradient: the padded input read `o` places on, times the cotangent. -/
theorem tap_eq (o : Nat) (ho : o ≤ 3) (k : Fin 3072) :
    (∑ r : Fin 4096, val_main_v1 (F := Ideal) x (ix2 ⟨o + r.val, by omega⟩ k) * dAuto da x w b r k) = ∑ r : Fin 4096, ahead (3 - o) (chanAuto da x w b k) r * x (ix2 r k) := by
  refine Eq.trans (Finset.sum_congr rfl fun r _ => ?_) ((behind_ahead (3 - o) (fun r => x (ix2 r k)) (chanAuto da x w b k)).trans (Finset.sum_congr rfl fun r _ => mul_comm _ _))
  refine congrArg (· * _) ?_
  rw [pad_eq]
  unfold behind
  by_cases h : o + r.val < 3
  · rw [dif_pos h, if_neg (by omega)]
  · rw [dif_neg h, if_pos (by omega)]
    exact congrArg (fun i => x (ix2 i k)) (Fin.ext (by show o + r.val - 3 = r.val - (3 - o); omega))

/-- The taps' and the bias' gradients by the chain rule. -/
def tapsAuto (a : Fin 8) (k : Fin 3072) : EReal :=
  if a.val < 4 then ∑ r : Fin 4096, ahead (3 - a.val) (chanAuto da x w b k) r * x (ix2 r k)
  else if a.val = 4 then ∑ r : Fin 4096, dAuto da x w b r k
  else 0

theorem taps_eq (a : Fin 8) (k : Fin 3072) : val_main_v92 (F := Ideal) da x w b (ix2 a k) = tapsAuto da x w b a k := by
  pointwise [val_main_v92, val_main_v91, val_main_cst_21, val_main_v90, val_main_v39, val_main_cst_3, val_main_v38, val_main_v37, val_main_cst_2,
    val_main_v79, val_main_v78, val_main_v77, val_main_v76, val_main_v73, val_main_v72, val_main_v71, val_main_v68, val_main_v67, val_main_v66, val_main_v65, val_main_v62, val_main_v61, val_main_v60,
    val_main_v57, val_main_v56, val_main_v55, val_main_v54, val_main_v51, val_main_v50, val_main_v49, val_main_v47, val_main_v46, val_main_v45, val_main_v42, val_main_v41, val_main_v40,
    val_main_cst_4, val_main_cst_5, val_main_cst_6, val_main_cst_8, val_main_cst_9, val_main_cst_10, val_main_cst_12, val_main_cst_13, val_main_cst_14, val_main_cst_16, val_main_cst_17, val_main_cst_18,
    val_main_v25, val_main_v18, val_main_v11, val_main_v3]
  simp only [dpre_eq, Fin.sum_univ_one]
  have t0 := tap_eq da x w b 0 (by decide) k
  have t1 := tap_eq da x w b 1 (by decide) k
  have t2 := tap_eq da x w b 2 (by decide) k
  have t3 := tap_eq da x w b 3 (by decide) k
  simp only [Nat.zero_add] at t0
  rw [t0, t1, t2, t3, tapsAuto]
  have h : a.val = 0 ∨ a.val = 1 ∨ a.val = 2 ∨ a.val = 3 ∨ a.val = 4 ∨ 4 < a.val := by omega
  rcases h with h | h | h | h | h | h
  · simp [h]
  · simp [h]
  · simp [h]
  · simp [h]
  · simp [h]
  · have h0 : ¬ a.val < 4 := by omega
    have h1 : ¬ a.val - 4 < 1 := by omega
    have h2 : ¬ a.val = 4 := by omega
    simp only [dif_neg h0, dif_neg h1, if_neg h0, if_neg h2]

theorem dProj_eq (d : Fin 1024) (k : Fin 3072) : val_main_v88 (F := Ideal) da x w b u (ix2 d k) = ∑ r : Fin 4096, val_main_v83 (F := Ideal) da x w b (ix2 r k) * u (ix2 r d) := by
  pointwise [val_main_v88, val_main_v87, val_main_v85]

theorem dX_eq (r : Fin 4096) (k : Fin 3072) : val_main_v89 (F := Ideal) da x w b (ix2 r k) = val_main_v83 (F := Ideal) da x w b (ix2 r k) := by
  pointwise [val_main_v89]

end Cert.Reference4Ideal.Conv

end
-- ==== Proof.ConvClaim.lean ====
/-
  THE CONVOLUTION'S GRADIENT: THE VALUE CLAIM. The kernel's three results and the reference's are the specification's
  arrays wherever the cotangent is real: there the product rule's two terms are the kernel's one.
-/
module

public import proofs.«01_k».proof.Proof.ConvBlocks
public import proofs.«01_k».proof.Proof.ConvReference
public import proofs.«01_k».proof.Proof.GateEquation
public import proofs.«01_k».proof.Proof.Gen.Reference4Ideal.Run
public import proofs.«01_k».proof.Proof.Gen.Pre_conv_finite
public import proofs.«01_k».proof.Defs
public import Idealize.ShloMosaic.Lib.Claim

@[expose] public section

noncomputable section

namespace Cert.Conv

open Cert.GateSpec Cert.ConvSpec Cert.Finite Cert.Reference4Ideal.Read Cert.Reference4Ideal.Conv Idealize.ShloMosaic Idealize.SL.Sem

attribute [local instance] Cert.Kernel4Ideal.Gen.facts Cert.Reference4Ideal.Gen.facts Cert.Pre_conv_finite.Gen.facts

variable (da x : Arr 4096 3072) (w : Arr 4 3072) (b : (⟨1, ![3072]⟩ : Shape).Idx → EReal) (u : Arr 4096 1024)

/-- The precondition says that the cotangent is real. -/
theorem real [Cert.Pre_conv_finite.Facts] (e : Cert.Pre_conv_finite.fn (F := Ideal) da x w b u = fun _ => 1#1) : ∃ D : (⟨2, ![4096, 3072]⟩ : Shape).Idx → ℝ, ∀ i, da i = (D i : EReal) := by
  have e0 := congrFun e (fun k => k.elim0)
  unfold Cert.Pre_conv_finite.fn at e0
  exact reals_of_all _ _ _ _ _ _ e0

/-- The product rule's cotangent is the kernel's. -/
theorem cotangent (h : ∃ D : (⟨2, ![4096, 3072]⟩ : Shape).Idx → ℝ, ∀ i, da i = (D i : EReal)) (r : Fin 4096) (k : Fin 3072) :
    dAuto da x w b r k = dpre da (P x w b) r k := by
  obtain ⟨D, hD⟩ := h
  rw [dAuto, dpre, hD]
  exact (Cert.Gate.dsilu _ _).symm

theorem rows (h : ∃ D : (⟨2, ![4096, 3072]⟩ : Shape).Idx → ℝ, ∀ i, da i = (D i : EReal)) (r : Fin 4096) (k : Fin 3072) :
    val_main_v83 (F := Ideal) da x w b (ix2 r k) = dIn da (P x w b) w r k := by
  rw [dIn_eq, dIn, cotangent da x w b h, show chanAuto da x w b k = chan da (P x w b) k from funext fun r => cotangent da x w b h r k,
    add_right_comm _ (ahead 2 _ r * _), add_right_comm _ (ahead 1 _ r * _), add_right_comm _ (ahead 1 _ r * _)]

theorem taps (h : ∃ D : (⟨2, ![4096, 3072]⟩ : Shape).Idx → ℝ, ∀ i, da i = (D i : EReal)) (a : Fin 8) (k : Fin 3072) :
    tapsAuto da x w b a k = dTaps da (P x w b) x a k := by
  unfold tapsAuto dTaps
  rw [show chanAuto da x w b k = chan da (P x w b) k from funext fun r => cotangent da x w b h r k]
  simp only [cotangent da x w b h]

/-- The kernel's host code computes the convolution's output as the reference does. -/
theorem same_output (m : (ℓ : Loc Cert.Kernel4Ideal.nD Cert.Kernel4Ideal.τ Cert.Kernel4Ideal.sig) → Buf (Elt Ideal) ℓ) (c : Dev Cert.Kernel4Ideal.nD) :
    Cert.Kernel4Ideal.Conv.ps m c = P (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)) := by
  rfl

theorem algebraic : Cert.algebraic_Kernel4Ideal_Reference4Ideal_pre_conv_finite := by
  pair_intro
  · run_from Cert.Kernel4Ideal.Value.run_blocks m g
  · refine θ_run_mono (Cert.Reference4Ideal.Value.run m' g') fun r h c => ?_
    obtain ⟨a0, a1, a2, a3, a4⟩ := hagree c
    have hd := real _ _ _ _ _ (hpre c)
    obtain ⟨h0, h1, h2, hk⟩ := h c
    refine ⟨h0.trans ?_, h1.trans ?_, h2.trans ?_, hk⟩
    · rw [val_main_v89_eq, a0, a1, a2, a3, Cert.Kernel4Ideal.Conv.final7, same_output]
      funext i
      obtain ⟨r, k, rfl⟩ := pair i
      exact (dX_eq _ _ _ _ r k).trans (rows _ _ _ _ hd r k)
    · rw [val_main_v92_eq, a0, a1, a2, a3, Cert.Kernel4Ideal.Conv.final8, same_output]
      funext i
      obtain ⟨a, k, rfl⟩ := pair i
      exact (taps_eq _ _ _ _ a k).trans (taps _ _ _ _ hd a k)
    · rw [val_main_v88_eq, a0, a1, a2, a3, a4, Cert.Kernel4Ideal.Conv.final9, same_output]
      funext i
      obtain ⟨d, k, rfl⟩ := pair i
      exact (dProj_eq _ _ _ _ _ d k).trans (Finset.sum_congr rfl fun r _ => (congrArg (· * _) (rows _ _ _ _ hd r k)).trans (mul_comm _ _))

end Cert.Conv

end
-- ==== Proof.LossSpec.lean ====
/-
  THE LAST LAYER'S END AND ITS GRADIENTS, at an element: the gated, grouped norm times the output weights on top of the
  weighted skip, a norm of each row, the squared distance from the target; and the gradients of the layer's sum, of the
  last norm's scale and shift, and of the output weights.
-/
module

public import proofs.«01_k».proof.Proof.GroupSpec

@[expose] public section

noncomputable section

namespace Cert.LossSpec

open Cert.GateSpec Cert.NormSpec Cert.GroupSpec Idealize.ShloMosaic

variable (y z : Arr 4096 2048) (nw : (⟨1, ![2048]⟩ : Shape).Idx → EReal) (w : Arr 2048 1024) (x : Arr 4096 1024)
  (g b : (⟨1, ![1024]⟩ : Shape).Idx → EReal) (tg : Arr 4096 1024)

/-- The grouped norm's output. -/
def act (r : Fin 4096) (e : Fin 2048) : EReal := nrm y z r e * nw (ix1 e)

/-- The layer's sum before its norm. -/
def sumRow (r : Fin 4096) (k : Fin 1024) : EReal := alpha * x (ix2 r k) + ∑ e : Fin 2048, act y z nw r e * w (ix2 e k)

/-- The sum less its mean. -/
def cn (r : Fin 4096) (k : Fin 1024) : EReal := cen len (fun l => sumRow y z nw w x r l) k

/-- The distance from the target. -/
def err (r : Fin 4096) (k : Fin 1024) : EReal := hat len eps (cn y z nw w x r) k * g (ix1 k) + b (ix1 k) - tg (ix2 r k)

/-- The cotangent of the layer's output. -/
def ct (r : Fin 4096) (k : Fin 1024) : EReal := Ideal.div (err y z nw w x g b tg r k) len

/-- The gradient of the layer's sum. -/
def dSum (r : Fin 4096) (k : Fin 1024) : EReal := backC len eps (cn y z nw w x r) (fun l => ct y z nw w x g b tg r l * g (ix1 l)) k

/-- The gradients of the last norm's scale and shift, in the rows 0 and 1 of eight. -/
def dNorm (a : Fin 8) (k : Fin 1024) : EReal :=
  if a.val = 0 then ∑ r : Fin 4096, ct y z nw w x g b tg r k * hat len eps (cn y z nw w x r) k
  else if a.val = 1 then ∑ r : Fin 4096, ct y z nw w x g b tg r k
  else 0

/-- Half the squared distance of a row's group of 512, over the row's length. -/
abbrev half : EReal := Ideal.ofBits .f32 0x3F000000#32

/-- The loss as the sum of eight blocks of rows. -/
def loss : EReal := ∑ t : Fin 8, Ideal.div (half * ∑ r : Fin 512, ∑ k : Fin 1024,
  err y z nw w x g b tg ⟨t.val * 512 + r.val, by omega⟩ k * err y z nw w x g b tg ⟨t.val * 512 + r.val, by omega⟩ k) len

/-- The gradient of the output weights. -/
def dW (e : Fin 2048) (k : Fin 1024) : EReal := ∑ r : Fin 4096, act y z nw r e * dSum y z nw w x g b tg r k

end Cert.LossSpec

end
-- ==== Proof.LossBlocks.lean ====
/-
  WHAT THE LAST LAYER'S KERNEL LEAVES. Each grid point takes 512 rows: it stores the gradient of their sums, adds their part
  of the norm's gradients to two rows of a block and of the loss to another, and collects the weights' gradient in a scratch
  buffer that the last point stores.
-/
module

public import proofs.«01_k».proof.Proof.Gen.Kernel5Ideal.Value
public import proofs.«01_k».proof.Proof.LossSpec
public import proofs.«01_k».proof.Proof.Pieces
public import Idealize.ShloMosaic.Lib.Pipeline.ReadBack
public import Idealize.ShloMosaic.Lib.Pipeline.ValueKit
public import Idealize.ShloMosaic.Lib.StableHlo.RunRead

@[expose] public section

noncomputable section

namespace Cert.Kernel5Ideal.Loss

open Cert.Kernel5Ideal Cert.Kernel5Ideal.Gen Cert.Kernel5Ideal.Value Cert.GateSpec Cert.NormSpec Cert.GroupSpec Cert.LossSpec Cert.Pieces Idealize.ShloMosaic Idealize.ShloMosaic.TcCoe Idealize.SL.Sem
open Idealize.ShloMosaic.Pipeline (Dat)

variable (m : (ℓ : Loc nD τ sig) → Buf (Elt Ideal) ℓ)

abbrev y (c : Dev nD) : Arr 4096 2048 := m ((c : Thread nD τ).loc main_arg0)
abbrev z (c : Dev nD) : Arr 4096 2048 := m ((c : Thread nD τ).loc main_arg1)
abbrev nw (c : Dev nD) : (⟨1, ![2048]⟩ : Shape).Idx → EReal := m ((c : Thread nD τ).loc main_arg2)
abbrev wo (c : Dev nD) : Arr 2048 1024 := m ((c : Thread nD τ).loc main_arg3)
abbrev x1 (c : Dev nD) : Arr 4096 1024 := m ((c : Thread nD τ).loc main_arg4)
abbrev gs (c : Dev nD) : (⟨1, ![1024]⟩ : Shape).Idx → EReal := m ((c : Thread nD τ).loc main_arg5)
abbrev bs (c : Dev nD) : (⟨1, ![1024]⟩ : Shape).Idx → EReal := m ((c : Thread nD τ).loc main_arg6)
abbrev tg (c : Dev nD) : Arr 4096 1024 := m ((c : Thread nD τ).loc main_arg7)

/-! ## Where each window's block lies -/

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![t.val, 0] := (by decide +kernel : ∀ t : Fin grid0.N, _)
theorem at8 : ∀ t : Fin cfg0.N, win0_8.index t = ![t.val, 0] := (by decide +kernel : ∀ t : Fin grid0.N, _)
theorem at9 : ∀ t : Fin cfg0.N, win0_9.index t = ![0, 0] := (by decide +kernel : ∀ t : Fin grid0.N, _)
theorem at10 : ∀ t : Fin cfg0.N, win0_10.index t = ![0, 0] := (by decide +kernel : ∀ t : Fin grid0.N, _)
theorem at11 : ∀ t : Fin cfg0.N, win0_11.index t = ![0, 0] := (by decide +kernel : ∀ t : Fin grid0.N, _)

/-- Row `r` of the rows grid point `t` works on. -/
abbrev row (t : Fin cfg0.N) (r : Fin 512) : Fin 4096 := ⟨t.val * 512 + r.val, by have := t.isLt; have : cfg0.N = 8 := N_0; omega⟩

theorem V_main_v0 (c : Dev nD) : (V m c main_v0 : FVec Ideal S1x2048 .f32) = broadcastInDim S1x2048 ![1] bcast_S2048_S1x2048_1 (nw m c) := by rfl
theorem V_main_v1 (c : Dev nD) : (V m c main_v1 : FVec Ideal S1x1024 .f32) = broadcastInDim S1x1024 ![1] bcast_S1024_S1x1024_1 (gs m c) := by rfl
theorem V_main_v2 (c : Dev nD) : (V m c main_v2 : FVec Ideal S1x1024 .f32) = broadcastInDim S1x1024 ![1] bcast_S1024_S1x1024_1 (bs m c) := by rfl

theorem blk0 (c : Dev nD) (t : Fin cfg0.N) (r : Fin 512) (e : Fin 2048) : (iblk m c 0 t : Vec Ideal S512x2048 .f32) (ix2 r e) = y m c (ix2 (row t r) e) := by
  blk_ext! [iblk, V_main_arg0, at0 t]
theorem blk1 (c : Dev nD) (t : Fin cfg0.N) (r : Fin 512) (e : Fin 2048) : (iblk m c 1 t : Vec Ideal S512x2048 .f32) (ix2 r e) = z m c (ix2 (row t r) e) := by
  blk_ext! [iblk, V_main_arg1, at1 t]
theorem blk2 (c : Dev nD) (t : Fin cfg0.N) (u : Fin 1) (e : Fin 2048) : (iblk m c 2 t : Vec Ideal S1x2048 .f32) (ix2 u e) = nw m c (ix1 e) := by
  have e : (iblk m c 2 t : Vec Ideal S1x2048 .f32) (ix2 u e) = (V m c main_v0 : FVec Ideal S1x2048 .f32) (ix2 u e) := by
    blk_ext! [iblk, at2 t]
  rw [e, V_main_v0]
  pointwise []
theorem blk3 (c : Dev nD) (t : Fin cfg0.N) (e : Fin 2048) (k : Fin 1024) : (iblk m c 3 t : Vec Ideal S2048x1024 .bf16) (ix2 e k) = wo m c (ix2 e k) := by
  blk_ext! [iblk, V_main_arg3, at3 t]
theorem blk4 (c : Dev nD) (t : Fin cfg0.N) (r : Fin 512) (k : Fin 1024) : (iblk m c 4 t : Vec Ideal S512x1024 .f32) (ix2 r k) = x1 m c (ix2 (row t r) k) := by
  blk_ext! [iblk, V_main_arg4, at4 t]
theorem blk5 (c : Dev nD) (t : Fin cfg0.N) (u : Fin 1) (k : Fin 1024) : (iblk m c 5 t : Vec Ideal S1x1024 .f32) (ix2 u k) = gs m c (ix1 k) := by
  have e : (iblk m c 5 t : Vec Ideal S1x1024 .f32) (ix2 u k) = (V m c main_v1 : FVec Ideal S1x1024 .f32) (ix2 u k) := by
    blk_ext! [iblk, at5 t]
  rw [e, V_main_v1]
  pointwise []
theorem blk6 (c : Dev nD) (t : Fin cfg0.N) (u : Fin 1) (k : Fin 1024) : (iblk m c 6 t : Vec Ideal S1x1024 .f32) (ix2 u k) = bs m c (ix1 k) := by
  have e : (iblk m c 6 t : Vec Ideal S1x1024 .f32) (ix2 u k) = (V m c main_v2 : FVec Ideal S1x1024 .f32) (ix2 u k) := by
    blk_ext! [iblk, at6 t]
  rw [e, V_main_v2]
  pointwise []
theorem blk7 (c : Dev nD) (t : Fin cfg0.N) (r : Fin 512) (k : Fin 1024) : (iblk m c 7 t : Vec Ideal S512x1024 .f32) (ix2 r k) = tg m c (ix2 (row t r) k) := by
  blk_ext! [iblk, V_main_arg7, at7 t]

/-! ## The kernel's values on a block -/

variable (Y Z : Vec Ideal S512x2048 .f32) (S : FVec Ideal S512x2048 .f32) (G : Vec Ideal S1x2048 .f32) (r : Fin 512)

/-- Group `q` of row `r` of a block. -/
abbrev cols (q : Fin 4) (l : Fin 512) : EReal := S (ix2 r (col q l))

theorem pay8_at (c : Dev nD) (t : Fin cfg0.N) (e : Fin 2048) :
    k0_pay8 (iblk m c 0 t) (iblk m c 1 t) (ix2 r e) = gated (y m c) (z m c) (row t r) e := by
  pointwise [k0_pay8, gated, silu]
  simp only [blk0, blk1, one_f32, sigm_zero_sub]

theorem pay9_at (l : Fin 512) : k0_pay9 Y Z G (ix2 r l) = hat glen geps (cols (k0_pay8 Y Z) r 0) l * G (ix2 0 (col 0 l)) := by
  pointwise [k0_pay9, k0_pay7, hat, rstd, var, mean, glen, geps]
  simp only [col_zero]

theorem pay10_at (l : Fin 512) : k0_pay10 Y Z (ix2 r l) = hat glen geps (cols (k0_pay8 Y Z) r 1) l := by
  pointwise [k0_pay10, hat, rstd, var, mean, glen, geps]
  rfl

theorem four : ∀ q : Fin 4, q = 0 ∨ q = 1 ∨ q = 2 ∨ q = 3 := by decide

theorem pay7_at (u : Fin 1) (e : Fin 2048) : k0_pay7 G (ix2 u e) = G (ix2 u e) := by
  pointwise [k0_pay7]

theorem pay11_cols (N : FVec Ideal S1x2048 .f32) (P Q : FVec Ideal S512x512 .f32)
    (h0 : ∀ l, P (ix2 r l) = hat glen geps (cols S r 0) l * N (ix2 0 (col 0 l))) (h1 : ∀ l, Q (ix2 r l) = hat glen geps (cols S r 1) l)
    (q : Fin 4) (l : Fin 512) : k0_pay11 N S P Q (ix2 r (col q l)) = hat glen geps (cols S r q) l * N (ix2 0 (col q l)) := by
  pointwise [k0_pay11]
  have hl := l.isLt
  have g0 : ∀ (n : ℕ) (h : n < 512), n = l.val → P (ix2 r ⟨n, h⟩) = hat glen geps (cols S r 0) l * N (ix2 0 (col 0 l)) := by
    rintro _ _ rfl
    exact h0 l
  have g1 : ∀ (n : ℕ) (h : n < 512) (h' : 512 + n < 2048), n = l.val →
      Q (ix2 r ⟨n, h⟩) * N (ix2 0 ⟨512 + n, h'⟩) = hat glen geps (cols S r 1) l * N (ix2 0 (col 1 l)) := by
    rintro _ _ _ rfl
    exact congrArg (· * _) (h1 l)
  have g2 : ∀ (n : ℕ) (h h' : 1024 + n < 2048), n = l.val → S (ix2 r ⟨1024 + n, h⟩) * rstd glen geps (cols S r 2) * N (ix2 0 ⟨1024 + n, h'⟩)
      = hat glen geps (cols S r 2) l * N (ix2 0 (col 2 l)) := by
    rintro _ _ _ rfl
    rfl
  have g3 : ∀ (n : ℕ) (h h' : 1536 + n < 2048), n = l.val → S (ix2 r ⟨1536 + n, h⟩) * rstd glen geps (cols S r 3) * N (ix2 0 ⟨1536 + n, h'⟩)
      = hat glen geps (cols S r 3) l * N (ix2 0 (col 3 l)) := by
    rintro _ _ _ rfl
    rfl
  rcases four q with rfl | rfl | rfl | rfl
  · exact (dif_pos (by simp)).trans (g0 _ _ (by simp))
  · exact (dif_neg (by simp)).trans ((dif_pos (by simp)).trans (g1 _ _ _ (by simp)))
  · exact (dif_neg (by simp; omega)).trans ((dif_neg (by simp; omega)).trans ((dif_pos (by simp; omega)).trans (g2 _ _ _ (by simp; omega))))
  · exact (dif_neg (by simp; omega)).trans ((dif_neg (by simp; omega)).trans ((dif_neg (by simp; omega)).trans (g3 _ _ _ (by simp; omega))))

theorem pay11_at (q : Fin 4) (l : Fin 512) : k0_pay11 (k0_pay7 G) (k0_pay8 Y Z) (k0_pay9 Y Z G) (k0_pay10 Y Z) (ix2 r (col q l))
    = hat glen geps (cols (k0_pay8 Y Z) r q) l * G (ix2 0 (col q l)) := by
  rw [pay11_cols (k0_pay8 Y Z) r (k0_pay7 G) (k0_pay9 Y Z G) (k0_pay10 Y Z) (fun l => by rw [pay9_at, pay7_at]) (fun l => pay10_at Y Z r l), pay7_at]

/-- The grouped norm's output on a block. -/
abbrev A (c : Dev nD) (t : Fin cfg0.N) : FVec Ideal S512x2048 .bf16 :=
  k0_pay11 (k0_pay7 (iblk m c 2 t)) (k0_pay8 (iblk m c 0 t) (iblk m c 1 t)) (k0_pay9 (iblk m c 0 t) (iblk m c 1 t) (iblk m c 2 t)) (k0_pay10 (iblk m c 0 t) (iblk m c 1 t))

theorem A_at (c : Dev nD) (t : Fin cfg0.N) (e : Fin 2048) : A m c t (ix2 r e) = act (y m c) (z m c) (nw m c) (row t r) e := by
  obtain ⟨q, l, rfl⟩ : ∃ (q : Fin 4) (l : Fin 512), e = col q l := ⟨grp e, plc e, (col_grp e).symm⟩
  rw [A, pay11_at, blk2, act, nrm, grp_col, plc_col]
  rw [show cols (k0_pay8 (iblk m c 0 t) (iblk m c 1 t)) r q = seg (gated (y m c) (z m c) (row t r)) q from
    funext fun l => pay8_at m r c t (col q l)]

/-- The layer's sum on a block. -/
abbrev U (c : Dev nD) (t : Fin cfg0.N) : FVec Ideal S512x1024 .f32 :=
  k0_pay12 (k0_pay7 (iblk m c 2 t)) (k0_pay8 (iblk m c 0 t) (iblk m c 1 t)) (k0_pay9 (iblk m c 0 t) (iblk m c 1 t) (iblk m c 2 t)) (k0_pay10 (iblk m c 0 t) (iblk m c 1 t)) (iblk m c 4 t) (iblk m c 3 t)

theorem pay12_at (N : FVec Ideal S1x2048 .f32) (P Q : FVec Ideal S512x512 .f32) (X : Vec Ideal S512x1024 .f32) (W : Vec Ideal S2048x1024 .bf16) (k : Fin 1024) :
    k0_pay12 N S P Q X W (ix2 r k) = alpha * X (ix2 r k) + ∑ e : Fin 2048, k0_pay11 N S P Q (ix2 r e) * W (ix2 e k) := by
  pointwise [k0_pay12, alpha]

theorem U_at (c : Dev nD) (t : Fin cfg0.N) (k : Fin 1024) : U m c t (ix2 r k) = sumRow (y m c) (z m c) (nw m c) (wo m c) (x1 m c) (row t r) k := by
  rw [U, pay12_at, sumRow, blk4]
  refine congrArg₂ _ rfl (Finset.sum_congr rfl fun e _ => ?_)
  rw [blk3, ← A_at]

/-- The distance from the target on a block, its cotangent, and the sum's mean. -/
abbrev G1 (c : Dev nD) (t : Fin cfg0.N) : FVec Ideal S1x1024 .f32 := k0_pay13 (iblk m c 5 t)
abbrev B1 (c : Dev nD) (t : Fin cfg0.N) : FVec Ideal S1x1024 .f32 := k0_pay14 (iblk m c 6 t)
abbrev E1 (c : Dev nD) (t : Fin cfg0.N) : FVec Ideal S512x1024 .f32 := k0_pay17 (U m c t) (G1 m c t) (B1 m c t) (iblk m c 7 t)

variable (X E : FVec Ideal S512x1024 .f32) (H K : FVec Ideal S1x1024 .f32) (T : Vec Ideal S512x1024 .f32)

/-- A block's row less its mean. -/
abbrev cenOf (l : Fin 1024) : EReal := cen len (fun k => X (ix2 r k)) l

theorem pay15_at (k : Fin 1024) : k0_pay15 X H K T (ix2 r k) = hat len eps (cenOf r X) k * H (ix2 0 k) + K (ix2 0 k) - T (ix2 r k) := by
  pointwise [k0_pay15, hat, rstd, var, cen, mean, len, eps]

theorem pay17_at (k : Fin 1024) : k0_pay17 X H K T (ix2 r k) = Ideal.div (k0_pay15 X H K T (ix2 r k)) len := by
  pointwise [k0_pay17, len]

theorem pay16_at (acc : Vec Ideal S8x128 .f32) (a : Fin 8) (b : Fin 128) : k0_pay16 X H K T acc (ix2 a b) =
    acc (ix2 a b) + Ideal.div (half * ∑ r : Fin 512, ∑ k : Fin 1024, k0_pay15 X H K T (ix2 r k) * k0_pay15 X H K T (ix2 r k)) len := by
  pointwise [k0_pay16, len, half]

theorem pay21_at (k : Fin 1024) : k0_pay21 X (k0_pay18 X) (ix2 r k) = hat len eps (cenOf r X) k := by
  pointwise [k0_pay21, k0_pay20, k0_pay19, k0_pay18, hat, rstd, var, cen, mean, len, eps]

theorem pay18_at (u : Fin 1) : k0_pay18 X (ix2 r u) = mean len (fun k => X (ix2 r k)) := by
  pointwise [k0_pay18, mean, len]

theorem pay22_mean (M : FVec Ideal S512x1 .f32) (k : Fin 1024) : k0_pay22 X H E M (ix2 r k) =
    rstd len eps (fun l => X (ix2 r l) - M (ix2 r 0)) * (E (ix2 r k) * H (ix2 0 k) - mean len (fun l => E (ix2 r l) * H (ix2 0 l))
      - k0_pay21 X M (ix2 r k) * mean len (fun l => E (ix2 r l) * H (ix2 0 l) * k0_pay21 X M (ix2 r l))) := by
  pointwise [k0_pay22, k0_pay20, k0_pay19, rstd, var, mean, len, eps]

theorem pay22_at (k : Fin 1024) : k0_pay22 X H E (k0_pay18 X) (ix2 r k) = backC len eps (cenOf r X) (fun l => E (ix2 r l) * H (ix2 0 l)) k := by
  rw [pay22_mean, backC]
  simp only [pay21_at, pay18_at]
  rfl

theorem pay24_at (acc : Vec Ideal S1x1024 .f32) (u : Fin 1) (k : Fin 1024) :
    k0_pay24 X E (k0_pay18 X) acc (ix2 u k) = acc (ix2 u k) + ∑ r : Fin 512, E (ix2 r k) * hat len eps (cenOf r X) k := by
  pointwise [k0_pay24]
  simp only [pay21_at]

theorem pay1_at (acc : Vec Ideal S1x1024 .f32) (u : Fin 1) (k : Fin 1024) :
    k0_pay1 (k0_pay23 E) acc (ix2 u k) = acc (ix2 u k) + ∑ r : Fin 512, E (ix2 r k) := by
  pointwise [k0_pay1, k0_pay23]

theorem pay2_at (N : FVec Ideal S512x2048 .bf16) (acc : Vec Ideal S2048x1024 .f32) (e : Fin 2048) (k : Fin 1024) :
    k0_pay2 N E acc (ix2 e k) = acc (ix2 e k) + ∑ r : Fin 512, N (ix2 r e) * E (ix2 r k) := by
  pointwise [k0_pay2]

theorem E1_at (c : Dev nD) (t : Fin cfg0.N) (k : Fin 1024) : k0_pay15 (U m c t) (G1 m c t) (B1 m c t) (iblk m c 7 t) (ix2 r k) =
    err (y m c) (z m c) (nw m c) (wo m c) (x1 m c) (gs m c) (bs m c) (tg m c) (row t r) k := by
  rw [pay15_at, err, blk7]
  pointwise [G1, B1, k0_pay13, k0_pay14]
  rw [blk5, blk6, show cenOf r (U m c t) = cn (y m c) (z m c) (nw m c) (wo m c) (x1 m c) (row t r) from
    funext fun l => by simp only [cenOf, cn, U_at]]

theorem ct_at (c : Dev nD) (t : Fin cfg0.N) (k : Fin 1024) : E1 m c t (ix2 r k) = ct (y m c) (z m c) (nw m c) (wo m c) (x1 m c) (gs m c) (bs m c) (tg m c) (row t r) k := by
  rw [E1, pay17_at, E1_at, ct]

theorem hat_at (c : Dev nD) (t : Fin cfg0.N) : cenOf r (U m c t) = cn (y m c) (z m c) (nw m c) (wo m c) (x1 m c) (row t r) :=
  funext fun l => by simp only [cenOf, cn, U_at]

/-- The gradient of the sum on a block. -/
abbrev D1 (c : Dev nD) (t : Fin cfg0.N) : FVec Ideal S512x1024 .f32 := k0_pay22 (U m c t) (G1 m c t) (E1 m c t) (k0_pay18 (U m c t))

theorem D1_at (c : Dev nD) (t : Fin cfg0.N) (k : Fin 1024) : D1 m c t (ix2 r k) = dSum (y m c) (z m c) (nw m c) (wo m c) (x1 m c) (gs m c) (bs m c) (tg m c) (row t r) k := by
  rw [D1, pay22_at, hat_at, dSum]
  refine congrArg (fun f => backC len eps _ f k) (funext fun l => ?_)
  rw [ct_at]
  pointwise [G1, k0_pay13]
  rw [blk5]

/-! ## What a point leaves -/

theorem rows_at (c : Dev nD) (t : Fin cfg0.N) (k : Fin 1024) : (outsAt0 m c t.val t.isLt).1 (ix2 r k) = dSum (y m c) (z m c) (nw m c) (wo m c) (x1 m c) (gs m c) (bs m c) (tg m c) (row t r) k := by
  have e : (outsAt0 m c t.val t.isLt).1 = D1 m c t := by
    by_cases h : t.val % 8 = 0
    · rw [outsAt0_A m c t h (by omega)]; frame_out
    by_cases h' : t.val % 8 = 7
    · rw [outsAt0_C m c t h h']; frame_out
    · rw [outsAt0_B m c t h h']; frame_out
  rw [e, D1_at]

/-- Point `t`'s part of the norm's gradients, in the rows 0 and 1 of a block of eight. -/
def part (c : Dev nD) (t : Fin cfg0.N) (i : S8x1024.Idx) : EReal :=
  if (i 0).val = 0 then ∑ r : Fin 512, ct (y m c) (z m c) (nw m c) (wo m c) (x1 m c) (gs m c) (bs m c) (tg m c) (row t r) (i 1) * hat len eps (cn (y m c) (z m c) (nw m c) (wo m c) (x1 m c) (row t r)) (i 1)
  else if (i 0).val = 1 then ∑ r : Fin 512, ct (y m c) (z m c) (nw m c) (wo m c) (x1 m c) (gs m c) (bs m c) (tg m c) (row t r) (i 1)
  else 0

theorem sums_last (c : Dev nD) (i) : (outsAt0 m c t0_7.val t0_7.isLt).2.1 i = 0 + ∑ t : Fin cfg0.N, part m c t i :=
  Pipeline.eq_sum_fin_of_reset_step_apply_last (fun n h => (outsAt0 m c n h).2.1) 8 (fun _ => 0) (part m c)
    (fun t h j => by
      obtain ⟨a, b, rfl⟩ := pair j
      rw [outsAt0_A m c t h (by omega)]; frame_out
      simp only [canon_piece, readCov_piece, pay24_at, pay1_at, loc, hat_at, ct_at]
      pointwise [k0_pay4]
      have hb := b.isLt
      by_cases h0 : a.val = 0
      · obtain rfl : a = 0 := Fin.ext h0
        simp [part, In, hb]
      by_cases h1 : a.val = 1
      · obtain rfl : a = 1 := Fin.ext h1
        simp [part, In, hb]
      · have h2 : ¬ (1 ≤ a.val ∧ a.val ≤ 1) := fun h => h1 (le_antisymm h.2 h.1)
        simp [part, In, hb, h0, h1, h2])
    (fun t h j => by
      obtain ⟨a, b, rfl⟩ := pair j
      have hb := b.isLt
      by_cases h' : t.val % 8 = 7
      on_goal 1 => rw [outsAt0_C m c t h h']
      on_goal 2 => rw [outsAt0_B m c t h h']
      all_goals
        frame_out
        simp only [read_piece, pay24_at, pay1_at, loc, hat_at, ct_at]
        by_cases h0 : a.val = 0
        · obtain rfl : a = 0 := Fin.ext h0
          simp [part, In, hb]
          exact congrArg (· + _) (ld_at _ _ 0 b 0 b rfl (Nat.zero_add _).symm)
        by_cases h1 : a.val = 1
        · obtain rfl : a = 1 := Fin.ext h1
          simp [part, In, hb]
          exact congrArg (· + _) (ld_at _ _ 0 b 1 b rfl (Nat.zero_add _).symm)
        · have h2 : ¬ (1 ≤ a.val ∧ a.val ≤ 1) := fun h => h1 (le_antisymm h.2 h.1)
          simp [part, In, hb, h0, h1, h2, Memref.IsWhole.read_unread])
    (le_of_eq N_0) t0_7 rfl i

/-- Point `t`'s part of the loss. -/
def lossPart (c : Dev nD) (t : Fin cfg0.N) : EReal := Ideal.div (half * ∑ r : Fin 512, ∑ k : Fin 1024,
  err (y m c) (z m c) (nw m c) (wo m c) (x1 m c) (gs m c) (bs m c) (tg m c) (row t r) k * err (y m c) (z m c) (nw m c) (wo m c) (x1 m c) (gs m c) (bs m c) (tg m c) (row t r) k) len

theorem pay16_err (c : Dev nD) (t : Fin cfg0.N) (acc : Vec Ideal S8x128 .f32) (a : Fin 8) (b : Fin 128) :
    k0_pay16 (U m c t) (G1 m c t) (B1 m c t) (iblk m c 7 t) acc (ix2 a b) = acc (ix2 a b) + lossPart m c t := by
  rw [pay16_at, lossPart]
  simp only [E1_at]

theorem loss_last (c : Dev nD) (i) : (outsAt0 m c t0_7.val t0_7.isLt).2.2.1 i = 0 + ∑ t : Fin cfg0.N, lossPart m c t :=
  Pipeline.eq_sum_fin_of_reset_step_apply_last (fun n h => (outsAt0 m c n h).2.2.1) 8 (fun _ => 0) (fun t _ => lossPart m c t)
    (fun t h j => by
      obtain ⟨a, b, rfl⟩ := pair j
      rw [outsAt0_A m c t h (by omega)]; frame_out
      refine (pay16_err m c t _ a b).trans (congrArg (· + _) ?_)
      pointwise [k0_pay5])
    (fun t h j => by
      obtain ⟨a, b, rfl⟩ := pair j
      by_cases h' : t.val % 8 = 7
      on_goal 1 => rw [outsAt0_C m c t h h']
      on_goal 2 => rw [outsAt0_B m c t h h']
      all_goals
        frame_out
        exact pay16_err m c t _ a b)
    (le_of_eq N_0) t0_7 rfl i

/-- Point `t`'s part of the weights' gradient. -/
def wPart (c : Dev nD) (t : Fin cfg0.N) (i : S2048x1024.Idx) : EReal :=
  ∑ r : Fin 512, act (y m c) (z m c) (nw m c) (row t r) (i 0) * dSum (y m c) (z m c) (nw m c) (wo m c) (x1 m c) (gs m c) (bs m c) (tg m c) (row t r) (i 1)

theorem pay2_rows (c : Dev nD) (t : Fin cfg0.N) (acc : Vec Ideal S2048x1024 .f32) (e : Fin 2048) (k : Fin 1024) :
    k0_pay2 (A m c t) (D1 m c t) acc (ix2 e k) = acc (ix2 e k) + wPart m c t (ix2 e k) := by
  rw [pay2_at, wPart]
  simp only [A_at, D1_at]
  rfl

theorem weights_last (c : Dev nD) (i) : (outsAt0 m c t0_7.val t0_7.isLt).2.2.2.2 i = 0 + ∑ t : Fin cfg0.N, wPart m c t i :=
  Pipeline.eq_sum_fin_of_reset_step_apply_last (fun n h => (outsAt0 m c n h).2.2.2.2) 8 (fun _ => 0) (wPart m c)
    (fun t h j => by
      obtain ⟨a, b, rfl⟩ := pair j
      rw [outsAt0_A m c t h (by omega)]; frame_out
      refine (pay2_rows m c t _ a b).trans (congrArg (· + _) ?_)
      pointwise [k0_pay6])
    (fun t h j => by
      obtain ⟨a, b, rfl⟩ := pair j
      by_cases h' : t.val % 8 = 7
      on_goal 1 => rw [outsAt0_C m c t h h']
      on_goal 2 => rw [outsAt0_B m c t h h']
      all_goals
        frame_out
        refine (pay2_rows m c t _ a b).trans (congrArg (· + _) ?_)
        exact congrFun (read_unread_whole _ _ _) _)
    (le_of_eq N_0) t0_7 rfl i

theorem pay3_at (X : Vec Ideal S2048x1024 .f32) (i) : k0_pay3 X i = X i := by
  pointwise [k0_pay3]

/-- The last point stores what it has collected. -/
theorem stored (c : Dev nD) (i) : (outsAt0 m c t0_7.val t0_7.isLt).2.2.2.1 i = (outsAt0 m c t0_7.val t0_7.isLt).2.2.2.2 i := by
  have e : (outsAt0 m c t0_7.val t0_7.isLt).2.2.2.1 = k0_pay3 (outsAt0 m c t0_7.val t0_7.isLt).2.2.2.2 := by
    rw [outsAt0_C m c t0_7 (by decide) (by decide)]; frame_out
  rw [e, pay3_at]

/-! ## The result arrays -/

theorem final8 (c : Dev nD) : (dats m 0 c).arrAt 8 cfg0.N = (fun i => dSum (y m c) (z m c) (nw m c) (wo m c) (x1 m c) (gs m c) (bs m c) (tg m c) (i 0) (i 1) : Arr 4096 1024) := by
  refine (dats m 0 c).arrAt_eq_of_covers 8 _ (by decide +kernel) fun t hf j => ?_
  blk_simp
  rw [after0_8]
  obtain ⟨a, b, rfl⟩ := pair j
  rw [rows_at]
  refine congrArg₂ (dSum _ _ _ _ _ _ _ _) (Fin.ext ?_) (Fin.ext ?_) <;> blk_simp [at8 t]
  all_goals rfl

/-- The rows of the eight blocks are the 4096 rows. -/
theorem sum_rows (f : Fin 4096 → EReal) : (0 : EReal) + ∑ t : Fin cfg0.N, ∑ r : Fin 512, f (row t r) = ∑ s, f s := by
  rw [zero_add]
  exact Fin.sum_mul_add_congr (fun t r hl => rfl) (by decide +kernel)

theorem final9 (c : Dev nD) : (dats m 0 c).arrAt 9 cfg0.N = (fun i => dNorm (y m c) (z m c) (nw m c) (wo m c) (x1 m c) (gs m c) (bs m c) (tg m c) (i 0) (i 1) : Arr 8 1024) := by
  refine (dats m 0 c).arrAt_eq_of_after_last 9 t0_7 (by decide +kernel) _ fun j => ?_
  blk_simp
  rw [after0_9, sums_last]
  unfold part dNorm
  split
  · exact sum_rows fun s => ct (y m c) (z m c) (nw m c) (wo m c) (x1 m c) (gs m c) (bs m c) (tg m c) s (j 1) * hat len eps (cn (y m c) (z m c) (nw m c) (wo m c) (x1 m c) s) (j 1)
  split
  · exact sum_rows fun s => ct (y m c) (z m c) (nw m c) (wo m c) (x1 m c) (gs m c) (bs m c) (tg m c) s (j 1)
  · simp

theorem final10 (c : Dev nD) : (dats m 0 c).arrAt 10 cfg0.N = (fun _ => loss (y m c) (z m c) (nw m c) (wo m c) (x1 m c) (gs m c) (bs m c) (tg m c) : Arr 8 128) := by
  refine (dats m 0 c).arrAt_eq_of_after_last 10 t0_7 (by decide +kernel) _ fun j => ?_
  blk_simp
  rw [after0_10, loss_last, zero_add]
  rfl

theorem final11 (c : Dev nD) : (dats m 0 c).arrAt 11 cfg0.N = (fun i => dW (y m c) (z m c) (nw m c) (wo m c) (x1 m c) (gs m c) (bs m c) (tg m c) (i 0) (i 1) : Arr 2048 1024) := by
  refine (dats m 0 c).arrAt_eq_of_after_last 11 t0_7 (by decide +kernel) _ fun j => ?_
  blk_simp
  rw [after0_11, stored, weights_last]
  exact sum_rows fun s => act (y m c) (z m c) (nw m c) s (j 0) * dSum (y m c) (z m c) (nw m c) (wo m c) (x1 m c) (gs m c) (bs m c) (tg m c) s (j 1)

end Cert.Kernel5Ideal.Loss

end
-- ==== Proof.LossReference.lean ====
/-
  WHAT THE LAST LAYER'S REFERENCE COMPUTES, at an element: the layer's end and the loss as the problem states them, and
  their gradients by the chain rule.
-/
module

public import proofs.«01_k».proof.Proof.Gen.Reference5Ideal.Read
public import proofs.«01_k».proof.Proof.NormEquation
public import proofs.«01_k».proof.Proof.LossSpec

@[expose] public section

noncomputable section

namespace Cert.Reference5Ideal.Loss

open Cert.Reference5Ideal Cert.Reference5Ideal.Gen Cert.Reference5Ideal.Read Cert.GateSpec Cert.NormSpec Cert.GroupSpec Cert.LossSpec Idealize.ShloMosaic

variable (y z : Arr 4096 2048) (nw : (⟨1, ![2048]⟩ : Shape).Idx → EReal) (w : Arr 2048 1024) (x : Arr 4096 1024)
  (g b : (⟨1, ![1024]⟩ : Shape).Idx → EReal) (tg : Arr 4096 1024)

/-- The factor of the derivative of the inverse square root, -1/2. -/
abbrev negHalf : EReal := Ideal.ofBits .f32 0xBF000000#32

theorem gated_eq (r : Fin 4096) (e : Fin 2048) : val_main_v4 (F := Ideal) y z (ix2 r e) = gated y z r e := by
  pointwise [val_main_v4, val_main_v3, val_main_call0_v5, val_main_call0_v4, val_main_call0_cst_0, val_main_call0_v3, val_main_call0_v2, val_main_call0_cst, val_main_call0_v1,
    val_main_call0_v0]
  rfl

theorem col_mul (q : Fin 4) (l : Fin 512) (h : q.val * 512 + l.val < 2048) : (⟨q.val * 512 + l.val, h⟩ : Fin 2048) = col q l :=
  Fin.ext (congrArg (· + _) (Nat.mul_comm _ _))

theorem cut_eq (r : Fin 4096) (q : Fin 4) (l : Fin 512) : val_main_v5 (F := Ideal) y z (ix3 r q l) = seg (gated y z r) q l := by
  pointwise [val_main_v5]
  simp only [col_mul, gated_eq]

theorem unit_eq (r : Fin 4096) (q : Fin 4) (l : Fin 512) : val_main_v15 (F := Ideal) y z (ix3 r q l) = hat glen geps (seg (gated y z r) q) l := by
  pointwise [val_main_v15, val_main_v14, val_main_v13, val_main_v12, val_main_v11, val_main_cst_2, val_main_v10, val_main_v9, val_main_cst_1, val_main_v8, val_main_v7, val_main_cst_0,
    val_main_v6, hat, rstd, var, mean, glen, geps]
  simp only [cut_eq]

theorem act_eq (r : Fin 4096) (e : Fin 2048) : val_main_v19 (F := Ideal) y z nw (ix2 r e) = act y z nw r e := by
  pointwise [val_main_v19, val_main_v18, val_main_v17, val_main_v16]
  exact congrArg (· * _) (unit_eq y z r (grp e) (plc e))

theorem sum_eq (r : Fin 4096) (k : Fin 1024) : val_main_v21 (F := Ideal) y z nw w x (ix2 r k) = sumRow y z nw w x r k := by
  pointwise [val_main_v21, val_main_v20, val_main_v2, val_main_v1, val_main_v0, val_main_cst, sumRow, alpha]
  simp only [act_eq]

theorem cn_eq (r : Fin 4096) (k : Fin 1024) : val_main_v27 (F := Ideal) y z nw w x (ix2 r k) = cn y z nw w x r k := by
  pointwise [val_main_v27, val_main_v26, val_main_v25, val_main_v24, val_main_cst_4, val_main_v23, val_main_v22, val_main_cst_3, cn, cen, mean, len]
  simp only [sum_eq]

theorem var_eq (r : Fin 4096) (u : Fin 1) : val_main_v34 (F := Ideal) y z nw w x (ix2 r u) = var len eps (cn y z nw w x r) := by
  pointwise [val_main_v34, val_main_v33, val_main_cst_7, val_main_v32, val_main_v31, val_main_cst_6, val_main_v30, val_main_v29, val_main_cst_5, val_main_v28, var, mean, len, eps]
  simp only [cn_eq]

theorem rstd_eq (r : Fin 4096) (u : Fin 1) : val_main_v35 (F := Ideal) y z nw w x (ix2 r u) = rstd len eps (cn y z nw w x r) := by
  pointwise [val_main_v35]
  simp only [var_eq, rstd]

theorem hat_eq (r : Fin 4096) (k : Fin 1024) : val_main_v40 (F := Ideal) y z nw w x (ix2 r k) = hat len eps (cn y z nw w x r) k := by
  pointwise [val_main_v40, val_main_v39]
  simp only [cn_eq, rstd_eq, hat]

theorem err_eq (r : Fin 4096) (k : Fin 1024) : val_main_v47 (F := Ideal) y z nw w x g b tg (ix2 r k) = err y z nw w x g b tg r k := by
  pointwise [val_main_v47, val_main_v46, val_main_v45, val_main_v44, val_main_v43, val_main_v42, val_main_v41]
  simp only [hat_eq, err]

theorem half_coe : half = ((1 / 2 : ℝ) : EReal) := by
  simp [half, Ideal.ofBits, Ideal.ieee, -EReal.coe_mul]; norm_num

theorem two_coe : Ideal.ofBits .f32 0x40000000#32 = ((2 : ℝ) : EReal) := by
  simp [Ideal.ofBits, Ideal.ieee, -EReal.coe_mul]; norm_num

/-- Half of twice the distance over the row's length. -/
theorem half_two (e : EReal) : Ideal.div half len * (Ideal.ofBits .f32 0x40000000#32 * e) = Ideal.div e len := by
  rw [len_coe, Ideal.div_coe (by norm_num), Ideal.div_coe (by norm_num), half_coe, two_coe, ← mul_assoc, ← EReal.coe_mul, ← EReal.coe_mul, mul_comm e]
  norm_num

theorem ct_eq (r : Fin 4096) (k : Fin 1024) : val_main_v61 (F := Ideal) y z nw w x g b tg (ix2 r k) = ct y z nw w x g b tg r k := by
  pointwise [val_main_v61, val_main_v60, val_main_v59, val_main_v58, val_main_cst_16, val_main_v57, val_main_v56, val_main_cst_15, val_main_cst_14, val_main_v50, val_main_v49, val_main_cst_9]
  rw [err_eq, ct]
  exact half_two _

/-- The cotangent times the scale, on a row. -/
abbrev scaled (r : Fin 4096) (l : Fin 1024) : EReal := ct y z nw w x g b tg r l * g (ix1 l)

theorem scaled_eq (r : Fin 4096) (k : Fin 1024) : val_main_v69 (F := Ideal) y z nw w x g b tg (ix2 r k) = scaled y z nw w x g b tg r k := by
  pointwise [val_main_v69, val_main_v68, val_main_v41]
  simp only [ct_eq, scaled]

theorem dvar_eq (r : Fin 4096) (k : Fin 1024) : val_main_v80 (F := Ideal) y z nw w x g b tg (ix2 r k)
    = dvar len eps negHalf (cn y z nw w x r) (scaled y z nw w x g b tg r) := by
  pointwise [val_main_v80, val_main_v79, val_main_cst_23, val_main_v78, val_main_v77, val_main_cst_22, val_main_v76, val_main_v73, val_main_v72, val_main_cst_21, val_main_v71,
    val_main_v38, val_main_v37, val_main_cst_8, val_main_v36]
  simp only [cn_eq, var_eq, rstd_eq, scaled_eq, dvar, negHalf, len, Fin.sum_univ_one]

theorem dcen_eq (r : Fin 4096) (k : Fin 1024) : val_main_v84 (F := Ideal) y z nw w x g b tg (ix2 r k)
    = dcen len eps negHalf (cn y z nw w x r) (scaled y z nw w x g b tg r) k := by
  pointwise [val_main_v84, val_main_v83, val_main_v82, val_main_v81, val_main_v75, val_main_v74]
  simp only [cn_eq, rstd_eq, scaled_eq, dvar_eq, dcen]

/-- The gradient of the sum by the chain rule. -/
abbrev dAuto (r : Fin 4096) (k : Fin 1024) : EReal := autoC len eps negHalf (cn y z nw w x r) (scaled y z nw w x g b tg r) k

theorem rows_eq (r : Fin 4096) (k : Fin 1024) : val_main_v92 (F := Ideal) y z nw w x g b tg (ix2 r k) = dAuto y z nw w x g b tg r k := by
  pointwise [val_main_v92, val_main_v91, val_main_v90, val_main_cst_26, val_main_v89, val_main_v88, val_main_cst_25, val_main_v87, val_main_v86, val_main_cst_24, val_main_v85]
  simp only [dcen_eq, dAuto, autoC, len, Fin.sum_univ_one]

theorem dW_eq (e : Fin 2048) (k : Fin 1024) : val_main_v100 (F := Ideal) y z nw w x g b tg (ix2 e k) = ∑ r : Fin 4096, act y z nw r e * dAuto y z nw w x g b tg r k := by
  pointwise [val_main_v100, val_main_v94, val_main_v93]
  simp only [rows_eq, act_eq]
  exact Finset.sum_congr rfl fun r _ => mul_comm _ _

theorem dNorm_eq : val_main_v98 (F := Ideal) y z nw w x g b tg = (fun i => dNorm y z nw w x g b tg (i 0) (i 1) : Arr 8 1024) := by
  funext i
  obtain ⟨a, k, rfl⟩ := pair i
  pointwise [val_main_v98, val_main_v97, val_main_cst_27, val_main_v96, val_main_v95, val_main_v70, val_main_cst_20, val_main_v67, val_main_v66, val_main_cst_19, val_main_v65,
    val_main_v64, val_main_cst_18, val_main_v63, val_main_v62, val_main_cst_17]
  simp only [hat_eq, ct_eq, dNorm, Fin.sum_univ_one, Nat.lt_one_iff]
  by_cases h0 : a.val = 0
  · simp only [h0, if_true, dite_true]
    exact Finset.sum_congr rfl fun r _ => mul_comm _ _
  · have h1 : a.val - 1 = 0 ↔ a.val = 1 := by omega
    simp only [h0, h1, if_false, dite_false, dite_eq_ite]

/-- The loss as the problem states it. -/
abbrev lossAuto : EReal := half * ∑ r : Fin 4096, Ideal.div (∑ k : Fin 1024, err y z nw w x g b tg r k * err y z nw w x g b tg r k) len

theorem loss_eq : val_main_v99 (F := Ideal) y z nw w x g b tg = (fun _ => lossAuto y z nw w x g b tg : Arr 8 128) := by
  funext i
  obtain ⟨a, k, rfl⟩ := pair i
  pointwise [val_main_v99, val_main_v55, val_main_cst_13, val_main_v54, val_main_cst_12, val_main_v53, val_main_v52, val_main_cst_11, val_main_v51, val_main_cst_10, val_main_v48]
  simp only [err_eq]

end Cert.Reference5Ideal.Loss

end
-- ==== Proof.LossClaim.lean ====
/-
  THE LAST LAYER'S END: THE VALUE CLAIM. The kernel's four results and the reference's are the specification's arrays,
  wherever the arguments are real.
-/
module

public import proofs.«01_k».proof.Proof.LossBlocks
public import proofs.«01_k».proof.Proof.LossReference
public import proofs.«01_k».proof.Proof.GroupClaim
public import proofs.«01_k».proof.Proof.Gen.Reference5Ideal.Run
public import proofs.«01_k».proof.Proof.Gen.Pre_loss_finite

@[expose] public section

noncomputable section

namespace Cert.Loss

open Cert.GateSpec Cert.NormSpec Cert.GroupSpec Cert.LossSpec Cert.Finite Cert.Norm Cert.Reference5Ideal.Read Cert.Reference5Ideal.Loss Idealize.ShloMosaic Idealize.SL.Sem

attribute [local instance] Cert.Kernel5Ideal.Gen.facts Cert.Reference5Ideal.Gen.facts Cert.Pre_loss_finite.Gen.facts

variable (y z : Arr 4096 2048) (nw : (⟨1, ![2048]⟩ : Shape).Idx → EReal) (w : Arr 2048 1024) (x : Arr 4096 1024)
  (g b : (⟨1, ![1024]⟩ : Shape).Idx → EReal) (tg : Arr 4096 1024)

/-- The precondition says that the arrays are real. -/
theorem reals [Cert.Pre_loss_finite.Facts] (e : Cert.Pre_loss_finite.fn (F := Ideal) y z nw w x g b tg = fun _ => 1#1) :
    Real' y ∧ Real' z ∧ Real' nw ∧ Real' w ∧ Real' x ∧ Real' g ∧ Real' b ∧ Real' tg := by
  have e0 := congrFun e (fun k => k.elim0)
  obtain ⟨e1, f7⟩ := IntOp.andi_eq_one.1 e0
  obtain ⟨e2, f6⟩ := IntOp.andi_eq_one.1 e1
  obtain ⟨e3, f5⟩ := IntOp.andi_eq_one.1 e2
  obtain ⟨e4, f4⟩ := IntOp.andi_eq_one.1 e3
  obtain ⟨e5, f3⟩ := IntOp.andi_eq_one.1 e4
  obtain ⟨e6, f2⟩ := IntOp.andi_eq_one.1 e5
  obtain ⟨f0, f1⟩ := IntOp.andi_eq_one.1 e6
  exact ⟨reals_of_all _ _ _ _ _ _ f0, reals_of_all _ _ _ _ _ _ f1, reals_of_all _ _ _ _ _ _ f2, reals_of_all _ _ _ _ _ _ f3,
    reals_of_all _ _ _ _ _ _ f4, reals_of_all _ _ _ _ _ _ f5, reals_of_all _ _ _ _ _ _ f6, reals_of_all _ _ _ _ _ _ f7⟩

/-- The grouped norm of reals is real. -/
theorem act_real (hy : Real' y) (hz : Real' z) (hn : Real' nw) (r : Fin 4096) (e : Fin 2048) : ∃ a : ℝ, act y z nw r e = a := by
  obtain ⟨Y, hy⟩ := hy
  obtain ⟨Z, hz⟩ := hz
  obtain ⟨N, hn⟩ := hn
  obtain ⟨s, hs, hS⟩ := geps_coe
  have hc : seg (gated y z r) (grp e) = fun l => ((Y (ix2 r (col (grp e) l)) * (Z (ix2 r (col (grp e) l)) * (1 / (1 + Real.exp (-Z (ix2 r (col (grp e) l)))))) : ℝ) : EReal) :=
    funext fun l => by rw [seg, gated, hy, hz, silu_coe, ← EReal.coe_mul]
  exact ⟨_, by rw [act, nrm, hc, glen_coe, hS, hat_coe (by norm_num) hs, hn, ← EReal.coe_mul]⟩

theorem sum_real (hy : Real' y) (hz : Real' z) (hn : Real' nw) (hw : Real' w) (hx : Real' x) (r : Fin 4096) (k : Fin 1024) : ∃ a : ℝ, sumRow y z nw w x r k = a := by
  obtain ⟨W, hw⟩ := hw
  obtain ⟨X, hx⟩ := hx
  obtain ⟨al, hal⟩ := alpha_coe
  obtain ⟨s, hs⟩ := dot_real (fun e : Fin 2048 => act y z nw r e) (fun e => w (ix2 e k)) (fun e => act_real y z nw hy hz hn r e) (fun _ => ⟨_, hw _⟩)
  exact ⟨al * X (ix2 r k) + s, by rw [sumRow, hs, hal, hx, EReal.coe_add, EReal.coe_mul]⟩

/-- The distance from the target is real. -/
theorem err_real (hy : Real' y) (hz : Real' z) (hn : Real' nw) (hw : Real' w) (hx : Real' x) (hg : Real' g) (hb : Real' b) (ht : Real' tg)
    (r : Fin 4096) (k : Fin 1024) : ∃ a : ℝ, err y z nw w x g b tg r k = a := by
  choose U hU using sum_real y z nw w x hy hz hn hw hx
  obtain ⟨G, hg⟩ := hg
  obtain ⟨B, hb⟩ := hb
  obtain ⟨T, ht⟩ := ht
  obtain ⟨s, hs, hS⟩ := eps_coe
  have hN : (0 : ℝ) < 1024 := by norm_num
  have hc : cn y z nw w x r = fun l => ((U r l - (∑ k, U r k) * (1 / 1024) : ℝ) : EReal) := by
    funext l
    rw [cn, funext (hU r), len_coe, cen_coe hN.ne']
  exact ⟨_, by rw [err, hc, len_coe, hS, hat_coe hN hs, hg, hb, ht, ← EReal.coe_mul, ← EReal.coe_add, ← EReal.coe_sub]⟩

/-- The chain rule's gradient of the sum is the kernel's. -/
theorem rows (hy : Real' y) (hz : Real' z) (hn : Real' nw) (hw : Real' w) (hx : Real' x) (hg : Real' g) (hb : Real' b) (ht : Real' tg)
    (r : Fin 4096) (k : Fin 1024) : dAuto y z nw w x g b tg r k = dSum y z nw w x g b tg r k := by
  choose E hE using err_real y z nw w x g b tg hy hz hn hw hx hg hb ht
  choose U hU using sum_real y z nw w x hy hz hn hw hx
  obtain ⟨G, hg⟩ := hg
  have hc : cn y z nw w x r = cen len (fun l => ((U r l : ℝ) : EReal)) := by
    funext l
    rw [cn, funext (hU r)]
  have hp : (fun l => ct y z nw w x g b tg r l * g (ix1 l)) = fun l => ((E r l * (1 / 1024) * G (ix1 l) : ℝ) : EReal) := by
    funext l
    rw [ct, hE, hg, len_coe, Ideal.div_coe (by norm_num), ← EReal.coe_mul, ← EReal.coe_mul]
  rw [dSum, dAuto, show scaled y z nw w x g b tg r = _ from hp, hc, hp]
  exact NormSpec.rows_eq _ _ _

/-- The loss row by row is the loss block by block. -/
theorem loss_blocks (hy : Real' y) (hz : Real' z) (hn : Real' nw) (hw : Real' w) (hx : Real' x) (hg : Real' g) (hb : Real' b) (ht : Real' tg) :
    lossAuto y z nw w x g b tg = loss y z nw w x g b tg := by
  choose E hE using err_real y z nw w x g b tg hy hz hn hw hx hg hb ht
  have hN : (1024 : ℝ) ≠ 0 := by norm_num
  have hs : ∑ r : Fin 4096, (∑ k : Fin 1024, E r k * E r k)
      = ∑ t : Fin 8, ∑ r : Fin 512, ∑ k : Fin 1024, E ⟨t.val * 512 + r.val, by omega⟩ k * E ⟨t.val * 512 + r.val, by omega⟩ k :=
    (Fin.sum_mul_add_congr (fun t r hl => rfl) (by decide +kernel)).symm
  rw [lossAuto, loss]
  simp only [hE, ← EReal.coe_mul, ← coe_sum, len_coe, half_coe, Ideal.div_coe hN]
  rw [← Finset.sum_mul, hs, EReal.coe_eq_coe_iff]
  simp only [Finset.mul_sum, Finset.sum_mul, mul_assoc]

theorem algebraic : Cert.algebraic_Kernel5Ideal_Reference5Ideal_pre_loss_finite := by
  pair_intro
  · run_from Cert.Kernel5Ideal.Value.run_blocks m g
  · refine θ_run_mono (Cert.Reference5Ideal.Value.run m' g') fun r h c => ?_
    obtain ⟨a0, a1, a2, a3, a4, a5, a6, a7⟩ := hagree c
    obtain ⟨hy, hz, hn, hw, hx, hg, hb, ht⟩ := reals _ _ _ _ _ _ _ _ (hpre c)
    change StableHlo.launchContents m' c (Proc.tc.devRef Cert.Reference5Ideal.main_arg0) = _ at a0
    change StableHlo.launchContents m' c (Proc.tc.devRef Cert.Reference5Ideal.main_arg1) = _ at a1
    change StableHlo.launchContents m' c (Proc.tc.devRef Cert.Reference5Ideal.main_arg2) = _ at a2
    change StableHlo.launchContents m' c (Proc.tc.devRef Cert.Reference5Ideal.main_arg3) = _ at a3
    change StableHlo.launchContents m' c (Proc.tc.devRef Cert.Reference5Ideal.main_arg4) = _ at a4
    change StableHlo.launchContents m' c (Proc.tc.devRef Cert.Reference5Ideal.main_arg5) = _ at a5
    change StableHlo.launchContents m' c (Proc.tc.devRef Cert.Reference5Ideal.main_arg6) = _ at a6
    change StableHlo.launchContents m' c (Proc.tc.devRef Cert.Reference5Ideal.main_arg7) = _ at a7
    obtain ⟨h0, h1, h2, h3, hk⟩ := h c
    refine ⟨h0.trans ?_, h1.trans ?_, h2.trans ?_, h3.trans ?_, hk⟩
    · rw [val_main_v92_eq, a0, a1, a2, a3, a4, a5, a6, a7, Cert.Kernel5Ideal.Loss.final8]
      funext i
      obtain ⟨r, k, rfl⟩ := pair i
      exact (rows_eq _ _ _ _ _ _ _ _ r k).trans (rows _ _ _ _ _ _ _ _ hy hz hn hw hx hg hb ht r k)
    · rw [val_main_v98_eq, a0, a1, a2, a3, a4, a5, a6, a7, Cert.Kernel5Ideal.Loss.final9, dNorm_eq]
    · rw [val_main_v99_eq, a0, a1, a2, a3, a4, a5, a6, a7, Cert.Kernel5Ideal.Loss.final10, loss_eq]
      exact funext fun _ => loss_blocks _ _ _ _ _ _ _ _ hy hz hn hw hx hg hb ht
    · rw [val_main_v100_eq, a0, a1, a2, a3, a4, a5, a6, a7, Cert.Kernel5Ideal.Loss.final11]
      funext i
      obtain ⟨e, k, rfl⟩ := pair i
      refine (dW_eq _ _ _ _ _ _ _ _ e k).trans (Finset.sum_congr rfl fun s _ => congrArg _ ?_)
      exact rows _ _ _ _ _ _ _ _ hy hz hn hw hx hg hb ht s k

end Cert.Loss

end
-- ==== Proof.Proj.lean ====
/-
  THE TWO PROJECTIONS OF THE SECOND LAYER'S GATE AND STEP SIZES: THE VALUE CLAIM. Each grid point multiplies 1024 rows by
  the gate's weights and by the step sizes' weights, padded with zero columns to a whole tile; the reference multiplies all
  rows at once and lays the zero columns beside the result.
-/
module

public import proofs.«01_k».proof.Proof.Gen.Kernel6Ideal.Value
public import proofs.«01_k».proof.Proof.Gen.Reference6Ideal.Read
public import proofs.«01_k».proof.Proof.Gen.Reference6Ideal.Run
public import proofs.«01_k».proof.Proof.GateSpec
public import proofs.«01_k».proof.Defs
public import Idealize.ShloMosaic.Lib.Pipeline.ValueKit
public import Idealize.ShloMosaic.Lib.StableHlo.RunRead
public import Idealize.ShloMosaic.Lib.Claim

@[expose] public section

noncomputable section

namespace Cert.ProjSpec

open Cert.GateSpec Idealize.ShloMosaic

variable (x : Arr 4096 1024) (wz : Arr 1024 2048) (wt : Arr 1024 32)

def gateRows (r : Fin 4096) (e : Fin 2048) : EReal := ∑ k : Fin 1024, x (ix2 r k) * wz (ix2 k e)

/-- The step sizes, in the first 32 of 128 columns. -/
def stepRows (r : Fin 4096) (j : Fin 128) : EReal := if h : j.val < 32 then ∑ k : Fin 1024, x (ix2 r k) * wt (ix2 k ⟨j.val, h⟩) else 0

end Cert.ProjSpec

namespace Cert.Kernel6Ideal.Proj

open Cert.Kernel6Ideal Cert.Kernel6Ideal.Gen Cert.Kernel6Ideal.Value Cert.GateSpec Cert.ProjSpec Idealize.ShloMosaic Idealize.ShloMosaic.TcCoe Idealize.SL.Sem
open Idealize.ShloMosaic.Pipeline (Dat)

variable (m : (ℓ : Loc nD τ sig) → Buf (Elt Ideal) ℓ)

abbrev xb (c : Dev nD) : Arr 4096 1024 := m ((c : Thread nD τ).loc main_arg0)
abbrev wz (c : Dev nD) : Arr 1024 2048 := m ((c : Thread nD τ).loc main_arg1)
abbrev wt (c : Dev nD) : Arr 1024 32 := m ((c : Thread nD τ).loc main_arg2)

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)

/-- Row `r` of the rows grid point `t` works on. -/
abbrev row (t : Fin cfg0.N) (r : Fin 1024) : Fin 4096 := ⟨t.val * 1024 + r.val, by have := t.isLt; have : cfg0.N = 4 := N_0; omega⟩

theorem zero_bits : (FloatOps.sitofp (F := Ideal) .bf16 (0#32) : EReal) = 0 := by simp [FloatOps.sitofp]

theorem V_main_v0 (c : Dev nD) : (V m c main_v0 : FVec Ideal S1024x128 .bf16) =
    pad S1024x128 ![0, 0] ![0, 96] ![0, 0] (wt m c) (sitofp .bf16 (constantI S_ 32 0#32) : FVec Ideal S_ .bf16) pads_S1024x32_S1024x128_000_0960 h_S_ := by rfl

theorem blk0 (c : Dev nD) (t : Fin cfg0.N) (r k : Fin 1024) : (iblk m c 0 t : Vec Ideal S1024x1024 .bf16) (ix2 r k) = xb m c (ix2 (row t r) k) := by
  blk_ext! [iblk, V_main_arg0, at0 t]
theorem blk1 (c : Dev nD) (t : Fin cfg0.N) (k : Fin 1024) (e : Fin 2048) : (iblk m c 1 t : Vec Ideal S1024x2048 .bf16) (ix2 k e) = wz m c (ix2 k e) := by
  blk_ext! [iblk, V_main_arg1, at1 t]
theorem blk2 (c : Dev nD) (t : Fin cfg0.N) (k : Fin 1024) (j : Fin 128) : (iblk m c 2 t : Vec Ideal S1024x128 .bf16) (ix2 k j) =
    if h : j.val < 32 then wt m c (ix2 k ⟨j.val, h⟩) else 0 := by
  have e : (iblk m c 2 t : Vec Ideal S1024x128 .bf16) (ix2 k j) = (V m c main_v0 : FVec Ideal S1024x128 .bf16) (ix2 k j) := by
    blk_ext! [iblk, at2 t]
  rw [e, V_main_v0]
  pointwise []
  exact dite_congr rfl (fun _ => rfl) fun _ => zero_bits

theorem gate_at (c : Dev nD) (t : Fin cfg0.N) (r : Fin 1024) (e : Fin 2048) :
    out0_3 (iblk m c 0 t) (iblk m c 1 t) (iblk m c 2 t) (ix2 r e) = gateRows (xb m c) (wz m c) (row t r) e := by
  frame_out
  pointwise [k0_pay1, gateRows]
  simp only [blk0, blk1]

theorem step_at (c : Dev nD) (t : Fin cfg0.N) (r : Fin 1024) (j : Fin 128) :
    out0_4 (iblk m c 0 t) (iblk m c 1 t) (iblk m c 2 t) (ix2 r j) = stepRows (xb m c) (wt m c) (row t r) j := by
  frame_out
  pointwise [k0_pay2, stepRows]
  simp only [blk0, blk2]
  split
  · rfl
  · simp only [mul_zero, Finset.sum_const_zero]

theorem final3 (c : Dev nD) : (dats m 0 c).arrAt 3 cfg0.N = (fun i => gateRows (xb m c) (wz m c) (i 0) (i 1) : Arr 4096 2048) := by
  refine (dats m 0 c).arrAt_eq_of_covers 3 _ (by decide +kernel) fun t hf j => ?_
  blk_simp
  rw [after0_3]
  obtain ⟨a, b, rfl⟩ := pair j
  rw [gate_at]
  refine congrArg₂ (gateRows _ _) (Fin.ext ?_) (Fin.ext ?_) <;> blk_simp [at3 t]
  all_goals rfl

theorem final4 (c : Dev nD) : (dats m 0 c).arrAt 4 cfg0.N = (fun i => stepRows (xb m c) (wt m c) (i 0) (i 1) : Arr 4096 128) := by
  refine (dats m 0 c).arrAt_eq_of_covers 4 _ (by decide +kernel) fun t hf j => ?_
  blk_simp
  rw [after0_4]
  obtain ⟨a, b, rfl⟩ := pair j
  rw [step_at]
  refine congrArg₂ (stepRows _ _) (Fin.ext ?_) (Fin.ext ?_) <;> blk_simp [at4 t]
  all_goals rfl

end Cert.Kernel6Ideal.Proj

namespace Cert.Reference6Ideal.Proj

open Cert.Reference6Ideal Cert.Reference6Ideal.Gen Cert.Reference6Ideal.Read Cert.GateSpec Cert.ProjSpec Idealize.ShloMosaic

variable (x : Arr 4096 1024) (wz : Arr 1024 2048) (wt : Arr 1024 32)

theorem gate_eq : val_main_v4 (F := Ideal) x wz = (fun i => gateRows x wz (i 0) (i 1) : Arr 4096 2048) := by
  funext i
  obtain ⟨a, b, rfl⟩ := pair i
  pointwise [val_main_v4, val_main_v3, val_main_v0, gateRows]

theorem step_eq : val_main_v6 (F := Ideal) x wt = (fun i => stepRows x wt (i 0) (i 1) : Arr 4096 128) := by
  funext i
  obtain ⟨a, b, rfl⟩ := pair i
  pointwise [val_main_v6, val_main_v5, val_main_cst, val_main_v2, val_main_v1, val_main_v0, stepRows]

end Cert.Reference6Ideal.Proj

namespace Cert.Proj

open Cert.Reference6Ideal.Read Idealize.ShloMosaic Idealize.SL.Sem

attribute [local instance] Cert.Kernel6Ideal.Gen.facts Cert.Reference6Ideal.Gen.facts

theorem algebraic : Cert.algebraic_Kernel6Ideal_Reference6Ideal := by
  pair_intro
  · run_from Cert.Kernel6Ideal.Value.run_blocks m g
  · refine θ_run_mono (Cert.Reference6Ideal.Value.run m' g') fun r h c => ?_
    obtain ⟨a0, a1, a2⟩ := hagree c
    obtain ⟨h0, h1, hk⟩ := h c
    refine ⟨h0.trans ?_, h1.trans ?_, hk⟩
    · rw [val_main_v4_eq, a0, a1, Cert.Kernel6Ideal.Proj.final3, Cert.Reference6Ideal.Proj.gate_eq]
    · rw [val_main_v6_eq, a0, a2, Cert.Kernel6Ideal.Proj.final4, Cert.Reference6Ideal.Proj.step_eq]

end Cert.Proj

end
-- ==== Proof.Mix.lean ====
/-
  THE FIRST LAYER'S MIX, OUTPUT PRODUCT AND NORM: THE VALUE CLAIM. The recurrence's and the attention's halves side by side
  are gated and multiplied by the output weights, added to the weighted skip, and each row is normalised, scaled and
  shifted. Each grid point takes 512 rows; the reference takes all rows at once.
-/
module

public import proofs.«01_k».proof.Proof.Gen.Kernel7Ideal.Value
public import proofs.«01_k».proof.Proof.Gen.Reference7Ideal.Read
public import proofs.«01_k».proof.Proof.Gen.Reference7Ideal.Run
public import proofs.«01_k».proof.Proof.NormSpec
public import proofs.«01_k».proof.Defs
public import Idealize.ShloMosaic.Lib.Pipeline.ValueKit
public import Idealize.ShloMosaic.Lib.StableHlo.RunRead
public import Idealize.ShloMosaic.Lib.Claim

@[expose] public section

noncomputable section

namespace Cert.MixSpec

open Cert.GateSpec Cert.NormSpec Idealize.ShloMosaic

variable (h o : Arr 4096 512) (p : Arr 4096 2048) (x : Arr 4096 1024) (w : Arr 1024 1024) (g b : (⟨1, ![1024]⟩ : Shape).Idx → EReal)

/-- The gated halves. -/
def gatedRow (r : Fin 4096) (e : Fin 1024) : EReal := mix h o r e * (gate p r e * sigm (gate p r e))

/-- The layer's sum before its norm. -/
def sumRow (r : Fin 4096) (k : Fin 1024) : EReal := alpha * x (ix2 r k) + ∑ e : Fin 1024, gatedRow h o p r e * w (ix2 e k)

/-- The layer's output. -/
def outRow (r : Fin 4096) (k : Fin 1024) : EReal := hat len eps (cen len (fun l => sumRow h o p x w r l)) k * g (ix1 k) + b (ix1 k)

end Cert.MixSpec

namespace Cert.Kernel7Ideal.Mix

open Cert.Kernel7Ideal Cert.Kernel7Ideal.Gen Cert.Kernel7Ideal.Value Cert.GateSpec Cert.NormSpec Cert.MixSpec Idealize.ShloMosaic Idealize.ShloMosaic.TcCoe Idealize.SL.Sem
open Idealize.ShloMosaic.Pipeline (Dat)

variable (m : (ℓ : Loc nD τ sig) → Buf (Elt Ideal) ℓ)

abbrev hl (c : Dev nD) : Arr 4096 512 := m ((c : Thread nD τ).loc main_arg0)
abbrev ho (c : Dev nD) : Arr 4096 512 := m ((c : Thread nD τ).loc main_arg1)
abbrev pj (c : Dev nD) : Arr 4096 2048 := m ((c : Thread nD τ).loc main_arg2)
abbrev x (c : Dev nD) : Arr 4096 1024 := m ((c : Thread nD τ).loc main_arg3)
abbrev wo (c : Dev nD) : Arr 1024 1024 := m ((c : Thread nD τ).loc main_arg4)
abbrev gs (c : Dev nD) : (⟨1, ![1024]⟩ : Shape).Idx → EReal := m ((c : Thread nD τ).loc main_arg5)
abbrev bs (c : Dev nD) : (⟨1, ![1024]⟩ : Shape).Idx → EReal := m ((c : Thread nD τ).loc main_arg6)

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 1] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![t.val, 0] := (by decide +kernel : ∀ t : Fin grid0.N, _)
theorem at9 : ∀ t : Fin cfg0.N, win0_9.index t = ![t.val, 0] := (by decide +kernel : ∀ t : Fin grid0.N, _)
theorem at10 : ∀ t : Fin cfg0.N, win0_10.index t = ![t.val, 0] := (by decide +kernel : ∀ t : Fin grid0.N, _)
theorem at11 : ∀ t : Fin cfg0.N, win0_11.index t = ![t.val, 0] := (by decide +kernel : ∀ t : Fin grid0.N, _)

/-- Row `r` of the rows grid point `t` works on. -/
abbrev row (t : Fin cfg0.N) (r : Fin 512) : Fin 4096 := ⟨t.val * 512 + r.val, by have := t.isLt; have : cfg0.N = 8 := N_0; omega⟩

theorem V_main_v0 (c : Dev nD) : (V m c main_v0 : FVec Ideal S1x1024 .f32) = broadcastInDim S1x1024 ![1] bcast_S1024_S1x1024_1 (gs m c) := by rfl
theorem V_main_v1 (c : Dev nD) : (V m c main_v1 : FVec Ideal S1x1024 .f32) = broadcastInDim S1x1024 ![1] bcast_S1024_S1x1024_1 (bs m c) := by rfl

theorem blk0 (c : Dev nD) (t : Fin cfg0.N) (r k : Fin 512) : (iblk m c 0 t : Vec Ideal S512x512 .f32) (ix2 r k) = hl m c (ix2 (row t r) k) := by
  blk_ext! [iblk, V_main_arg0, at0 t]
theorem blk1 (c : Dev nD) (t : Fin cfg0.N) (r k : Fin 512) : (iblk m c 1 t : Vec Ideal S512x512 .f32) (ix2 r k) = ho m c (ix2 (row t r) k) := by
  blk_ext! [iblk, V_main_arg1, at1 t]
theorem blk2 (c : Dev nD) (t : Fin cfg0.N) (r k : Fin 512) : (iblk m c 2 t : Vec Ideal S512x512 .f32) (ix2 r k) = gate (pj m c) (row t r) ⟨k.val, by omega⟩ := by
  unfold gate
  blk_ext! [iblk, V_main_arg2, at2 t]
theorem blk3 (c : Dev nD) (t : Fin cfg0.N) (r k : Fin 512) : (iblk m c 3 t : Vec Ideal S512x512 .f32) (ix2 r k) = gate (pj m c) (row t r) ⟨512 + k.val, by omega⟩ := by
  unfold gate
  blk_ext! [iblk, V_main_arg2, at3 t]
theorem blk4 (c : Dev nD) (t : Fin cfg0.N) (r : Fin 512) (k : Fin 1024) : (iblk m c 4 t : Vec Ideal S512x1024 .f32) (ix2 r k) = x m c (ix2 (row t r) k) := by
  blk_ext! [iblk, V_main_arg3, at4 t]
theorem blk5 (c : Dev nD) (t : Fin cfg0.N) (e k : Fin 1024) : (iblk m c 5 t : Vec Ideal S1024x1024 .bf16) (ix2 e k) = wo m c (ix2 e k) := by
  blk_ext! [iblk, V_main_arg4, at5 t]
theorem blk6 (c : Dev nD) (t : Fin cfg0.N) (u : Fin 1) (k : Fin 1024) : (iblk m c 6 t : Vec Ideal S1x1024 .f32) (ix2 u k) = gs m c (ix1 k) := by
  have e : (iblk m c 6 t : Vec Ideal S1x1024 .f32) (ix2 u k) = (V m c main_v0 : FVec Ideal S1x1024 .f32) (ix2 u k) := by
    blk_ext! [iblk, at6 t]
  rw [e, V_main_v0]
  pointwise []
theorem blk7 (c : Dev nD) (t : Fin cfg0.N) (u : Fin 1) (k : Fin 1024) : (iblk m c 7 t : Vec Ideal S1x1024 .f32) (ix2 u k) = bs m c (ix1 k) := by
  have e : (iblk m c 7 t : Vec Ideal S1x1024 .f32) (ix2 u k) = (V m c main_v1 : FVec Ideal S1x1024 .f32) (ix2 u k) := by
    blk_ext! [iblk, at7 t]
  rw [e, V_main_v1]
  pointwise []

theorem pay3_at (c : Dev nD) (t : Fin cfg0.N) (r : Fin 512) (e : Fin 1024) :
    k0_pay3 (iblk m c 0 t) (iblk m c 2 t) (iblk m c 1 t) (iblk m c 3 t) (ix2 r e) = gatedRow (hl m c) (ho m c) (pj m c) (row t r) e := by
  pointwise [k0_pay3]
  simp only [blk0, blk1, blk2, blk3, one_f32, sigm_zero_sub]
  unfold gatedRow
  by_cases h : e.val < 512
  · rw [dif_pos h, mix_left _ _ _ _ h]
  · rw [dif_neg h, mix_right _ _ _ _ h]
    have e1 : ∀ hx, (⟨512 + (e.val - 512), hx⟩ : Fin 1024) = e := fun _ => Fin.ext (by show 512 + (e.val - 512) = e.val; omega)
    simp only [e1]

theorem pay4_at (c : Dev nD) (t : Fin cfg0.N) (r : Fin 512) (k : Fin 1024) :
    k0_pay4 (iblk m c 0 t) (iblk m c 2 t) (iblk m c 1 t) (iblk m c 3 t) (iblk m c 4 t) (iblk m c 5 t) (ix2 r k)
      = sumRow (hl m c) (ho m c) (pj m c) (x m c) (wo m c) (row t r) k := by
  pointwise [k0_pay4, sumRow, alpha]
  simp only [pay3_at, blk4, blk5]

/-- A block's rows normalised, scaled and shifted. -/
theorem pay1_at (v : FVec Ideal S512x1024 .f32) (g b : Vec Ideal S1x1024 .f32) (r : Fin 512) (k : Fin 1024) :
    k0_pay1 v g b (ix2 r k) = hat len eps (cen len (fun l => v (ix2 r l))) k * g (ix2 0 k) + b (ix2 0 k) := by
  pointwise [k0_pay1, hat, rstd, var, cen, mean, len, eps]

theorem pay2_at (v : FVec Ideal S512x1024 .f32) (g b : Vec Ideal S1x1024 .f32) (r : Fin 512) (k : Fin 1024) :
    k0_pay2 v g b (ix2 r k) = k0_pay1 v g b (ix2 r k) := by
  pointwise [k0_pay2]

section
variable (x0 x1 x2 x3 : Vec Ideal S512x512 .f32) (x4 : Vec Ideal S512x1024 .f32) (x5 : Vec Ideal S1024x1024 .bf16) (x6 x7 : Vec Ideal S1x1024 .f32)

theorem ld_half (X : Vec Ideal S512x512 .f32) : View.ld X r0_0 = X := View.ld_unit_lit (S := S512x512) _ _ (by decide)
theorem ld_rows (X : Vec Ideal S512x1024 .f32) : View.ld X r0_1 = X := View.ld_unit_lit (S := S512x1024) _ _ (by decide)
theorem ld_weights (X : Vec Ideal S1024x1024 .bf16) : View.ld X r0_2 = X := View.ld_unit_lit (S := S1024x1024) _ _ (by decide)
theorem ld_scale (X : Vec Ideal S1x1024 .f32) : View.ld X r0_3 = X := View.ld_unit_lit (S := S1x1024) _ _ (by decide)

theorem pay5_eq : k0_pay5 x0 x1 x2 x3 x4 x5 x6 x7 = k0_pay4 x0 x2 x1 x3 x4 x5 := by
  rw [k0_pay5, ld_half, ld_half, ld_half, ld_half, ld_rows, ld_weights]

theorem out10_eq : out0_10 x0 x1 x2 x3 x4 x5 x6 x7 = k0_pay1 (k0_pay4 x0 x2 x1 x3 x4 x5) x6 x7 := by
  unfold out0_10
  refine (View.canon_unit_zero (S := S512x1024) (by decide) _ _).trans ?_
  rw [pay5_eq, ld_scale, ld_scale]

theorem out11_eq : out0_11 x0 x1 x2 x3 x4 x5 x6 x7 = k0_pay2 (k0_pay4 x0 x2 x1 x3 x4 x5) x6 x7 := by
  unfold out0_11
  refine (View.canon_unit_zero (S := S512x1024) (by decide) _ _).trans ?_
  rw [pay5_eq, ld_scale, ld_scale]
end

theorem gated_at (c : Dev nD) (t : Fin cfg0.N) (r : Fin 512) (e : Fin 1024) :
    out0_8 (iblk m c 0 t) (iblk m c 1 t) (iblk m c 2 t) (iblk m c 3 t) (iblk m c 4 t) (iblk m c 5 t) (iblk m c 6 t) (iblk m c 7 t) (ix2 r e)
      = gatedRow (hl m c) (ho m c) (pj m c) (row t r) e := by
  frame_out
  exact pay3_at m c t r e

theorem sum_at (c : Dev nD) (t : Fin cfg0.N) (r : Fin 512) (k : Fin 1024) :
    out0_9 (iblk m c 0 t) (iblk m c 1 t) (iblk m c 2 t) (iblk m c 3 t) (iblk m c 4 t) (iblk m c 5 t) (iblk m c 6 t) (iblk m c 7 t) (ix2 r k)
      = sumRow (hl m c) (ho m c) (pj m c) (x m c) (wo m c) (row t r) k := by
  frame_out
  exact pay4_at m c t r k

theorem out_at (c : Dev nD) (t : Fin cfg0.N) (r : Fin 512) (k : Fin 1024) :
    out0_10 (iblk m c 0 t) (iblk m c 1 t) (iblk m c 2 t) (iblk m c 3 t) (iblk m c 4 t) (iblk m c 5 t) (iblk m c 6 t) (iblk m c 7 t) (ix2 r k)
      = outRow (hl m c) (ho m c) (pj m c) (x m c) (wo m c) (gs m c) (bs m c) (row t r) k := by
  rw [out10_eq, pay1_at]
  simp only [pay4_at, blk6, blk7]
  rfl

theorem outb_at (c : Dev nD) (t : Fin cfg0.N) (r : Fin 512) (k : Fin 1024) :
    out0_11 (iblk m c 0 t) (iblk m c 1 t) (iblk m c 2 t) (iblk m c 3 t) (iblk m c 4 t) (iblk m c 5 t) (iblk m c 6 t) (iblk m c 7 t) (ix2 r k)
      = outRow (hl m c) (ho m c) (pj m c) (x m c) (wo m c) (gs m c) (bs m c) (row t r) k := by
  rw [out11_eq, pay2_at, pay1_at]
  simp only [pay4_at, blk6, blk7]
  rfl

theorem final8 (c : Dev nD) : (dats m 0 c).arrAt 8 cfg0.N = (fun i => gatedRow (hl m c) (ho m c) (pj m c) (i 0) (i 1) : Arr 4096 1024) := by
  refine (dats m 0 c).arrAt_eq_of_covers 8 _ (by decide +kernel) fun t hf j => ?_
  blk_simp
  rw [after0_8]
  obtain ⟨a, b, rfl⟩ := pair j
  rw [gated_at]
  refine congrArg₂ (gatedRow _ _ _) (Fin.ext ?_) (Fin.ext ?_) <;> blk_simp [at8 t]
  all_goals rfl

theorem final9 (c : Dev nD) : (dats m 0 c).arrAt 9 cfg0.N = (fun i => sumRow (hl m c) (ho m c) (pj m c) (x m c) (wo m c) (i 0) (i 1) : Arr 4096 1024) := by
  refine (dats m 0 c).arrAt_eq_of_covers 9 _ (by decide +kernel) fun t hf j => ?_
  blk_simp
  rw [after0_9]
  obtain ⟨a, b, rfl⟩ := pair j
  rw [sum_at]
  refine congrArg₂ (sumRow _ _ _ _ _) (Fin.ext ?_) (Fin.ext ?_) <;> blk_simp [at9 t]
  all_goals rfl

theorem final10 (c : Dev nD) : (dats m 0 c).arrAt 10 cfg0.N =
    (fun i => outRow (hl m c) (ho m c) (pj m c) (x m c) (wo m c) (gs m c) (bs m c) (i 0) (i 1) : Arr 4096 1024) := by
  refine (dats m 0 c).arrAt_eq_of_covers 10 _ (by decide +kernel) fun t hf j => ?_
  blk_simp
  rw [after0_10]
  obtain ⟨a, b, rfl⟩ := pair j
  rw [out_at]
  refine congrArg₂ (outRow _ _ _ _ _ _ _) (Fin.ext ?_) (Fin.ext ?_) <;> blk_simp [at10 t]
  all_goals rfl

theorem final11 (c : Dev nD) : (dats m 0 c).arrAt 11 cfg0.N =
    (fun i => outRow (hl m c) (ho m c) (pj m c) (x m c) (wo m c) (gs m c) (bs m c) (i 0) (i 1) : Arr 4096 1024) := by
  refine (dats m 0 c).arrAt_eq_of_covers 11 _ (by decide +kernel) fun t hf j => ?_
  blk_simp
  rw [after0_11]
  obtain ⟨a, b, rfl⟩ := pair j
  rw [outb_at]
  refine congrArg₂ (outRow _ _ _ _ _ _ _) (Fin.ext ?_) (Fin.ext ?_) <;> blk_simp [at11 t]
  all_goals rfl

end Cert.Kernel7Ideal.Mix

namespace Cert.Reference7Ideal.Mix

open Cert.Reference7Ideal Cert.Reference7Ideal.Gen Cert.Reference7Ideal.Read Cert.GateSpec Cert.NormSpec Cert.MixSpec Idealize.ShloMosaic

variable (h o : Arr 4096 512) (p : Arr 4096 2048) (x : Arr 4096 1024) (w : Arr 1024 1024) (g b : (⟨1, ![1024]⟩ : Shape).Idx → EReal)

theorem gated_eq (r : Fin 4096) (e : Fin 1024) : val_main_v3 (F := Ideal) h o p (ix2 r e) = gatedRow h o p r e := by
  pointwise [val_main_v3, val_main_v2, val_main_call0_v5, val_main_call0_v4, val_main_call0_cst_0, val_main_call0_v3, val_main_call0_v2, val_main_call0_cst, val_main_call0_v1,
    val_main_call0_v0, val_main_v1, val_main_v0, gatedRow, mix, gate, sigm]

theorem sum_eq (r : Fin 4096) (k : Fin 1024) : val_main_v8 (F := Ideal) h o p x w (ix2 r k) = sumRow h o p x w r k := by
  pointwise [val_main_v8, val_main_v7, val_main_v6, val_main_v5, val_main_v4, val_main_cst, sumRow, alpha]
  simp only [gated_eq]

theorem cen_eq (r : Fin 4096) (k : Fin 1024) : val_main_v14 (F := Ideal) h o p x w (ix2 r k) = cen len (fun l => sumRow h o p x w r l) k := by
  pointwise [val_main_v14, val_main_v13, val_main_v12, val_main_v11, val_main_cst_1, val_main_v10, val_main_v9, val_main_cst_0, cen, mean, len]
  simp only [sum_eq]

theorem out_eq (r : Fin 4096) (k : Fin 1024) : val_main_v30 (F := Ideal) h o p x w g b (ix2 r k) = outRow h o p x w g b r k := by
  pointwise [val_main_v30, val_main_v29, val_main_v28, val_main_v27, val_main_v26, val_main_v25, val_main_v24, val_main_v23, val_main_v22, val_main_v21, val_main_v20,
    val_main_cst_4, val_main_v19, val_main_v18, val_main_cst_3, val_main_v17, val_main_v16, val_main_cst_2, val_main_v15]
  simp only [cen_eq, outRow, hat, rstd, var, mean, len, eps]

end Cert.Reference7Ideal.Mix

namespace Cert.Mix

open Cert.GateSpec Cert.Reference7Ideal.Read Idealize.ShloMosaic Idealize.SL.Sem

attribute [local instance] Cert.Kernel7Ideal.Gen.facts Cert.Reference7Ideal.Gen.facts

theorem algebraic : Cert.algebraic_Kernel7Ideal_Reference7Ideal := by
  pair_intro
  · run_from Cert.Kernel7Ideal.Value.run_blocks m g
  · refine θ_run_mono (Cert.Reference7Ideal.Value.run m' g') fun r h c => ?_
    obtain ⟨a0, a1, a2, a3, a4, a5, a6⟩ := hagree c
    obtain ⟨h0, h1, h2, h3, hk⟩ := h c
    refine ⟨h0.trans ?_, h1.trans ?_, h2.trans ?_, h3.trans ?_, hk⟩
    · rw [val_main_v31_eq, a0, a1, a2, Cert.Kernel7Ideal.Mix.final8]
      funext i
      obtain ⟨a, b, rfl⟩ := pair i
      exact Cert.Reference7Ideal.Mix.gated_eq _ _ _ a b
    · rw [val_main_v8_eq, a0, a1, a2, a3, a4, Cert.Kernel7Ideal.Mix.final9]
      funext i
      obtain ⟨a, b, rfl⟩ := pair i
      exact Cert.Reference7Ideal.Mix.sum_eq _ _ _ _ _ a b
    · rw [val_main_v30_eq, a0, a1, a2, a3, a4, a5, a6, Cert.Kernel7Ideal.Mix.final10]
      funext i
      obtain ⟨a, b, rfl⟩ := pair i
      exact Cert.Reference7Ideal.Mix.out_eq _ _ _ _ _ _ _ a b
    · rw [val_main_v32_eq, a0, a1, a2, a3, a4, a5, a6, Cert.Kernel7Ideal.Mix.final11]
      funext i
      obtain ⟨a, b, rfl⟩ := pair i
      exact Cert.Reference7Ideal.Mix.out_eq _ _ _ _ _ _ _ a b

end Cert.Mix

end
-- ==== Proof.Columns.lean ====
/-
  THE FIRST LAYER'S PROJECTION, as the step lays its columns out: the gate's 1024 columns, the recurrence's 512, the
  latents' 384, 64 columns of zeros, the rotary key's 32, and 32 columns of zeros.
-/
module

public import proofs.«01_k».proof.Proof.GateSpec

@[expose] public section

noncomputable section

namespace Cert.Columns

open Cert.GateSpec Idealize.ShloMosaic

/-- Row `r` of an array of 1952 columns, laid out in 2048 columns. -/
def laid (w : Fin 1952 → EReal) (e : Fin 2048) : EReal :=
  if h : e.val < 1024 then w ⟨512 + e.val, by omega⟩
  else if h : e.val - 1024 < 512 then w ⟨e.val - 1024, by omega⟩
  else if h : e.val - 1024 - 512 < 384 then w ⟨1536 + (e.val - 1024 - 512), by omega⟩
  else if _h : e.val - 1024 - 512 - 384 < 64 then 0
  else if h : e.val - 1024 - 512 - 384 - 64 < 32 then w ⟨1920 + (e.val - 1024 - 512 - 384 - 64), by omega⟩
  else 0

theorem zero_bf16 : Ideal.ofBits .bf16 0x0000#16 = 0 := by simp [Ideal.ofBits, Ideal.ieee]

/-- Laying out a row of products is multiplying by the columns laid out. -/
theorem sum_laid {n : Nat} (x : Fin n → EReal) (w : Fin n → Fin 1952 → EReal) (e : Fin 2048) :
    ∑ k, x k * laid (w k) e = laid (fun l => ∑ k, x k * w k l) e := by
  unfold laid
  split_ifs <;> first | rfl | simp only [mul_zero, Finset.sum_const_zero]

/-- A sum over two parts side by side. -/
theorem sum_two {a b n : Nat} (hn : a + b = n) (f : Fin n → EReal) : ∑ j, f j =
    (∑ j : Fin a, f ⟨j.val, by omega⟩) + (∑ j : Fin b, f ⟨a + j.val, by omega⟩) := by
  subst hn
  rw [Fin.sum_univ_add]
  rfl

end Cert.Columns

end
-- ==== Proof.InProj.lean ====
/-
  THE FIRST LAYER'S INPUT PROJECTION: THE VALUE CLAIM. Each grid point multiplies 1024 rows by 1024 of the columns laid out;
  the reference multiplies all rows by all columns and lays the result out.
-/
module

public import proofs.«01_k».proof.Proof.Gen.Kernel8Ideal.Value
public import proofs.«01_k».proof.Proof.Gen.Reference8Ideal.Read
public import proofs.«01_k».proof.Proof.Gen.Reference8Ideal.Run
public import proofs.«01_k».proof.Proof.Columns
public import proofs.«01_k».proof.Defs
public import Idealize.ShloMosaic.Lib.Pipeline.ValueKit
public import Idealize.ShloMosaic.Lib.StableHlo.RunRead
public import Idealize.ShloMosaic.Lib.Claim

@[expose] public section

noncomputable section

namespace Cert.InSpec

open Cert.GateSpec Cert.Columns Idealize.ShloMosaic

/-- The projection, laid out. -/
def proj (x : Arr 4096 1024) (w : Arr 1024 1952) (r : Fin 4096) (e : Fin 2048) : EReal :=
  laid (fun l => ∑ k : Fin 1024, x (ix2 r k) * w (ix2 k l)) e

end Cert.InSpec

namespace Cert.Kernel8Ideal.In

open Cert.Kernel8Ideal Cert.Kernel8Ideal.Gen Cert.Kernel8Ideal.Value Cert.GateSpec Cert.Columns Cert.InSpec Idealize.ShloMosaic Idealize.ShloMosaic.TcCoe Idealize.SL.Sem
open Idealize.ShloMosaic.Pipeline (Dat)

variable (m : (ℓ : Loc nD τ sig) → Buf (Elt Ideal) ℓ)

abbrev xs (c : Dev nD) : Arr 4096 1024 := m ((c : Thread nD τ).loc main_arg0)
abbrev ws (c : Dev nD) : Arr 1024 1952 := m ((c : Thread nD τ).loc main_arg1)

theorem at0 : ∀ t : Fin cfg0.N, win0_0.index t = ![t.val / 2, 0] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, t.val % 2] := (by decide +kernel : ∀ t : Fin grid0.N, _)
theorem at3 : ∀ t : Fin cfg0.N, win0_3.index t = ![t.val / 2, 0] := (by decide +kernel : ∀ t : Fin grid0.N, _)

/-- Row `r` of the rows grid point `t` works on, and column `e` of its columns. -/
abbrev row (t : Fin cfg0.N) (r : Fin 1024) : Fin 4096 := ⟨t.val / 2 * 1024 + r.val, by have := t.isLt; have : cfg0.N = 8 := N_0; omega⟩
abbrev col (t : Fin cfg0.N) (e : Fin 1024) : Fin 2048 := ⟨t.val % 2 * 1024 + e.val, by omega⟩

theorem V_main_v6 (c : Dev nD) : (V m c main_v6 : FVec Ideal S1024x2048 .bf16) =
    concatenate S1024x2048 1 [⟨S1024x1024, (extractStridedSlice S1024x1024 ![0, 512] (ws m c : FVec Ideal S1024x1952 .bf16) slices_S1024x1952_S1024x1024_0_512)⟩,
      ⟨S1024x512, extractStridedSlice S1024x512 ![0, 0] (ws m c : FVec Ideal S1024x1952 .bf16) slices_S1024x1952_S1024x512_0_0⟩,
      ⟨S1024x384, extractStridedSlice S1024x384 ![0, 1536] (ws m c : FVec Ideal S1024x1952 .bf16) slices_S1024x1952_S1024x384_0_1536⟩,
      ⟨S1024x64, broadcastInDim S1024x64 ![] bcast_S_S1024x64 (constant (F := Ideal) S_ .bf16 0x0000#16)⟩,
      ⟨S1024x32, extractStridedSlice S1024x32 ![0, 1920] (ws m c : FVec Ideal S1024x1952 .bf16) slices_S1024x1952_S1024x32_0_1920⟩,
      ⟨S1024x32, broadcastInDim S1024x32 ![] bcast_S_S1024x32 (constant (F := Ideal) S_ .bf16 0x0000#16)⟩]
      concatenates_S1024x1024_S1024x512_S1024x384_S1024x64_S1024x32_S1024x32_S1024x2048_d1 := by rfl

theorem columns_at (c : Dev nD) (k : Fin 1024) (e : Fin 2048) : (V m c main_v6 : FVec Ideal S1024x2048 .bf16) (ix2 k e) = laid (fun l => ws m c (ix2 k l)) e := by
  rw [V_main_v6]
  pointwise [laid]

theorem blk0 (c : Dev nD) (t : Fin cfg0.N) (r k : Fin 1024) : (iblk m c 0 t : Vec Ideal S1024x1024 .f32) (ix2 r k) = xs m c (ix2 (row t r) k) := by
  blk_ext! [iblk, V_main_arg0, at0 t]
theorem blk1 (c : Dev nD) (t : Fin cfg0.N) (k : Fin 1024) (e : Fin 1024) : (iblk m c 1 t : Vec Ideal S1024x1024 .bf16) (ix2 k e) =
    laid (fun l => ws m c (ix2 k l)) (col t e) := by
  have h : (iblk m c 1 t : Vec Ideal S1024x1024 .bf16) (ix2 k e) = (V m c main_v6 : FVec Ideal S1024x2048 .bf16) (ix2 k (col t e)) := by
    blk_ext! [iblk, at1 t]
  rw [h, columns_at]

theorem proj_at (c : Dev nD) (t : Fin cfg0.N) (r e : Fin 1024) :
    out0_2 (iblk m c 0 t) (iblk m c 1 t) (ix2 r e) = proj (xs m c) (ws m c) (row t r) (col t e) := by
  frame_out
  pointwise [k0_pay2, k0_pay1]
  simp only [blk0, blk1]
  exact sum_laid _ _ _

theorem copy_at (c : Dev nD) (t : Fin cfg0.N) (r e : Fin 1024) :
    out0_3 (iblk m c 0 t) (iblk m c 1 t) (ix2 r e) = xs m c (ix2 (row t r) e) := by
  frame_out
  pointwise [k0_pay1]
  exact blk0 m c t r e

theorem final2 (c : Dev nD) : (dats m 0 c).arrAt 2 cfg0.N = (fun i => proj (xs m c) (ws m c) (i 0) (i 1) : Arr 4096 2048) := by
  refine (dats m 0 c).arrAt_eq_of_covers 2 _ (by decide +kernel) fun t hf j => ?_
  blk_simp
  rw [after0_2]
  obtain ⟨a, b, rfl⟩ := pair j
  rw [proj_at]
  refine congrArg₂ (proj _ _) (Fin.ext ?_) (Fin.ext ?_) <;> blk_simp [at2 t]
  all_goals rfl

theorem final3 (c : Dev nD) : (dats m 0 c).arrAt 3 cfg0.N = (fun i => xs m c (ix2 (i 0) (i 1)) : Arr 4096 1024) := by
  refine (dats m 0 c).arrAt_eq_of_covers 3 _ (by decide +kernel) fun t hf j => ?_
  blk_simp
  rw [after0_3]
  obtain ⟨a, b, rfl⟩ := pair j
  rw [copy_at]
  refine congrArg₂ (fun a b => xs m c (ix2 a b)) (Fin.ext ?_) (Fin.ext ?_) <;> blk_simp [at3 t]
  all_goals rfl

end Cert.Kernel8Ideal.In

namespace Cert.Reference8Ideal.In

open Cert.Reference8Ideal Cert.Reference8Ideal.Gen Cert.Reference8Ideal.Read Cert.GateSpec Cert.Columns Cert.InSpec Idealize.ShloMosaic

variable (x : Arr 4096 1024) (w : Arr 1024 1952)

theorem proj_eq : val_main_v8 (F := Ideal) x w = (fun i => proj x w (i 0) (i 1) : Arr 4096 2048) := by
  funext i
  obtain ⟨a, b, rfl⟩ := pair i
  pointwise [val_main_v8, val_main_v7, val_main_v6, val_main_cst, val_main_cst_0, val_main_v5, val_main_v4, val_main_v3, val_main_v2, val_main_v1, val_main_v0, proj, laid]

theorem copy_eq : val_main_v9 (F := Ideal) x = (fun i => x (ix2 (i 0) (i 1)) : Arr 4096 1024) := by
  funext i
  obtain ⟨a, b, rfl⟩ := pair i
  pointwise [val_main_v9]

end Cert.Reference8Ideal.In

namespace Cert.InProj

open Cert.Reference8Ideal.Read Idealize.ShloMosaic Idealize.SL.Sem

attribute [local instance] Cert.Kernel8Ideal.Gen.facts Cert.Reference8Ideal.Gen.facts

theorem algebraic : Cert.algebraic_Kernel8Ideal_Reference8Ideal := by
  pair_intro
  · run_from Cert.Kernel8Ideal.Value.run_blocks m g
  · refine θ_run_mono (Cert.Reference8Ideal.Value.run m' g') fun r h c => ?_
    obtain ⟨a0, a1⟩ := hagree c
    obtain ⟨h0, h1, hk⟩ := h c
    refine ⟨h0.trans ?_, h1.trans ?_, hk⟩
    · rw [val_main_v8_eq, a0, a1, Cert.Kernel8Ideal.In.final2, Cert.Reference8Ideal.In.proj_eq]
    · rw [val_main_v9_eq, a0, Cert.Kernel8Ideal.In.final3, Cert.Reference8Ideal.In.copy_eq]

end Cert.InProj

end
-- ==== Proof.InDx.lean ====
/-
  THE GRADIENT OF THE STEP'S INPUT: THE VALUE CLAIM. Each grid point multiplies 1024 rows of the projection's cotangents by
  the transposed columns, in the order the step lays them out and with the columns of zeros between them, and adds the
  residual's cotangent; the reference sums over the columns in their own order.
-/
module

public import proofs.«01_k».proof.Proof.Gen.Kernel9Ideal.Value
public import proofs.«01_k».proof.Proof.Gen.Reference9Ideal.Read
public import proofs.«01_k».proof.Proof.Gen.Reference9Ideal.Run
public import proofs.«01_k».proof.Proof.Columns
public import proofs.«01_k».proof.Defs
public import Idealize.ShloMosaic.Lib.Pipeline.ValueKit
public import Idealize.ShloMosaic.Lib.StableHlo.RunRead
public import Idealize.ShloMosaic.Lib.Claim

@[expose] public section

noncomputable section

namespace Cert.DxSpec

open Cert.GateSpec Cert.Columns Idealize.ShloMosaic

variable (dr : Arr 4096 512) (dg : Arr 4096 1024) (dl : Arr 4096 384) (dp : Arr 4096 32) (w : Arr 1024 1952) (dv : Arr 4096 1024)

/-- The residual's factor. -/
abbrev alpha : EReal := Ideal.ofBits .f32 0x3FB504F3#32

/-- The gradient: the residual's part, the gate's, the recurrence's, the latents' and the rotary key's. -/
def dx (r : Fin 4096) (d : Fin 1024) : EReal :=
  alpha * dv (ix2 r d) + (∑ e : Fin 1024, dg (ix2 r e) * w (ix2 d ⟨512 + e.val, by omega⟩)) + (∑ e : Fin 512, dr (ix2 r e) * w (ix2 d ⟨e.val, by omega⟩))
    + ((∑ e : Fin 384, dl (ix2 r e) * w (ix2 d ⟨1536 + e.val, by omega⟩)) + ∑ e : Fin 32, dp (ix2 r e) * w (ix2 d ⟨1920 + e.val, by omega⟩))

/-- The cotangents of the latents and of the rotary key, laid out. -/
def tail (r : Fin 4096) (e : Fin 512) : EReal :=
  if h : e.val < 384 then dl (ix2 r ⟨e.val, h⟩)
  else if _h : e.val - 384 < 64 then 0
  else if h : e.val - 384 - 64 < 32 then dp (ix2 r ⟨e.val - 384 - 64, h⟩)
  else 0

theorem laid_gate (w : Fin 1952 → EReal) (e : Fin 1024) : laid w ⟨e.val, by omega⟩ = w ⟨512 + e.val, by omega⟩ := dif_pos e.isLt

theorem laid_rnn (w : Fin 1952 → EReal) (l : Fin 2048) (e : Fin 512) (h : l.val = 1024 + e.val) : laid w l = w ⟨e.val, by omega⟩ := by
  unfold laid
  split_ifs <;> first | omega | exact congrArg w (Fin.mk_eq_mk.mpr (by omega))

theorem laid_latent (w : Fin 1952 → EReal) (l : Fin 2048) (e : Fin 384) (h : l.val = 1536 + e.val) : laid w l = w ⟨1536 + e.val, by omega⟩ := by
  unfold laid
  split_ifs <;> first | omega | exact congrArg w (Fin.mk_eq_mk.mpr (by omega))

theorem laid_rope (w : Fin 1952 → EReal) (l : Fin 2048) (e : Fin 32) (h : l.val = 1984 + e.val) : laid w l = w ⟨1920 + e.val, by omega⟩ := by
  unfold laid
  split_ifs <;> first | omega | exact congrArg w (Fin.mk_eq_mk.mpr (by omega))

theorem tail_latent (r : Fin 4096) (l : Fin 512) (e : Fin 384) (h : l.val = e.val) : tail dl dp r l = dl (ix2 r e) := by
  unfold tail
  split_ifs <;> first | omega | exact congrArg (fun x => dl (ix2 r x)) ((Fin.mk_eq_mk (h' := e.isLt)).mpr (by omega))

theorem tail_rope (r : Fin 4096) (l : Fin 512) (e : Fin 32) (h : l.val = 448 + e.val) : tail dl dp r l = dp (ix2 r e) := by
  unfold tail
  split_ifs <;> first | omega | exact congrArg (fun x => dp (ix2 r x)) ((Fin.mk_eq_mk (h' := e.isLt)).mpr (by omega))

theorem tail_gap (r : Fin 4096) (l : Fin 512) (h : 384 ≤ l.val ∧ l.val < 448 ∨ 480 ≤ l.val) : tail dl dp r l = 0 := by
  unfold tail
  split_ifs <;> first | omega | rfl

/-- The product over the 512 columns at the end is that over the latents and that over the rotary key. -/
theorem sum_tail (r : Fin 4096) (f : Fin 1952 → EReal) : ∑ e : Fin 512, tail dl dp r e * laid f ⟨1536 + e.val, by omega⟩ =
    (∑ e : Fin 384, dl (ix2 r e) * f ⟨1536 + e.val, by omega⟩) + ∑ e : Fin 32, dp (ix2 r e) * f ⟨1920 + e.val, by omega⟩ := by
  rw [sum_two (a := 384) (b := 128) rfl, sum_two (a := 96) (b := 32) (n := 128) rfl, sum_two (a := 64) (b := 32) (n := 96) rfl]
  have z0 : ∀ e : Fin 64, tail dl dp r ⟨384 + e.val, by omega⟩ = 0 := fun e => tail_gap dl dp r _ (.inl ⟨Nat.le_add_right .., Nat.add_lt_add_left e.isLt 384⟩)
  have z1 : ∀ e : Fin 32, tail dl dp r ⟨384 + (96 + e.val), by omega⟩ = 0 := fun e =>
    tail_gap dl dp r _ (.inr (show 480 ≤ 384 + (96 + e.val) by omega))
  simp only [z0, z1, zero_mul, Finset.sum_const_zero, zero_add, add_zero]
  refine congrArg₂ (· + ·) (Finset.sum_congr rfl fun e _ => congrArg₂ (· * ·) (tail_latent dl dp r _ e rfl) (laid_latent f _ e rfl))
    (Finset.sum_congr rfl fun e _ => congrArg₂ (· * ·) (tail_rope dl dp r _ e ?_) (laid_rope f _ e ?_))
  · show 384 + (64 + e.val) = 448 + e.val
    omega
  · show 1536 + (384 + (64 + e.val)) = 1984 + e.val
    omega

end Cert.DxSpec

namespace Cert.Kernel9Ideal.Dx

open Cert.Kernel9Ideal Cert.Kernel9Ideal.Gen Cert.Kernel9Ideal.Value Cert.GateSpec Cert.Columns Cert.DxSpec Idealize.ShloMosaic Idealize.ShloMosaic.TcCoe Idealize.SL.Sem
open Idealize.ShloMosaic.Pipeline (Dat)

variable (m : (ℓ : Loc nD τ sig) → Buf (Elt Ideal) ℓ)

abbrev dr (c : Dev nD) : Arr 4096 512 := m ((c : Thread nD τ).loc main_arg0)
abbrev dg (c : Dev nD) : Arr 4096 1024 := m ((c : Thread nD τ).loc main_arg1)
abbrev dl (c : Dev nD) : Arr 4096 384 := m ((c : Thread nD τ).loc main_arg2)
abbrev dp (c : Dev nD) : Arr 4096 32 := m ((c : Thread nD τ).loc main_arg3)
abbrev ws (c : Dev nD) : Arr 1024 1952 := m ((c : Thread nD τ).loc main_arg4)
abbrev dv (c : Dev nD) : Arr 4096 1024 := m ((c : Thread nD τ).loc main_arg5)

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)

/-- Row `r` of the rows grid point `t` works on. -/
abbrev row (t : Fin cfg0.N) (r : Fin 1024) : Fin 4096 := ⟨t.val * 1024 + r.val, by have := t.isLt; have : cfg0.N = 4 := N_0; omega⟩

theorem V_main_v9 (c : Dev nD) : (V m c main_v9 : FVec Ideal S1024x2048 .bf16) =
    concatenate S1024x2048 1 [⟨S1024x1024, (extractStridedSlice S1024x1024 ![0, 512] (ws m c : FVec Ideal S1024x1952 .bf16) slices_S1024x1952_S1024x1024_0_512)⟩,
      ⟨S1024x512, extractStridedSlice S1024x512 ![0, 0] (ws m c : FVec Ideal S1024x1952 .bf16) slices_S1024x1952_S1024x512_0_0⟩,
      ⟨S1024x384, extractStridedSlice S1024x384 ![0, 1536] (ws m c : FVec Ideal S1024x1952 .bf16) slices_S1024x1952_S1024x384_0_1536⟩,
      ⟨S1024x64, broadcastInDim S1024x64 ![] bcast_S_S1024x64 (constant (F := Ideal) S_ .bf16 0x0000#16)⟩,
      ⟨S1024x32, extractStridedSlice S1024x32 ![0, 1920] (ws m c : FVec Ideal S1024x1952 .bf16) slices_S1024x1952_S1024x32_0_1920⟩,
      ⟨S1024x32, broadcastInDim S1024x32 ![] bcast_S_S1024x32 (constant (F := Ideal) S_ .bf16 0x0000#16)⟩]
      concatenates_S1024x1024_S1024x512_S1024x384_S1024x64_S1024x32_S1024x32_S1024x2048_d1 := by rfl

theorem columns_at (c : Dev nD) (k : Fin 1024) (e : Fin 2048) : (V m c main_v9 : FVec Ideal S1024x2048 .bf16) (ix2 k e) = laid (fun l => ws m c (ix2 k l)) e := by
  rw [V_main_v9]
  pointwise [laid]

theorem V_main_v2 (c : Dev nD) : (V m c main_v2 : FVec Ideal S4096x512 .bf16) =
    concatenate S4096x512 1 [⟨S4096x384, (dl m c : FVec Ideal S4096x384 .bf16)⟩,
      ⟨S4096x64, broadcastInDim S4096x64 ![] bcast_S_S4096x64 (constant (F := Ideal) S_ .bf16 0x0000#16)⟩,
      ⟨S4096x32, (dp m c : FVec Ideal S4096x32 .bf16)⟩,
      ⟨S4096x32, broadcastInDim S4096x32 ![] bcast_S_S4096x32 (constant (F := Ideal) S_ .bf16 0x0000#16)⟩]
      concatenates_S4096x384_S4096x64_S4096x32_S4096x32_S4096x512_d1 := by rfl

theorem tail_at (c : Dev nD) (r : Fin 4096) (e : Fin 512) : (V m c main_v2 : FVec Ideal S4096x512 .bf16) (ix2 r e) = tail (dl m c) (dp m c) r e := by
  rw [V_main_v2]
  pointwise [tail]

theorem blk0 (c : Dev nD) (t : Fin cfg0.N) (r : Fin 1024) (e : Fin 512) : (iblk m c 0 t : Vec Ideal S1024x512 .bf16) (ix2 r e) = dr m c (ix2 (row t r) e) := by
  blk_ext! [iblk, V_main_arg0, at0 t]
theorem blk1 (c : Dev nD) (t : Fin cfg0.N) (r e : Fin 1024) : (iblk m c 1 t : Vec Ideal S1024x1024 .bf16) (ix2 r e) = dg m c (ix2 (row t r) e) := by
  blk_ext! [iblk, V_main_arg1, at1 t]
theorem blk2 (c : Dev nD) (t : Fin cfg0.N) (r : Fin 1024) (e : Fin 512) : (iblk m c 2 t : Vec Ideal S1024x512 .bf16) (ix2 r e) = tail (dl m c) (dp m c) (row t r) e := by
  have h : (iblk m c 2 t : Vec Ideal S1024x512 .bf16) (ix2 r e) = (V m c main_v2 : FVec Ideal S4096x512 .bf16) (ix2 (row t r) e) := by
    blk_ext! [iblk, at2 t]
  rw [h, tail_at]
theorem blk3 (c : Dev nD) (t : Fin cfg0.N) (k : Fin 1024) (e : Fin 2048) : (iblk m c 3 t : Vec Ideal S1024x2048 .bf16) (ix2 k e) = laid (fun l => ws m c (ix2 k l)) e := by
  have h : (iblk m c 3 t : Vec Ideal S1024x2048 .bf16) (ix2 k e) = (V m c main_v9 : FVec Ideal S1024x2048 .bf16) (ix2 k e) := by
    blk_ext! [iblk, at3 t]
  rw [h, columns_at]
theorem blk4 (c : Dev nD) (t : Fin cfg0.N) (r e : Fin 1024) : (iblk m c 4 t : Vec Ideal S1024x1024 .f32) (ix2 r e) = dv m c (ix2 (row t r) e) := by
  blk_ext! [iblk, V_main_arg5, at4 t]

theorem dx_at (c : Dev nD) (t : Fin cfg0.N) (r d : Fin 1024) :
    out0_5 (iblk m c 0 t) (iblk m c 1 t) (iblk m c 2 t) (iblk m c 3 t) (iblk m c 4 t) (ix2 r d)
      = dx (dr m c) (dg m c) (dl m c) (dp m c) (ws m c) (dv m c) (row t r) d := by
  frame_out
  pointwise [k0_pay1]
  simp only [blk0, blk1, blk2, blk3, blk4]
  rw [dx]
  refine congrArg₂ (· + ·) (congrArg₂ (· + ·) (congrArg _ ?_) ?_) ?_
  · exact Finset.sum_congr rfl fun e _ => congrArg _ (laid_gate _ e)
  · exact Finset.sum_congr rfl fun e _ => congrArg _ (laid_rnn _ _ e rfl)
  · exact sum_tail _ _ _ fun l => ws m c (ix2 d l)

theorem final5 (c : Dev nD) : (dats m 0 c).arrAt 5 cfg0.N
    = (fun i => dx (dr m c) (dg m c) (dl m c) (dp m c) (ws m c) (dv m c) (i 0) (i 1) : Arr 4096 1024) := by
  refine (dats m 0 c).arrAt_eq_of_covers 5 _ (by decide +kernel) fun t hf j => ?_
  blk_simp
  rw [after0_5]
  obtain ⟨a, b, rfl⟩ := pair j
  rw [dx_at]
  refine congrArg₂ (dx _ _ _ _ _ _) (Fin.ext ?_) (Fin.ext ?_) <;> blk_simp [at5 t]
  all_goals rfl

end Cert.Kernel9Ideal.Dx

namespace Cert.Reference9Ideal.Dx

open Cert.Reference9Ideal Cert.Reference9Ideal.Gen Cert.Reference9Ideal.Read Cert.GateSpec Cert.Columns Cert.DxSpec Idealize.ShloMosaic

variable (dr : Arr 4096 512) (dg : Arr 4096 1024) (dl : Arr 4096 384) (dp : Arr 4096 32) (w : Arr 1024 1952) (dv : Arr 4096 1024)

/-- The cotangent of the whole projection. -/
def cot (r : Fin 4096) (l : Fin 1952) : EReal :=
  if h : l.val < 512 then dr (ix2 r ⟨l.val, h⟩)
  else if h : l.val - 512 < 1024 then dg (ix2 r ⟨l.val - 512, h⟩)
  else if h : l.val - 512 - 1024 < 384 then dl (ix2 r ⟨l.val - 512 - 1024, h⟩)
  else dp (ix2 r ⟨l.val - 512 - 1024 - 384, by omega⟩)

theorem cot_rnn (r : Fin 4096) (l : Fin 1952) (e : Fin 512) (h : l.val = e.val) : cot dr dg dl dp r l = dr (ix2 r e) := by
  unfold cot
  split_ifs <;> first | omega | exact congrArg (fun x => dr (ix2 r x)) ((Fin.mk_eq_mk (h' := e.isLt)).mpr (by omega))

theorem cot_gate (r : Fin 4096) (l : Fin 1952) (e : Fin 1024) (h : l.val = 512 + e.val) : cot dr dg dl dp r l = dg (ix2 r e) := by
  unfold cot
  split_ifs <;> first | omega | exact congrArg (fun x => dg (ix2 r x)) ((Fin.mk_eq_mk (h' := e.isLt)).mpr (by omega))

theorem cot_latent (r : Fin 4096) (l : Fin 1952) (e : Fin 384) (h : l.val = 1536 + e.val) : cot dr dg dl dp r l = dl (ix2 r e) := by
  unfold cot
  split_ifs <;> first | omega | exact congrArg (fun x => dl (ix2 r x)) ((Fin.mk_eq_mk (h' := e.isLt)).mpr (by omega))

theorem cot_rope (r : Fin 4096) (l : Fin 1952) (e : Fin 32) (h : l.val = 1920 + e.val) : cot dr dg dl dp r l = dp (ix2 r e) := by
  unfold cot
  split_ifs <;> first | omega | exact congrArg (fun x => dp (ix2 r x)) ((Fin.mk_eq_mk (h' := e.isLt)).mpr (by omega))

theorem sum_cot (r : Fin 4096) (f : Fin 1952 → EReal) : ∑ l, cot dr dg dl dp r l * f l =
    (∑ e : Fin 1024, dg (ix2 r e) * f ⟨512 + e.val, by omega⟩) + (∑ e : Fin 512, dr (ix2 r e) * f ⟨e.val, by omega⟩)
    + ((∑ e : Fin 384, dl (ix2 r e) * f ⟨1536 + e.val, by omega⟩) + ∑ e : Fin 32, dp (ix2 r e) * f ⟨1920 + e.val, by omega⟩) := by
  rw [sum_two (a := 1536) (b := 416) rfl, sum_two (a := 512) (b := 1024) (n := 1536) rfl, sum_two (a := 384) (b := 32) (n := 416) rfl,
    add_comm (∑ e : Fin 1024, _)]
  refine congrArg₂ (· + ·) (congrArg₂ (· + ·) ?_ ?_) (congrArg₂ (· + ·) ?_ ?_)
  · exact Finset.sum_congr rfl fun e _ => congrArg (· * _) (cot_rnn dr dg dl dp r _ e rfl)
  · exact Finset.sum_congr rfl fun e _ => congrArg (· * _) (cot_gate dr dg dl dp r _ e rfl)
  · exact Finset.sum_congr rfl fun e _ => congrArg (· * _) (cot_latent dr dg dl dp r _ e rfl)
  · refine Finset.sum_congr rfl fun e _ => congrArg₂ (· * ·) (cot_rope dr dg dl dp r _ e ?_) (congrArg f (Fin.mk_eq_mk.mpr ?_))
    · show 1536 + (384 + e.val) = 1920 + e.val
      omega
    · show 1536 + (384 + e.val) = 1920 + e.val
      omega

theorem dx_eq : val_main_v17 (F := Ideal) dr dg dl dp w dv = (fun i => dx dr dg dl dp w dv (i 0) (i 1) : Arr 4096 1024) := by
  funext i
  obtain ⟨a, b, rfl⟩ := pair i
  pointwise [val_main_v17, val_main_v14, val_main_v13, val_main_cst_1, val_main_v16, val_main_v15, val_main_v0, val_main_v1, val_main_v2, val_main_v3, val_main_v5]
  have e := sum_cot dr dg dl dp a fun l => w (ix2 b l)
  simp only [cot] at e
  rw [e, dx]
  simp only [← add_assoc]

end Cert.Reference9Ideal.Dx

namespace Cert.InDx

open Cert.Reference9Ideal.Read Idealize.ShloMosaic Idealize.SL.Sem

attribute [local instance] Cert.Kernel9Ideal.Gen.facts Cert.Reference9Ideal.Gen.facts

theorem algebraic : Cert.algebraic_Kernel9Ideal_Reference9Ideal := by
  pair_intro
  · run_from Cert.Kernel9Ideal.Value.run_blocks m g
  · refine θ_run_mono (Cert.Reference9Ideal.Value.run m' g') fun r h c => ?_
    obtain ⟨a0, a1, a2, a3, a4, a5⟩ := hagree c
    obtain ⟨h0, hk⟩ := h c
    refine ⟨h0.trans ?_, hk⟩
    rw [val_main_v17_eq, a0, a1, a2, a3, a4, a5, Cert.Kernel9Ideal.Dx.final5, Cert.Reference9Ideal.Dx.dx_eq]

end Cert.InDx

end
-- ==== Proof.ActRun.lean ====
/- The run of the convolution's forward kernel: what one call of its body leaves in its buffers, the eight rows it
   carries from one block of rows to the next, and the run of the whole call. -/
module

public import proofs.«01_k».proof.Proof.Gen.Kernel11Ideal.Frame
public import proofs.«01_k».proof.Proof.Gen.Kernel11Ideal.Skeleton
public import Idealize.ShloMosaic.Lib.Pipeline.ValueKit

@[expose] public section

set_option maxRecDepth 16384

noncomputable section

namespace Cert.ActIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel11Ideal Cert.Kernel11Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one call of the body leaves -/

/-- The product's block. -/
def xbcAt (x0 x1 : Vec F S1024x1024 .bf16) : Vec F S1024x1024 .f32 := k0_pay4 x0 x1

/-- The convolution's block, from the product's block and the rows `xs` before it. -/
def preAt (i : grid0.Coords) (x0 x1 : Vec F S1024x1024 .bf16) (x2 : Vec F S8x1024 .f32) (x3 : Vec F S1x1024 .f32)
    (xs : Vec F S8x1024 .f32) : Vec F S1024x1024 .f32 :=
  k0_pay1 (k0_pay4 x0 x1) (k0_pay5 i xs) (k0_pay6 x2) (k0_pay7 i x0 x1 xs x2 x3) (k0_pay8 i x0 x1 xs) (k0_pay9 x2)

/-- The activation's block. -/
def actAt (i : grid0.Coords) (x0 x1 : Vec F S1024x1024 .bf16) (x2 : Vec F S8x1024 .f32) (x3 : Vec F S1x1024 .f32)
    (xs : Vec F S8x1024 .f32) : Vec F S1024x1024 .f32 :=
  k0_pay3 (k0_pay4 x0 x1) (k0_pay5 i xs) (k0_pay6 x2) (k0_pay7 i x0 x1 xs x2 x3) (k0_pay8 i x0 x1 xs) (k0_pay9 x2)

/-- The rows carried on: the product's last eight. -/
def tailAt (x0 x1 : Vec F S1024x1024 .bf16) : Vec F S8x1024 .f32 := k0_pay2 (k0_pay4 x0 x1)

/-- In the first block of rows the body puts zeros in the place of the carried rows, whatever they are. -/
theorem halo_first (i : grid0.Coords) (h : (i 1).val = 0) (a b : Vec F S8x1024 .f32) : k0_pay5 i a = k0_pay5 i b := by
  have hi : Scalar.cmpi .sgt (BitVec.ofNat 32 (i 1).val) 0#32 = 0#1 := by rw [h]; decide
  unfold k0_pay5
  dsimp only
  rw [hi]
  rfl

theorem preAt_first (i : grid0.Coords) (h : (i 1).val = 0) (x0 x1 : Vec F S1024x1024 .bf16) (x2 : Vec F S8x1024 .f32)
    (x3 : Vec F S1x1024 .f32) (a b : Vec F S8x1024 .f32) : preAt i x0 x1 x2 x3 a = preAt i x0 x1 x2 x3 b := by
  unfold preAt k0_pay7 k0_pay8
  rw [halo_first i h a b]

theorem actAt_first (i : grid0.Coords) (h : (i 1).val = 0) (x0 x1 : Vec F S1024x1024 .bf16) (x2 : Vec F S8x1024 .f32)
    (x3 : Vec F S1x1024 .f32) (a b : Vec F S8x1024 .f32) : actAt i x0 x1 x2 x3 a = actAt i x0 x1 x2 x3 b := by
  unfold actAt k0_pay7 k0_pay8
  rw [halo_first i h a b]

set_option maxHeartbeats 1000000 in
/-- The body's run: from its four inputs and the carried rows it leaves the product, the convolution and the
    activation in its output buffers and the product's last rows in the carried ones. -/
theorem body_run (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S8x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S8x1024 .f32) (harg9 : arg9.IsWhole)
    (x0 x1 : Vec F S1024x1024 .bf16) (x2 : Vec F S8x1024 .f32) (x3 : Vec F S1x1024 .f32) (xs : Vec F S8x1024 .f32)
    (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare xs
        ∗ (iprop(owns (c : Thread nD τ) arg2 fullShare x0
        ∗ owns (c : Thread nD τ) arg3 fullShare x1
        ∗ owns (c : Thread nD τ) arg4 fullShare x2
        ∗ owns (c : Thread nD τ) arg5 fullShare x3
          ∗ owns (c : Thread nD τ) arg6 fullShare (xbcAt x0 x1)
          ∗ owns (c : Thread nD τ) arg7 fullShare (preAt i x0 x1 x2 x3 xs)
          ∗ owns (c : Thread nD τ) arg8 fullShare (actAt i x0 x1 x2 x3 xs)
          ∗ owns (c : Thread nD τ) arg9 fullShare (tailAt x0 x1)) -∗ K ⟨⟩))
      ⊢ wp frame (wpE (defs₀ (F := F)) Variants.none c none) E (cc0_ssd_conv_fwd i arg2 harg2 arg3 harg3 arg4 harg4 arg5 harg5 arg6 harg6 arg7 harg7 arg8 harg8 arg9 harg9) K := by
  simp only [cc0_ssd_conv_fwd_eq_skeleton]; unfold cc0_ssd_conv_fwd_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩,
    ⟨%d6, %f6, -, H6⟩, ⟨%fs, %hfs, HS⟩, Hk⟩
  obtain rfl := harg2.eq_unread hf0
  obtain rfl := harg3.eq_unread hf1
  obtain rfl := harg4.eq_unread hf2
  obtain rfl := harg5.eq_unread hf3
  obtain rfl := harg9.eq_unread hfs
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (View.read_writes_eq_canon _ _ _ (View.cover_of_tiledL _ S1024x1024.size (by sl_kernel_rfl))).trans ?_
    unfold xbcAt
    frame_open
    simp (disch := decide) only [View.canon_cons_unit_lit', View.readAt_eq_ld, View.ld_unit_lit',
      Memref.IsWhole.read_unread]
  isplitl [H5]
  · iexists _; isplitr
    swap; · iexact H5
    ipureintro
    refine (View.read_writes_eq_canon _ _ _ (View.cover_of_tiledL _ S1024x1024.size (by sl_kernel_rfl))).trans ?_
    unfold preAt
    frame_open
    simp (disch := decide) only [View.canon_cons_unit_lit', View.readAt_eq_ld, View.ld_unit_lit',
      Memref.IsWhole.read_unread]
  isplitl [H6]
  · iexists _; isplitr
    swap; · iexact H6
    ipureintro
    refine (View.read_writes_eq_canon _ _ _ (View.cover_of_tiledL _ S1024x1024.size (by sl_kernel_rfl))).trans ?_
    unfold actAt
    frame_open
    simp (disch := decide) only [View.canon_cons_unit_lit', View.readAt_eq_ld, View.ld_unit_lit',
      Memref.IsWhole.read_unread]
  · iexists _; isplitr
    swap; · iexact HS
    ipureintro
    refine (View.read_writes_eq_canon _ _ _ (View.cover_of_tiledL _ S8x1024.size (by sl_kernel_rfl))).trans ?_
    unfold tailAt
    frame_open
    simp (disch := decide) only [View.canon_cons_unit_lit', View.readAt_eq_ld, View.ld_unit_lit',
      Memref.IsWhole.read_unread]

/-! ## The pipeline's data -/

/-- The carried rows, as a whole buffer. -/
abbrev carried : Memref sig .tc .vmem S8x1024 .f32 := Memref.whole cc0_scratch0

/-- Before the first point: the carried rows at anything, and the generator's register. -/
theorem first_eq (c : Dev nD) : Pipeline.ΦA spec0 c
    = (iprop((∃ d, owns (c : Thread nD τ) carried fullShare d) ∗ (∃ r, prngReg c r)) : sProp 𝕄) := by
  unfold Pipeline.ΦA; rw [scopedRest0_eq]; simp only [carried, owns_whole]; try rfl

/-- The carried rows before point `n`: the last rows of the product of the point before (before the first point, which
    does not use them, zeros). -/
def rowsBefore (c : Dev nD) : (n : ℕ) → n ≤ cfg0.N → Vec F S8x1024 .f32
  | 0, _ => fun _ => Scalar.ofBits .f32 0x00000000#32
  | n + 1, h => tailAt (iblk m c 0 ⟨n, h⟩) (iblk m c 1 ⟨n, h⟩)

/-- The invariant between points. -/
def between (c : Dev nD) : (n : ℕ) → n ≤ cfg0.N → sProp 𝕄
  | 0, _ => Pipeline.ΦA spec0 c
  | n + 1, h => iprop(owns (c : Thread nD τ) carried fullShare (rowsBefore m c (n + 1) h) ∗ (∃ r, prngReg c r))

theorem between_zero (c : Dev nD) (n : ℕ) (h : n ≤ cfg0.N) (hz : n = 0) : between m c n h = Pipeline.ΦA spec0 c := by
  subst hz; rfl

theorem between_pos (c : Dev nD) (n : ℕ) (h : n ≤ cfg0.N) (hz : n ≠ 0) : between m c n h
    = iprop(owns (c : Thread nD τ) carried fullShare (rowsBefore m c n h) ∗ (∃ r, prngReg c r)) := by
  cases n with
  | zero => exact absurd rfl hz
  | succ n => rfl

/-- The proof data of the pipeline: its arrays as launched, each window's buffer after the body at a point, and the
    invariant between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => xbcAt (iblk m c 0 t) (iblk m c 1 t)
    | ⟨5, _⟩ => preAt (grid0.coords t) (iblk m c 0 t) (iblk m c 1 t) (iblk m c 2 t) (iblk m c 3 t)
        (rowsBefore m c t.val (Nat.le_of_lt t.isLt))
    | ⟨6, _⟩ => actAt (grid0.coords t) (iblk m c 0 t) (iblk m c 1 t) (iblk m c 2 t) (iblk m c 3 t)
        (rowsBefore m c t.val (Nat.le_of_lt t.isLt))
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

theorem between_castSucc (c : Dev nD) (t : Fin cfg0.N) :
    (dats m 0 c).Φ t.castSucc = between m c t.val (Nat.le_of_lt t.isLt) := by
  dsimp only [dats]; exact Pipeline.Dat.Φ_castSucc (between m c) t

theorem between_succ (c : Dev nD) (t : Fin cfg0.N) : (dats m 0 c).Φ t.succ
    = iprop(owns (c : Thread nD τ) carried fullShare (tailAt (iblk m c 0 t) (iblk m c 1 t)) ∗ (∃ r, prngReg c r)) := rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = xbcAt (iblk m c 0 t) (iblk m c 1 t) := by dsimp only [dats]
theorem after_5 (c : Dev nD) (t : Fin cfg0.N) : (dats m 0 c).after 5 t
    = preAt (grid0.coords t) (iblk m c 0 t) (iblk m c 1 t) (iblk m c 2 t) (iblk m c 3 t)
        (rowsBefore m c t.val (Nat.le_of_lt t.isLt)) := by dsimp only [dats]
theorem after_6 (c : Dev nD) (t : Fin cfg0.N) : (dats m 0 c).after 6 t
    = actAt (grid0.coords t) (iblk m c 0 t) (iblk m c 1 t) (iblk m c 2 t) (iblk m c 3 t)
        (rowsBefore m c t.val (Nat.le_of_lt t.isLt)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The body at a point -/

/-- Window `w`'s buffer at point `t` holding what it holds when the body is called. -/
def given (c : Dev nD) (t : Fin cfg0.N) (w : Fin cfg0.W) : sProp 𝕄 :=
  iprop(∃ d, owns (c : Thread nD τ) ((cfg0.win w).stage (cfg0.slots t w)) fullShare ((dats m 0 c).before w t d))

/-- No window is ever idle, so after the body each holds what the data say. -/
theorem leaves_eq (c : Dev nD) (t : Fin cfg0.N) (w : Fin cfg0.W) (h : cfg0.idle w (grid0.coords t) = false) :
    (dats m 0 c).leavesExact w t
      = owns (c : Thread nD τ) ((cfg0.win w).stage (cfg0.slots t w)) fullShare ((dats m 0 c).after w t) := by
  unfold Dat.leavesExact; rw [h]

/-- The point's coordinate along the rows, at the first point. -/
theorem row_first (t : Fin cfg0.N) (h : t.val = 0) : (grid0.coords t 1).val = 0 := by
  obtain rfl : t = t0_0 := Fin.ext h
  decide

set_option maxHeartbeats 1000000 in
theorem body_sound (c : Dev nD) (t : Fin cfg0.N) :
    iprop((dats m 0 c).Φ t.castSucc ∗ (dats m 0 c).owesAt () t.castSucc
        ∗ given m c t 0 ∗ given m c t 1 ∗ given m c t 2 ∗ given m c t 3 ∗ given m c t 4 ∗ given m c t 5 ∗ given m c t 6)
      ⊢ wp frame (wpE (defs₀ (F := F)) Variants.none c none) Set.univ (bodyAt0 (F := F) t) (fun _ =>
        iprop((dats m 0 c).Φ t.succ ∗ (dats m 0 c).owesAt () t.succ
        ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t)) := by
  unfold bodyAt0 given
  simp only [before_0, before_1, before_2, before_3]
  rw [show (dats m 0 c).owesAt () t.succ = (dats m 0 c).owesAt () t.castSucc from rfl, between_succ]
  rw [leaves_eq m c t 0 rfl, leaves_eq m c t 1 rfl, leaves_eq m c t 2 rfl, leaves_eq m c t 3 rfl, leaves_eq m c t 4 rfl, leaves_eq m c t 5 rfl, leaves_eq m c t 6 rfl]
  rw [after_0, after_1, after_2, after_3, after_4, after_5, after_6]
  by_cases hz : t.val = 0
  · rw [between_castSucc m c t, between_zero m c _ _ hz, first_eq]
    iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩⟩
    rw [preAt_first _ (row_first t hz) _ _ _ _ (rowsBefore m c t.val (Nat.le_of_lt t.isLt)) ds,
      actAt_first _ (row_first t hz) _ _ _ _ (rowsBefore m c t.val (Nat.le_of_lt t.isLt)) ds]
    iapply (body_run c (grid0.coords t) _ _ _ _ _ _ _ _ _ _ _ _ _ _ _ _ (iblk m c 0 t) (iblk m c 1 t) (iblk m c 2 t) (iblk m c 3 t) ds Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [between_castSucc m c t, between_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (body_run c (grid0.coords t) _ _ _ _ _ _ _ _ _ _ _ _ _ _ _ _ (iblk m c 0 t) (iblk m c 1 t) (iblk m c 2 t) (iblk m c 3 t)
      (rowsBefore m c t.val (Nat.le_of_lt t.isLt)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (body_sound m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = between m c cfg0.N le_rfl from rfl,
    between_pos m c _ _ (by rw [show cfg0.N = 12 from N_0]; decide), first_eq]
  iintro ⟨HS, Hg⟩
  isplitl [HS]; · iexists _; iexact HS
  iexact Hg

/-! ## The run of the call -/

set_option backward.isDefEq.respectTransparency.types false in
/-- Run on one device, the call ends with its arrays at what the data say and every semaphore at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The frame: the call leaves its arguments as they were and every semaphore at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiet m ρ))

end Cert.ActIdeal

end
-- ==== Proof.ActFrame.lean ====
/-
  THE FRAME OF THE CONVOLUTION'S FORWARD KERNEL AS PRINTED. Nothing of it is rewritten in its idealization, so the two are
  the same program, at any interpretation of the floats; the run of the idealization is its run.
-/
module

public import proofs.«01_k».proof.Proof.ActRun
public import proofs.«01_k».proof.Proof.Gen.Kernel11.Frame

@[expose] public section

set_option maxRecDepth 16384

noncomputable section

namespace Cert.ActFrame

open Idealize.ShloMosaic Idealize.ShloMosaic.TcCoe Idealize.SL.Sem
open Cert.Kernel11 Cert.Kernel11.Gen

variable {F : FTy → Type} [FloatOps F] (m : (ℓ : Loc nD τ sig) → Buf (Elt F) ℓ) (ρ : Dev nD → PrngReg)

theorem same_main : main (F := F) = Cert.Kernel11Ideal.main (F := F) := rfl

theorem same_body : defs₀ (F := F) = Cert.Kernel11Ideal.defs₀ (F := F) := by
  refine congrArg Defs.onTc (funext fun p => funext fun a => ?_)
  obtain ⟨i, h⟩ := p
  cases i with
  | zero => obtain ⟨t, s⟩ := a; rfl
  | succ i => exact absurd h (Nat.not_lt.2 (Nat.le_add_left _ _))

theorem same_defs : defs (F := F) = Cert.Kernel11Ideal.defs (F := F) := congrArg (Pipeline.defs pcfgs) same_body

theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  by rw [same_defs]; exact Cert.ActIdeal.frame_holds (F := F) m ρ

end Cert.ActFrame

end
-- ==== Proof.ActSpec.lean ====
/-
  THE SHORT CONVOLUTION AND ITS ACTIVATION, written at an element. The input is projected; every channel of the projection
  is convolved with four taps looking back in time; a bias is added; the result passes through `silu`.
-/
module

public import proofs.«01_k».proof.Proof.ConvSpec

@[expose] public section

noncomputable section

namespace Cert.ActSpec

open Cert.GateSpec Cert.ConvSpec Idealize.ShloMosaic

variable (x : Arr 4096 1024) (w : Arr 1024 3072) (t : Arr 4 3072) (b : (⟨1, ![3072]⟩ : Shape).Idx → EReal)

/-- The projection. -/
def prod (r : Fin 4096) (k : Fin 3072) : EReal := ∑ d : Fin 1024, x (ix2 r d) * w (ix2 d k)

/-- A channel of it as a sequence. -/
abbrev chan (k : Fin 3072) (r : Fin 4096) : EReal := prod x w r k

/-- The convolution. -/
def pre (r : Fin 4096) (k : Fin 3072) : EReal :=
  b (ix1 k) + prod x w r k * t (ix2 3 k) + behind 3 (chan x w k) r * t (ix2 0 k) + behind 2 (chan x w k) r * t (ix2 1 k)
    + behind 1 (chan x w k) r * t (ix2 2 k)

/-- The activation. -/
def act (r : Fin 4096) (k : Fin 3072) : EReal := pre x w t b r k * sigm (pre x w t b r k)

end Cert.ActSpec

end
-- ==== Proof.ActBlocks.lean ====
/-
  WHAT THE CONVOLUTION'S FORWARD KERNEL LEAVES. Each grid point projects 1024 rows onto 1024 channels and looks back up to
  three rows, before its first row into the last rows of the block before, which the point before carried on.
-/
module

public import proofs.«01_k».proof.Proof.ActRun
public import proofs.«01_k».proof.Proof.ActSpec
public import Idealize.ShloMosaic.Lib.Pipeline.ReadBack
public import Idealize.ShloMosaic.Lib.Pipeline.ValueKit
public import Idealize.ShloMosaic.Lib.StableHlo.RunRead

@[expose] public section

noncomputable section

namespace Cert.Kernel11Ideal.Act

open Cert.Kernel11Ideal Cert.Kernel11Ideal.Gen Cert.ActIdeal Cert.GateSpec Cert.ConvSpec Cert.ActSpec Idealize.ShloMosaic Idealize.ShloMosaic.TcCoe Idealize.SL.Sem
open Idealize.ShloMosaic.Pipeline (Dat)

variable (m : (ℓ : Loc nD τ sig) → Buf (Elt Ideal) ℓ)

abbrev xs (c : Dev nD) : Arr 4096 1024 := m ((c : Thread nD τ).loc main_arg0)
abbrev ws (c : Dev nD) : Arr 1024 3072 := m ((c : Thread nD τ).loc main_arg1)
abbrev ts (c : Dev nD) : Arr 4 3072 := m ((c : Thread nD τ).loc main_arg2)
abbrev bs (c : Dev nD) : (⟨1, ![3072]⟩ : Shape).Idx → EReal := m ((c : Thread nD τ).loc main_arg3)

/-! ## Where each window's block lies: four row blocks within each of three column blocks -/

theorem at0 : ∀ t : Fin cfg0.N, win0_0.index t = ![t.val % 4, 0] := (by decide +kernel : ∀ t : Fin grid0.N, _)
theorem at1 : ∀ t : Fin cfg0.N, win0_1.index t = ![0, t.val / 4] := (by decide +kernel : ∀ t : Fin grid0.N, _)
theorem at2 : ∀ t : Fin cfg0.N, win0_2.index t = ![0, t.val / 4] := (by decide +kernel : ∀ t : Fin grid0.N, _)
theorem at3 : ∀ t : Fin cfg0.N, win0_3.index t = ![0, t.val / 4] := (by decide +kernel : ∀ t : Fin grid0.N, _)
theorem at4 : ∀ t : Fin cfg0.N, win0_4.index t = ![t.val % 4, t.val / 4] := (by decide +kernel : ∀ t : Fin grid0.N, _)
theorem at5 : ∀ t : Fin cfg0.N, win0_5.index t = ![t.val % 4, t.val / 4] := (by decide +kernel : ∀ t : Fin grid0.N, _)
theorem at6 : ∀ t : Fin cfg0.N, win0_6.index t = ![t.val % 4, t.val / 4] := (by decide +kernel : ∀ t : Fin grid0.N, _)

theorem t_lt (t : Fin cfg0.N) : t.val < 12 := by
  have := t.isLt
  have : cfg0.N = 12 := N_0
  omega

/-- Row `r` and column `k` of the block grid point `t` works on. -/
abbrev row (t : Fin cfg0.N) (r : Fin 1024) : Fin 4096 := ⟨t.val % 4 * 1024 + r.val, by omega⟩
abbrev col (t : Fin cfg0.N) (k : Fin 1024) : Fin 3072 := ⟨t.val / 4 * 1024 + k.val, by have := t_lt t; omega⟩

theorem V_main_v0 (c : Dev nD) : (V m c main_v0 : FVec Ideal S8x3072 .f32) =
    pad S8x3072 ![0, 0] ![4, 0] ![0, 0] (ts m c) (sitofp .f32 (constantI S_ 32 0#32) : FVec Ideal S_ .f32) pads_S4x3072_S8x3072_040_000 h_S_ := by rfl

theorem V_main_v1 (c : Dev nD) : (V m c main_v1 : FVec Ideal S1x3072 .f32) = broadcastInDim S1x3072 ![1] bcast_S3072_S1x3072_1 (bs m c : FVec Ideal S3072 .f32) := by rfl

theorem blk0 (c : Dev nD) (t : Fin cfg0.N) (r d : Fin 1024) : (iblk m c 0 t : Vec Ideal S1024x1024 .bf16) (ix2 r d) = xs m c (ix2 (row t r) d) := by
  blk_ext! [iblk, V_main_arg0, at0 t]
theorem blk1 (c : Dev nD) (t : Fin cfg0.N) (d k : Fin 1024) : (iblk m c 1 t : Vec Ideal S1024x1024 .bf16) (ix2 d k) = ws m c (ix2 d (col t k)) := by
  blk_ext! [iblk, V_main_arg1, at1 t]
theorem blk2 (c : Dev nD) (t : Fin cfg0.N) (a : Fin 8) (k : Fin 1024) (h : a.val < 4) : (iblk m c 2 t : Vec Ideal S8x1024 .f32) (ix2 a k) = ts m c (ix2 ⟨a.val, h⟩ (col t k)) := by
  have e : (iblk m c 2 t : Vec Ideal S8x1024 .f32) (ix2 a k) = (V m c main_v0 : FVec Ideal S8x3072 .f32) (ix2 a (col t k)) := by
    blk_ext! [iblk, at2 t]
  rw [e, V_main_v0]
  pointwise []
  exact dif_pos ⟨h, (col t k).isLt⟩
theorem blk3 (c : Dev nD) (t : Fin cfg0.N) (z : Fin 1) (k : Fin 1024) : (iblk m c 3 t : Vec Ideal S1x1024 .f32) (ix2 z k) = bs m c (ix1 (col t k)) := by
  have e : (iblk m c 3 t : Vec Ideal S1x1024 .f32) (ix2 z k) = (V m c main_v1 : FVec Ideal S1x3072 .f32) (ix2 z (col t k)) := by
    blk_ext! [iblk, at3 t]
  rw [e, V_main_v1]
  pointwise []

/-! ## The kernel's values on a block -/

/-- A block `s` rows behind, before its first row in the rows `N` before it. -/
def down (s : Nat) (D : FVec Ideal S1024x1024 .f32) (N : FVec Ideal S8x1024 .f32) (r : Fin 1024) (k : Fin 1024) : EReal :=
  if h : s ≤ r.val then D (ix2 ⟨r.val - s, by omega⟩ k) else if h' : 8 + r.val - s < 8 then N (ix2 ⟨8 + r.val - s, h'⟩ k) else 0

variable (D : FVec Ideal S1024x1024 .f32) (N : FVec Ideal S8x1024 .f32) (r : Fin 1024) (k : Fin 1024)

theorem prod_at (A B : Vec Ideal S1024x1024 .bf16) : k0_pay4 A B (ix2 r k) = ∑ d : Fin 1024, A (ix2 r d) * B (ix2 d k) := by
  pointwise [k0_pay4]

/-- The comparison of a row's number in a block of eight. -/
theorem slt_eight : ∀ a n : Fin 8, IntOp.cmpi CmpIPredicate.slt (BitVec.ofNat 32 a.val) (BitVec.ofNat 32 n.val) = if a.val < n.val then 1#1 else 0#1 := by decide

/-- The kernel's shift: the block rotated, its first rows taken from the eight rows before it, rotated too. -/
theorem shift_eq (s : Nat) (h0 : 0 < s) (hs : s < 8) (q : BitVec 32) (hq : q = BitVec.ofNat 32 s) (i1 i3 : Fin 1024) (i2 : Fin 8)
    (h1 : i1.val = (r.val + 1024 - s) % 1024) (h2 : i2.val = (r.val + 8 - s) % 8) (h3 : i3.val = (8 + (r.val - 8) + 1024 - s) % 1024) :
    (if h : r.val < 8 then Scalar.select (IntOp.cmpi CmpIPredicate.slt (BitVec.ofNat 32 r.val) q) (N (ix2 i2 k)) (D (ix2 i1 k)) else D (ix2 i3 k))
      = down s D N r k := by
  have hr := r.isLt
  subst hq
  unfold down
  split
  · next h =>
    rw [slt_eight ⟨r.val, h⟩ ⟨s, hs⟩]
    by_cases h' : s ≤ r.val
    · rw [if_neg (by show ¬ r.val < s; omega), dif_pos h']
      exact congrArg (fun i => D (ix2 i k)) (Fin.ext (h1.trans (by show (r.val + 1024 - s) % 1024 = r.val - s; omega)))
    · rw [if_pos (by show r.val < s; omega), dif_neg h', dif_pos (by omega)]
      exact congrArg (fun i => N (ix2 i k)) (Fin.ext (h2.trans (by show (r.val + 8 - s) % 8 = 8 + r.val - s; omega)))
  · next h =>
    rw [dif_pos (by omega : s ≤ r.val)]
    exact congrArg (fun i => D (ix2 i k)) (Fin.ext (h3.trans (by show (8 + (r.val - 8) + 1024 - s) % 1024 = r.val - s; omega)))

theorem three_at (i : grid0.Coords) (A B : Vec Ideal S1024x1024 .bf16) (X : Vec Ideal S8x1024 .f32) (W : Vec Ideal S8x1024 .f32) (C : Vec Ideal S1x1024 .f32) : k0_pay7 i A B X W C (ix2 r k)
    = C (ix2 0 k) + k0_pay4 A B (ix2 r k) * W (ix2 3 k) + down 3 (k0_pay4 A B) (k0_pay5 i X) r k * W (ix2 0 k) := by
  pointwise [k0_pay7, k0_pay6]
  exact congrArg (_ + · * _) (shift_eq _ _ r k 3 (by decide) (by decide) 3#32 rfl ⟨_, Nat.mod_lt _ (by decide)⟩ ⟨_, Nat.mod_lt _ (by decide)⟩ ⟨_, Nat.mod_lt _ (by decide)⟩ rfl rfl rfl)

theorem two_at (i : grid0.Coords) (A B : Vec Ideal S1024x1024 .bf16) (X : Vec Ideal S8x1024 .f32) : k0_pay8 i A B X (ix2 r k)
    = down 2 (k0_pay4 A B) (k0_pay5 i X) r k := by
  pointwise [k0_pay8]
  exact shift_eq _ _ r k 2 (by decide) (by decide) 2#32 rfl ⟨_, Nat.mod_lt _ (by decide)⟩ ⟨_, Nat.mod_lt _ (by decide)⟩ ⟨_, Nat.mod_lt _ (by decide)⟩ rfl rfl rfl

/-- The convolution's block. -/
theorem preAt_at (i : grid0.Coords) (A B : Vec Ideal S1024x1024 .bf16) (W : Vec Ideal S8x1024 .f32) (C : Vec Ideal S1x1024 .f32) (X : Vec Ideal S8x1024 .f32) :
    preAt i A B W C X (ix2 r k) = C (ix2 0 k) + k0_pay4 A B (ix2 r k) * W (ix2 3 k) + down 3 (k0_pay4 A B) (k0_pay5 i X) r k * W (ix2 0 k)
      + down 2 (k0_pay4 A B) (k0_pay5 i X) r k * W (ix2 1 k) + down 1 (k0_pay4 A B) (k0_pay5 i X) r k * W (ix2 2 k) := by
  rw [← three_at, ← two_at]
  pointwise [preAt, k0_pay1, k0_pay9, k0_pay6]
  exact congrArg (_ + · * _) (shift_eq _ _ r k 1 (by decide) (by decide) 1#32 rfl ⟨_, Nat.mod_lt _ (by decide)⟩ ⟨_, Nat.mod_lt _ (by decide)⟩ ⟨_, Nat.mod_lt _ (by decide)⟩ rfl rfl rfl)

theorem actAt_at (i : grid0.Coords) (A B : Vec Ideal S1024x1024 .bf16) (W : Vec Ideal S8x1024 .f32) (C : Vec Ideal S1x1024 .f32) (X : Vec Ideal S8x1024 .f32) :
    actAt i A B W C X (ix2 r k) = preAt i A B W C X (ix2 r k) * sigm (preAt i A B W C X (ix2 r k)) := by
  unfold actAt preAt
  pointwise [k0_pay3]
  simp only [one_f32, sigm_zero_sub]

theorem tailAt_at (A B : Vec Ideal S1024x1024 .bf16) (a : Fin 8) : tailAt A B (ix2 a k) = k0_pay4 A B (ix2 ⟨1016 + a.val, by omega⟩ k) := by
  pointwise [tailAt, k0_pay2]

/-! ## What a point leaves -/

theorem block_at (c : Dev nD) (t : Fin cfg0.N) : k0_pay4 (F := Ideal) (iblk m c 0 t) (iblk m c 1 t) (ix2 r k) = prod (xs m c) (ws m c) (row t r) (col t k) := by
  rw [prod_at, prod]
  simp only [blk0, blk1]

theorem not_first : ∀ t : Fin cfg0.N, Scalar.cmpi CmpIPredicate.sgt (BitVec.ofNat 32 (grid0.coords t 1)) 0#32 = if t.val % 4 = 0 then 0#1 else 1#1 :=
  (by decide +kernel : ∀ t : Fin grid0.N, _)

theorem rowsBefore_at (c : Dev nD) (n : Nat) (h : n ≤ cfg0.N) (hn : n % 4 ≠ 0) (a : Fin 8) (j : Fin 4096) (l : Fin 3072)
    (hj : j.val = n % 4 * 1024 - 8 + a.val) (hl : l.val = n / 4 * 1024 + k.val) : rowsBefore m c n h (ix2 a k) = prod (xs m c) (ws m c) j l := by
  cases n with
  | zero => exact absurd rfl hn
  | succ n =>
    rw [rowsBefore, tailAt_at, block_at]
    exact congrArg₂ (prod _ _) (Fin.ext (by show n % 4 * 1024 + (1016 + a.val) = j.val; omega)) (Fin.ext (by show n / 4 * 1024 + k.val = l.val; omega))

/-- The rows before a point's block (zero before the first), as the body takes them. -/
abbrev HB (c : Dev nD) (t : Fin cfg0.N) : FVec Ideal S8x1024 .f32 := k0_pay5 (grid0.coords t) (rowsBefore m c t.val (Nat.le_of_lt t.isLt))

theorem HB_first (c : Dev nD) (t : Fin cfg0.N) (h : t.val % 4 = 0) (a : Fin 8) : HB m c t (ix2 a k) = 0 := by
  unfold HB k0_pay5
  dsimp only
  rw [not_first, if_pos h]
  pointwise []

theorem HB_later (c : Dev nD) (t : Fin cfg0.N) (h : t.val % 4 ≠ 0) (a : Fin 8) (j : Fin 4096) (hj : j.val = t.val % 4 * 1024 - 8 + a.val) :
    HB m c t (ix2 a k) = prod (xs m c) (ws m c) j (col t k) := by
  unfold HB k0_pay5
  dsimp only
  rw [not_first, if_neg h]
  exact rowsBefore_at m k c t.val _ h a j _ hj rfl

/-- The kernel's shifted block is the sequence looked at behind. -/
theorem down_at (c : Dev nD) (t : Fin cfg0.N) (s : Nat) (hs : s ≤ 3) :
    down s (k0_pay4 (iblk m c 0 t) (iblk m c 1 t)) (HB m c t) r k = behind s (chan (xs m c) (ws m c) (col t k)) (row t r) := by
  have hr := r.isLt
  unfold down behind
  by_cases h : s ≤ r.val
  · rw [dif_pos h, if_pos (by show s ≤ t.val % 4 * 1024 + r.val; omega), block_at]
    exact congrArg (fun i => prod _ _ i _) (Fin.ext (by show t.val % 4 * 1024 + (r.val - s) = t.val % 4 * 1024 + r.val - s; omega))
  · rw [dif_neg h, dif_pos (by omega : 8 + r.val - s < 8)]
    by_cases h' : t.val % 4 = 0
    · rw [if_neg (by show ¬ s ≤ t.val % 4 * 1024 + r.val; omega), HB_first m k c t h']
    · rw [if_pos (by show s ≤ t.val % 4 * 1024 + r.val; omega)]
      exact HB_later m k c t h' _ _ (by show t.val % 4 * 1024 + r.val - s = t.val % 4 * 1024 - 8 + (8 + r.val - s); omega)

theorem pre_at (c : Dev nD) (t : Fin cfg0.N) :
    preAt (F := Ideal) (grid0.coords t) (iblk m c 0 t) (iblk m c 1 t) (iblk m c 2 t) (iblk m c 3 t) (rowsBefore m c t.val (Nat.le_of_lt t.isLt)) (ix2 r k)
      = pre (xs m c) (ws m c) (ts m c) (bs m c) (row t r) (col t k) := by
  rw [preAt_at, down_at m r k c t 3 (by decide), down_at m r k c t 2 (by decide), down_at m r k c t 1 (by decide), block_at, blk3, pre,
    blk2 m c t 3 k (by decide), blk2 m c t 0 k (by decide), blk2 m c t 1 k (by decide), blk2 m c t 2 k (by decide)]
  rfl

/-! ## The result arrays -/

theorem final4 (c : Dev nD) : (dats m 0 c).arrAt 4 cfg0.N = (fun i => prod (xs m c) (ws m c) (i 0) (i 1) : Arr 4096 3072) := by
  refine (dats m 0 c).arrAt_eq_of_covers 4 _ (by decide +kernel) fun t hf j => ?_
  blk_simp
  rw [after_4]
  obtain ⟨a, b, rfl⟩ := pair j
  rw [xbcAt, block_at]
  refine congrArg₂ (prod _ _) (Fin.ext ?_) (Fin.ext ?_) <;> blk_simp [at4 t]
  all_goals rfl

theorem final5 (c : Dev nD) : (dats m 0 c).arrAt 5 cfg0.N = (fun i => pre (xs m c) (ws m c) (ts m c) (bs m c) (i 0) (i 1) : Arr 4096 3072) := by
  refine (dats m 0 c).arrAt_eq_of_covers 5 _ (by decide +kernel) fun t hf j => ?_
  blk_simp
  rw [after_5]
  obtain ⟨a, b, rfl⟩ := pair j
  rw [pre_at]
  refine congrArg₂ (pre _ _ _ _) (Fin.ext ?_) (Fin.ext ?_) <;> blk_simp [at5 t]
  all_goals rfl

theorem final6 (c : Dev nD) : (dats m 0 c).arrAt 6 cfg0.N = (fun i => act (xs m c) (ws m c) (ts m c) (bs m c) (i 0) (i 1) : Arr 4096 3072) := by
  refine (dats m 0 c).arrAt_eq_of_covers 6 _ (by decide +kernel) fun t hf j => ?_
  blk_simp
  rw [after_6]
  obtain ⟨a, b, rfl⟩ := pair j
  rw [actAt_at, pre_at, ← act]
  refine congrArg₂ (act _ _ _ _) (Fin.ext ?_) (Fin.ext ?_) <;> blk_simp [at6 t]
  all_goals rfl

/-- The run with each result array named. -/
theorem run_blocks (ρ : Dev nD → PrngReg) : θ_run defs (onTc (τ := τ) (main (F := Ideal))) ⟨m, fun _ => 0, ρ⟩ fun r => ∀ c : Dev nD,
      r.2.mem ((c : Thread nD τ).loc main_v2_0) = (dats m 0 c).arrAt 4 cfg0.N
      ∧ r.2.mem ((c : Thread nD τ).loc main_v2_1) = (dats m 0 c).arrAt 5 cfg0.N
      ∧ r.2.mem ((c : Thread nD τ).loc main_v2_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1 4, (h.1 c).1 5, (h.1 c).1 6, h.2.1 c⟩)
    (θ_run_and (run_main m ρ) (frame_holds m ρ))

end Cert.Kernel11Ideal.Act

end
-- ==== Proof.ActClaim.lean ====
/-
  THE CONVOLUTION'S FORWARD: THE VALUE CLAIM. The reference projects, convolves and activates whole arrays; the kernel's
  three results are the same arrays.
-/
module

public import proofs.«01_k».proof.Proof.ActBlocks
public import proofs.«01_k».proof.Proof.Gen.Reference11Ideal.Read
public import proofs.«01_k».proof.Proof.Gen.Reference11Ideal.Run
public import proofs.«01_k».proof.Defs
public import Idealize.ShloMosaic.Lib.Claim

@[expose] public section

noncomputable section

namespace Cert.Reference11Ideal.Act

open Cert.Reference11Ideal Cert.Reference11Ideal.Gen Cert.Reference11Ideal.Read Cert.GateSpec Cert.ConvSpec Cert.ActSpec Idealize.ShloMosaic

variable (x : Arr 4096 1024) (w : Arr 1024 3072) (t : Arr 4 3072) (b : (⟨1, ![3072]⟩ : Shape).Idx → EReal)

theorem prod_eq (r : Fin 4096) (k : Fin 3072) : val_main_v2 (F := Ideal) x w (ix2 r k) = prod x w r k := by
  pointwise [val_main_v2, val_main_v1, val_main_v0, prod]

/-- The projection with three zeros before it, read `3 - s` places on, is the projection looked at `s` places behind. -/
theorem padded_eq (s : Nat) (hs : s ≤ 3) (r : Fin 4096) (k : Fin 3072) (i : Fin 4099) (hi : i.val = 3 - s + r.val) :
    val_main_v4 (F := Ideal) x w (ix2 i k) = behind s (chan x w k) r := by
  have e : val_main_v4 (F := Ideal) x w (ix2 i k) = if h : i.val < 3 then 0 else prod x w ⟨i.val - 3, by omega⟩ k := by
    simp only [← prod_eq]
    pointwise [val_main_v4, val_main_v3, val_main_cst]
  rw [e]
  unfold behind
  by_cases h : s ≤ r.val
  · rw [if_pos h, dif_neg (by omega)]
    exact congrArg (fun i => prod x w i k) (Fin.ext (by show i.val - 3 = r.val - s; omega))
  · rw [if_neg h, dif_pos (by omega)]

theorem pre_eq (r : Fin 4096) (k : Fin 3072) : val_main_v36 (F := Ideal) x w t b (ix2 r k) = pre x w t b r k := by
  have h0 : prod x w r k = behind 0 (chan x w k) r := (if_pos (Nat.zero_le _)).symm
  have e : val_main_v36 (F := Ideal) x w t b (ix2 r k)
      = behind 3 (chan x w k) r * t (ix2 0 k) + behind 2 (chan x w k) r * t (ix2 1 k) + behind 1 (chan x w k) r * t (ix2 2 k) + prod x w r k * t (ix2 3 k)
        + b (ix1 k) := by
    rw [h0, ← padded_eq x w 3 (by decide) r k ⟨r.val, by omega⟩ (by simp), ← padded_eq x w 2 (by decide) r k ⟨1 + r.val, by omega⟩ rfl,
      ← padded_eq x w 1 (by decide) r k ⟨2 + r.val, by omega⟩ rfl, ← padded_eq x w 0 (by decide) r k ⟨3 + r.val, by omega⟩ rfl]
    pointwise [val_main_v36, val_main_v35, val_main_v34, val_main_v33, val_main_v32, val_main_v31, val_main_v30, val_main_v29, val_main_v28, val_main_v27,
      val_main_v26, val_main_v25, val_main_v24, val_main_v23, val_main_v22, val_main_v21, val_main_v20, val_main_v19, val_main_v18, val_main_v17, val_main_v16,
      val_main_v15, val_main_v14, val_main_v13, val_main_v12, val_main_v11, val_main_cst_0, val_main_v10, val_main_v9, val_main_v8, val_main_v7, val_main_v6, val_main_v5]
  rw [e, pre]
  ac_rfl

theorem act_eq (r : Fin 4096) (k : Fin 3072) : val_main_v37 (F := Ideal) x w t b (ix2 r k) = act x w t b r k := by
  rw [act, ← pre_eq]
  pointwise [val_main_v37, val_main_call0_v5, val_main_call0_v4, val_main_call0_cst_0, val_main_call0_v3, val_main_call0_v2, val_main_call0_cst, val_main_call0_v1,
    val_main_call0_v0, sigm]

end Cert.Reference11Ideal.Act

namespace Cert.Act

open Cert.GateSpec Cert.Reference11Ideal.Read Cert.Reference11Ideal.Act Idealize.ShloMosaic Idealize.SL.Sem

attribute [local instance] Cert.Kernel11Ideal.Gen.facts Cert.Reference11Ideal.Gen.facts

theorem algebraic : Cert.algebraic_Kernel11Ideal_Reference11Ideal := by
  pair_intro
  · run_from Cert.Kernel11Ideal.Act.run_blocks m g
  · refine θ_run_mono (Cert.Reference11Ideal.Value.run m' g') fun r h c => ?_
    obtain ⟨a0, a1, a2, a3⟩ := hagree c
    obtain ⟨h0, h1, h2, hk⟩ := h c
    refine ⟨h0.trans ?_, h1.trans ?_, h2.trans ?_, hk⟩
    · rw [val_main_v2_eq, a0, a1, Cert.Kernel11Ideal.Act.final4]
      funext i
      obtain ⟨r, k, rfl⟩ := pair i
      exact prod_eq _ _ r k
    · rw [val_main_v36_eq, a0, a1, a2, a3, Cert.Kernel11Ideal.Act.final5]
      funext i
      obtain ⟨r, k, rfl⟩ := pair i
      exact pre_eq _ _ _ _ r k
    · rw [val_main_v37_eq, a0, a1, a2, a3, Cert.Kernel11Ideal.Act.final6]
      funext i
      obtain ⟨r, k, rfl⟩ := pair i
      exact act_eq _ _ _ _ r k

end Cert.Act

end
-- ==== Proof.StepSpec.lean ====
/-
  ONE ADAMW STEP OF A WEIGHT, element by element (extended reals), at any shape: from the gradient `g`, the weight `w` and the
  moments `m`, `v`, the new moments and the weight's change. The constants are the program's, as it rounds them:

    m' = 0.9 m + 0.1 g        v' = 0.999 v + 0.001 g²
    Δw = -0.001 ((m' / (1 - 0.9¹⁰)) / (√(v' / (1 - 0.999¹⁰)) + 1e-8) + 0.01 w)
-/
module

public import Idealize.ShloMosaic.Lib.Pointwise

@[expose] public section

noncomputable section

namespace Cert.StepSpec

open Idealize.ShloMosaic

variable {s : Shape}

/-- The new first moment. -/
def mNew (g m : s.Idx → EReal) : s.Idx → EReal := fun i =>
  Ideal.ofBits .f32 0x3F666666#32 * m i + Ideal.ofBits .f32 0x3DCCCCCD#32 * g i

/-- The new second moment. -/
def vNew (g v : s.Idx → EReal) : s.Idx → EReal := fun i =>
  Ideal.ofBits .f32 0x3F7FBE77#32 * v i + Ideal.ofBits .f32 0x3A83126F#32 * (g i * g i)

/-- The weight's change. -/
def change (g w m v : s.Idx → EReal) : s.Idx → EReal := fun i =>
  Ideal.ofBits .f32 0xBA83126F#32 *
    (Ideal.div (Ideal.div (mNew g m i) (Ideal.ofBits .f32 0x3F26BD02#32))
        (Ideal.sqrt (Ideal.div (vNew g v i) (Ideal.ofBits .f32 0x3C231ACC#32)) + Ideal.ofBits .f32 0x322BCC77#32)
      + Ideal.ofBits .f32 0x3C23D70A#32 * w i)

theorem zero_f32 : Ideal.ofBits .f32 0x00000000#32 = 0 := by simp [Ideal.ofBits, Ideal.ieee]

/-- The eight devices' parts added one after the other, and their sum. -/
theorem eight (p : Fin 8 → EReal) : p 0 + p 1 + p 2 + p 3 + p 4 + p 5 + p 6 + p 7 = Ideal.ofBits .f32 0x00000000#32 + ∑ k : Fin 8, p k := by
  rw [zero_f32, zero_add, Fin.sum_univ_eight]

/-- A gradient given as eight parts added one after the other is the sum of the parts. -/
theorem summed {kern ref : s.Idx → EReal} {e : Fin 8 → s.Idx → EReal}
    (hk : ∀ i, kern i = e 0 i + e 1 i + e 2 i + e 3 i + e 4 i + e 5 i + e 6 i + e 7 i)
    (hr : ∀ i, ref i = Ideal.ofBits .f32 0x00000000#32 + ∑ k : Fin 8, e k i) : ref = kern :=
  funext fun i => (hr i).trans ((eight fun k => e k i).symm.trans (hk i).symm)

/-- The same step of equal gradients, weights and moments: the change, the first and the second moment. -/
theorem change_of {g g' w w' m m' v v' r k : s.Idx → EReal} (hg : g = g') (hw : w = w') (hm : m = m') (hv : v = v')
    (hr : r = change g w m v) (hk : k = change g' w' m' v') : r = k := by subst hg hw hm hv; exact hr.trans hk.symm

theorem m_of {g g' m m' r k : s.Idx → EReal} (hg : g = g') (hm : m = m') (hr : r = mNew g m) (hk : k = mNew g' m') : r = k := by
  subst hg hm; exact hr.trans hk.symm

theorem v_of {g g' v v' r k : s.Idx → EReal} (hg : g = g') (hv : v = v') (hr : r = vNew g v) (hk : k = vNew g' v') : r = k := by
  subst hg hv; exact hr.trans hk.symm

end Cert.StepSpec

end
-- ==== Proof.StepAbOut.lean ====
/-
  ADAMW ON LAYER 0'S OUTPUT WEIGHTS: THE VALUE CLAIM. The kernel adds the devices' parts of the gradient one after the other,
  the reference sums them; what follows is the same step of the same gradient.
-/
module

public import proofs.«01_k».proof.Proof.Gen.Kernel12Ideal.Value
public import proofs.«01_k».proof.Proof.Gen.Reference12Ideal.Read
public import proofs.«01_k».proof.Proof.Gen.Reference12Ideal.Run
public import proofs.«01_k».proof.Proof.StepSpec
public import proofs.«01_k».proof.Proof.GateSpec
public import proofs.«01_k».proof.Defs
public import Idealize.ShloMosaic.Lib.Pipeline.ValueKit
public import Idealize.ShloMosaic.Lib.StableHlo.RunRead
public import Idealize.ShloMosaic.Lib.Claim

@[expose] public section

noncomputable section

namespace Cert.StepAbOut

open Cert.StepSpec Cert.GateSpec Idealize.ShloMosaic Idealize.SL.Sem
open Cert.Kernel12Ideal.Gen (k0_pay5)
open Cert.Kernel12Ideal.Value (G4 G5 G6 G7)
open Cert.Reference12Ideal.Read

variable (p : FVec Ideal Cert.Kernel12Ideal.S8x128x1024 .bf16) (w m v : Arr 128 1024)

theorem grad_eq : G4 (F := Ideal) p w m v = val_main_v1 (F := Ideal) p := by
  funext i
  obtain ⟨a, b, rfl⟩ := pair i
  rw [val_main_v1_apply]
  refine Eq.trans ?_ ((eight fun k => p (ix3 k a b)).trans (congrArg (_ + ·) (Finset.sum_congr rfl fun k _ =>
    congrArg p (funext fun q => by fin_cases q <;> rfl))))
  pointwise [Cert.Kernel12Ideal.Gen.k0_pay4]

theorem kernel_change : G5 (F := Ideal) p w m v = change (G4 (F := Ideal) p w m v) w m v := rfl
theorem kernel_m : G6 (F := Ideal) p w m v = mNew (G4 (F := Ideal) p w m v) m := rfl
theorem kernel_v : G7 (F := Ideal) p w m v = vNew (G4 (F := Ideal) p w m v) v := rfl

theorem change_eq : val_main_v25 (F := Ideal) p w m v = change (val_main_v1 (F := Ideal) p) w m v := rfl
theorem m_eq : val_main_v6 (F := Ideal) p m = mNew (val_main_v1 (F := Ideal) p) m := rfl
theorem v_eq : val_main_v12 (F := Ideal) p v = vNew (val_main_v1 (F := Ideal) p) v := rfl

attribute [local instance] Cert.Kernel12Ideal.Gen.facts Cert.Reference12Ideal.Gen.facts

theorem algebraic : Cert.algebraic_Kernel12Ideal_Reference12Ideal := by
  pair_intro
  · run_from Cert.Kernel12Ideal.Value.run m g
  · refine θ_run_mono (Cert.Reference12Ideal.Value.run m' g') fun r h c => ?_
    obtain ⟨a0, a1, a2, a3⟩ := hagree c
    obtain ⟨h0, h1, h2, h3, hk⟩ := h c
    refine ⟨h0.trans ?_, h1.trans ?_, h2.trans ?_, h3.trans ?_, hk⟩
    · rw [val_main_v1_eq, a0, grad_eq]
    · rw [val_main_v25_eq, a0, a1, a2, a3, kernel_change, grad_eq, change_eq]
    · rw [val_main_v6_eq, a0, a2, kernel_m, grad_eq, m_eq]
    · rw [val_main_v12_eq, a0, a3, kernel_v, grad_eq, v_eq]

end Cert.StepAbOut

end
-- ==== Proof.StepKv.lean ====
/-
  ADAMW ON THE WEIGHTS OF THE KEYS AND VALUES: THE VALUE CLAIM. The kernel adds the devices' parts of the gradient one after the other,
  the reference sums them; what follows is the same step of the same gradient.
-/
module

public import proofs.«01_k».proof.Proof.Gen.Kernel13Ideal.Value
public import proofs.«01_k».proof.Proof.Gen.Reference13Ideal.Read
public import proofs.«01_k».proof.Proof.Gen.Reference13Ideal.Run
public import proofs.«01_k».proof.Proof.StepSpec
public import proofs.«01_k».proof.Proof.GateSpec
public import proofs.«01_k».proof.Defs
public import Idealize.ShloMosaic.Lib.Pipeline.ValueKit
public import Idealize.ShloMosaic.Lib.StableHlo.RunRead
public import Idealize.ShloMosaic.Lib.Claim

@[expose] public section

noncomputable section

namespace Cert.StepKv

open Cert.StepSpec Cert.GateSpec Idealize.ShloMosaic Idealize.SL.Sem
open Cert.Kernel13Ideal.Gen (k0_pay5)
open Cert.Kernel13Ideal.Value (G4 G5 G6 G7)
open Cert.Reference13Ideal.Read

variable (p : FVec Ideal Cert.Kernel13Ideal.S8x128x128 .bf16) (w m v : Arr 128 128)

theorem grad_eq : G4 (F := Ideal) p w m v = val_main_v1 (F := Ideal) p := by
  funext i
  obtain ⟨a, b, rfl⟩ := pair i
  rw [val_main_v1_apply]
  refine Eq.trans ?_ ((eight fun k => p (ix3 k a b)).trans (congrArg (_ + ·) (Finset.sum_congr rfl fun k _ =>
    congrArg p (funext fun q => by fin_cases q <;> rfl))))
  pointwise [Cert.Kernel13Ideal.Gen.k0_pay4]

theorem kernel_change : G5 (F := Ideal) p w m v = change (G4 (F := Ideal) p w m v) w m v := rfl
theorem kernel_m : G6 (F := Ideal) p w m v = mNew (G4 (F := Ideal) p w m v) m := rfl
theorem kernel_v : G7 (F := Ideal) p w m v = vNew (G4 (F := Ideal) p w m v) v := rfl

theorem change_eq : val_main_v25 (F := Ideal) p w m v = change (val_main_v1 (F := Ideal) p) w m v := rfl
theorem m_eq : val_main_v6 (F := Ideal) p m = mNew (val_main_v1 (F := Ideal) p) m := rfl
theorem v_eq : val_main_v12 (F := Ideal) p v = vNew (val_main_v1 (F := Ideal) p) v := rfl

attribute [local instance] Cert.Kernel13Ideal.Gen.facts Cert.Reference13Ideal.Gen.facts

theorem algebraic : Cert.algebraic_Kernel13Ideal_Reference13Ideal := by
  pair_intro
  · run_from Cert.Kernel13Ideal.Value.run m g
  · refine θ_run_mono (Cert.Reference13Ideal.Value.run m' g') fun r h c => ?_
    obtain ⟨a0, a1, a2, a3⟩ := hagree c
    obtain ⟨h0, h1, h2, h3, hk⟩ := h c
    refine ⟨h0.trans ?_, h1.trans ?_, h2.trans ?_, h3.trans ?_, hk⟩
    · rw [val_main_v1_eq, a0, grad_eq]
    · rw [val_main_v25_eq, a0, a1, a2, a3, kernel_change, grad_eq, change_eq]
    · rw [val_main_v6_eq, a0, a2, kernel_m, grad_eq, m_eq]
    · rw [val_main_v12_eq, a0, a3, kernel_v, grad_eq, v_eq]

end Cert.StepKv

end
-- ==== Proof.StepSsdOut.lean ====
/-
  ADAMW ON LAYER 1'S OUTPUT WEIGHTS: THE VALUE CLAIM. The kernel adds the devices' parts of the gradient one after the other,
  the reference sums them; what follows is the same step of the same gradient.
-/
module

public import proofs.«01_k».proof.Proof.Gen.Kernel14Ideal.Value
public import proofs.«01_k».proof.Proof.Gen.Reference14Ideal.Read
public import proofs.«01_k».proof.Proof.Gen.Reference14Ideal.Run
public import proofs.«01_k».proof.Proof.StepSpec
public import proofs.«01_k».proof.Proof.GateSpec
public import proofs.«01_k».proof.Defs
public import Idealize.ShloMosaic.Lib.Pipeline.ValueKit
public import Idealize.ShloMosaic.Lib.StableHlo.RunRead
public import Idealize.ShloMosaic.Lib.Claim

@[expose] public section

noncomputable section

namespace Cert.StepSsdOut

open Cert.StepSpec Cert.GateSpec Idealize.ShloMosaic Idealize.SL.Sem
open Cert.Kernel14Ideal.Gen (k0_pay5)
open Cert.Kernel14Ideal.Value (G4 G5 G6 G7)
open Cert.Reference14Ideal.Read

variable (p : FVec Ideal Cert.Kernel14Ideal.S8x256x1024 .bf16) (w m v : Arr 256 1024)

theorem grad_eq : G4 (F := Ideal) p w m v = val_main_v1 (F := Ideal) p := by
  funext i
  obtain ⟨a, b, rfl⟩ := pair i
  rw [val_main_v1_apply]
  refine Eq.trans ?_ ((eight fun k => p (ix3 k a b)).trans (congrArg (_ + ·) (Finset.sum_congr rfl fun k _ =>
    congrArg p (funext fun q => by fin_cases q <;> rfl))))
  pointwise [Cert.Kernel14Ideal.Gen.k0_pay4]

theorem kernel_change : G5 (F := Ideal) p w m v = change (G4 (F := Ideal) p w m v) w m v := rfl
theorem kernel_m : G6 (F := Ideal) p w m v = mNew (G4 (F := Ideal) p w m v) m := rfl
theorem kernel_v : G7 (F := Ideal) p w m v = vNew (G4 (F := Ideal) p w m v) v := rfl

theorem change_eq : val_main_v25 (F := Ideal) p w m v = change (val_main_v1 (F := Ideal) p) w m v := rfl
theorem m_eq : val_main_v6 (F := Ideal) p m = mNew (val_main_v1 (F := Ideal) p) m := rfl
theorem v_eq : val_main_v12 (F := Ideal) p v = vNew (val_main_v1 (F := Ideal) p) v := rfl

attribute [local instance] Cert.Kernel14Ideal.Gen.facts Cert.Reference14Ideal.Gen.facts

theorem algebraic : Cert.algebraic_Kernel14Ideal_Reference14Ideal := by
  pair_intro
  · run_from Cert.Kernel14Ideal.Value.run m g
  · refine θ_run_mono (Cert.Reference14Ideal.Value.run m' g') fun r h c => ?_
    obtain ⟨a0, a1, a2, a3⟩ := hagree c
    obtain ⟨h0, h1, h2, h3, hk⟩ := h c
    refine ⟨h0.trans ?_, h1.trans ?_, h2.trans ?_, h3.trans ?_, hk⟩
    · rw [val_main_v1_eq, a0, grad_eq]
    · rw [val_main_v25_eq, a0, a1, a2, a3, kernel_change, grad_eq, change_eq]
    · rw [val_main_v6_eq, a0, a2, kernel_m, grad_eq, m_eq]
    · rw [val_main_v12_eq, a0, a3, kernel_v, grad_eq, v_eq]

end Cert.StepSsdOut

end
-- ==== Proof.StepUq.lean ====
/-
  ADAMW ON THE QUERY PROJECTION'S WEIGHTS, COLUMNS FIRST: THE VALUE CLAIM. The kernel adds the devices' parts of the gradient,
  pads the columns to a whole tile, turns the tile and makes the step on the turned weight; the reference makes the step and
  turns the results.
-/
module

public import proofs.«01_k».proof.Proof.Gen.Kernel18Ideal.Value
public import proofs.«01_k».proof.Proof.Gen.Reference18Ideal.Read
public import proofs.«01_k».proof.Proof.Gen.Reference18Ideal.Run
public import proofs.«01_k».proof.Proof.StepSpec
public import proofs.«01_k».proof.Proof.GateSpec
public import proofs.«01_k».proof.Proof.Pieces
public import proofs.«01_k».proof.Defs
public import Idealize.ShloMosaic.Lib.Pipeline.ValueKit
public import Idealize.ShloMosaic.Lib.Pipeline.ReadBack
public import Idealize.ShloMosaic.Lib.StableHlo.RunRead
public import Idealize.ShloMosaic.Lib.Claim

@[expose] public section

noncomputable section

namespace Cert.Kernel18Ideal.StepUq

open Cert.Kernel18Ideal Cert.Kernel18Ideal.Gen Cert.Kernel18Ideal.Value Cert.GateSpec Cert.StepSpec Cert.Pieces Idealize.ShloMosaic Idealize.ShloMosaic.TcCoe Idealize.SL.Sem
open Idealize.ShloMosaic.Pipeline (Dat)

/-- A weight's array with its columns first. -/
abbrev turn (x : Arr 256 96) : Arr 96 256 := fun i => x (ix2 (i 1) (i 0))

/-- The eight devices' parts added one after the other. -/
def added (p : FVec Ideal S8x256x96 .bf16) : Arr 256 96 := fun i =>
  p (ix3 0 (i 0) (i 1)) + p (ix3 1 (i 0) (i 1)) + p (ix3 2 (i 0) (i 1)) + p (ix3 3 (i 0) (i 1)) + p (ix3 4 (i 0) (i 1)) + p (ix3 5 (i 0) (i 1)) + p (ix3 6 (i 0) (i 1)) + p (ix3 7 (i 0) (i 1))

variable (m : (ℓ : Loc nD τ sig) → Buf (Elt Ideal) ℓ)

abbrev parts (c : Dev nD) : FVec Ideal S8x256x96 .bf16 := m ((c : Thread nD τ).loc main_arg0)
abbrev weight (c : Dev nD) : Arr 256 96 := m ((c : Thread nD τ).loc main_arg1)
abbrev first (c : Dev nD) : Arr 256 96 := m ((c : Thread nD τ).loc main_arg2)
abbrev second (c : Dev nD) : Arr 256 96 := m ((c : Thread nD τ).loc main_arg3)

theorem at0 : ∀ t : Fin cfg0.N, win0_0.index t = ![0, 0, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)

theorem V_main_v0 (c : Dev nD) : (V m c main_v0 : FVec Ideal S96x256 .f32) = transpose S96x256 [1, 0] (weight m c) transposes_S256x96_S96x256_1_0 := by rfl
theorem V_main_v1 (c : Dev nD) : (V m c main_v1 : FVec Ideal S96x256 .f32) = transpose S96x256 [1, 0] (first m c) transposes_S256x96_S96x256_1_0 := by rfl
theorem V_main_v2 (c : Dev nD) : (V m c main_v2 : FVec Ideal S96x256 .f32) = transpose S96x256 [1, 0] (second m c) transposes_S256x96_S96x256_1_0 := by rfl

theorem blk0 (c : Dev nD) (t : Fin cfg0.N) (s : Fin 8) (r : Fin 256) (j : Fin 96) : (iblk m c 0 t : Vec Ideal S8x256x96 .bf16) (ix3 s r j) = parts m c (ix3 s r j) := by
  blk_ext! [iblk, V_main_arg0, at0 t]

theorem blk1 (c : Dev nD) (t : Fin cfg0.N) : (iblk m c 1 t : Vec Ideal S96x256 .f32) = turn (weight m c) := by
  funext i
  obtain ⟨j, r, rfl⟩ := pair i
  have e : (iblk m c 1 t : Vec Ideal S96x256 .f32) (ix2 j r) = (V m c main_v0 : FVec Ideal S96x256 .f32) (ix2 j r) := by
    blk_ext! [iblk, at1 t]
  rw [e, V_main_v0]
  pointwise []
  rfl
theorem blk2 (c : Dev nD) (t : Fin cfg0.N) : (iblk m c 2 t : Vec Ideal S96x256 .f32) = turn (first m c) := by
  funext i
  obtain ⟨j, r, rfl⟩ := pair i
  have e : (iblk m c 2 t : Vec Ideal S96x256 .f32) (ix2 j r) = (V m c main_v1 : FVec Ideal S96x256 .f32) (ix2 j r) := by
    blk_ext! [iblk, at2 t]
  rw [e, V_main_v1]
  pointwise []
  rfl
theorem blk3 (c : Dev nD) (t : Fin cfg0.N) : (iblk m c 3 t : Vec Ideal S96x256 .f32) = turn (second m c) := by
  funext i
  obtain ⟨j, r, rfl⟩ := pair i
  have e : (iblk m c 3 t : Vec Ideal S96x256 .f32) (ix2 j r) = (V m c main_v2 : FVec Ideal S96x256 .f32) (ix2 j r) := by
    blk_ext! [iblk, at3 t]
  rw [e, V_main_v2]
  pointwise []
  rfl

/-- The sum of the parts, padded and turned. -/
theorem turned (g : FVec Ideal S256x96 .f32) :
    k0_pay6 (F := Ideal) ((View.whole cc0_scratch1).readCov
        [⟨Rect.unit (s := S256x128) ![0, 0] ![256, 96] inb_S256x128_S256x96_0_0, k0_pay5 g⟩,
          ⟨Rect.unit (s := S256x128) ![0, 0] ![256, 128] inb_S256x128_S256x128_0_0, k0_pay4 (k0_pay3 (F := Ideal))⟩]
        (Rect.unit (s := S256x128) ![0, 0] ![256, 128] inb_S256x128_S256x128_0_0).toLoadRect) = turn g := by
  funext i
  obtain ⟨j, r, rfl⟩ := pair i
  have hr := r.isLt
  have hj := j.isLt
  pointwise [k0_pay6]
  refine (readCov_piece _ _ _ r (⟨j.val, by omega⟩ : Fin 128)).trans ?_
  refine (canon_piece _ _ _ _ _).trans ?_
  rw [dif_pos (by constructor <;> constructor <;> simp <;> omega)]
  pointwise [k0_pay5]
  exact congrArg₂ (fun a b => g (ix2 a b)) (Fin.ext (by show 0 + r.val - 0 = r.val; omega)) (Fin.ext (by show 0 + j.val - 0 = j.val; omega))

theorem added_eq (X : FVec Ideal S8x256x96 .bf16) :
    k0_pay2 (F := Ideal)
      (View.ld X (Rect.unit (s := S8x256x96) ![0, 0, 0] ![1, 256, 96] inb_S8x256x96_S1x256x96_0_0_0))
      (View.ld X (Rect.unit (s := S8x256x96) ![1, 0, 0] ![1, 256, 96] inb_S8x256x96_S1x256x96_1_0_0))
      (View.ld X (Rect.unit (s := S8x256x96) ![2, 0, 0] ![1, 256, 96] inb_S8x256x96_S1x256x96_2_0_0))
      (View.ld X (Rect.unit (s := S8x256x96) ![3, 0, 0] ![1, 256, 96] inb_S8x256x96_S1x256x96_3_0_0))
      (View.ld X (Rect.unit (s := S8x256x96) ![4, 0, 0] ![1, 256, 96] inb_S8x256x96_S1x256x96_4_0_0))
      (View.ld X (Rect.unit (s := S8x256x96) ![5, 0, 0] ![1, 256, 96] inb_S8x256x96_S1x256x96_5_0_0))
      (View.ld X (Rect.unit (s := S8x256x96) ![6, 0, 0] ![1, 256, 96] inb_S8x256x96_S1x256x96_6_0_0))
      (View.ld X (Rect.unit (s := S8x256x96) ![7, 0, 0] ![1, 256, 96] inb_S8x256x96_S1x256x96_7_0_0)) = added X := by
  funext i
  obtain ⟨r, j, rfl⟩ := pair i
  pointwise [k0_pay2]
  rfl

theorem blk0_eq (c : Dev nD) (t : Fin cfg0.N) : (iblk m c 0 t : Vec Ideal S8x256x96 .bf16) = parts m c := by
  funext i
  have hi : i = ix3 (i 0) (i 1) (i 2) := by funext k; fin_cases k <;> rfl
  rw [hi]
  exact blk0 m c t _ _ _

/-- What the body leaves in its four outputs at the one grid point. -/
theorem grad_out (c : Dev nD) (t : Fin cfg0.N) : (outsAt0 m c t).1 = turn (added (parts m c)) := by
  unfold outsAt0
  frame_out
  rw [read_unread_whole, added_eq, turned, blk0_eq]

theorem change_out (c : Dev nD) (t : Fin cfg0.N) : (outsAt0 m c t).2.1 = change (turn (added (parts m c))) (turn (weight m c)) (turn (first m c)) (turn (second m c)) := by
  unfold outsAt0
  frame_out
  simp only [read_unread_whole]
  rw [added_eq, turned, blk0_eq, blk1, blk2, blk3, k0_pay1, k0_pay7, k0_pay10, k0_pay11, k0_pay8, k0_pay9, shapeCast_id, shapeCast_id, shapeCast_id]
  rfl

theorem m_out (c : Dev nD) (t : Fin cfg0.N) : (outsAt0 m c t).2.2.1 = mNew (turn (added (parts m c))) (turn (first m c)) := by
  unfold outsAt0
  frame_out
  simp only [read_unread_whole]
  rw [added_eq, turned, blk0_eq, blk2, k0_pay8, shapeCast_id]
  rfl

theorem v_out (c : Dev nD) (t : Fin cfg0.N) : (outsAt0 m c t).2.2.2 = vNew (turn (added (parts m c))) (turn (second m c)) := by
  unfold outsAt0
  frame_out
  simp only [read_unread_whole]
  rw [added_eq, turned, blk0_eq, blk3, k0_pay9, shapeCast_id]
  rfl

theorem final4 (c : Dev nD) : (dats m 0 c).arrAt 4 cfg0.N = turn (added (parts m c)) := by
  refine (dats m 0 c).arrAt_eq_of_covers 4 _ (by decide +kernel) fun t hf j => ?_
  blk_simp
  rw [after0_4, grad_out]
  obtain ⟨a, b, rfl⟩ := pair j
  exact congrArg (turn (added (parts m c))) (funext fun q => Fin.ext (by fin_cases q <;> blk_simp [at4 t] <;> rfl))

theorem final5 (c : Dev nD) : (dats m 0 c).arrAt 5 cfg0.N = change (turn (added (parts m c))) (turn (weight m c)) (turn (first m c)) (turn (second m c)) := by
  refine (dats m 0 c).arrAt_eq_of_covers 5 _ (by decide +kernel) fun t hf j => ?_
  blk_simp
  rw [after0_5, change_out]
  obtain ⟨a, b, rfl⟩ := pair j
  exact congrArg (change (turn (added (parts m c))) (turn (weight m c)) (turn (first m c)) (turn (second m c))) (funext fun q => Fin.ext (by fin_cases q <;> blk_simp [at5 t] <;> rfl))

theorem final6 (c : Dev nD) : (dats m 0 c).arrAt 6 cfg0.N = mNew (turn (added (parts m c))) (turn (first m c)) := by
  refine (dats m 0 c).arrAt_eq_of_covers 6 _ (by decide +kernel) fun t hf j => ?_
  blk_simp
  rw [after0_6, m_out]
  obtain ⟨a, b, rfl⟩ := pair j
  exact congrArg (mNew (turn (added (parts m c))) (turn (first m c))) (funext fun q => Fin.ext (by fin_cases q <;> blk_simp [at6 t] <;> rfl))

theorem final7 (c : Dev nD) : (dats m 0 c).arrAt 7 cfg0.N = vNew (turn (added (parts m c))) (turn (second m c)) := by
  refine (dats m 0 c).arrAt_eq_of_covers 7 _ (by decide +kernel) fun t hf j => ?_
  blk_simp
  rw [after0_7, v_out]
  obtain ⟨a, b, rfl⟩ := pair j
  exact congrArg (vNew (turn (added (parts m c))) (turn (second m c))) (funext fun q => Fin.ext (by fin_cases q <;> blk_simp [at7 t] <;> rfl))

end Cert.Kernel18Ideal.StepUq

namespace Cert.Reference18Ideal.StepUq

open Cert.Kernel18Ideal.StepUq (turn added)
open Cert.Reference18Ideal Cert.Reference18Ideal.Gen Cert.Reference18Ideal.Read Cert.GateSpec Cert.StepSpec Idealize.ShloMosaic

variable (p : FVec Ideal S8x256x96 .bf16) (w m v : Arr 256 96)

theorem sum_eq : val_main_v1 (F := Ideal) p = added p := by
  funext i
  obtain ⟨a, b, rfl⟩ := pair i
  rw [val_main_v1_apply]
  exact ((eight fun k => p (ix3 k a b)).trans (congrArg (_ + ·) (Finset.sum_congr rfl fun k _ =>
    congrArg p (funext fun q => by fin_cases q <;> rfl)))).symm

theorem turn_eq (x : Arr 256 96) : transpose S96x256 [1, 0] x transposes_S256x96_S96x256_1_0 = turn x := by
  funext i
  obtain ⟨j, r, rfl⟩ := pair i
  pointwise []
  rfl

theorem grad_eq : val_main_v26 (F := Ideal) p = turn (added p) := by rw [val_main_v26, turn_eq, sum_eq]
theorem change_eq : val_main_v27 (F := Ideal) p w m v = change (turn (added p)) (turn w) (turn m) (turn v) := by
  rw [val_main_v27, turn_eq, show val_main_v25 (F := Ideal) p w m v = change (val_main_v1 (F := Ideal) p) w m v from rfl, sum_eq]
  rfl
theorem m_eq : val_main_v28 (F := Ideal) p m = mNew (turn (added p)) (turn m) := by
  rw [val_main_v28, turn_eq, show val_main_v6 (F := Ideal) p m = mNew (val_main_v1 (F := Ideal) p) m from rfl, sum_eq]
  rfl
theorem v_eq : val_main_v29 (F := Ideal) p v = vNew (turn (added p)) (turn v) := by
  rw [val_main_v29, turn_eq, show val_main_v12 (F := Ideal) p v = vNew (val_main_v1 (F := Ideal) p) v from rfl, sum_eq]
  rfl

end Cert.Reference18Ideal.StepUq

namespace Cert.StepUq

open Cert.Reference18Ideal.Read Idealize.ShloMosaic Idealize.SL.Sem

attribute [local instance] Cert.Kernel18Ideal.Gen.facts Cert.Reference18Ideal.Gen.facts

theorem algebraic : Cert.algebraic_Kernel18Ideal_Reference18Ideal := by
  pair_intro
  · run_from Cert.Kernel18Ideal.Value.run_blocks m g
  · refine θ_run_mono (Cert.Reference18Ideal.Value.run m' g') fun r h c => ?_
    obtain ⟨a0, a1, a2, a3⟩ := hagree c
    obtain ⟨h0, h1, h2, h3, hk⟩ := h c
    refine ⟨h0.trans ?_, h1.trans ?_, h2.trans ?_, h3.trans ?_, hk⟩
    · rw [val_main_v26_eq, a0, Cert.Kernel18Ideal.StepUq.final4, Cert.Reference18Ideal.StepUq.grad_eq]
    · rw [val_main_v27_eq, a0, a1, a2, a3, Cert.Kernel18Ideal.StepUq.final5, Cert.Reference18Ideal.StepUq.change_eq]
    · rw [val_main_v28_eq, a0, a2, Cert.Kernel18Ideal.StepUq.final6, Cert.Reference18Ideal.StepUq.m_eq]
    · rw [val_main_v29_eq, a0, a3, Cert.Kernel18Ideal.StepUq.final7, Cert.Reference18Ideal.StepUq.v_eq]

end Cert.StepUq

end
-- ==== Proof.StepLines.lean ====
/-
  A WEIGHT OF 1024 ROWS, ITS COLUMNS LAID OUT IN LINES OF 128. Column `q` takes the eight lines `8 q … 8 q + 7`, so line `l` and
  lane `c` hold row `(l mod 8) 128 + c` of column `l / 8`. The kernels keep the summed gradient in such lines, storing one eighth
  of 128 columns at a time, every eighth line.
-/
module

public import proofs.«01_k».proof.Proof.GateSpec
public import proofs.«01_k».proof.Proof.Pieces
public import Idealize.ShloMosaic.Lib.Pipeline.ValueKit
public import Idealize.ShloMosaic.Lib.Pointwise

@[expose] public section

noncomputable section

namespace Cert.StepLines

open Cert.GateSpec Idealize.ShloMosaic

variable {C L o : Nat}

theorem row_lt (l : Nat) (c : Fin 128) : l % 8 * 128 + c.val < 1024 := by have := c.isLt; omega

/-- The array in lines. -/
def lined (h : L = 8 * C) (x : Arr 1024 C) : Arr L 128 := fun i =>
  x (ix2 ⟨(i 0).val % 8 * 128 + (i 1).val, row_lt _ (i 1)⟩ ⟨(i 0).val / 8, by have : (i 0).val < L := (i 0).isLt; omega⟩)

/-- The array with its columns first, between them an axis of one. -/
def turned (x : Arr 1024 C) : (⟨3, ![C, 1, 1024]⟩ : Shape).Idx → EReal := fun i => x (ix2 (i 2) (i 0))

/-- The eight devices' parts added one after the other. -/
def added (p : (⟨3, ![8, 1024, C]⟩ : Shape).Idx → EReal) : Arr 1024 C := fun i =>
  p (ix3 0 (i 0) (i 1)) + p (ix3 1 (i 0) (i 1)) + p (ix3 2 (i 0) (i 1)) + p (ix3 3 (i 0) (i 1)) + p (ix3 4 (i 0) (i 1)) + p (ix3 5 (i 0) (i 1)) + p (ix3 6 (i 0) (i 1)) + p (ix3 7 (i 0) (i 1))

/-- Lines read with the columns first. -/
theorem turned_of_lined (h : L = 8 * C) (x : Arr 1024 C) (hc : (⟨2, ![L, 128]⟩ : Shape).ShapeCasts ⟨3, ![C, 1, 1024]⟩) :
    shapeCast ⟨3, ![C, 1, 1024]⟩ (lined h x) hc = turned x := by
  funext i
  have h0 : (i 0).val < C := (i 0).isLt
  have h1 : (i 1).val < 1 := (i 1).isLt
  have h2 : (i 2).val < 1024 := (i 2).isLt
  refine (shapeCast_apply _ hc i (ix2 ⟨8 * (i 0).val + (i 2).val / 128, by omega⟩ ⟨(i 2).val % 128, by omega⟩) ?_).trans ?_
  · rw [Shape.rowMajor_val_two, Shape.rowMajor_val_three]
    show (8 * (i 0).val + (i 2).val / 128) * 128 + (i 2).val % 128 = ((i 0).val * 1 + (i 1).val) * 1024 + (i 2).val
    omega
  · refine congrArg x (congrArg₂ ix2 (Fin.ext ?_) (Fin.ext ?_))
    · show (8 * (i 0).val + (i 2).val / 128) % 8 * 128 + (i 2).val % 128 = (i 2).val
      omega
    · show (8 * (i 0).val + (i 2).val / 128) / 8 = (i 0).val
      omega

/-- The columns first, read in lines. -/
theorem lined_of_turned (h : L = 8 * C) (x : Arr 1024 C) (hc : (⟨3, ![C, 1, 1024]⟩ : Shape).ShapeCasts ⟨2, ![L, 128]⟩) :
    shapeCast ⟨2, ![L, 128]⟩ (turned x) hc = lined h x := by
  funext i
  have h0 : (i 0).val < L := (i 0).isLt
  have h1 : (i 1).val < 128 := (i 1).isLt
  refine (shapeCast_apply _ hc i (ix3 ⟨(i 0).val / 8, by omega⟩ (0 : Fin 1) ⟨(i 0).val % 8 * 128 + (i 1).val, row_lt _ (i 1)⟩) ?_).trans rfl
  rw [Shape.rowMajor_val_two, Shape.rowMajor_val_three]
  show ((i 0).val / 8 * 1 + 0) * 1024 + ((i 0).val % 8 * 128 + (i 1).val) = (i 0).val * 128 + (i 1).val
  omega

section
variable (inb : ∀ a, (![128, 128] : Fin 2 → Nat) a = 0 ∨ (![o, 0] : Fin 2 → Nat) a + (![8, 1] : Fin 2 → Nat) a * ((![128, 128] : Fin 2 → Nat) a - 1) < (⟨2, ![L, 128]⟩ : Shape).size a)
  (pos : ∀ a, 0 < (![8, 1] : Fin 2 → Nat) a)

/-- 128 lines, every eighth from line `o`. -/
abbrev every : Rect (⟨2, ![L, 128]⟩ : Shape) := ⟨⟨![o, 0], ![128, 128], ![8, 1], inb⟩, pos⟩

theorem mem_every (y : (⟨2, ![L, 128]⟩ : Shape).Idx) : y ∈ (every inb pos).set ↔ (y 0).val ≥ o ∧ (y 0).val < o + 1024 ∧ (y 0).val % 8 = o % 8 := by
  have hy : (y 1).val < 128 := (y 1).isLt
  rw [LoadRect.mem_set]
  constructor
  · intro h
    obtain ⟨j, hj, he⟩ := h 0
    have hj' : j < 128 := hj
    have he' : (y 0).val = o + 8 * j := he
    omega
  · rintro ⟨h1, h2, h3⟩
    refine Fin.forall_fin_two.mpr ⟨⟨((y 0).val - o) / 8, ?_, ?_⟩, ⟨(y 1).val, hy, ?_⟩⟩
    · show ((y 0).val - o) / 8 < 128
      omega
    · show (y 0).val = o + 8 * (((y 0).val - o) / 8)
      omega
    · show (y 1).val = 0 + 1 * (y 1).val
      omega

/-- A store of an eighth of 128 columns holds what the array in lines holds there. -/
theorem stored (h : L = 8 * C) (x : Arr 1024 C) (w : (⟨2, ![128, 128]⟩ : Shape).Idx → EReal) (hq : o / 8 + 128 ≤ C)
    (hw : ∀ (j c : Fin 128), w (ix2 j c) = x (ix2 ⟨o % 8 * 128 + c.val, row_lt _ c⟩ ⟨o / 8 + j.val, by have := j.isLt; omega⟩))
    (i : (every inb pos).shape.Idx) : w i = lined h x ((every inb pos).emb i) := by
  have hj : (i 0).val < 128 := (i 0).isLt
  have hc : (i 1).val < 128 := (i 1).isLt
  obtain ⟨j, c, rfl⟩ := pair (a := 128) (b := 128) i
  rw [hw]
  refine congrArg x (congrArg₂ ix2 (Fin.ext ?_) (Fin.ext ?_))
  · show o % 8 * 128 + c.val = (o + 8 * j.val) % 8 * 128 + (0 + 1 * c.val)
    omega
  · show o / 8 + j.val = (o + 8 * j.val) / 8
    omega
end

/-- An array written by stores that each hold what the array in lines holds there, and together reach every line, is that array. -/
theorem gathered (h : L = 8 * C) (x : Arr 1024 C) {sig : RefSig} {κ : Kind} {sp : Space} (v : View sig κ sp ⟨2, ![L, 128]⟩ .f32)
    (M : List (View.Piece (Elt Ideal) ⟨2, ![L, 128]⟩ .f32)) (inb : ∀ a, (![0, 0] : Fin 2 → Nat) a + (![L, 128] : Fin 2 → Nat) a ≤ (⟨2, ![L, 128]⟩ : Shape).size a)
    (hM : ∀ p ∈ M, ∀ i, p.2 i = lined h x (p.1.emb i)) (hc : ∀ y, ∃ p ∈ M, y ∈ p.1.set) :
    v.readCov M (Rect.unit (s := ⟨2, ![L, 128]⟩) ![0, 0] ![L, 128] inb).toLoadRect = lined h x := by
  funext i
  obtain ⟨a, b, rfl⟩ := pair (a := L) (b := 128) i
  refine (Cert.Pieces.readCov_piece inb v M a b).trans ?_
  refine (View.canon_apply_of_pieces _ M hM _ (hc _)).trans ?_
  exact congrArg (lined h x) (congrArg₂ ix2 (Fin.ext (Nat.zero_add _)) (Fin.ext (Nat.zero_add _)))

/-- The same reach, by the first lines of the stores. -/
theorem reached {M : List (View.Piece (Elt Ideal) ⟨2, ![L, 128]⟩ .f32)} {os : List Nat} (y : (⟨2, ![L, 128]⟩ : Shape).Idx)
    (h : List.Forall₂ (fun (o : Nat) p => (y 0).val ≥ o ∧ (y 0).val < o + 1024 ∧ (y 0).val % 8 = o % 8 → y ∈ p.1.set) os M)
    (o : Nat) (ho : o ∈ os) (hy : (y 0).val ≥ o ∧ (y 0).val < o + 1024 ∧ (y 0).val % 8 = o % 8) : ∃ p ∈ M, y ∈ p.1.set := by
  induction h with
  | nil => exact absurd ho List.not_mem_nil
  | cons hp _ ih =>
    rcases List.mem_cons.mp ho with rfl | ho
    · exact ⟨_, List.mem_cons_self, hp hy⟩
    · obtain ⟨q, hq, hm⟩ := ih ho
      exact ⟨q, List.mem_cons_of_mem _ hq, hm⟩

end Cert.StepLines

end
-- ==== Proof.StepAbIn.lean ====
/-
  ADAMW ON LAYER 0'S INPUT WEIGHTS, COLUMNS FIRST IN LINES OF 128: THE VALUE CLAIM. The kernel adds the devices' parts of the
  gradient 128 columns at a time, turns them and stores them every eighth line, makes the step on the lines and returns them with
  the columns first; the reference makes the step and turns the results.
-/
module

public import proofs.«01_k».proof.Proof.Gen.Kernel19Ideal.Value
public import proofs.«01_k».proof.Proof.Gen.Reference19Ideal.Read
public import proofs.«01_k».proof.Proof.Gen.Reference19Ideal.Run
public import proofs.«01_k».proof.Proof.StepSpec
public import proofs.«01_k».proof.Proof.StepLines
public import proofs.«01_k».proof.Defs
public import Idealize.ShloMosaic.Lib.Pipeline.ValueKit
public import Idealize.ShloMosaic.Lib.Pipeline.ReadBack
public import Idealize.ShloMosaic.Lib.StableHlo.RunRead
public import Idealize.ShloMosaic.Lib.Claim

@[expose] public section

noncomputable section

namespace Cert.Kernel19Ideal.StepAbIn

open Cert.Kernel19Ideal Cert.Kernel19Ideal.Gen Cert.Kernel19Ideal.Value Cert.GateSpec Cert.StepSpec Cert.StepLines Idealize.ShloMosaic Idealize.ShloMosaic.TcCoe Idealize.SL.Sem
open Idealize.ShloMosaic.Pipeline (Dat)

theorem lines_eq : 1952 = 8 * 244 := by decide

variable (m : (ℓ : Loc nD τ sig) → Buf (Elt Ideal) ℓ)

abbrev parts (c : Dev nD) : FVec Ideal S8x1024x244 .bf16 := m ((c : Thread nD τ).loc main_arg0)
abbrev weight (c : Dev nD) : Arr 1024 244 := m ((c : Thread nD τ).loc main_arg1)
abbrev first (c : Dev nD) : Arr 1024 244 := m ((c : Thread nD τ).loc main_arg2)
abbrev second (c : Dev nD) : Arr 1024 244 := m ((c : Thread nD τ).loc main_arg3)

theorem at0 : ∀ t : Fin cfg0.N, win0_0.index t = ![0, 0, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0, 0] := (by decide +kernel : ∀ t : Fin grid0.N, _)
theorem at5 : ∀ t : Fin cfg0.N, win0_5.index t = ![0, 0, 0] := (by decide +kernel : ∀ t : Fin grid0.N, _)
theorem at6 : ∀ t : Fin cfg0.N, win0_6.index t = ![0, 0, 0] := (by decide +kernel : ∀ t : Fin grid0.N, _)
theorem at7 : ∀ t : Fin cfg0.N, win0_7.index t = ![0, 0, 0] := (by decide +kernel : ∀ t : Fin grid0.N, _)

/-- The host's columns first. -/
theorem host_turned (x : Arr 1024 244) : transpose S244x1x1024 [2, 0, 1] (broadcastInDim S1x1024x244 ![1, 2] bcast_S1024x244_S1x1024x244_1_2 x) transposes_S1x1024x244_S244x1x1024_2_0_1 = turned x := by
  funext i
  have hi : i = ix3 (i 0) (i 1) (i 2) := by funext k; fin_cases k <;> rfl
  rw [hi]
  generalize i 0 = a
  generalize i 1 = b
  generalize i 2 = c
  pointwise []
  rfl

/-- The host's lines of a weight. -/
def hostLines (x : FVec Ideal S1024x244 .f32) : FVec Ideal S1952x128 .f32 :=
  shapeCast S1952x128 (transpose S244x1x1024 [2, 0, 1] (broadcastInDim S1x1024x244 ![1, 2] bcast_S1024x244_S1x1024x244_1_2 x) transposes_S1x1024x244_S244x1x1024_2_0_1) shapeCasts_S244x1x1024_S1952x128

theorem host_lined (x : Arr 1024 244) : hostLines x = lined lines_eq x := by
  unfold hostLines
  rw [host_turned]
  exact lined_of_turned lines_eq x _

theorem V_main_v2 (c : Dev nD) : (V m c main_v2 : FVec Ideal S1952x128 .f32) = hostLines (weight m c) := by rfl
theorem V_main_v5 (c : Dev nD) : (V m c main_v5 : FVec Ideal S1952x128 .f32) = hostLines (first m c) := by rfl
theorem V_main_v8 (c : Dev nD) : (V m c main_v8 : FVec Ideal S1952x128 .f32) = hostLines (second m c) := by rfl

theorem blk0 (c : Dev nD) (t : Fin cfg0.N) : (iblk m c 0 t : Vec Ideal S8x1024x244 .bf16) = parts m c := by
  funext i
  have hi : i = ix3 (i 0) (i 1) (i 2) := by funext k; fin_cases k <;> rfl
  rw [hi]
  generalize i 0 = a
  generalize i 1 = b
  generalize i 2 = d
  blk_ext! [iblk, V_main_arg0, at0 t]
theorem blk1 (c : Dev nD) (t : Fin cfg0.N) : (iblk m c 1 t : Vec Ideal S1952x128 .f32) = lined lines_eq (weight m c) := by
  rw [← host_lined, ← V_main_v2]
  funext i
  obtain ⟨j, r, rfl⟩ := pair i
  blk_ext! [iblk, at1 t]
theorem blk2 (c : Dev nD) (t : Fin cfg0.N) : (iblk m c 2 t : Vec Ideal S1952x128 .f32) = lined lines_eq (first m c) := by
  rw [← host_lined, ← V_main_v5]
  funext i
  obtain ⟨j, r, rfl⟩ := pair i
  blk_ext! [iblk, at2 t]
theorem blk3 (c : Dev nD) (t : Fin cfg0.N) : (iblk m c 3 t : Vec Ideal S1952x128 .f32) = lined lines_eq (second m c) := by
  rw [← host_lined, ← V_main_v8]
  funext i
  obtain ⟨j, r, rfl⟩ := pair i
  blk_ext! [iblk, at3 t]

/-- The first 128 columns of the sum, turned; and the last 128. -/
abbrev early (X : FVec Ideal S8x1024x244 .bf16) : FVec Ideal S128x1024 .f32 :=
  k0_pay1 (F := Ideal) (View.ld X (Rect.unit (s := S8x1024x244) ![0, 0, 0] ![1, 1024, 128] inb_S8x1024x244_S1x1024x128_0_0_0)) (View.ld X (Rect.unit (s := S8x1024x244) ![1, 0, 0] ![1, 1024, 128] inb_S8x1024x244_S1x1024x128_1_0_0)) (View.ld X (Rect.unit (s := S8x1024x244) ![2, 0, 0] ![1, 1024, 128] inb_S8x1024x244_S1x1024x128_2_0_0)) (View.ld X (Rect.unit (s := S8x1024x244) ![3, 0, 0] ![1, 1024, 128] inb_S8x1024x244_S1x1024x128_3_0_0)) (View.ld X (Rect.unit (s := S8x1024x244) ![4, 0, 0] ![1, 1024, 128] inb_S8x1024x244_S1x1024x128_4_0_0)) (View.ld X (Rect.unit (s := S8x1024x244) ![5, 0, 0] ![1, 1024, 128] inb_S8x1024x244_S1x1024x128_5_0_0)) (View.ld X (Rect.unit (s := S8x1024x244) ![6, 0, 0] ![1, 1024, 128] inb_S8x1024x244_S1x1024x128_6_0_0)) (View.ld X (Rect.unit (s := S8x1024x244) ![7, 0, 0] ![1, 1024, 128] inb_S8x1024x244_S1x1024x128_7_0_0))
abbrev late (X : FVec Ideal S8x1024x244 .bf16) : FVec Ideal S128x1024 .f32 :=
  k0_pay12 (F := Ideal) (k0_pay11 (F := Ideal) (View.ld X (Rect.unit (s := S8x1024x244) ![0, 0, 116] ![1, 1024, 128] inb_S8x1024x244_S1x1024x128_0_0_116))) (View.ld X (Rect.unit (s := S8x1024x244) ![1, 0, 116] ![1, 1024, 128] inb_S8x1024x244_S1x1024x128_1_0_116)) (View.ld X (Rect.unit (s := S8x1024x244) ![2, 0, 116] ![1, 1024, 128] inb_S8x1024x244_S1x1024x128_2_0_116)) (View.ld X (Rect.unit (s := S8x1024x244) ![3, 0, 116] ![1, 1024, 128] inb_S8x1024x244_S1x1024x128_3_0_116)) (View.ld X (Rect.unit (s := S8x1024x244) ![4, 0, 116] ![1, 1024, 128] inb_S8x1024x244_S1x1024x128_4_0_116)) (View.ld X (Rect.unit (s := S8x1024x244) ![5, 0, 116] ![1, 1024, 128] inb_S8x1024x244_S1x1024x128_5_0_116)) (View.ld X (Rect.unit (s := S8x1024x244) ![6, 0, 116] ![1, 1024, 128] inb_S8x1024x244_S1x1024x128_6_0_116)) (View.ld X (Rect.unit (s := S8x1024x244) ![7, 0, 116] ![1, 1024, 128] inb_S8x1024x244_S1x1024x128_7_0_116))

/-- The sixteen stores of the summed gradient, the last one first. -/
abbrev stores (X : FVec Ideal S8x1024x244 .bf16) : List (View.Piece (Elt Ideal) S1952x128 .f32) :=
  [⟨⟨⟨![935, 0], ![128, 128], ![8, 1], inb_S1952x128_S128x128_935_0_s_8_1⟩, spos_8_1⟩, k0_pay21 (F := Ideal) (late X)⟩,
    ⟨⟨⟨![934, 0], ![128, 128], ![8, 1], inb_S1952x128_S128x128_934_0_s_8_1⟩, spos_8_1⟩, k0_pay20 (F := Ideal) (late X)⟩,
    ⟨⟨⟨![933, 0], ![128, 128], ![8, 1], inb_S1952x128_S128x128_933_0_s_8_1⟩, spos_8_1⟩, k0_pay19 (F := Ideal) (late X)⟩,
    ⟨⟨⟨![932, 0], ![128, 128], ![8, 1], inb_S1952x128_S128x128_932_0_s_8_1⟩, spos_8_1⟩, k0_pay18 (F := Ideal) (late X)⟩,
    ⟨⟨⟨![931, 0], ![128, 128], ![8, 1], inb_S1952x128_S128x128_931_0_s_8_1⟩, spos_8_1⟩, k0_pay17 (F := Ideal) (late X)⟩,
    ⟨⟨⟨![930, 0], ![128, 128], ![8, 1], inb_S1952x128_S128x128_930_0_s_8_1⟩, spos_8_1⟩, k0_pay16 (F := Ideal) (late X)⟩,
    ⟨⟨⟨![929, 0], ![128, 128], ![8, 1], inb_S1952x128_S128x128_929_0_s_8_1⟩, spos_8_1⟩, k0_pay15 (F := Ideal) (k0_pay14 (F := Ideal) (k0_pay11 (F := Ideal) (View.ld X (Rect.unit (s := S8x1024x244) ![0, 0, 116] ![1, 1024, 128] inb_S8x1024x244_S1x1024x128_0_0_116))) (View.ld X (Rect.unit (s := S8x1024x244) ![1, 0, 116] ![1, 1024, 128] inb_S8x1024x244_S1x1024x128_1_0_116)) (View.ld X (Rect.unit (s := S8x1024x244) ![2, 0, 116] ![1, 1024, 128] inb_S8x1024x244_S1x1024x128_2_0_116)) (View.ld X (Rect.unit (s := S8x1024x244) ![3, 0, 116] ![1, 1024, 128] inb_S8x1024x244_S1x1024x128_3_0_116)) (View.ld X (Rect.unit (s := S8x1024x244) ![4, 0, 116] ![1, 1024, 128] inb_S8x1024x244_S1x1024x128_4_0_116)) (View.ld X (Rect.unit (s := S8x1024x244) ![5, 0, 116] ![1, 1024, 128] inb_S8x1024x244_S1x1024x128_5_0_116)) (View.ld X (Rect.unit (s := S8x1024x244) ![6, 0, 116] ![1, 1024, 128] inb_S8x1024x244_S1x1024x128_6_0_116)) (View.ld X (Rect.unit (s := S8x1024x244) ![7, 0, 116] ![1, 1024, 128] inb_S8x1024x244_S1x1024x128_7_0_116)))⟩,
    ⟨⟨⟨![928, 0], ![128, 128], ![8, 1], inb_S1952x128_S128x128_928_0_s_8_1⟩, spos_8_1⟩, k0_pay13 (F := Ideal) (k0_pay11 (F := Ideal) (View.ld X (Rect.unit (s := S8x1024x244) ![0, 0, 116] ![1, 1024, 128] inb_S8x1024x244_S1x1024x128_0_0_116))) (View.ld X (Rect.unit (s := S8x1024x244) ![1, 0, 116] ![1, 1024, 128] inb_S8x1024x244_S1x1024x128_1_0_116)) (View.ld X (Rect.unit (s := S8x1024x244) ![2, 0, 116] ![1, 1024, 128] inb_S8x1024x244_S1x1024x128_2_0_116)) (View.ld X (Rect.unit (s := S8x1024x244) ![3, 0, 116] ![1, 1024, 128] inb_S8x1024x244_S1x1024x128_3_0_116)) (View.ld X (Rect.unit (s := S8x1024x244) ![4, 0, 116] ![1, 1024, 128] inb_S8x1024x244_S1x1024x128_4_0_116)) (View.ld X (Rect.unit (s := S8x1024x244) ![5, 0, 116] ![1, 1024, 128] inb_S8x1024x244_S1x1024x128_5_0_116)) (View.ld X (Rect.unit (s := S8x1024x244) ![6, 0, 116] ![1, 1024, 128] inb_S8x1024x244_S1x1024x128_6_0_116)) (View.ld X (Rect.unit (s := S8x1024x244) ![7, 0, 116] ![1, 1024, 128] inb_S8x1024x244_S1x1024x128_7_0_116))⟩,
    ⟨⟨⟨![7, 0], ![128, 128], ![8, 1], inb_S1952x128_S128x128_7_0_s_8_1⟩, spos_8_1⟩, k0_pay10 (F := Ideal) (early X)⟩,
    ⟨⟨⟨![6, 0], ![128, 128], ![8, 1], inb_S1952x128_S128x128_6_0_s_8_1⟩, spos_8_1⟩, k0_pay9 (F := Ideal) (early X)⟩,
    ⟨⟨⟨![5, 0], ![128, 128], ![8, 1], inb_S1952x128_S128x128_5_0_s_8_1⟩, spos_8_1⟩, k0_pay8 (F := Ideal) (early X)⟩,
    ⟨⟨⟨![4, 0], ![128, 128], ![8, 1], inb_S1952x128_S128x128_4_0_s_8_1⟩, spos_8_1⟩, k0_pay7 (F := Ideal) (early X)⟩,
    ⟨⟨⟨![3, 0], ![128, 128], ![8, 1], inb_S1952x128_S128x128_3_0_s_8_1⟩, spos_8_1⟩, k0_pay6 (F := Ideal) (early X)⟩,
    ⟨⟨⟨![2, 0], ![128, 128], ![8, 1], inb_S1952x128_S128x128_2_0_s_8_1⟩, spos_8_1⟩, k0_pay5 (F := Ideal) (early X)⟩,
    ⟨⟨⟨![1, 0], ![128, 128], ![8, 1], inb_S1952x128_S128x128_1_0_s_8_1⟩, spos_8_1⟩, k0_pay4 (F := Ideal) (early X)⟩,
    ⟨⟨⟨![0, 0], ![128, 128], ![8, 1], inb_S1952x128_S128x128_0_0_s_8_1⟩, spos_8_1⟩, k0_pay3 (F := Ideal) (k0_pay2 (F := Ideal) (View.ld X (Rect.unit (s := S8x1024x244) ![0, 0, 0] ![1, 1024, 128] inb_S8x1024x244_S1x1024x128_0_0_0)) (View.ld X (Rect.unit (s := S8x1024x244) ![1, 0, 0] ![1, 1024, 128] inb_S8x1024x244_S1x1024x128_1_0_0)) (View.ld X (Rect.unit (s := S8x1024x244) ![2, 0, 0] ![1, 1024, 128] inb_S8x1024x244_S1x1024x128_2_0_0)) (View.ld X (Rect.unit (s := S8x1024x244) ![3, 0, 0] ![1, 1024, 128] inb_S8x1024x244_S1x1024x128_3_0_0)) (View.ld X (Rect.unit (s := S8x1024x244) ![4, 0, 0] ![1, 1024, 128] inb_S8x1024x244_S1x1024x128_4_0_0)) (View.ld X (Rect.unit (s := S8x1024x244) ![5, 0, 0] ![1, 1024, 128] inb_S8x1024x244_S1x1024x128_5_0_0)) (View.ld X (Rect.unit (s := S8x1024x244) ![6, 0, 0] ![1, 1024, 128] inb_S8x1024x244_S1x1024x128_6_0_0)) (View.ld X (Rect.unit (s := S8x1024x244) ![7, 0, 0] ![1, 1024, 128] inb_S8x1024x244_S1x1024x128_7_0_0)))⟩]

theorem stores_hold (X : FVec Ideal S8x1024x244 .bf16) : ∀ p ∈ stores X, ∀ i, p.2 i = lined lines_eq (added X) (p.1.emb i) := by
  unfold stores early late
  repeat' refine List.forall_mem_cons.mpr ⟨?_, ?_⟩
  on_goal 17 => exact fun p hp => absurd hp (List.not_mem_nil)
  all_goals
    refine stored _ _ lines_eq _ _ (by decide) fun j c => ?_
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
    rfl

theorem stores_reach (X : FVec Ideal S8x1024x244 .bf16) (y : S1952x128.Idx) : ∃ p ∈ stores X, y ∈ p.1.set := by
  have hy : (y 0).val < 1952 := (y 0).isLt
  unfold stores
  simp only [List.exists_mem_cons_iff]
  repeat rw [mem_every (L := 1952) _ spos_8_1]
  have hk : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
  rcases hk with h | h | h | h | h | h | h | h <;> rcases lt_or_ge (y 0).val 1024 with g | g <;>
    repeat first | exact Or.inl ⟨by omega, by omega, by omega⟩ | apply Or.inr

theorem summed (X : FVec Ideal S8x1024x244 .bf16) :
    (View.whole cc0_scratch0).readCov (stores X) (Rect.unit (s := S1952x128) ![0, 0] ![1952, 128] inb_S1952x128_S1952x128_0_0).toLoadRect = lined lines_eq (added X) :=
  gathered lines_eq _ _ _ _ (stores_hold X) (stores_reach X)

theorem grad_out (c : Dev nD) (t : Fin cfg0.N) : (outsAt0 m c t).1 = turned (added (parts m c)) := by
  unfold outsAt0
  frame_out
  simp only [read_unread_whole]
  rw [blk0]
  exact (congrArg (k0_pay27 (F := Ideal)) (summed (parts m c))).trans (turned_of_lined lines_eq _ _)

theorem change_out (c : Dev nD) (t : Fin cfg0.N) : (outsAt0 m c t).2.1 = turned (change (added (parts m c)) (weight m c) (first m c) (second m c)) := by
  unfold outsAt0
  frame_out
  simp only [read_unread_whole]
  rw [blk0, blk1, blk2, blk3, k0_pay22, k0_pay23, k0_pay24, shapeCast_id, shapeCast_id, shapeCast_id]
  exact (congrArg (fun g => k0_pay28 (F := Ideal) g _ _ _ _) (summed (parts m c))).trans (turned_of_lined lines_eq (change (added (parts m c)) (weight m c) (first m c) (second m c)) _)

theorem m_out (c : Dev nD) (t : Fin cfg0.N) : (outsAt0 m c t).2.2.1 = turned (mNew (added (parts m c)) (first m c)) := by
  unfold outsAt0
  frame_out
  simp only [read_unread_whole]
  rw [blk0, blk2, k0_pay23, shapeCast_id]
  exact (congrArg (fun g => k0_pay29 (F := Ideal) g _ _) (summed (parts m c))).trans (turned_of_lined lines_eq (mNew (added (parts m c)) (first m c)) _)

theorem v_out (c : Dev nD) (t : Fin cfg0.N) : (outsAt0 m c t).2.2.2 = turned (vNew (added (parts m c)) (second m c)) := by
  unfold outsAt0
  frame_out
  simp only [read_unread_whole]
  rw [blk0, blk3, k0_pay24, shapeCast_id]
  exact (congrArg (fun g => k0_pay30 (F := Ideal) g _) (summed (parts m c))).trans (turned_of_lined lines_eq (vNew (added (parts m c)) (second m c)) _)

theorem final4 (c : Dev nD) : (dats m 0 c).arrAt 4 cfg0.N = turned (added (parts m c)) := by
  refine (dats m 0 c).arrAt_eq_of_covers 4 _ (by decide +kernel) fun t hf j => ?_
  blk_simp
  rw [after0_4, grad_out]
  exact congrArg (turned (added (parts m c))) (funext fun q => Fin.ext (by fin_cases q <;> blk_simp [at4 t] <;> rfl))

theorem final5 (c : Dev nD) : (dats m 0 c).arrAt 5 cfg0.N = turned (change (added (parts m c)) (weight m c) (first m c) (second m c)) := by
  refine (dats m 0 c).arrAt_eq_of_covers 5 _ (by decide +kernel) fun t hf j => ?_
  blk_simp
  rw [after0_5, change_out]
  exact congrArg (turned (change (added (parts m c)) (weight m c) (first m c) (second m c))) (funext fun q => Fin.ext (by fin_cases q <;> blk_simp [at5 t] <;> rfl))

theorem final6 (c : Dev nD) : (dats m 0 c).arrAt 6 cfg0.N = turned (mNew (added (parts m c)) (first m c)) := by
  refine (dats m 0 c).arrAt_eq_of_covers 6 _ (by decide +kernel) fun t hf j => ?_
  blk_simp
  rw [after0_6, m_out]
  exact congrArg (turned (mNew (added (parts m c)) (first m c))) (funext fun q => Fin.ext (by fin_cases q <;> blk_simp [at6 t] <;> rfl))

theorem final7 (c : Dev nD) : (dats m 0 c).arrAt 7 cfg0.N = turned (vNew (added (parts m c)) (second m c)) := by
  refine (dats m 0 c).arrAt_eq_of_covers 7 _ (by decide +kernel) fun t hf j => ?_
  blk_simp
  rw [after0_7, v_out]
  exact congrArg (turned (vNew (added (parts m c)) (second m c))) (funext fun q => Fin.ext (by fin_cases q <;> blk_simp [at7 t] <;> rfl))

end Cert.Kernel19Ideal.StepAbIn

namespace Cert.Reference19Ideal.StepAbIn

open Cert.Reference19Ideal Cert.Reference19Ideal.Gen Cert.Reference19Ideal.Read Cert.GateSpec Cert.StepSpec Cert.StepLines Idealize.ShloMosaic

variable (p : FVec Ideal S8x1024x244 .bf16) (w m v : Arr 1024 244)

theorem sum_eq : val_main_v1 (F := Ideal) p = added p := by
  funext i
  obtain ⟨a, b, rfl⟩ := pair i
  rw [val_main_v1_apply]
  exact ((eight fun k => p (ix3 k a b)).trans (congrArg (_ + ·) (Finset.sum_congr rfl fun k _ =>
    congrArg p (funext fun q => by fin_cases q <;> rfl)))).symm

theorem turn_eq (x : Arr 1024 244) : broadcastInDim S244x1x1024 ![0, 2] bcast_S244x1024_S244x1x1024_0_2 (transpose S244x1024 [1, 0] x transposes_S1024x244_S244x1024_1_0) = turned x := by
  funext i
  have hi : i = ix3 (i 0) (i 1) (i 2) := by funext k; fin_cases k <;> rfl
  rw [hi]
  generalize i 0 = a
  generalize i 1 = b
  generalize i 2 = c
  pointwise []
  rfl

theorem grad_eq : val_main_v27 (F := Ideal) p = turned (added p) := by rw [val_main_v27, val_main_v26, turn_eq, sum_eq]
theorem change_eq : val_main_v29 (F := Ideal) p w m v = turned (change (added p) w m v) := by
  rw [val_main_v29, val_main_v28, turn_eq, show val_main_v25 (F := Ideal) p w m v = change (val_main_v1 (F := Ideal) p) w m v from rfl, sum_eq]
theorem m_eq : val_main_v31 (F := Ideal) p m = turned (mNew (added p) m) := by
  rw [val_main_v31, val_main_v30, turn_eq, show val_main_v6 (F := Ideal) p m = mNew (val_main_v1 (F := Ideal) p) m from rfl, sum_eq]
theorem v_eq : val_main_v33 (F := Ideal) p v = turned (vNew (added p) v) := by
  rw [val_main_v33, val_main_v32, turn_eq, show val_main_v12 (F := Ideal) p v = vNew (val_main_v1 (F := Ideal) p) v from rfl, sum_eq]

end Cert.Reference19Ideal.StepAbIn

namespace Cert.StepAbIn

open Cert.Reference19Ideal.Read Idealize.ShloMosaic Idealize.SL.Sem

attribute [local instance] Cert.Kernel19Ideal.Gen.facts Cert.Reference19Ideal.Gen.facts

theorem algebraic : Cert.algebraic_Kernel19Ideal_Reference19Ideal := by
  pair_intro
  · run_from Cert.Kernel19Ideal.Value.run_blocks m g
  · refine θ_run_mono (Cert.Reference19Ideal.Value.run m' g') fun r h c => ?_
    obtain ⟨a0, a1, a2, a3⟩ := hagree c
    obtain ⟨h0, h1, h2, h3, hk⟩ := h c
    refine ⟨h0.trans ?_, h1.trans ?_, h2.trans ?_, h3.trans ?_, hk⟩
    · rw [val_main_v27_eq, a0, Cert.Kernel19Ideal.StepAbIn.final4, Cert.Reference19Ideal.StepAbIn.grad_eq]
    · rw [val_main_v29_eq, a0, a1, a2, a3, Cert.Kernel19Ideal.StepAbIn.final5, Cert.Reference19Ideal.StepAbIn.change_eq]
    · rw [val_main_v31_eq, a0, a2, Cert.Kernel19Ideal.StepAbIn.final6, Cert.Reference19Ideal.StepAbIn.m_eq]
    · rw [val_main_v33_eq, a0, a3, Cert.Kernel19Ideal.StepAbIn.final7, Cert.Reference19Ideal.StepAbIn.v_eq]

end Cert.StepAbIn

end
-- ==== Proof.StepSsdIn.lean ====
/-
  ADAMW ON LAYER 1'S INPUT WEIGHTS, COLUMNS FIRST IN LINES OF 128: THE VALUE CLAIM. The kernel adds the devices' parts of the
  gradient 128 columns at a time, turns them and stores them every eighth line, makes the step on the lines and returns them with
  the columns first; the reference makes the step and turns the results.
-/
module

public import proofs.«01_k».proof.Proof.Gen.Kernel20Ideal.Value
public import proofs.«01_k».proof.Proof.Gen.Reference20Ideal.Read
public import proofs.«01_k».proof.Proof.Gen.Reference20Ideal.Run
public import proofs.«01_k».proof.Proof.StepSpec
public import proofs.«01_k».proof.Proof.StepLines
public import proofs.«01_k».proof.Defs
public import Idealize.ShloMosaic.Lib.Pipeline.ValueKit
public import Idealize.ShloMosaic.Lib.Pipeline.ReadBack
public import Idealize.ShloMosaic.Lib.StableHlo.RunRead
public import Idealize.ShloMosaic.Lib.Claim

@[expose] public section

noncomputable section

namespace Cert.Kernel20Ideal.StepSsdIn

open Cert.Kernel20Ideal Cert.Kernel20Ideal.Gen Cert.Kernel20Ideal.Value Cert.GateSpec Cert.StepSpec Cert.StepLines Idealize.ShloMosaic Idealize.ShloMosaic.TcCoe Idealize.SL.Sem
open Idealize.ShloMosaic.Pipeline (Dat)

theorem lines_eq : 5152 = 8 * 644 := by decide

variable (m : (ℓ : Loc nD τ sig) → Buf (Elt Ideal) ℓ)

abbrev parts (c : Dev nD) : FVec Ideal S8x1024x644 .bf16 := m ((c : Thread nD τ).loc main_arg0)
abbrev weight (c : Dev nD) : Arr 1024 644 := m ((c : Thread nD τ).loc main_arg1)
abbrev first (c : Dev nD) : Arr 1024 644 := m ((c : Thread nD τ).loc main_arg2)
abbrev second (c : Dev nD) : Arr 1024 644 := m ((c : Thread nD τ).loc main_arg3)

theorem at0 : ∀ t : Fin cfg0.N, win0_0.index t = ![0, 0, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0, 0] := (by decide +kernel : ∀ t : Fin grid0.N, _)
theorem at5 : ∀ t : Fin cfg0.N, win0_5.index t = ![0, 0, 0] := (by decide +kernel : ∀ t : Fin grid0.N, _)
theorem at6 : ∀ t : Fin cfg0.N, win0_6.index t = ![0, 0, 0] := (by decide +kernel : ∀ t : Fin grid0.N, _)
theorem at7 : ∀ t : Fin cfg0.N, win0_7.index t = ![0, 0, 0] := (by decide +kernel : ∀ t : Fin grid0.N, _)

/-- The host's columns first. -/
theorem host_turned (x : Arr 1024 644) : transpose S644x1x1024 [2, 0, 1] (broadcastInDim S1x1024x644 ![1, 2] bcast_S1024x644_S1x1024x644_1_2 x) transposes_S1x1024x644_S644x1x1024_2_0_1 = turned x := by
  funext i
  have hi : i = ix3 (i 0) (i 1) (i 2) := by funext k; fin_cases k <;> rfl
  rw [hi]
  generalize i 0 = a
  generalize i 1 = b
  generalize i 2 = c
  pointwise []
  rfl

/-- The host's lines of a weight. -/
def hostLines (x : FVec Ideal S1024x644 .f32) : FVec Ideal S5152x128 .f32 :=
  shapeCast S5152x128 (transpose S644x1x1024 [2, 0, 1] (broadcastInDim S1x1024x644 ![1, 2] bcast_S1024x644_S1x1024x644_1_2 x) transposes_S1x1024x644_S644x1x1024_2_0_1) shapeCasts_S644x1x1024_S5152x128

theorem host_lined (x : Arr 1024 644) : hostLines x = lined lines_eq x := by
  unfold hostLines
  rw [host_turned]
  exact lined_of_turned lines_eq x _

theorem V_main_v2 (c : Dev nD) : (V m c main_v2 : FVec Ideal S5152x128 .f32) = hostLines (weight m c) := by rfl
theorem V_main_v5 (c : Dev nD) : (V m c main_v5 : FVec Ideal S5152x128 .f32) = hostLines (first m c) := by rfl
theorem V_main_v8 (c : Dev nD) : (V m c main_v8 : FVec Ideal S5152x128 .f32) = hostLines (second m c) := by rfl

theorem blk0 (c : Dev nD) (t : Fin cfg0.N) : (iblk m c 0 t : Vec Ideal S8x1024x644 .bf16) = parts m c := by
  funext i
  have hi : i = ix3 (i 0) (i 1) (i 2) := by funext k; fin_cases k <;> rfl
  rw [hi]
  generalize i 0 = a
  generalize i 1 = b
  generalize i 2 = d
  blk_ext! [iblk, V_main_arg0, at0 t]
theorem blk1 (c : Dev nD) (t : Fin cfg0.N) : (iblk m c 1 t : Vec Ideal S5152x128 .f32) = lined lines_eq (weight m c) := by
  rw [← host_lined, ← V_main_v2]
  funext i
  obtain ⟨j, r, rfl⟩ := pair i
  blk_ext! [iblk, at1 t]
theorem blk2 (c : Dev nD) (t : Fin cfg0.N) : (iblk m c 2 t : Vec Ideal S5152x128 .f32) = lined lines_eq (first m c) := by
  rw [← host_lined, ← V_main_v5]
  funext i
  obtain ⟨j, r, rfl⟩ := pair i
  blk_ext! [iblk, at2 t]
theorem blk3 (c : Dev nD) (t : Fin cfg0.N) : (iblk m c 3 t : Vec Ideal S5152x128 .f32) = lined lines_eq (second m c) := by
  rw [← host_lined, ← V_main_v8]
  funext i
  obtain ⟨j, r, rfl⟩ := pair i
  blk_ext! [iblk, at3 t]

/-- The sum's 128 columns from column 0, turned, and their eight stores after the stores `M`. -/
abbrev sum0 (X : FVec Ideal S8x1024x644 .bf16) : FVec Ideal S128x1024 .f32 :=
  k0_pay5 (F := Ideal) (View.ld X (Rect.unit (s := S8x1024x644) ![0, 0, 0] ![1, 1024, 128] inb_S8x1024x644_S1x1024x128_0_0_0)) (View.ld X (Rect.unit (s := S8x1024x644) ![1, 0, 0] ![1, 1024, 128] inb_S8x1024x644_S1x1024x128_1_0_0)) (View.ld X (Rect.unit (s := S8x1024x644) ![2, 0, 0] ![1, 1024, 128] inb_S8x1024x644_S1x1024x128_2_0_0)) (View.ld X (Rect.unit (s := S8x1024x644) ![3, 0, 0] ![1, 1024, 128] inb_S8x1024x644_S1x1024x128_3_0_0)) (View.ld X (Rect.unit (s := S8x1024x644) ![4, 0, 0] ![1, 1024, 128] inb_S8x1024x644_S1x1024x128_4_0_0)) (View.ld X (Rect.unit (s := S8x1024x644) ![5, 0, 0] ![1, 1024, 128] inb_S8x1024x644_S1x1024x128_5_0_0)) (View.ld X (Rect.unit (s := S8x1024x644) ![6, 0, 0] ![1, 1024, 128] inb_S8x1024x644_S1x1024x128_6_0_0)) (View.ld X (Rect.unit (s := S8x1024x644) ![7, 0, 0] ![1, 1024, 128] inb_S8x1024x644_S1x1024x128_7_0_0))
abbrev block0 (X : FVec Ideal S8x1024x644 .bf16) (M : List (View.Piece (Elt Ideal) S5152x128 .f32)) : List (View.Piece (Elt Ideal) S5152x128 .f32) :=
    ⟨⟨⟨![7, 0], ![128, 128], ![8, 1], inb_S5152x128_S128x128_7_0_s_8_1⟩, spos_8_1⟩, k0_pay14 (F := Ideal) (sum0 X)⟩ ::
    ⟨⟨⟨![6, 0], ![128, 128], ![8, 1], inb_S5152x128_S128x128_6_0_s_8_1⟩, spos_8_1⟩, k0_pay13 (F := Ideal) (sum0 X)⟩ ::
    ⟨⟨⟨![5, 0], ![128, 128], ![8, 1], inb_S5152x128_S128x128_5_0_s_8_1⟩, spos_8_1⟩, k0_pay12 (F := Ideal) (sum0 X)⟩ ::
    ⟨⟨⟨![4, 0], ![128, 128], ![8, 1], inb_S5152x128_S128x128_4_0_s_8_1⟩, spos_8_1⟩, k0_pay11 (F := Ideal) (sum0 X)⟩ ::
    ⟨⟨⟨![3, 0], ![128, 128], ![8, 1], inb_S5152x128_S128x128_3_0_s_8_1⟩, spos_8_1⟩, k0_pay10 (F := Ideal) (sum0 X)⟩ ::
    ⟨⟨⟨![2, 0], ![128, 128], ![8, 1], inb_S5152x128_S128x128_2_0_s_8_1⟩, spos_8_1⟩, k0_pay9 (F := Ideal) (sum0 X)⟩ ::
    ⟨⟨⟨![1, 0], ![128, 128], ![8, 1], inb_S5152x128_S128x128_1_0_s_8_1⟩, spos_8_1⟩, k0_pay8 (F := Ideal) (sum0 X)⟩ ::
    ⟨⟨⟨![0, 0], ![128, 128], ![8, 1], inb_S5152x128_S128x128_0_0_s_8_1⟩, spos_8_1⟩, k0_pay7 (F := Ideal) (k0_pay6 (F := Ideal) (View.ld X (Rect.unit (s := S8x1024x644) ![0, 0, 0] ![1, 1024, 128] inb_S8x1024x644_S1x1024x128_0_0_0)) (View.ld X (Rect.unit (s := S8x1024x644) ![1, 0, 0] ![1, 1024, 128] inb_S8x1024x644_S1x1024x128_1_0_0)) (View.ld X (Rect.unit (s := S8x1024x644) ![2, 0, 0] ![1, 1024, 128] inb_S8x1024x644_S1x1024x128_2_0_0)) (View.ld X (Rect.unit (s := S8x1024x644) ![3, 0, 0] ![1, 1024, 128] inb_S8x1024x644_S1x1024x128_3_0_0)) (View.ld X (Rect.unit (s := S8x1024x644) ![4, 0, 0] ![1, 1024, 128] inb_S8x1024x644_S1x1024x128_4_0_0)) (View.ld X (Rect.unit (s := S8x1024x644) ![5, 0, 0] ![1, 1024, 128] inb_S8x1024x644_S1x1024x128_5_0_0)) (View.ld X (Rect.unit (s := S8x1024x644) ![6, 0, 0] ![1, 1024, 128] inb_S8x1024x644_S1x1024x128_6_0_0)) (View.ld X (Rect.unit (s := S8x1024x644) ![7, 0, 0] ![1, 1024, 128] inb_S8x1024x644_S1x1024x128_7_0_0)))⟩ ::
    M

theorem block0_holds (X : FVec Ideal S8x1024x644 .bf16) (M : List (View.Piece (Elt Ideal) S5152x128 .f32))
    (hM : ∀ p ∈ M, ∀ i, p.2 i = lined lines_eq (added X) (p.1.emb i)) : ∀ p ∈ block0 X M, ∀ i, p.2 i = lined lines_eq (added X) (p.1.emb i) := by
  unfold block0 sum0
  iterate 8 refine List.forall_mem_cons.mpr ⟨?_, ?_⟩; rotate_left
  exact hM
  all_goals
    refine stored _ _ lines_eq _ _ (by decide) fun j c => ?_
    pointwise [k0_pay5, k0_pay6, k0_pay7, k0_pay8, k0_pay9, k0_pay10, k0_pay11, k0_pay12, k0_pay13, k0_pay14]
    rfl

/-- The sum's 128 columns from column 128, turned, and their eight stores after the stores `M`. -/
abbrev sum1 (X : FVec Ideal S8x1024x644 .bf16) : FVec Ideal S128x1024 .f32 :=
  k0_pay16 (F := Ideal) (k0_pay15 (F := Ideal) (View.ld X (Rect.unit (s := S8x1024x644) ![0, 0, 128] ![1, 1024, 128] inb_S8x1024x644_S1x1024x128_0_0_128))) (View.ld X (Rect.unit (s := S8x1024x644) ![1, 0, 128] ![1, 1024, 128] inb_S8x1024x644_S1x1024x128_1_0_128)) (View.ld X (Rect.unit (s := S8x1024x644) ![2, 0, 128] ![1, 1024, 128] inb_S8x1024x644_S1x1024x128_2_0_128)) (View.ld X (Rect.unit (s := S8x1024x644) ![3, 0, 128] ![1, 1024, 128] inb_S8x1024x644_S1x1024x128_3_0_128)) (View.ld X (Rect.unit (s := S8x1024x644) ![4, 0, 128] ![1, 1024, 128] inb_S8x1024x644_S1x1024x128_4_0_128)) (View.ld X (Rect.unit (s := S8x1024x644) ![5, 0, 128] ![1, 1024, 128] inb_S8x1024x644_S1x1024x128_5_0_128)) (View.ld X (Rect.unit (s := S8x1024x644) ![6, 0, 128] ![1, 1024, 128] inb_S8x1024x644_S1x1024x128_6_0_128)) (View.ld X (Rect.unit (s := S8x1024x644) ![7, 0, 128] ![1, 1024, 128] inb_S8x1024x644_S1x1024x128_7_0_128))
abbrev block1 (X : FVec Ideal S8x1024x644 .bf16) (M : List (View.Piece (Elt Ideal) S5152x128 .f32)) : List (View.Piece (Elt Ideal) S5152x128 .f32) :=
    ⟨⟨⟨![1031, 0], ![128, 128], ![8, 1], inb_S5152x128_S128x128_1031_0_s_8_1⟩, spos_8_1⟩, k0_pay25 (F := Ideal) (sum1 X)⟩ ::
    ⟨⟨⟨![1030, 0], ![128, 128], ![8, 1], inb_S5152x128_S128x128_1030_0_s_8_1⟩, spos_8_1⟩, k0_pay24 (F := Ideal) (sum1 X)⟩ ::
    ⟨⟨⟨![1029, 0], ![128, 128], ![8, 1], inb_S5152x128_S128x128_1029_0_s_8_1⟩, spos_8_1⟩, k0_pay23 (F := Ideal) (sum1 X)⟩ ::
    ⟨⟨⟨![1028, 0], ![128, 128], ![8, 1], inb_S5152x128_S128x128_1028_0_s_8_1⟩, spos_8_1⟩, k0_pay22 (F := Ideal) (sum1 X)⟩ ::
    ⟨⟨⟨![1027, 0], ![128, 128], ![8, 1], inb_S5152x128_S128x128_1027_0_s_8_1⟩, spos_8_1⟩, k0_pay21 (F := Ideal) (sum1 X)⟩ ::
    ⟨⟨⟨![1026, 0], ![128, 128], ![8, 1], inb_S5152x128_S128x128_1026_0_s_8_1⟩, spos_8_1⟩, k0_pay20 (F := Ideal) (sum1 X)⟩ ::
    ⟨⟨⟨![1025, 0], ![128, 128], ![8, 1], inb_S5152x128_S128x128_1025_0_s_8_1⟩, spos_8_1⟩, k0_pay19 (F := Ideal) (k0_pay18 (F := Ideal) (k0_pay15 (F := Ideal) (View.ld X (Rect.unit (s := S8x1024x644) ![0, 0, 128] ![1, 1024, 128] inb_S8x1024x644_S1x1024x128_0_0_128))) (View.ld X (Rect.unit (s := S8x1024x644) ![1, 0, 128] ![1, 1024, 128] inb_S8x1024x644_S1x1024x128_1_0_128)) (View.ld X (Rect.unit (s := S8x1024x644) ![2, 0, 128] ![1, 1024, 128] inb_S8x1024x644_S1x1024x128_2_0_128)) (View.ld X (Rect.unit (s := S8x1024x644) ![3, 0, 128] ![1, 1024, 128] inb_S8x1024x644_S1x1024x128_3_0_128)) (View.ld X (Rect.unit (s := S8x1024x644) ![4, 0, 128] ![1, 1024, 128] inb_S8x1024x644_S1x1024x128_4_0_128)) (View.ld X (Rect.unit (s := S8x1024x644) ![5, 0, 128] ![1, 1024, 128] inb_S8x1024x644_S1x1024x128_5_0_128)) (View.ld X (Rect.unit (s := S8x1024x644) ![6, 0, 128] ![1, 1024, 128] inb_S8x1024x644_S1x1024x128_6_0_128)) (View.ld X (Rect.unit (s := S8x1024x644) ![7, 0, 128] ![1, 1024, 128] inb_S8x1024x644_S1x1024x128_7_0_128)))⟩ ::
    ⟨⟨⟨![1024, 0], ![128, 128], ![8, 1], inb_S5152x128_S128x128_1024_0_s_8_1⟩, spos_8_1⟩, k0_pay17 (F := Ideal) (k0_pay15 (F := Ideal) (View.ld X (Rect.unit (s := S8x1024x644) ![0, 0, 128] ![1, 1024, 128] inb_S8x1024x644_S1x1024x128_0_0_128))) (View.ld X (Rect.unit (s := S8x1024x644) ![1, 0, 128] ![1, 1024, 128] inb_S8x1024x644_S1x1024x128_1_0_128)) (View.ld X (Rect.unit (s := S8x1024x644) ![2, 0, 128] ![1, 1024, 128] inb_S8x1024x644_S1x1024x128_2_0_128)) (View.ld X (Rect.unit (s := S8x1024x644) ![3, 0, 128] ![1, 1024, 128] inb_S8x1024x644_S1x1024x128_3_0_128)) (View.ld X (Rect.unit (s := S8x1024x644) ![4, 0, 128] ![1, 1024, 128] inb_S8x1024x644_S1x1024x128_4_0_128)) (View.ld X (Rect.unit (s := S8x1024x644) ![5, 0, 128] ![1, 1024, 128] inb_S8x1024x644_S1x1024x128_5_0_128)) (View.ld X (Rect.unit (s := S8x1024x644) ![6, 0, 128] ![1, 1024, 128] inb_S8x1024x644_S1x1024x128_6_0_128)) (View.ld X (Rect.unit (s := S8x1024x644) ![7, 0, 128] ![1, 1024, 128] inb_S8x1024x644_S1x1024x128_7_0_128))⟩ ::
    M

theorem block1_holds (X : FVec Ideal S8x1024x644 .bf16) (M : List (View.Piece (Elt Ideal) S5152x128 .f32))
    (hM : ∀ p ∈ M, ∀ i, p.2 i = lined lines_eq (added X) (p.1.emb i)) : ∀ p ∈ block1 X M, ∀ i, p.2 i = lined lines_eq (added X) (p.1.emb i) := by
  unfold block1 sum1
  iterate 8 refine List.forall_mem_cons.mpr ⟨?_, ?_⟩; rotate_left
  exact hM
  all_goals
    refine stored _ _ lines_eq _ _ (by decide) fun j c => ?_
    pointwise [k0_pay15, k0_pay16, k0_pay17, k0_pay18, k0_pay19, k0_pay20, k0_pay21, k0_pay22, k0_pay23, k0_pay24, k0_pay25]
    rfl

/-- The sum's 128 columns from column 256, turned, and their eight stores after the stores `M`. -/
abbrev sum2 (X : FVec Ideal S8x1024x644 .bf16) : FVec Ideal S128x1024 .f32 :=
  k0_pay27 (F := Ideal) (k0_pay26 (F := Ideal) (View.ld X (Rect.unit (s := S8x1024x644) ![0, 0, 256] ![1, 1024, 128] inb_S8x1024x644_S1x1024x128_0_0_256)) (View.ld X (Rect.unit (s := S8x1024x644) ![1, 0, 256] ![1, 1024, 128] inb_S8x1024x644_S1x1024x128_1_0_256))) (View.ld X (Rect.unit (s := S8x1024x644) ![2, 0, 256] ![1, 1024, 128] inb_S8x1024x644_S1x1024x128_2_0_256)) (View.ld X (Rect.unit (s := S8x1024x644) ![3, 0, 256] ![1, 1024, 128] inb_S8x1024x644_S1x1024x128_3_0_256)) (View.ld X (Rect.unit (s := S8x1024x644) ![4, 0, 256] ![1, 1024, 128] inb_S8x1024x644_S1x1024x128_4_0_256)) (View.ld X (Rect.unit (s := S8x1024x644) ![5, 0, 256] ![1, 1024, 128] inb_S8x1024x644_S1x1024x128_5_0_256)) (View.ld X (Rect.unit (s := S8x1024x644) ![6, 0, 256] ![1, 1024, 128] inb_S8x1024x644_S1x1024x128_6_0_256)) (View.ld X (Rect.unit (s := S8x1024x644) ![7, 0, 256] ![1, 1024, 128] inb_S8x1024x644_S1x1024x128_7_0_256))
abbrev block2 (X : FVec Ideal S8x1024x644 .bf16) (M : List (View.Piece (Elt Ideal) S5152x128 .f32)) : List (View.Piece (Elt Ideal) S5152x128 .f32) :=
    ⟨⟨⟨![2055, 0], ![128, 128], ![8, 1], inb_S5152x128_S128x128_2055_0_s_8_1⟩, spos_8_1⟩, k0_pay35 (F := Ideal) (sum2 X)⟩ ::
    ⟨⟨⟨![2054, 0], ![128, 128], ![8, 1], inb_S5152x128_S128x128_2054_0_s_8_1⟩, spos_8_1⟩, k0_pay34 (F := Ideal) (sum2 X)⟩ ::
    ⟨⟨⟨![2053, 0], ![128, 128], ![8, 1], inb_S5152x128_S128x128_2053_0_s_8_1⟩, spos_8_1⟩, k0_pay33 (F := Ideal) (sum2 X)⟩ ::
    ⟨⟨⟨![2052, 0], ![128, 128], ![8, 1], inb_S5152x128_S128x128_2052_0_s_8_1⟩, spos_8_1⟩, k0_pay32 (F := Ideal) (sum2 X)⟩ ::
    ⟨⟨⟨![2051, 0], ![128, 128], ![8, 1], inb_S5152x128_S128x128_2051_0_s_8_1⟩, spos_8_1⟩, k0_pay31 (F := Ideal) (sum2 X)⟩ ::
    ⟨⟨⟨![2050, 0], ![128, 128], ![8, 1], inb_S5152x128_S128x128_2050_0_s_8_1⟩, spos_8_1⟩, k0_pay30 (F := Ideal) (k0_pay26 (F := Ideal) (View.ld X (Rect.unit (s := S8x1024x644) ![0, 0, 256] ![1, 1024, 128] inb_S8x1024x644_S1x1024x128_0_0_256)) (View.ld X (Rect.unit (s := S8x1024x644) ![1, 0, 256] ![1, 1024, 128] inb_S8x1024x644_S1x1024x128_1_0_256))) (View.ld X (Rect.unit (s := S8x1024x644) ![2, 0, 256] ![1, 1024, 128] inb_S8x1024x644_S1x1024x128_2_0_256)) (View.ld X (Rect.unit (s := S8x1024x644) ![3, 0, 256] ![1, 1024, 128] inb_S8x1024x644_S1x1024x128_3_0_256)) (View.ld X (Rect.unit (s := S8x1024x644) ![4, 0, 256] ![1, 1024, 128] inb_S8x1024x644_S1x1024x128_4_0_256)) (View.ld X (Rect.unit (s := S8x1024x644) ![5, 0, 256] ![1, 1024, 128] inb_S8x1024x644_S1x1024x128_5_0_256)) (View.ld X (Rect.unit (s := S8x1024x644) ![6, 0, 256] ![1, 1024, 128] inb_S8x1024x644_S1x1024x128_6_0_256)) (View.ld X (Rect.unit (s := S8x1024x644) ![7, 0, 256] ![1, 1024, 128] inb_S8x1024x644_S1x1024x128_7_0_256))⟩ ::
    ⟨⟨⟨![2049, 0], ![128, 128], ![8, 1], inb_S5152x128_S128x128_2049_0_s_8_1⟩, spos_8_1⟩, k0_pay29 (F := Ideal) (k0_pay26 (F := Ideal) (View.ld X (Rect.unit (s := S8x1024x644) ![0, 0, 256] ![1, 1024, 128] inb_S8x1024x644_S1x1024x128_0_0_256)) (View.ld X (Rect.unit (s := S8x1024x644) ![1, 0, 256] ![1, 1024, 128] inb_S8x1024x644_S1x1024x128_1_0_256))) (View.ld X (Rect.unit (s := S8x1024x644) ![2, 0, 256] ![1, 1024, 128] inb_S8x1024x644_S1x1024x128_2_0_256)) (View.ld X (Rect.unit (s := S8x1024x644) ![3, 0, 256] ![1, 1024, 128] inb_S8x1024x644_S1x1024x128_3_0_256)) (View.ld X (Rect.unit (s := S8x1024x644) ![4, 0, 256] ![1, 1024, 128] inb_S8x1024x644_S1x1024x128_4_0_256)) (View.ld X (Rect.unit (s := S8x1024x644) ![5, 0, 256] ![1, 1024, 128] inb_S8x1024x644_S1x1024x128_5_0_256)) (View.ld X (Rect.unit (s := S8x1024x644) ![6, 0, 256] ![1, 1024, 128] inb_S8x1024x644_S1x1024x128_6_0_256)) (View.ld X (Rect.unit (s := S8x1024x644) ![7, 0, 256] ![1, 1024, 128] inb_S8x1024x644_S1x1024x128_7_0_256))⟩ ::
    ⟨⟨⟨![2048, 0], ![128, 128], ![8, 1], inb_S5152x128_S128x128_2048_0_s_8_1⟩, spos_8_1⟩, k0_pay28 (F := Ideal) (k0_pay26 (F := Ideal) (View.ld X (Rect.unit (s := S8x1024x644) ![0, 0, 256] ![1, 1024, 128] inb_S8x1024x644_S1x1024x128_0_0_256)) (View.ld X (Rect.unit (s := S8x1024x644) ![1, 0, 256] ![1, 1024, 128] inb_S8x1024x644_S1x1024x128_1_0_256))) (View.ld X (Rect.unit (s := S8x1024x644) ![2, 0, 256] ![1, 1024, 128] inb_S8x1024x644_S1x1024x128_2_0_256)) (View.ld X (Rect.unit (s := S8x1024x644) ![3, 0, 256] ![1, 1024, 128] inb_S8x1024x644_S1x1024x128_3_0_256)) (View.ld X (Rect.unit (s := S8x1024x644) ![4, 0, 256] ![1, 1024, 128] inb_S8x1024x644_S1x1024x128_4_0_256)) (View.ld X (Rect.unit (s := S8x1024x644) ![5, 0, 256] ![1, 1024, 128] inb_S8x1024x644_S1x1024x128_5_0_256)) (View.ld X (Rect.unit (s := S8x1024x644) ![6, 0, 256] ![1, 1024, 128] inb_S8x1024x644_S1x1024x128_6_0_256)) (View.ld X (Rect.unit (s := S8x1024x644) ![7, 0, 256] ![1, 1024, 128] inb_S8x1024x644_S1x1024x128_7_0_256))⟩ ::
    M

theorem block2_holds (X : FVec Ideal S8x1024x644 .bf16) (M : List (View.Piece (Elt Ideal) S5152x128 .f32))
    (hM : ∀ p ∈ M, ∀ i, p.2 i = lined lines_eq (added X) (p.1.emb i)) : ∀ p ∈ block2 X M, ∀ i, p.2 i = lined lines_eq (added X) (p.1.emb i) := by
  unfold block2 sum2
  iterate 8 refine List.forall_mem_cons.mpr ⟨?_, ?_⟩; rotate_left
  exact hM
  all_goals
    refine stored _ _ lines_eq _ _ (by decide) fun j c => ?_
    pointwise [k0_pay26, k0_pay27, k0_pay28, k0_pay29, k0_pay30, k0_pay31, k0_pay32, k0_pay33, k0_pay34, k0_pay35]
    rfl

/-- The sum's 128 columns from column 384, turned, and their eight stores after the stores `M`. -/
abbrev sum3 (X : FVec Ideal S8x1024x644 .bf16) : FVec Ideal S128x1024 .f32 :=
  k0_pay37 (F := Ideal) (k0_pay36 (F := Ideal) (View.ld X (Rect.unit (s := S8x1024x644) ![0, 0, 384] ![1, 1024, 128] inb_S8x1024x644_S1x1024x128_0_0_384)) (View.ld X (Rect.unit (s := S8x1024x644) ![1, 0, 384] ![1, 1024, 128] inb_S8x1024x644_S1x1024x128_1_0_384)) (View.ld X (Rect.unit (s := S8x1024x644) ![2, 0, 384] ![1, 1024, 128] inb_S8x1024x644_S1x1024x128_2_0_384))) (View.ld X (Rect.unit (s := S8x1024x644) ![3, 0, 384] ![1, 1024, 128] inb_S8x1024x644_S1x1024x128_3_0_384)) (View.ld X (Rect.unit (s := S8x1024x644) ![4, 0, 384] ![1, 1024, 128] inb_S8x1024x644_S1x1024x128_4_0_384)) (View.ld X (Rect.unit (s := S8x1024x644) ![5, 0, 384] ![1, 1024, 128] inb_S8x1024x644_S1x1024x128_5_0_384)) (View.ld X (Rect.unit (s := S8x1024x644) ![6, 0, 384] ![1, 1024, 128] inb_S8x1024x644_S1x1024x128_6_0_384)) (View.ld X (Rect.unit (s := S8x1024x644) ![7, 0, 384] ![1, 1024, 128] inb_S8x1024x644_S1x1024x128_7_0_384))
abbrev block3 (X : FVec Ideal S8x1024x644 .bf16) (M : List (View.Piece (Elt Ideal) S5152x128 .f32)) : List (View.Piece (Elt Ideal) S5152x128 .f32) :=
    ⟨⟨⟨![3079, 0], ![128, 128], ![8, 1], inb_S5152x128_S128x128_3079_0_s_8_1⟩, spos_8_1⟩, k0_pay45 (F := Ideal) (sum3 X)⟩ ::
    ⟨⟨⟨![3078, 0], ![128, 128], ![8, 1], inb_S5152x128_S128x128_3078_0_s_8_1⟩, spos_8_1⟩, k0_pay44 (F := Ideal) (sum3 X)⟩ ::
    ⟨⟨⟨![3077, 0], ![128, 128], ![8, 1], inb_S5152x128_S128x128_3077_0_s_8_1⟩, spos_8_1⟩, k0_pay43 (F := Ideal) (sum3 X)⟩ ::
    ⟨⟨⟨![3076, 0], ![128, 128], ![8, 1], inb_S5152x128_S128x128_3076_0_s_8_1⟩, spos_8_1⟩, k0_pay42 (F := Ideal) (sum3 X)⟩ ::
    ⟨⟨⟨![3075, 0], ![128, 128], ![8, 1], inb_S5152x128_S128x128_3075_0_s_8_1⟩, spos_8_1⟩, k0_pay41 (F := Ideal) (k0_pay36 (F := Ideal) (View.ld X (Rect.unit (s := S8x1024x644) ![0, 0, 384] ![1, 1024, 128] inb_S8x1024x644_S1x1024x128_0_0_384)) (View.ld X (Rect.unit (s := S8x1024x644) ![1, 0, 384] ![1, 1024, 128] inb_S8x1024x644_S1x1024x128_1_0_384)) (View.ld X (Rect.unit (s := S8x1024x644) ![2, 0, 384] ![1, 1024, 128] inb_S8x1024x644_S1x1024x128_2_0_384))) (View.ld X (Rect.unit (s := S8x1024x644) ![3, 0, 384] ![1, 1024, 128] inb_S8x1024x644_S1x1024x128_3_0_384)) (View.ld X (Rect.unit (s := S8x1024x644) ![4, 0, 384] ![1, 1024, 128] inb_S8x1024x644_S1x1024x128_4_0_384)) (View.ld X (Rect.unit (s := S8x1024x644) ![5, 0, 384] ![1, 1024, 128] inb_S8x1024x644_S1x1024x128_5_0_384)) (View.ld X (Rect.unit (s := S8x1024x644) ![6, 0, 384] ![1, 1024, 128] inb_S8x1024x644_S1x1024x128_6_0_384)) (View.ld X (Rect.unit (s := S8x1024x644) ![7, 0, 384] ![1, 1024, 128] inb_S8x1024x644_S1x1024x128_7_0_384))⟩ ::
    ⟨⟨⟨![3074, 0], ![128, 128], ![8, 1], inb_S5152x128_S128x128_3074_0_s_8_1⟩, spos_8_1⟩, k0_pay40 (F := Ideal) (k0_pay36 (F := Ideal) (View.ld X (Rect.unit (s := S8x1024x644) ![0, 0, 384] ![1, 1024, 128] inb_S8x1024x644_S1x1024x128_0_0_384)) (View.ld X (Rect.unit (s := S8x1024x644) ![1, 0, 384] ![1, 1024, 128] inb_S8x1024x644_S1x1024x128_1_0_384)) (View.ld X (Rect.unit (s := S8x1024x644) ![2, 0, 384] ![1, 1024, 128] inb_S8x1024x644_S1x1024x128_2_0_384))) (View.ld X (Rect.unit (s := S8x1024x644) ![3, 0, 384] ![1, 1024, 128] inb_S8x1024x644_S1x1024x128_3_0_384)) (View.ld X (Rect.unit (s := S8x1024x644) ![4, 0, 384] ![1, 1024, 128] inb_S8x1024x644_S1x1024x128_4_0_384)) (View.ld X (Rect.unit (s := S8x1024x644) ![5, 0, 384] ![1, 1024, 128] inb_S8x1024x644_S1x1024x128_5_0_384)) (View.ld X (Rect.unit (s := S8x1024x644) ![6, 0, 384] ![1, 1024, 128] inb_S8x1024x644_S1x1024x128_6_0_384)) (View.ld X (Rect.unit (s := S8x1024x644) ![7, 0, 384] ![1, 1024, 128] inb_S8x1024x644_S1x1024x128_7_0_384))⟩ ::
    ⟨⟨⟨![3073, 0], ![128, 128], ![8, 1], inb_S5152x128_S128x128_3073_0_s_8_1⟩, spos_8_1⟩, k0_pay39 (F := Ideal) (k0_pay36 (F := Ideal) (View.ld X (Rect.unit (s := S8x1024x644) ![0, 0, 384] ![1, 1024, 128] inb_S8x1024x644_S1x1024x128_0_0_384)) (View.ld X (Rect.unit (s := S8x1024x644) ![1, 0, 384] ![1, 1024, 128] inb_S8x1024x644_S1x1024x128_1_0_384)) (View.ld X (Rect.unit (s := S8x1024x644) ![2, 0, 384] ![1, 1024, 128] inb_S8x1024x644_S1x1024x128_2_0_384))) (View.ld X (Rect.unit (s := S8x1024x644) ![3, 0, 384] ![1, 1024, 128] inb_S8x1024x644_S1x1024x128_3_0_384)) (View.ld X (Rect.unit (s := S8x1024x644) ![4, 0, 384] ![1, 1024, 128] inb_S8x1024x644_S1x1024x128_4_0_384)) (View.ld X (Rect.unit (s := S8x1024x644) ![5, 0, 384] ![1, 1024, 128] inb_S8x1024x644_S1x1024x128_5_0_384)) (View.ld X (Rect.unit (s := S8x1024x644) ![6, 0, 384] ![1, 1024, 128] inb_S8x1024x644_S1x1024x128_6_0_384)) (View.ld X (Rect.unit (s := S8x1024x644) ![7, 0, 384] ![1, 1024, 128] inb_S8x1024x644_S1x1024x128_7_0_384))⟩ ::
    ⟨⟨⟨![3072, 0], ![128, 128], ![8, 1], inb_S5152x128_S128x128_3072_0_s_8_1⟩, spos_8_1⟩, k0_pay38 (F := Ideal) (k0_pay36 (F := Ideal) (View.ld X (Rect.unit (s := S8x1024x644) ![0, 0, 384] ![1, 1024, 128] inb_S8x1024x644_S1x1024x128_0_0_384)) (View.ld X (Rect.unit (s := S8x1024x644) ![1, 0, 384] ![1, 1024, 128] inb_S8x1024x644_S1x1024x128_1_0_384)) (View.ld X (Rect.unit (s := S8x1024x644) ![2, 0, 384] ![1, 1024, 128] inb_S8x1024x644_S1x1024x128_2_0_384))) (View.ld X (Rect.unit (s := S8x1024x644) ![3, 0, 384] ![1, 1024, 128] inb_S8x1024x644_S1x1024x128_3_0_384)) (View.ld X (Rect.unit (s := S8x1024x644) ![4, 0, 384] ![1, 1024, 128] inb_S8x1024x644_S1x1024x128_4_0_384)) (View.ld X (Rect.unit (s := S8x1024x644) ![5, 0, 384] ![1, 1024, 128] inb_S8x1024x644_S1x1024x128_5_0_384)) (View.ld X (Rect.unit (s := S8x1024x644) ![6, 0, 384] ![1, 1024, 128] inb_S8x1024x644_S1x1024x128_6_0_384)) (View.ld X (Rect.unit (s := S8x1024x644) ![7, 0, 384] ![1, 1024, 128] inb_S8x1024x644_S1x1024x128_7_0_384))⟩ ::
    M

theorem block3_holds (X : FVec Ideal S8x1024x644 .bf16) (M : List (View.Piece (Elt Ideal) S5152x128 .f32))
    (hM : ∀ p ∈ M, ∀ i, p.2 i = lined lines_eq (added X) (p.1.emb i)) : ∀ p ∈ block3 X M, ∀ i, p.2 i = lined lines_eq (added X) (p.1.emb i) := by
  unfold block3 sum3
  iterate 8 refine List.forall_mem_cons.mpr ⟨?_, ?_⟩; rotate_left
  exact hM
  all_goals
    refine stored _ _ lines_eq _ _ (by decide) fun j c => ?_
    pointwise [k0_pay36, k0_pay37, k0_pay38, k0_pay39, k0_pay40, k0_pay41, k0_pay42, k0_pay43, k0_pay44, k0_pay45]
    rfl

/-- The sum's 128 columns from column 512, turned, and their eight stores after the stores `M`. -/
abbrev sum4 (X : FVec Ideal S8x1024x644 .bf16) : FVec Ideal S128x1024 .f32 :=
  k0_pay48 (F := Ideal) (k0_pay46 (F := Ideal) (View.ld X (Rect.unit (s := S8x1024x644) ![0, 0, 512] ![1, 1024, 128] inb_S8x1024x644_S1x1024x128_0_0_512)) (View.ld X (Rect.unit (s := S8x1024x644) ![1, 0, 512] ![1, 1024, 128] inb_S8x1024x644_S1x1024x128_1_0_512)) (View.ld X (Rect.unit (s := S8x1024x644) ![2, 0, 512] ![1, 1024, 128] inb_S8x1024x644_S1x1024x128_2_0_512)) (View.ld X (Rect.unit (s := S8x1024x644) ![3, 0, 512] ![1, 1024, 128] inb_S8x1024x644_S1x1024x128_3_0_512))) (k0_pay47 (F := Ideal) (View.ld X (Rect.unit (s := S8x1024x644) ![4, 0, 512] ![1, 1024, 128] inb_S8x1024x644_S1x1024x128_4_0_512))) (View.ld X (Rect.unit (s := S8x1024x644) ![5, 0, 512] ![1, 1024, 128] inb_S8x1024x644_S1x1024x128_5_0_512)) (View.ld X (Rect.unit (s := S8x1024x644) ![6, 0, 512] ![1, 1024, 128] inb_S8x1024x644_S1x1024x128_6_0_512)) (View.ld X (Rect.unit (s := S8x1024x644) ![7, 0, 512] ![1, 1024, 128] inb_S8x1024x644_S1x1024x128_7_0_512))
abbrev block4 (X : FVec Ideal S8x1024x644 .bf16) (M : List (View.Piece (Elt Ideal) S5152x128 .f32)) : List (View.Piece (Elt Ideal) S5152x128 .f32) :=
    ⟨⟨⟨![4103, 0], ![128, 128], ![8, 1], inb_S5152x128_S128x128_4103_0_s_8_1⟩, spos_8_1⟩, k0_pay57 (F := Ideal) (sum4 X)⟩ ::
    ⟨⟨⟨![4102, 0], ![128, 128], ![8, 1], inb_S5152x128_S128x128_4102_0_s_8_1⟩, spos_8_1⟩, k0_pay56 (F := Ideal) (sum4 X)⟩ ::
    ⟨⟨⟨![4101, 0], ![128, 128], ![8, 1], inb_S5152x128_S128x128_4101_0_s_8_1⟩, spos_8_1⟩, k0_pay55 (F := Ideal) (k0_pay54 (F := Ideal) (k0_pay46 (F := Ideal) (View.ld X (Rect.unit (s := S8x1024x644) ![0, 0, 512] ![1, 1024, 128] inb_S8x1024x644_S1x1024x128_0_0_512)) (View.ld X (Rect.unit (s := S8x1024x644) ![1, 0, 512] ![1, 1024, 128] inb_S8x1024x644_S1x1024x128_1_0_512)) (View.ld X (Rect.unit (s := S8x1024x644) ![2, 0, 512] ![1, 1024, 128] inb_S8x1024x644_S1x1024x128_2_0_512)) (View.ld X (Rect.unit (s := S8x1024x644) ![3, 0, 512] ![1, 1024, 128] inb_S8x1024x644_S1x1024x128_3_0_512))) (k0_pay47 (F := Ideal) (View.ld X (Rect.unit (s := S8x1024x644) ![4, 0, 512] ![1, 1024, 128] inb_S8x1024x644_S1x1024x128_4_0_512))) (View.ld X (Rect.unit (s := S8x1024x644) ![5, 0, 512] ![1, 1024, 128] inb_S8x1024x644_S1x1024x128_5_0_512)) (View.ld X (Rect.unit (s := S8x1024x644) ![6, 0, 512] ![1, 1024, 128] inb_S8x1024x644_S1x1024x128_6_0_512)) (View.ld X (Rect.unit (s := S8x1024x644) ![7, 0, 512] ![1, 1024, 128] inb_S8x1024x644_S1x1024x128_7_0_512)))⟩ ::
    ⟨⟨⟨![4100, 0], ![128, 128], ![8, 1], inb_S5152x128_S128x128_4100_0_s_8_1⟩, spos_8_1⟩, k0_pay53 (F := Ideal) (k0_pay46 (F := Ideal) (View.ld X (Rect.unit (s := S8x1024x644) ![0, 0, 512] ![1, 1024, 128] inb_S8x1024x644_S1x1024x128_0_0_512)) (View.ld X (Rect.unit (s := S8x1024x644) ![1, 0, 512] ![1, 1024, 128] inb_S8x1024x644_S1x1024x128_1_0_512)) (View.ld X (Rect.unit (s := S8x1024x644) ![2, 0, 512] ![1, 1024, 128] inb_S8x1024x644_S1x1024x128_2_0_512)) (View.ld X (Rect.unit (s := S8x1024x644) ![3, 0, 512] ![1, 1024, 128] inb_S8x1024x644_S1x1024x128_3_0_512))) (k0_pay47 (F := Ideal) (View.ld X (Rect.unit (s := S8x1024x644) ![4, 0, 512] ![1, 1024, 128] inb_S8x1024x644_S1x1024x128_4_0_512))) (View.ld X (Rect.unit (s := S8x1024x644) ![5, 0, 512] ![1, 1024, 128] inb_S8x1024x644_S1x1024x128_5_0_512)) (View.ld X (Rect.unit (s := S8x1024x644) ![6, 0, 512] ![1, 1024, 128] inb_S8x1024x644_S1x1024x128_6_0_512)) (View.ld X (Rect.unit (s := S8x1024x644) ![7, 0, 512] ![1, 1024, 128] inb_S8x1024x644_S1x1024x128_7_0_512))⟩ ::
    ⟨⟨⟨![4099, 0], ![128, 128], ![8, 1], inb_S5152x128_S128x128_4099_0_s_8_1⟩, spos_8_1⟩, k0_pay52 (F := Ideal) (k0_pay46 (F := Ideal) (View.ld X (Rect.unit (s := S8x1024x644) ![0, 0, 512] ![1, 1024, 128] inb_S8x1024x644_S1x1024x128_0_0_512)) (View.ld X (Rect.unit (s := S8x1024x644) ![1, 0, 512] ![1, 1024, 128] inb_S8x1024x644_S1x1024x128_1_0_512)) (View.ld X (Rect.unit (s := S8x1024x644) ![2, 0, 512] ![1, 1024, 128] inb_S8x1024x644_S1x1024x128_2_0_512)) (View.ld X (Rect.unit (s := S8x1024x644) ![3, 0, 512] ![1, 1024, 128] inb_S8x1024x644_S1x1024x128_3_0_512))) (k0_pay47 (F := Ideal) (View.ld X (Rect.unit (s := S8x1024x644) ![4, 0, 512] ![1, 1024, 128] inb_S8x1024x644_S1x1024x128_4_0_512))) (View.ld X (Rect.unit (s := S8x1024x644) ![5, 0, 512] ![1, 1024, 128] inb_S8x1024x644_S1x1024x128_5_0_512)) (View.ld X (Rect.unit (s := S8x1024x644) ![6, 0, 512] ![1, 1024, 128] inb_S8x1024x644_S1x1024x128_6_0_512)) (View.ld X (Rect.unit (s := S8x1024x644) ![7, 0, 512] ![1, 1024, 128] inb_S8x1024x644_S1x1024x128_7_0_512))⟩ ::
    ⟨⟨⟨![4098, 0], ![128, 128], ![8, 1], inb_S5152x128_S128x128_4098_0_s_8_1⟩, spos_8_1⟩, k0_pay51 (F := Ideal) (k0_pay46 (F := Ideal) (View.ld X (Rect.unit (s := S8x1024x644) ![0, 0, 512] ![1, 1024, 128] inb_S8x1024x644_S1x1024x128_0_0_512)) (View.ld X (Rect.unit (s := S8x1024x644) ![1, 0, 512] ![1, 1024, 128] inb_S8x1024x644_S1x1024x128_1_0_512)) (View.ld X (Rect.unit (s := S8x1024x644) ![2, 0, 512] ![1, 1024, 128] inb_S8x1024x644_S1x1024x128_2_0_512)) (View.ld X (Rect.unit (s := S8x1024x644) ![3, 0, 512] ![1, 1024, 128] inb_S8x1024x644_S1x1024x128_3_0_512))) (k0_pay47 (F := Ideal) (View.ld X (Rect.unit (s := S8x1024x644) ![4, 0, 512] ![1, 1024, 128] inb_S8x1024x644_S1x1024x128_4_0_512))) (View.ld X (Rect.unit (s := S8x1024x644) ![5, 0, 512] ![1, 1024, 128] inb_S8x1024x644_S1x1024x128_5_0_512)) (View.ld X (Rect.unit (s := S8x1024x644) ![6, 0, 512] ![1, 1024, 128] inb_S8x1024x644_S1x1024x128_6_0_512)) (View.ld X (Rect.unit (s := S8x1024x644) ![7, 0, 512] ![1, 1024, 128] inb_S8x1024x644_S1x1024x128_7_0_512))⟩ ::
    ⟨⟨⟨![4097, 0], ![128, 128], ![8, 1], inb_S5152x128_S128x128_4097_0_s_8_1⟩, spos_8_1⟩, k0_pay50 (F := Ideal) (k0_pay46 (F := Ideal) (View.ld X (Rect.unit (s := S8x1024x644) ![0, 0, 512] ![1, 1024, 128] inb_S8x1024x644_S1x1024x128_0_0_512)) (View.ld X (Rect.unit (s := S8x1024x644) ![1, 0, 512] ![1, 1024, 128] inb_S8x1024x644_S1x1024x128_1_0_512)) (View.ld X (Rect.unit (s := S8x1024x644) ![2, 0, 512] ![1, 1024, 128] inb_S8x1024x644_S1x1024x128_2_0_512)) (View.ld X (Rect.unit (s := S8x1024x644) ![3, 0, 512] ![1, 1024, 128] inb_S8x1024x644_S1x1024x128_3_0_512))) (k0_pay47 (F := Ideal) (View.ld X (Rect.unit (s := S8x1024x644) ![4, 0, 512] ![1, 1024, 128] inb_S8x1024x644_S1x1024x128_4_0_512))) (View.ld X (Rect.unit (s := S8x1024x644) ![5, 0, 512] ![1, 1024, 128] inb_S8x1024x644_S1x1024x128_5_0_512)) (View.ld X (Rect.unit (s := S8x1024x644) ![6, 0, 512] ![1, 1024, 128] inb_S8x1024x644_S1x1024x128_6_0_512)) (View.ld X (Rect.unit (s := S8x1024x644) ![7, 0, 512] ![1, 1024, 128] inb_S8x1024x644_S1x1024x128_7_0_512))⟩ ::
    ⟨⟨⟨![4096, 0], ![128, 128], ![8, 1], inb_S5152x128_S128x128_4096_0_s_8_1⟩, spos_8_1⟩, k0_pay49 (F := Ideal) (k0_pay46 (F := Ideal) (View.ld X (Rect.unit (s := S8x1024x644) ![0, 0, 512] ![1, 1024, 128] inb_S8x1024x644_S1x1024x128_0_0_512)) (View.ld X (Rect.unit (s := S8x1024x644) ![1, 0, 512] ![1, 1024, 128] inb_S8x1024x644_S1x1024x128_1_0_512)) (View.ld X (Rect.unit (s := S8x1024x644) ![2, 0, 512] ![1, 1024, 128] inb_S8x1024x644_S1x1024x128_2_0_512)) (View.ld X (Rect.unit (s := S8x1024x644) ![3, 0, 512] ![1, 1024, 128] inb_S8x1024x644_S1x1024x128_3_0_512))) (k0_pay47 (F := Ideal) (View.ld X (Rect.unit (s := S8x1024x644) ![4, 0, 512] ![1, 1024, 128] inb_S8x1024x644_S1x1024x128_4_0_512))) (View.ld X (Rect.unit (s := S8x1024x644) ![5, 0, 512] ![1, 1024, 128] inb_S8x1024x644_S1x1024x128_5_0_512)) (View.ld X (Rect.unit (s := S8x1024x644) ![6, 0, 512] ![1, 1024, 128] inb_S8x1024x644_S1x1024x128_6_0_512)) (View.ld X (Rect.unit (s := S8x1024x644) ![7, 0, 512] ![1, 1024, 128] inb_S8x1024x644_S1x1024x128_7_0_512))⟩ ::
    M

theorem block4_holds (X : FVec Ideal S8x1024x644 .bf16) (M : List (View.Piece (Elt Ideal) S5152x128 .f32))
    (hM : ∀ p ∈ M, ∀ i, p.2 i = lined lines_eq (added X) (p.1.emb i)) : ∀ p ∈ block4 X M, ∀ i, p.2 i = lined lines_eq (added X) (p.1.emb i) := by
  unfold block4 sum4
  iterate 8 refine List.forall_mem_cons.mpr ⟨?_, ?_⟩; rotate_left
  exact hM
  all_goals
    refine stored _ _ lines_eq _ _ (by decide) fun j c => ?_
    pointwise [k0_pay46, k0_pay47, k0_pay48, k0_pay49, k0_pay50, k0_pay51, k0_pay52, k0_pay53, k0_pay54, k0_pay55, k0_pay56, k0_pay57]
    rfl

/-- The sum's 128 columns from column 516, turned, and their eight stores after the stores `M`. -/
abbrev sum5 (X : FVec Ideal S8x1024x644 .bf16) : FVec Ideal S128x1024 .f32 :=
  k0_pay60 (F := Ideal) (k0_pay58 (F := Ideal) (View.ld X (Rect.unit (s := S8x1024x644) ![0, 0, 516] ![1, 1024, 128] inb_S8x1024x644_S1x1024x128_0_0_516)) (View.ld X (Rect.unit (s := S8x1024x644) ![1, 0, 516] ![1, 1024, 128] inb_S8x1024x644_S1x1024x128_1_0_516)) (View.ld X (Rect.unit (s := S8x1024x644) ![2, 0, 516] ![1, 1024, 128] inb_S8x1024x644_S1x1024x128_2_0_516)) (View.ld X (Rect.unit (s := S8x1024x644) ![3, 0, 516] ![1, 1024, 128] inb_S8x1024x644_S1x1024x128_3_0_516)) (View.ld X (Rect.unit (s := S8x1024x644) ![4, 0, 516] ![1, 1024, 128] inb_S8x1024x644_S1x1024x128_4_0_516))) (k0_pay59 (F := Ideal) (View.ld X (Rect.unit (s := S8x1024x644) ![5, 0, 516] ![1, 1024, 128] inb_S8x1024x644_S1x1024x128_5_0_516))) (View.ld X (Rect.unit (s := S8x1024x644) ![6, 0, 516] ![1, 1024, 128] inb_S8x1024x644_S1x1024x128_6_0_516)) (View.ld X (Rect.unit (s := S8x1024x644) ![7, 0, 516] ![1, 1024, 128] inb_S8x1024x644_S1x1024x128_7_0_516))
abbrev block5 (X : FVec Ideal S8x1024x644 .bf16) (M : List (View.Piece (Elt Ideal) S5152x128 .f32)) : List (View.Piece (Elt Ideal) S5152x128 .f32) :=
    ⟨⟨⟨![4135, 0], ![128, 128], ![8, 1], inb_S5152x128_S128x128_4135_0_s_8_1⟩, spos_8_1⟩, k0_pay69 (F := Ideal) (sum5 X)⟩ ::
    ⟨⟨⟨![4134, 0], ![128, 128], ![8, 1], inb_S5152x128_S128x128_4134_0_s_8_1⟩, spos_8_1⟩, k0_pay68 (F := Ideal) (k0_pay67 (F := Ideal) (k0_pay58 (F := Ideal) (View.ld X (Rect.unit (s := S8x1024x644) ![0, 0, 516] ![1, 1024, 128] inb_S8x1024x644_S1x1024x128_0_0_516)) (View.ld X (Rect.unit (s := S8x1024x644) ![1, 0, 516] ![1, 1024, 128] inb_S8x1024x644_S1x1024x128_1_0_516)) (View.ld X (Rect.unit (s := S8x1024x644) ![2, 0, 516] ![1, 1024, 128] inb_S8x1024x644_S1x1024x128_2_0_516)) (View.ld X (Rect.unit (s := S8x1024x644) ![3, 0, 516] ![1, 1024, 128] inb_S8x1024x644_S1x1024x128_3_0_516)) (View.ld X (Rect.unit (s := S8x1024x644) ![4, 0, 516] ![1, 1024, 128] inb_S8x1024x644_S1x1024x128_4_0_516))) (k0_pay59 (F := Ideal) (View.ld X (Rect.unit (s := S8x1024x644) ![5, 0, 516] ![1, 1024, 128] inb_S8x1024x644_S1x1024x128_5_0_516))) (View.ld X (Rect.unit (s := S8x1024x644) ![6, 0, 516] ![1, 1024, 128] inb_S8x1024x644_S1x1024x128_6_0_516)) (View.ld X (Rect.unit (s := S8x1024x644) ![7, 0, 516] ![1, 1024, 128] inb_S8x1024x644_S1x1024x128_7_0_516)))⟩ ::
    ⟨⟨⟨![4133, 0], ![128, 128], ![8, 1], inb_S5152x128_S128x128_4133_0_s_8_1⟩, spos_8_1⟩, k0_pay66 (F := Ideal) (k0_pay58 (F := Ideal) (View.ld X (Rect.unit (s := S8x1024x644) ![0, 0, 516] ![1, 1024, 128] inb_S8x1024x644_S1x1024x128_0_0_516)) (View.ld X (Rect.unit (s := S8x1024x644) ![1, 0, 516] ![1, 1024, 128] inb_S8x1024x644_S1x1024x128_1_0_516)) (View.ld X (Rect.unit (s := S8x1024x644) ![2, 0, 516] ![1, 1024, 128] inb_S8x1024x644_S1x1024x128_2_0_516)) (View.ld X (Rect.unit (s := S8x1024x644) ![3, 0, 516] ![1, 1024, 128] inb_S8x1024x644_S1x1024x128_3_0_516)) (View.ld X (Rect.unit (s := S8x1024x644) ![4, 0, 516] ![1, 1024, 128] inb_S8x1024x644_S1x1024x128_4_0_516))) (k0_pay59 (F := Ideal) (View.ld X (Rect.unit (s := S8x1024x644) ![5, 0, 516] ![1, 1024, 128] inb_S8x1024x644_S1x1024x128_5_0_516))) (View.ld X (Rect.unit (s := S8x1024x644) ![6, 0, 516] ![1, 1024, 128] inb_S8x1024x644_S1x1024x128_6_0_516)) (View.ld X (Rect.unit (s := S8x1024x644) ![7, 0, 516] ![1, 1024, 128] inb_S8x1024x644_S1x1024x128_7_0_516))⟩ ::
    ⟨⟨⟨![4132, 0], ![128, 128], ![8, 1], inb_S5152x128_S128x128_4132_0_s_8_1⟩, spos_8_1⟩, k0_pay65 (F := Ideal) (k0_pay58 (F := Ideal) (View.ld X (Rect.unit (s := S8x1024x644) ![0, 0, 516] ![1, 1024, 128] inb_S8x1024x644_S1x1024x128_0_0_516)) (View.ld X (Rect.unit (s := S8x1024x644) ![1, 0, 516] ![1, 1024, 128] inb_S8x1024x644_S1x1024x128_1_0_516)) (View.ld X (Rect.unit (s := S8x1024x644) ![2, 0, 516] ![1, 1024, 128] inb_S8x1024x644_S1x1024x128_2_0_516)) (View.ld X (Rect.unit (s := S8x1024x644) ![3, 0, 516] ![1, 1024, 128] inb_S8x1024x644_S1x1024x128_3_0_516)) (View.ld X (Rect.unit (s := S8x1024x644) ![4, 0, 516] ![1, 1024, 128] inb_S8x1024x644_S1x1024x128_4_0_516))) (k0_pay59 (F := Ideal) (View.ld X (Rect.unit (s := S8x1024x644) ![5, 0, 516] ![1, 1024, 128] inb_S8x1024x644_S1x1024x128_5_0_516))) (View.ld X (Rect.unit (s := S8x1024x644) ![6, 0, 516] ![1, 1024, 128] inb_S8x1024x644_S1x1024x128_6_0_516)) (View.ld X (Rect.unit (s := S8x1024x644) ![7, 0, 516] ![1, 1024, 128] inb_S8x1024x644_S1x1024x128_7_0_516))⟩ ::
    ⟨⟨⟨![4131, 0], ![128, 128], ![8, 1], inb_S5152x128_S128x128_4131_0_s_8_1⟩, spos_8_1⟩, k0_pay64 (F := Ideal) (k0_pay58 (F := Ideal) (View.ld X (Rect.unit (s := S8x1024x644) ![0, 0, 516] ![1, 1024, 128] inb_S8x1024x644_S1x1024x128_0_0_516)) (View.ld X (Rect.unit (s := S8x1024x644) ![1, 0, 516] ![1, 1024, 128] inb_S8x1024x644_S1x1024x128_1_0_516)) (View.ld X (Rect.unit (s := S8x1024x644) ![2, 0, 516] ![1, 1024, 128] inb_S8x1024x644_S1x1024x128_2_0_516)) (View.ld X (Rect.unit (s := S8x1024x644) ![3, 0, 516] ![1, 1024, 128] inb_S8x1024x644_S1x1024x128_3_0_516)) (View.ld X (Rect.unit (s := S8x1024x644) ![4, 0, 516] ![1, 1024, 128] inb_S8x1024x644_S1x1024x128_4_0_516))) (k0_pay59 (F := Ideal) (View.ld X (Rect.unit (s := S8x1024x644) ![5, 0, 516] ![1, 1024, 128] inb_S8x1024x644_S1x1024x128_5_0_516))) (View.ld X (Rect.unit (s := S8x1024x644) ![6, 0, 516] ![1, 1024, 128] inb_S8x1024x644_S1x1024x128_6_0_516)) (View.ld X (Rect.unit (s := S8x1024x644) ![7, 0, 516] ![1, 1024, 128] inb_S8x1024x644_S1x1024x128_7_0_516))⟩ ::
    ⟨⟨⟨![4130, 0], ![128, 128], ![8, 1], inb_S5152x128_S128x128_4130_0_s_8_1⟩, spos_8_1⟩, k0_pay63 (F := Ideal) (k0_pay58 (F := Ideal) (View.ld X (Rect.unit (s := S8x1024x644) ![0, 0, 516] ![1, 1024, 128] inb_S8x1024x644_S1x1024x128_0_0_516)) (View.ld X (Rect.unit (s := S8x1024x644) ![1, 0, 516] ![1, 1024, 128] inb_S8x1024x644_S1x1024x128_1_0_516)) (View.ld X (Rect.unit (s := S8x1024x644) ![2, 0, 516] ![1, 1024, 128] inb_S8x1024x644_S1x1024x128_2_0_516)) (View.ld X (Rect.unit (s := S8x1024x644) ![3, 0, 516] ![1, 1024, 128] inb_S8x1024x644_S1x1024x128_3_0_516)) (View.ld X (Rect.unit (s := S8x1024x644) ![4, 0, 516] ![1, 1024, 128] inb_S8x1024x644_S1x1024x128_4_0_516))) (k0_pay59 (F := Ideal) (View.ld X (Rect.unit (s := S8x1024x644) ![5, 0, 516] ![1, 1024, 128] inb_S8x1024x644_S1x1024x128_5_0_516))) (View.ld X (Rect.unit (s := S8x1024x644) ![6, 0, 516] ![1, 1024, 128] inb_S8x1024x644_S1x1024x128_6_0_516)) (View.ld X (Rect.unit (s := S8x1024x644) ![7, 0, 516] ![1, 1024, 128] inb_S8x1024x644_S1x1024x128_7_0_516))⟩ ::
    ⟨⟨⟨![4129, 0], ![128, 128], ![8, 1], inb_S5152x128_S128x128_4129_0_s_8_1⟩, spos_8_1⟩, k0_pay62 (F := Ideal) (k0_pay58 (F := Ideal) (View.ld X (Rect.unit (s := S8x1024x644) ![0, 0, 516] ![1, 1024, 128] inb_S8x1024x644_S1x1024x128_0_0_516)) (View.ld X (Rect.unit (s := S8x1024x644) ![1, 0, 516] ![1, 1024, 128] inb_S8x1024x644_S1x1024x128_1_0_516)) (View.ld X (Rect.unit (s := S8x1024x644) ![2, 0, 516] ![1, 1024, 128] inb_S8x1024x644_S1x1024x128_2_0_516)) (View.ld X (Rect.unit (s := S8x1024x644) ![3, 0, 516] ![1, 1024, 128] inb_S8x1024x644_S1x1024x128_3_0_516)) (View.ld X (Rect.unit (s := S8x1024x644) ![4, 0, 516] ![1, 1024, 128] inb_S8x1024x644_S1x1024x128_4_0_516))) (k0_pay59 (F := Ideal) (View.ld X (Rect.unit (s := S8x1024x644) ![5, 0, 516] ![1, 1024, 128] inb_S8x1024x644_S1x1024x128_5_0_516))) (View.ld X (Rect.unit (s := S8x1024x644) ![6, 0, 516] ![1, 1024, 128] inb_S8x1024x644_S1x1024x128_6_0_516)) (View.ld X (Rect.unit (s := S8x1024x644) ![7, 0, 516] ![1, 1024, 128] inb_S8x1024x644_S1x1024x128_7_0_516))⟩ ::
    ⟨⟨⟨![4128, 0], ![128, 128], ![8, 1], inb_S5152x128_S128x128_4128_0_s_8_1⟩, spos_8_1⟩, k0_pay61 (F := Ideal) (k0_pay58 (F := Ideal) (View.ld X (Rect.unit (s := S8x1024x644) ![0, 0, 516] ![1, 1024, 128] inb_S8x1024x644_S1x1024x128_0_0_516)) (View.ld X (Rect.unit (s := S8x1024x644) ![1, 0, 516] ![1, 1024, 128] inb_S8x1024x644_S1x1024x128_1_0_516)) (View.ld X (Rect.unit (s := S8x1024x644) ![2, 0, 516] ![1, 1024, 128] inb_S8x1024x644_S1x1024x128_2_0_516)) (View.ld X (Rect.unit (s := S8x1024x644) ![3, 0, 516] ![1, 1024, 128] inb_S8x1024x644_S1x1024x128_3_0_516)) (View.ld X (Rect.unit (s := S8x1024x644) ![4, 0, 516] ![1, 1024, 128] inb_S8x1024x644_S1x1024x128_4_0_516))) (k0_pay59 (F := Ideal) (View.ld X (Rect.unit (s := S8x1024x644) ![5, 0, 516] ![1, 1024, 128] inb_S8x1024x644_S1x1024x128_5_0_516))) (View.ld X (Rect.unit (s := S8x1024x644) ![6, 0, 516] ![1, 1024, 128] inb_S8x1024x644_S1x1024x128_6_0_516)) (View.ld X (Rect.unit (s := S8x1024x644) ![7, 0, 516] ![1, 1024, 128] inb_S8x1024x644_S1x1024x128_7_0_516))⟩ ::
    M

theorem block5_holds (X : FVec Ideal S8x1024x644 .bf16) (M : List (View.Piece (Elt Ideal) S5152x128 .f32))
    (hM : ∀ p ∈ M, ∀ i, p.2 i = lined lines_eq (added X) (p.1.emb i)) : ∀ p ∈ block5 X M, ∀ i, p.2 i = lined lines_eq (added X) (p.1.emb i) := by
  unfold block5 sum5
  iterate 8 refine List.forall_mem_cons.mpr ⟨?_, ?_⟩; rotate_left
  exact hM
  all_goals
    refine stored _ _ lines_eq _ _ (by decide) fun j c => ?_
    pointwise [k0_pay58, k0_pay59, k0_pay60, k0_pay61, k0_pay62, k0_pay63, k0_pay64, k0_pay65, k0_pay66, k0_pay67, k0_pay68, k0_pay69]
    rfl

/-- The 48 stores of the summed gradient, the last one first, and their first lines. -/
abbrev stores (X : FVec Ideal S8x1024x644 .bf16) : List (View.Piece (Elt Ideal) S5152x128 .f32) :=
  block5 X (block4 X (block3 X (block2 X (block1 X (block0 X [])))))

def starts : List Nat :=
  [4135, 4134, 4133, 4132, 4131, 4130, 4129, 4128, 4103, 4102, 4101, 4100, 4099, 4098, 4097, 4096, 3079, 3078, 3077, 3076, 3075, 3074, 3073, 3072, 2055, 2054, 2053, 2052, 2051, 2050, 2049, 2048, 1031, 1030, 1029, 1028, 1027, 1026, 1025, 1024, 7, 6, 5, 4, 3, 2, 1, 0]

theorem stores_hold (X : FVec Ideal S8x1024x644 .bf16) : ∀ p ∈ stores X, ∀ i, p.2 i = lined lines_eq (added X) (p.1.emb i) :=
  block5_holds X _ (block4_holds X _ (block3_holds X _ (block2_holds X _ (block1_holds X _ (block0_holds X _ fun p hp => absurd hp List.not_mem_nil)))))

theorem starts_low : ∀ b < 5, ∀ k < 8, b * 1024 + k ∈ starts := by decide
theorem starts_high : ∀ k < 8, 4128 + k ∈ starts := by decide

theorem stores_reach (X : FVec Ideal S8x1024x644 .bf16) (y : S5152x128.Idx) : ∃ p ∈ stores X, y ∈ p.1.set := by
  have hy : (y 0).val < 5152 := (y 0).isLt
  have h : List.Forall₂ (fun (o : Nat) (p : View.Piece (Elt Ideal) S5152x128 .f32) => (y 0).val ≥ o ∧ (y 0).val < o + 1024 ∧ (y 0).val % 8 = o % 8 → y ∈ p.1.set) starts (stores X) := by
    unfold starts stores
    repeat refine List.Forall₂.cons (mem_every (L := 5152) _ spos_8_1 y).mpr ?_
    exact List.Forall₂.nil
  rcases lt_or_ge (y 0).val 4128 with g | g
  · exact reached y h _ (starts_low ((y 0).val / 1024) (by omega) ((y 0).val % 8) (by omega)) ⟨by omega, by omega, by omega⟩
  · exact reached y h _ (starts_high ((y 0).val % 8) (by omega)) ⟨by omega, by omega, by omega⟩

theorem summed (X : FVec Ideal S8x1024x644 .bf16) :
    (View.whole cc0_scratch0).readCov (stores X) (Rect.unit (s := S5152x128) ![0, 0] ![5152, 128] inb_S5152x128_S5152x128_0_0).toLoadRect = lined lines_eq (added X) :=
  gathered lines_eq _ _ _ _ (stores_hold X) (stores_reach X)

/-- The step on the lines. -/
theorem m_step (g m' : Arr 5152 128) : k0_pay70 (F := Ideal) g m' = mNew g m' := by
  rw [k0_pay70, shapeCast_id]
  rfl
theorem v_step (g v' : Arr 5152 128) : k0_pay71 (F := Ideal) g v' = vNew g v' := by
  rw [k0_pay71, shapeCast_id]
  rfl
theorem change_step (g w' m' v' : Arr 5152 128) : k0_pay72 (F := Ideal) g w' m' v' = change g w' m' v' := by
  rw [k0_pay72, m_step, v_step, shapeCast_id]
  rfl

theorem grad_out (c : Dev nD) (t : Fin cfg0.N) : (outsAt0 m c t).1 = turned (added (parts m c)) := by
  unfold outsAt0
  frame_out
  simp only [read_unread_whole]
  rw [blk0]
  exact (congrArg (k0_pay1 (F := Ideal)) (summed (parts m c))).trans (turned_of_lined lines_eq _ _)

theorem change_out (c : Dev nD) (t : Fin cfg0.N) : (outsAt0 m c t).2.1 = turned (change (added (parts m c)) (weight m c) (first m c) (second m c)) := by
  unfold outsAt0
  frame_out
  simp only [read_unread_whole]
  rw [blk0, blk1, blk2, blk3]
  refine (congrArg (fun g => k0_pay2 (F := Ideal) (k0_pay72 (F := Ideal) g _ _ _)) (summed (parts m c))).trans ?_
  exact (congrArg (k0_pay2 (F := Ideal)) (change_step _ _ _ _)).trans (turned_of_lined lines_eq (change (added (parts m c)) (weight m c) (first m c) (second m c)) _)

theorem m_out (c : Dev nD) (t : Fin cfg0.N) : (outsAt0 m c t).2.2.1 = turned (mNew (added (parts m c)) (first m c)) := by
  unfold outsAt0
  frame_out
  simp only [read_unread_whole]
  rw [blk0, blk2]
  refine (congrArg (fun g => k0_pay3 (F := Ideal) (k0_pay70 (F := Ideal) g _)) (summed (parts m c))).trans ?_
  exact (congrArg (k0_pay3 (F := Ideal)) (m_step _ _)).trans (turned_of_lined lines_eq (mNew (added (parts m c)) (first m c)) _)

theorem v_out (c : Dev nD) (t : Fin cfg0.N) : (outsAt0 m c t).2.2.2 = turned (vNew (added (parts m c)) (second m c)) := by
  unfold outsAt0
  frame_out
  simp only [read_unread_whole]
  rw [blk0, blk3]
  refine (congrArg (fun g => k0_pay4 (F := Ideal) (k0_pay71 (F := Ideal) g _)) (summed (parts m c))).trans ?_
  exact (congrArg (k0_pay4 (F := Ideal)) (v_step _ _)).trans (turned_of_lined lines_eq (vNew (added (parts m c)) (second m c)) _)

theorem final4 (c : Dev nD) : (dats m 0 c).arrAt 4 cfg0.N = turned (added (parts m c)) := by
  refine (dats m 0 c).arrAt_eq_of_covers 4 _ (by decide +kernel) fun t hf j => ?_
  blk_simp
  rw [after0_4, grad_out]
  exact congrArg (turned (added (parts m c))) (funext fun q => Fin.ext (by fin_cases q <;> blk_simp [at4 t] <;> rfl))

theorem final5 (c : Dev nD) : (dats m 0 c).arrAt 5 cfg0.N = turned (change (added (parts m c)) (weight m c) (first m c) (second m c)) := by
  refine (dats m 0 c).arrAt_eq_of_covers 5 _ (by decide +kernel) fun t hf j => ?_
  blk_simp
  rw [after0_5, change_out]
  exact congrArg (turned (change (added (parts m c)) (weight m c) (first m c) (second m c))) (funext fun q => Fin.ext (by fin_cases q <;> blk_simp [at5 t] <;> rfl))

theorem final6 (c : Dev nD) : (dats m 0 c).arrAt 6 cfg0.N = turned (mNew (added (parts m c)) (first m c)) := by
  refine (dats m 0 c).arrAt_eq_of_covers 6 _ (by decide +kernel) fun t hf j => ?_
  blk_simp
  rw [after0_6, m_out]
  exact congrArg (turned (mNew (added (parts m c)) (first m c))) (funext fun q => Fin.ext (by fin_cases q <;> blk_simp [at6 t] <;> rfl))

theorem final7 (c : Dev nD) : (dats m 0 c).arrAt 7 cfg0.N = turned (vNew (added (parts m c)) (second m c)) := by
  refine (dats m 0 c).arrAt_eq_of_covers 7 _ (by decide +kernel) fun t hf j => ?_
  blk_simp
  rw [after0_7, v_out]
  exact congrArg (turned (vNew (added (parts m c)) (second m c))) (funext fun q => Fin.ext (by fin_cases q <;> blk_simp [at7 t] <;> rfl))

end Cert.Kernel20Ideal.StepSsdIn

namespace Cert.Reference20Ideal.StepSsdIn

open Cert.Reference20Ideal Cert.Reference20Ideal.Gen Cert.Reference20Ideal.Read Cert.GateSpec Cert.StepSpec Cert.StepLines Idealize.ShloMosaic

variable (p : FVec Ideal S8x1024x644 .bf16) (w m v : Arr 1024 644)

theorem sum_eq : val_main_v1 (F := Ideal) p = added p := by
  funext i
  obtain ⟨a, b, rfl⟩ := pair i
  rw [val_main_v1_apply]
  exact ((eight fun k => p (ix3 k a b)).trans (congrArg (_ + ·) (Finset.sum_congr rfl fun k _ =>
    congrArg p (funext fun q => by fin_cases q <;> rfl)))).symm

theorem turn_eq (x : Arr 1024 644) : broadcastInDim S644x1x1024 ![0, 2] bcast_S644x1024_S644x1x1024_0_2 (transpose S644x1024 [1, 0] x transposes_S1024x644_S644x1024_1_0) = turned x := by
  funext i
  have hi : i = ix3 (i 0) (i 1) (i 2) := by funext k; fin_cases k <;> rfl
  rw [hi]
  generalize i 0 = a
  generalize i 1 = b
  generalize i 2 = c
  pointwise []
  rfl

theorem grad_eq : val_main_v27 (F := Ideal) p = turned (added p) := by rw [val_main_v27, val_main_v26, turn_eq, sum_eq]
theorem change_eq : val_main_v29 (F := Ideal) p w m v = turned (change (added p) w m v) := by
  rw [val_main_v29, val_main_v28, turn_eq, show val_main_v25 (F := Ideal) p w m v = change (val_main_v1 (F := Ideal) p) w m v from rfl, sum_eq]
theorem m_eq : val_main_v31 (F := Ideal) p m = turned (mNew (added p) m) := by
  rw [val_main_v31, val_main_v30, turn_eq, show val_main_v6 (F := Ideal) p m = mNew (val_main_v1 (F := Ideal) p) m from rfl, sum_eq]
theorem v_eq : val_main_v33 (F := Ideal) p v = turned (vNew (added p) v) := by
  rw [val_main_v33, val_main_v32, turn_eq, show val_main_v12 (F := Ideal) p v = vNew (val_main_v1 (F := Ideal) p) v from rfl, sum_eq]

end Cert.Reference20Ideal.StepSsdIn

namespace Cert.StepSsdIn

open Cert.Reference20Ideal.Read Idealize.ShloMosaic Idealize.SL.Sem

attribute [local instance] Cert.Kernel20Ideal.Gen.facts Cert.Reference20Ideal.Gen.facts

theorem algebraic : Cert.algebraic_Kernel20Ideal_Reference20Ideal := by
  pair_intro
  · run_from Cert.Kernel20Ideal.Value.run_blocks m g
  · refine θ_run_mono (Cert.Reference20Ideal.Value.run m' g') fun r h c => ?_
    obtain ⟨a0, a1, a2, a3⟩ := hagree c
    obtain ⟨h0, h1, h2, h3, hk⟩ := h c
    refine ⟨h0.trans ?_, h1.trans ?_, h2.trans ?_, h3.trans ?_, hk⟩
    · rw [val_main_v27_eq, a0, Cert.Kernel20Ideal.StepSsdIn.final4, Cert.Reference20Ideal.StepSsdIn.grad_eq]
    · rw [val_main_v29_eq, a0, a1, a2, a3, Cert.Kernel20Ideal.StepSsdIn.final5, Cert.Reference20Ideal.StepSsdIn.change_eq]
    · rw [val_main_v31_eq, a0, a2, Cert.Kernel20Ideal.StepSsdIn.final6, Cert.Reference20Ideal.StepSsdIn.m_eq]
    · rw [val_main_v33_eq, a0, a3, Cert.Kernel20Ideal.StepSsdIn.final7, Cert.Reference20Ideal.StepSsdIn.v_eq]

end Cert.StepSsdIn

end
-- ==== Proof.lean ====
/-
  THE CERTIFICATE. Each call of the training step that the statement states is proved in modules of its own; here their frames
  and value claims are put together.
-/
module

public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Read
public import proofs.«01_k».proof.Proof.Gen.ReferenceIdeal.Run
public import proofs.«01_k».proof.Proof.Gen.Pre_gate_finite
public import proofs.«01_k».proof.Proof.GateClaim
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Read
public import proofs.«01_k».proof.Proof.Gen.Reference2Ideal.Run
public import proofs.«01_k».proof.Proof.Gen.Pre_norm_finite
public import proofs.«01_k».proof.Proof.NormClaim
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Reference3Ideal.Run
public import proofs.«01_k».proof.Proof.Gen.Pre_group_finite
public import proofs.«01_k».proof.Proof.GroupClaim
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Reference4Ideal.Run
public import proofs.«01_k».proof.Proof.Gen.Pre_conv_finite
public import proofs.«01_k».proof.Proof.ConvClaim
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.Gen.Reference5Ideal.Run
public import proofs.«01_k».proof.Proof.Gen.Pre_loss_finite
public import proofs.«01_k».proof.Proof.LossClaim
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Read
public import proofs.«01_k».proof.Proof.Gen.Reference6Ideal.Run
public import proofs.«01_k».proof.Proof.Proj
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Read
public import proofs.«01_k».proof.Proof.Gen.Reference7Ideal.Run
public import proofs.«01_k».proof.Proof.Mix
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Read
public import proofs.«01_k».proof.Proof.Gen.Reference8Ideal.Run
public import proofs.«01_k».proof.Proof.InProj
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Read
public import proofs.«01_k».proof.Proof.Gen.Reference9Ideal.Run
public import proofs.«01_k».proof.Proof.InDx
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11.Skeleton
public import proofs.«01_k».proof.Proof.Gen.Kernel11Ideal.Skeleton
public import proofs.«01_k».proof.Proof.ActRun
public import proofs.«01_k».proof.Proof.ActFrame
public import proofs.«01_k».proof.Proof.Gen.Reference11Ideal
public import proofs.«01_k».proof.Proof.Gen.Reference11Ideal.Read
public import proofs.«01_k».proof.Proof.Gen.Reference11Ideal.Run
public import proofs.«01_k».proof.Proof.ActClaim
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Read
public import proofs.«01_k».proof.Proof.Gen.Reference12Ideal.Run
public import proofs.«01_k».proof.Proof.StepAbOut
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Read
public import proofs.«01_k».proof.Proof.Gen.Reference13Ideal.Run
public import proofs.«01_k».proof.Proof.StepKv
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Read
public import proofs.«01_k».proof.Proof.Gen.Reference14Ideal.Run
public import proofs.«01_k».proof.Proof.StepSsdOut
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Read
public import proofs.«01_k».proof.Proof.Gen.Reference18Ideal.Run
public import proofs.«01_k».proof.Proof.StepUq
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Read
public import proofs.«01_k».proof.Proof.Gen.Reference19Ideal.Run
public import proofs.«01_k».proof.Proof.StepAbIn
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Read
public import proofs.«01_k».proof.Proof.Gen.Reference20Ideal.Run
public import proofs.«01_k».proof.Proof.StepSsdIn
public import proofs.«01_k».proof.Defs
public import Idealize.ShloMosaic.Lib.Claim
public import Idealize.ShloMosaic.Adequacy
public import Idealize.ShloMosaic.Init

@[expose] public section

noncomputable section

namespace Cert.Proof

open Idealize.ShloMosaic Idealize.SL.Sem

attribute [local instance]
  Cert.Kernel.Gen.facts
  Cert.KernelIdeal.Gen.facts
  Cert.ReferenceIdeal.Gen.facts
  Cert.Kernel2.Gen.facts
  Cert.Kernel2Ideal.Gen.facts
  Cert.Reference2Ideal.Gen.facts
  Cert.Kernel3.Gen.facts
  Cert.Kernel3Ideal.Gen.facts
  Cert.Reference3Ideal.Gen.facts
  Cert.Kernel4.Gen.facts
  Cert.Kernel4Ideal.Gen.facts
  Cert.Reference4Ideal.Gen.facts
  Cert.Kernel5.Gen.facts
  Cert.Kernel5Ideal.Gen.facts
  Cert.Reference5Ideal.Gen.facts
  Cert.Kernel6.Gen.facts
  Cert.Kernel6Ideal.Gen.facts
  Cert.Reference6Ideal.Gen.facts
  Cert.Kernel7.Gen.facts
  Cert.Kernel7Ideal.Gen.facts
  Cert.Reference7Ideal.Gen.facts
  Cert.Kernel8.Gen.facts
  Cert.Kernel8Ideal.Gen.facts
  Cert.Reference8Ideal.Gen.facts
  Cert.Kernel9.Gen.facts
  Cert.Kernel9Ideal.Gen.facts
  Cert.Reference9Ideal.Gen.facts
  Cert.Kernel11.Gen.facts
  Cert.Kernel11Ideal.Gen.facts
  Cert.Reference11Ideal.Gen.facts
  Cert.Kernel12.Gen.facts
  Cert.Kernel12Ideal.Gen.facts
  Cert.Reference12Ideal.Gen.facts
  Cert.Kernel13.Gen.facts
  Cert.Kernel13Ideal.Gen.facts
  Cert.Reference13Ideal.Gen.facts
  Cert.Kernel14.Gen.facts
  Cert.Kernel14Ideal.Gen.facts
  Cert.Reference14Ideal.Gen.facts
  Cert.Kernel18.Gen.facts
  Cert.Kernel18Ideal.Gen.facts
  Cert.Reference18Ideal.Gen.facts
  Cert.Kernel19.Gen.facts
  Cert.Kernel19Ideal.Gen.facts
  Cert.Reference19Ideal.Gen.facts
  Cert.Kernel20.Gen.facts
  Cert.Kernel20Ideal.Gen.facts
  Cert.Reference20Ideal.Gen.facts
  Cert.Pre_gate_finite.Gen.facts
  Cert.Pre_norm_finite.Gen.facts
  Cert.Pre_group_finite.Gen.facts
  Cert.Pre_conv_finite.Gen.facts
  Cert.Pre_loss_finite.Gen.facts

theorem frame_gate_reference : Cert.quiescent_ReferenceIdeal := fun m ρ _ =>
  θ_run_mono (Cert.ReferenceIdeal.Value.run m ρ) fun r h => ⟨fun c => (h c).2.2.2.2.2, sem_eq_zero_of_no_sems (by decide) r.2⟩

theorem frame_norm_reference : Cert.quiescent_Reference2Ideal := fun m ρ _ =>
  θ_run_mono (Cert.Reference2Ideal.Value.run m ρ) fun r h => ⟨fun c => (h c).2.2, sem_eq_zero_of_no_sems (by decide) r.2⟩

theorem frame_group_reference : Cert.quiescent_Reference3Ideal := fun m ρ _ =>
  θ_run_mono (Cert.Reference3Ideal.Value.run m ρ) fun r h => ⟨fun c => (h c).2.2.2.2, sem_eq_zero_of_no_sems (by decide) r.2⟩

theorem frame_conv_reference : Cert.quiescent_Reference4Ideal := fun m ρ _ =>
  θ_run_mono (Cert.Reference4Ideal.Value.run m ρ) fun r h => ⟨fun c => (h c).2.2.2, sem_eq_zero_of_no_sems (by decide) r.2⟩

theorem frame_loss_reference : Cert.quiescent_Reference5Ideal := fun m ρ _ =>
  θ_run_mono (Cert.Reference5Ideal.Value.run m ρ) fun r h => ⟨fun c => (h c).2.2.2.2, sem_eq_zero_of_no_sems (by decide) r.2⟩

theorem frame_proj_reference : Cert.quiescent_Reference6Ideal := fun m ρ _ =>
  θ_run_mono (Cert.Reference6Ideal.Value.run m ρ) fun r h => ⟨fun c => (h c).2.2, sem_eq_zero_of_no_sems (by decide) r.2⟩

theorem frame_mix_reference : Cert.quiescent_Reference7Ideal := fun m ρ _ =>
  θ_run_mono (Cert.Reference7Ideal.Value.run m ρ) fun r h => ⟨fun c => (h c).2.2.2.2, sem_eq_zero_of_no_sems (by decide) r.2⟩

theorem frame_in_reference : Cert.quiescent_Reference8Ideal := fun m ρ _ =>
  θ_run_mono (Cert.Reference8Ideal.Value.run m ρ) fun r h => ⟨fun c => (h c).2.2, sem_eq_zero_of_no_sems (by decide) r.2⟩

theorem frame_dx_reference : Cert.quiescent_Reference9Ideal := fun m ρ _ =>
  θ_run_mono (Cert.Reference9Ideal.Value.run m ρ) fun r h => ⟨fun c => (h c).2, sem_eq_zero_of_no_sems (by decide) r.2⟩

theorem frame_act_reference : Cert.quiescent_Reference11Ideal := fun m ρ _ =>
  θ_run_mono (Cert.Reference11Ideal.Value.run m ρ) fun r h => ⟨fun c => (h c).2.2.2, sem_eq_zero_of_no_sems (by decide) r.2⟩

theorem frame_aout_reference : Cert.quiescent_Reference12Ideal := fun m ρ _ =>
  θ_run_mono (Cert.Reference12Ideal.Value.run m ρ) fun r h => ⟨fun c => (h c).2.2.2.2, sem_eq_zero_of_no_sems (by decide) r.2⟩

theorem frame_akv_reference : Cert.quiescent_Reference13Ideal := fun m ρ _ =>
  θ_run_mono (Cert.Reference13Ideal.Value.run m ρ) fun r h => ⟨fun c => (h c).2.2.2.2, sem_eq_zero_of_no_sems (by decide) r.2⟩

theorem frame_sout_reference : Cert.quiescent_Reference14Ideal := fun m ρ _ =>
  θ_run_mono (Cert.Reference14Ideal.Value.run m ρ) fun r h => ⟨fun c => (h c).2.2.2.2, sem_eq_zero_of_no_sems (by decide) r.2⟩

theorem frame_auq_reference : Cert.quiescent_Reference18Ideal := fun m ρ _ =>
  θ_run_mono (Cert.Reference18Ideal.Value.run m ρ) fun r h => ⟨fun c => (h c).2.2.2.2, sem_eq_zero_of_no_sems (by decide) r.2⟩

theorem frame_ain_reference : Cert.quiescent_Reference19Ideal := fun m ρ _ =>
  θ_run_mono (Cert.Reference19Ideal.Value.run m ρ) fun r h => ⟨fun c => (h c).2.2.2.2, sem_eq_zero_of_no_sems (by decide) r.2⟩

theorem frame_sin_reference : Cert.quiescent_Reference20Ideal := fun m ρ _ =>
  θ_run_mono (Cert.Reference20Ideal.Value.run m ρ) fun r h => ⟨fun c => (h c).2.2.2.2, sem_eq_zero_of_no_sems (by decide) r.2⟩

theorem claim : Cert.Claim := ⟨
  Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Pre_gate_finite.Gen.facts, Cert.Pre_norm_finite.Gen.facts, Cert.Pre_group_finite.Gen.facts, Cert.Pre_conv_finite.Gen.facts, Cert.Pre_loss_finite.Gen.facts,
  fun m ρ _ => Cert.Kernel.Gen.frame m ρ,
  fun m ρ _ => Cert.KernelIdeal.Gen.frame m ρ,
  fun m ρ _ => Cert.KernelIdeal.Gen.frame m ρ,
  frame_gate_reference,
  fun m ρ _ => frame_gate_reference m ρ trivial,
  fun m ρ _ => Cert.Kernel2.Gen.frame m ρ,
  fun m ρ _ => Cert.Kernel2Ideal.Gen.frame m ρ,
  fun m ρ _ => Cert.Kernel2Ideal.Gen.frame m ρ,
  frame_norm_reference,
  fun m ρ _ => frame_norm_reference m ρ trivial,
  fun m ρ _ => Cert.Kernel3.Gen.frame m ρ,
  fun m ρ _ => Cert.Kernel3Ideal.Gen.frame m ρ,
  fun m ρ _ => Cert.Kernel3Ideal.Gen.frame m ρ,
  frame_group_reference,
  fun m ρ _ => frame_group_reference m ρ trivial,
  fun m ρ _ => Cert.Kernel4.Gen.frame m ρ,
  fun m ρ _ => Cert.Kernel4Ideal.Gen.frame m ρ,
  fun m ρ _ => Cert.Kernel4Ideal.Gen.frame m ρ,
  frame_conv_reference,
  fun m ρ _ => frame_conv_reference m ρ trivial,
  fun m ρ _ => Cert.Kernel5.Gen.frame m ρ,
  fun m ρ _ => Cert.Kernel5Ideal.Gen.frame m ρ,
  fun m ρ _ => Cert.Kernel5Ideal.Gen.frame m ρ,
  frame_loss_reference,
  fun m ρ _ => frame_loss_reference m ρ trivial,
  fun m ρ _ => Cert.Kernel6.Gen.frame m ρ,
  fun m ρ _ => Cert.Kernel6Ideal.Gen.frame m ρ,
  frame_proj_reference,
  fun m ρ _ => Cert.Kernel7.Gen.frame m ρ,
  fun m ρ _ => Cert.Kernel7Ideal.Gen.frame m ρ,
  frame_mix_reference,
  fun m ρ _ => Cert.Kernel8.Gen.frame m ρ,
  fun m ρ _ => Cert.Kernel8Ideal.Gen.frame m ρ,
  frame_in_reference,
  fun m ρ _ => Cert.Kernel9.Gen.frame m ρ,
  fun m ρ _ => Cert.Kernel9Ideal.Gen.frame m ρ,
  frame_dx_reference,
  fun m ρ _ => Cert.ActFrame.frame_holds m ρ,
  fun m ρ _ => Cert.ActIdeal.frame_holds m ρ,
  frame_act_reference,
  fun m ρ _ => Cert.Kernel12.Gen.frame m ρ,
  fun m ρ _ => Cert.Kernel12Ideal.Gen.frame m ρ,
  frame_aout_reference,
  fun m ρ _ => Cert.Kernel13.Gen.frame m ρ,
  fun m ρ _ => Cert.Kernel13Ideal.Gen.frame m ρ,
  frame_akv_reference,
  fun m ρ _ => Cert.Kernel14.Gen.frame m ρ,
  fun m ρ _ => Cert.Kernel14Ideal.Gen.frame m ρ,
  frame_sout_reference,
  fun m ρ _ => Cert.Kernel18.Gen.frame m ρ,
  fun m ρ _ => Cert.Kernel18Ideal.Gen.frame m ρ,
  frame_auq_reference,
  fun m ρ _ => Cert.Kernel19.Gen.frame m ρ,
  fun m ρ _ => Cert.Kernel19Ideal.Gen.frame m ρ,
  frame_ain_reference,
  fun m ρ _ => Cert.Kernel20.Gen.frame m ρ,
  fun m ρ _ => Cert.Kernel20Ideal.Gen.frame m ρ,
  frame_sin_reference,
  trivial,
  Cert.Gate.algebraic,
  trivial,
  Cert.Norm.algebraic,
  trivial,
  Cert.Group.algebraic,
  trivial,
  Cert.Conv.algebraic,
  trivial,
  Cert.Loss.algebraic,
  trivial,
  Cert.Proj.algebraic,
  trivial,
  Cert.Mix.algebraic,
  trivial,
  Cert.InProj.algebraic,
  trivial,
  Cert.InDx.algebraic,
  trivial,
  Cert.Act.algebraic,
  trivial,
  Cert.StepAbOut.algebraic,
  trivial,
  Cert.StepKv.algebraic,
  trivial,
  Cert.StepSsdOut.algebraic,
  trivial,
  Cert.StepUq.algebraic,
  trivial,
  Cert.StepAbIn.algebraic,
  trivial,
  Cert.StepSsdIn.algebraic⟩

end Cert.Proof

end
